-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))).2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v47_0)) (v1 : (c : Dev Cert.Kernel2Ideal.nD) → Buf (Elt Ideal) ((c.tc : Thread Cert.Kernel2Ideal.nD Cert.Kernel2Ideal.τ).loc Cert.Kernel2Ideal.main_v47_1)) (v2 : (c : Dev Cert.Kernel2Ideal.nD) → Buf (Elt Ideal) ((c.tc : Thread Cert.Kernel2Ideal.nD Cert.Kernel2Ideal.τ).loc Cert.Kernel2Ideal.main_v47_2)) (v3 : (c : Dev Cert.Kernel2Ideal.nD) → Buf (Elt Ideal) ((c.tc : Thread Cert.Kernel2Ideal.nD Cert.Kernel2Ideal.τ).loc Cert.Kernel2Ideal.main_v47_3)) (v4 : (c : Dev Cert.Kernel2Ideal.nD) → Buf (Elt Ideal) ((c.tc : Thread Cert.Kernel2Ideal.nD Cert.Kernel2Ideal.τ).loc Cert.Kernel2Ideal.main_v47_4)) (v5 : (c : Dev Cert.Kernel2Ideal.nD) → Buf (Elt Ideal) ((c.tc : Thread Cert.Kernel2Ideal.nD Cert.Kernel2Ideal.τ).loc Cert.Kernel2Ideal.main_v47_5)) (v6 : (c : Dev Cert.Kernel2Ideal.nD) → Buf (Elt Ideal) ((c.tc : Thread Cert.Kernel2Ideal.nD Cert.Kernel2Ideal.τ).loc Cert.Kernel2Ideal.main_v48)) (v7 : (c : Dev Cert.Kernel2Ideal.nD) → Buf (Elt Ideal) ((c.tc : Thread Cert.Kernel2Ideal.nD Cert.Kernel2Ideal.τ).loc Cert.Kernel2Ideal.main_v49)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v47_0) = v0 c
          ∧ r.2.mem ((c.tc : Thread Cert.Kernel2Ideal.nD Cert.Kernel2Ideal.τ).loc Cert.Kernel2Ideal.main_v47_1) = v1 c
          ∧ r.2.mem ((c.tc : Thread Cert.Kernel2Ideal.nD Cert.Kernel2Ideal.τ).loc Cert.Kernel2Ideal.main_v47_2) = v2 c
          ∧ r.2.mem ((c.tc : Thread Cert.Kernel2Ideal.nD Cert.Kernel2Ideal.τ).loc Cert.Kernel2Ideal.main_v47_3) = v3 c
          ∧ r.2.mem ((c.tc : Thread Cert.Kernel2Ideal.nD Cert.Kernel2Ideal.τ).loc Cert.Kernel2Ideal.main_v47_4) = v4 c
          ∧ r.2.mem ((c.tc : Thread Cert.Kernel2Ideal.nD Cert.Kernel2Ideal.τ).loc Cert.Kernel2Ideal.main_v47_5) = v5 c
          ∧ r.2.mem ((c.tc : Thread Cert.Kernel2Ideal.nD Cert.Kernel2Ideal.τ).loc Cert.Kernel2Ideal.main_v48) = v6 c
          ∧ r.2.mem ((c.tc : Thread Cert.Kernel2Ideal.nD Cert.Kernel2Ideal.τ).loc Cert.Kernel2Ideal.main_v49) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v82) = v0 c
          ∧ r.2.mem ((c.tc : Thread Cert.Reference2Ideal.nD Cert.Reference2Ideal.τ).loc Cert.Reference2Ideal.main_v111) = v1 c
          ∧ r.2.mem ((c.tc : Thread Cert.Reference2Ideal.nD Cert.Reference2Ideal.τ).loc Cert.Reference2Ideal.main_v112) = v2 c
          ∧ r.2.mem ((c.tc : Thread Cert.Reference2Ideal.nD Cert.Reference2Ideal.τ).loc Cert.Reference2Ideal.main_v85) = v3 c
          ∧ r.2.mem ((c.tc : Thread Cert.Reference2Ideal.nD Cert.Reference2Ideal.τ).loc Cert.Reference2Ideal.main_v105) = v4 c
          ∧ r.2.mem ((c.tc : Thread Cert.Reference2Ideal.nD Cert.Reference2Ideal.τ).loc Cert.Reference2Ideal.main_v110) = v5 c
          ∧ r.2.mem ((c.tc : Thread Cert.Reference2Ideal.nD Cert.Reference2Ideal.τ).loc Cert.Reference2Ideal.main_v67) = v6 c
          ∧ r.2.mem ((c.tc : Thread Cert.Reference2Ideal.nD Cert.Reference2Ideal.τ).loc Cert.Reference2Ideal.main_v91) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v16)) (v1 : (c : Dev Cert.Kernel3Ideal.nD) → Buf (Elt Ideal) ((c.tc : Thread Cert.Kernel3Ideal.nD Cert.Kernel3Ideal.τ).loc Cert.Kernel3Ideal.main_v13_0)) (v2 : (c : Dev Cert.Kernel3Ideal.nD) → Buf (Elt Ideal) ((c.tc : Thread Cert.Kernel3Ideal.nD Cert.Kernel3Ideal.τ).loc Cert.Kernel3Ideal.main_v13_4)) (v3 : (c : Dev Cert.Kernel3Ideal.nD) → Buf (Elt Ideal) ((c.tc : Thread Cert.Kernel3Ideal.nD Cert.Kernel3Ideal.τ).loc Cert.Kernel3Ideal.main_v17)) (v4 : (c : Dev Cert.Kernel3Ideal.nD) → Buf (Elt Ideal) ((c.tc : Thread Cert.Kernel3Ideal.nD Cert.Kernel3Ideal.τ).loc Cert.Kernel3Ideal.main_v13_1)) (v5 : (c : Dev Cert.Kernel3Ideal.nD) → Buf (Elt Ideal) ((c.tc : Thread Cert.Kernel3Ideal.nD Cert.Kernel3Ideal.τ).loc Cert.Kernel3Ideal.main_v13_2)) (v6 : (c : Dev Cert.Kernel3Ideal.nD) → Buf (Elt Ideal) ((c.tc : Thread Cert.Kernel3Ideal.nD Cert.Kernel3Ideal.τ).loc Cert.Kernel3Ideal.main_v13_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_v13_0) = v1 c
          ∧ r.2.mem ((c.tc : Thread Cert.Kernel3Ideal.nD Cert.Kernel3Ideal.τ).loc Cert.Kernel3Ideal.main_v13_4) = v2 c
          ∧ r.2.mem ((c.tc : Thread Cert.Kernel3Ideal.nD Cert.Kernel3Ideal.τ).loc Cert.Kernel3Ideal.main_v17) = v3 c
          ∧ r.2.mem ((c.tc : Thread Cert.Kernel3Ideal.nD Cert.Kernel3Ideal.τ).loc Cert.Kernel3Ideal.main_v13_1) = v4 c
          ∧ r.2.mem ((c.tc : Thread Cert.Kernel3Ideal.nD Cert.Kernel3Ideal.τ).loc Cert.Kernel3Ideal.main_v13_2) = v5 c
          ∧ r.2.mem ((c.tc : Thread Cert.Kernel3Ideal.nD Cert.Kernel3Ideal.τ).loc Cert.Kernel3Ideal.main_v13_3) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_v78) = v1 c
          ∧ r.2.mem ((c.tc : Thread Cert.Reference3Ideal.nD Cert.Reference3Ideal.τ).loc Cert.Reference3Ideal.main_v79) = v2 c
          ∧ r.2.mem ((c.tc : Thread Cert.Reference3Ideal.nD Cert.Reference3Ideal.τ).loc Cert.Reference3Ideal.main_v64) = v3 c
          ∧ r.2.mem ((c.tc : Thread Cert.Reference3Ideal.nD Cert.Reference3Ideal.τ).loc Cert.Reference3Ideal.main_v3) = v4 c
          ∧ r.2.mem ((c.tc : Thread Cert.Reference3Ideal.nD Cert.Reference3Ideal.τ).loc Cert.Reference3Ideal.main_v80) = v5 c
          ∧ r.2.mem ((c.tc : Thread Cert.Reference3Ideal.nD Cert.Reference3Ideal.τ).loc Cert.Reference3Ideal.main_v81) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v3) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel8_Kernel8Ideal : Prop :=
  IdealRules.named_const.Statement Cert.Kernel8Ideal.κ "mask" .f32 0xF149F2CA#32 ⊥

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v259) = v0 c
          ∧ r.2.mem ((c.tc : Thread Cert.Reference8Ideal.nD Cert.Reference8Ideal.τ).loc Cert.Reference8Ideal.main_v262) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v28) = v1 c
          ∧ r.2.mem ((c.tc : Thread Cert.Reference10Ideal.nD Cert.Reference10Ideal.τ).loc Cert.Reference10Ideal.main_v9) = v2 c
          ∧ r.2.mem ((c.tc : Thread Cert.Reference10Ideal.nD Cert.Reference10Ideal.τ).loc Cert.Reference10Ideal.main_v15) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v28_0)) (v1 : (c : Dev Cert.Kernel11Ideal.nD) → Buf (Elt Ideal) ((c.tc : Thread Cert.Kernel11Ideal.nD Cert.Kernel11Ideal.τ).loc Cert.Kernel11Ideal.main_v28_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v28_0) = v0 c
          ∧ r.2.mem ((c.tc : Thread Cert.Kernel11Ideal.nD Cert.Kernel11Ideal.τ).loc Cert.Kernel11Ideal.main_v28_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v95) = v0 c
          ∧ r.2.mem ((c.tc : Thread Cert.Reference11Ideal.nD Cert.Reference11Ideal.τ).loc Cert.Reference11Ideal.main_v96) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v17) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v12_0)) (v1 : (c : Dev Cert.Kernel13Ideal.nD) → Buf (Elt Ideal) ((c.tc : Thread Cert.Kernel13Ideal.nD Cert.Kernel13Ideal.τ).loc Cert.Kernel13Ideal.main_v12_1)) (v2 : (c : Dev Cert.Kernel13Ideal.nD) → Buf (Elt Ideal) ((c.tc : Thread Cert.Kernel13Ideal.nD Cert.Kernel13Ideal.τ).loc Cert.Kernel13Ideal.main_v12_2)) (v3 : (c : Dev Cert.Kernel13Ideal.nD) → Buf (Elt Ideal) ((c.tc : Thread Cert.Kernel13Ideal.nD Cert.Kernel13Ideal.τ).loc Cert.Kernel13Ideal.main_v12_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v12_0) = v0 c
          ∧ r.2.mem ((c.tc : Thread Cert.Kernel13Ideal.nD Cert.Kernel13Ideal.τ).loc Cert.Kernel13Ideal.main_v12_1) = v1 c
          ∧ r.2.mem ((c.tc : Thread Cert.Kernel13Ideal.nD Cert.Kernel13Ideal.τ).loc Cert.Kernel13Ideal.main_v12_2) = v2 c
          ∧ r.2.mem ((c.tc : Thread Cert.Kernel13Ideal.nD Cert.Kernel13Ideal.τ).loc Cert.Kernel13Ideal.main_v12_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v27) = v0 c
          ∧ r.2.mem ((c.tc : Thread Cert.Reference13Ideal.nD Cert.Reference13Ideal.τ).loc Cert.Reference13Ideal.main_v3) = v1 c
          ∧ r.2.mem ((c.tc : Thread Cert.Reference13Ideal.nD Cert.Reference13Ideal.τ).loc Cert.Reference13Ideal.main_v28) = v2 c
          ∧ r.2.mem ((c.tc : Thread Cert.Reference13Ideal.nD Cert.Reference13Ideal.τ).loc Cert.Reference13Ideal.main_v29) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v24)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v24) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v29) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel8 : Cert.Kernel8.Facts) (hKernel8Ideal : Cert.Kernel8Ideal.Facts) (hReference8Ideal : Cert.Reference8Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite2 : Cert.Pre_finite2.Facts) (hPre_finite3 : Cert.Pre_finite3.Facts) (hPre_finite4 : Cert.Pre_finite4.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S4096x1024 : Shape := ⟨2, ![4096, 1024]⟩
abbrev S2x1024 : Shape := ⟨2, ![2, 1024]⟩
abbrev S2x1024x3584 : Shape := ⟨3, ![2, 1024, 3584]⟩
abbrev S4096x3584 : Shape := ⟨2, ![4096, 3584]⟩
abbrev S_ : Shape := ⟨0, ![]⟩

class Facts : Prop where
  bcast_S_S4096x1024 : S_.BroadcastsInDim S4096x1024 (![] : Fin 0 → Fin S4096x1024.rank)
  bcast_S_S2x1024 : S_.BroadcastsInDim S2x1024 (![] : Fin 0 → Fin S2x1024.rank)
  bcast_S_S2x1024x3584 : S_.BroadcastsInDim S2x1024x3584 (![] : Fin 0 → Fin S2x1024x3584.rank)
  bcast_S_S4096x3584 : S_.BroadcastsInDim S4096x3584 (![] : Fin 0 → Fin S4096x3584.rank)

variable [Facts]

def fn {F : FTy → Type} [FloatOps F] (main_arg0 : FVec F S4096x1024 .f32) (main_arg1 : FVec F S2x1024 .f32) (main_arg2 : FVec F S2x1024x3584 .f32) (main_arg3 : FVec F S4096x3584 .f32) (main_arg4 : FVec F S4096x1024 .f32) : IVec S4096x1024 1 × IVec S2x1024 1 × IVec S2x1024x3584 1 × IVec S4096x3584 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S2x1024x3584 .f32 := Host.absf main_arg2
  let main_cst_1 : FVec F S_ .f32 := constant S_ .f32 0x7F800000#32
  let main_v7 : FVec F S2x1024x3584 .f32 := broadcastInDim S2x1024x3584 ![] bcast_S_S2x1024x3584 main_cst_1
  let main_v8 : IVec S2x1024x3584 1 := cmpf .olt main_v6 main_v7
  let main_v9 : FVec F S4096x3584 .f32 := Host.absf main_arg3
  let main_cst_2 : FVec F S_ .f32 := constant S_ .f32 0x7F800000#32
  let main_v10 : FVec F S4096x3584 .f32 := broadcastInDim S4096x3584 ![] bcast_S_S4096x3584 main_cst_2
  let main_v11 : IVec S4096x3584 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite2.lean ====
abbrev S4096x512 : Shape := ⟨2, ![4096, 512]⟩
abbrev S4096x1024 : Shape := ⟨2, ![4096, 1024]⟩
abbrev S2x512 : Shape := ⟨2, ![2, 512]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S_ : Shape := ⟨0, ![]⟩

class Facts : Prop where
  bcast_S_S4096x512 : S_.BroadcastsInDim S4096x512 (![] : Fin 0 → Fin S4096x512.rank)
  bcast_S_S4096x1024 : S_.BroadcastsInDim S4096x1024 (![] : Fin 0 → Fin S4096x1024.rank)
  bcast_S_S2x512 : S_.BroadcastsInDim S2x512 (![] : Fin 0 → Fin S2x512.rank)
  bcast_S_S2x1024x1024 : S_.BroadcastsInDim S2x1024x1024 (![] : Fin 0 → Fin S2x1024x1024.rank)
  bcast_S_S2x1024 : S_.BroadcastsInDim S2x1024 (![] : Fin 0 → Fin S2x1024.rank)
  bcast_S_S2x1024x4096 : S_.BroadcastsInDim S2x1024x4096 (![] : Fin 0 → Fin S2x1024x4096.rank)
  bcast_S_S2x4096x1024 : S_.BroadcastsInDim S2x4096x1024 (![] : Fin 0 → Fin S2x4096x1024.rank)

variable [Facts]

def fn_part1 {F : FTy → Type} [FloatOps F] (main_arg6 : FVec F S2x1024x4096 .f32) (main_arg7 : FVec F S2x4096x1024 .f32) (main_arg8 : FVec F S4096x1024 .f32) (main_v2 : IVec S4096x512 1) (main_v5 : IVec S4096x512 1) (main_v8 : IVec S4096x1024 1) (main_v11 : IVec S2x512 1) (main_v14 : IVec S2x1024x1024 1) (main_v17 : IVec S2x1024 1) : IVec S4096x512 1 × IVec S4096x512 1 × IVec S4096x1024 1 × IVec S2x512 1 × IVec S2x1024x1024 1 × IVec S2x1024 1 × IVec S2x1024x4096 1 × IVec S2x4096x1024 1 × IVec S4096x1024 1 :=
  let main_v18 : FVec F S2x1024x4096 .f32 := Host.absf main_arg6
  let main_cst_5 : FVec F S_ .f32 := constant S_ .f32 0x7F800000#32
  let main_v19 : FVec F S2x1024x4096 .f32 := broadcastInDim S2x1024x4096 ![] bcast_S_S2x1024x4096 main_cst_5
  let main_v20 : IVec S2x1024x4096 1 := cmpf .olt main_v18 main_v19
  let main_v21 : FVec F S2x4096x1024 .f32 := Host.absf main_arg7
  let main_cst_6 : FVec F S_ .f32 := constant S_ .f32 0x7F800000#32
  let main_v22 : FVec F S2x4096x1024 .f32 := broadcastInDim S2x4096x1024 ![] bcast_S_S2x4096x1024 main_cst_6
  let main_v23 : IVec S2x4096x1024 1 := cmpf .olt main_v21 main_v22
  let main_v24 : FVec F S4096x1024 .f32 := Host.absf main_arg8
  let main_cst_7 : FVec F S_ .f32 := constant S_ .f32 0x7F800000#32
  let main_v25 : FVec F S4096x1024 .f32 := broadcastInDim S4096x1024 ![] bcast_S_S4096x1024 main_cst_7
  let main_v26 : IVec S4096x1024 1 := cmpf .olt main_v24 main_v25
  (main_v2, main_v5, main_v8, main_v11, main_v14, main_v17, main_v20, main_v23, main_v26)

def fn {F : FTy → Type} [FloatOps F] (main_arg0 : FVec F S4096x512 .f32) (main_arg1 : FVec F S4096x512 .f32) (main_arg2 : FVec F S4096x1024 .f32) (main_arg3 : FVec F S2x512 .f32) (main_arg4 : FVec F S2x1024x1024 .f32) (main_arg5 : FVec F S2x1024 .f32) (main_arg6 : FVec F S2x1024x4096 .f32) (main_arg7 : FVec F S2x4096x1024 .f32) (main_arg8 : FVec F S4096x1024 .f32) : IVec S4096x512 1 × IVec S4096x512 1 × IVec S4096x1024 1 × IVec S2x512 1 × IVec S2x1024x1024 1 × IVec S2x1024 1 × IVec S2x1024x4096 1 × IVec S2x4096x1024 1 × IVec S4096x1024 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S2x512 .f32 := Host.absf main_arg3
  let main_cst_2 : FVec F S_ .f32 := constant S_ .f32 0x7F800000#32
  let main_v10 : FVec F S2x512 .f32 := broadcastInDim S2x512 ![] bcast_S_S2x512 main_cst_2
  let main_v11 : IVec S2x512 1 := cmpf .olt main_v9 main_v10
  let main_v12 : FVec F S2x1024x1024 .f32 := Host.absf main_arg4
  let main_cst_3 : FVec F S_ .f32 := constant S_ .f32 0x7F800000#32
  let main_v13 : FVec F S2x1024x1024 .f32 := broadcastInDim S2x1024x1024 ![] bcast_S_S2x1024x1024 main_cst_3
  let main_v14 : IVec S2x1024x1024 1 := cmpf .olt main_v12 main_v13
  let main_v15 : FVec F S2x1024 .f32 := Host.absf main_arg5
  let main_cst_4 : FVec F S_ .f32 := constant S_ .f32 0x7F800000#32
  let main_v16 : FVec F S2x1024 .f32 := broadcastInDim S2x1024 ![] bcast_S_S2x1024 main_cst_4
  let main_v17 : IVec S2x1024 1 := cmpf .olt main_v15 main_v16
  fn_part1 (F := F) main_arg6 main_arg7 main_arg8 main_v2 main_v5 main_v8 main_v11 main_v14 main_v17
-- ==== Pre_finite3.lean ====
abbrev S4096x1024 : Shape := ⟨2, ![4096, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S2x1024x1024 : S_.BroadcastsInDim S2x1024x1024 (![] : Fin 0 → Fin S2x1024x1024.rank)
  bcast_S_S2x1024 : S_.BroadcastsInDim S2x1024 (![] : Fin 0 → Fin S2x1024.rank)
  bcast_S_S2x1024x4096 : S_.BroadcastsInDim S2x1024x4096 (![] : Fin 0 → Fin S2x1024x4096.rank)
  bcast_S_S2x4096x1024 : S_.BroadcastsInDim S2x4096x1024 (![] : Fin 0 → Fin S2x4096x1024.rank)
  bcast_S_S1024 : S_.BroadcastsInDim S1024 (![] : Fin 0 → Fin S1024.rank)

variable [Facts]

def fn_part1 {F : FTy → Type} [FloatOps F] (main_arg6 : FVec F S1024 .f32) (main_arg7 : FVec F S4096x1024 .f32) (main_v2 : IVec S4096x1024 1) (main_v5 : IVec S4096x1024 1) (main_v8 : IVec S2x1024x1024 1) (main_v11 : IVec S2x1024 1) (main_v14 : IVec S2x1024x4096 1) (main_v17 : IVec S2x4096x1024 1) : IVec S4096x1024 1 × IVec S4096x1024 1 × IVec S2x1024x1024 1 × IVec S2x1024 1 × IVec S2x1024x4096 1 × IVec S2x4096x1024 1 × IVec S1024 1 × IVec S4096x1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  (main_v2, main_v5, main_v8, main_v11, main_v14, main_v17, main_v20, main_v23)

def fn {F : FTy → Type} [FloatOps F] (main_arg0 : FVec F S4096x1024 .f32) (main_arg1 : FVec F S4096x1024 .f32) (main_arg2 : FVec F S2x1024x1024 .f32) (main_arg3 : FVec F S2x1024 .f32) (main_arg4 : FVec F S2x1024x4096 .f32) (main_arg5 : FVec F S2x4096x1024 .f32) (main_arg6 : FVec F S1024 .f32) (main_arg7 : FVec F S4096x1024 .f32) : IVec S4096x1024 1 × IVec S4096x1024 1 × IVec S2x1024x1024 1 × IVec S2x1024 1 × IVec S2x1024x4096 1 × IVec S2x4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S2x1024x1024 .f32 := Host.absf main_arg2
  let main_cst_1 : FVec F S_ .f32 := constant S_ .f32 0x7F800000#32
  let main_v7 : FVec F S2x1024x1024 .f32 := broadcastInDim S2x1024x1024 ![] bcast_S_S2x1024x1024 main_cst_1
  let main_v8 : IVec S2x1024x1024 1 := cmpf .olt main_v6 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_v12 : FVec F S2x1024x4096 .f32 := Host.absf main_arg4
  let main_cst_3 : FVec F S_ .f32 := constant S_ .f32 0x7F800000#32
  let main_v13 : FVec F S2x1024x4096 .f32 := broadcastInDim S2x1024x4096 ![] bcast_S_S2x1024x4096 main_cst_3
  let main_v14 : IVec S2x1024x4096 1 := cmpf .olt main_v12 main_v13
  let main_v15 : FVec F S2x4096x1024 .f32 := Host.absf main_arg5
  let main_cst_4 : FVec F S_ .f32 := constant S_ .f32 0x7F800000#32
  let main_v16 : FVec F S2x4096x1024 .f32 := broadcastInDim S2x4096x1024 ![] bcast_S_S2x4096x1024 main_cst_4
  let main_v17 : IVec S2x4096x1024 1 := cmpf .olt main_v15 main_v16
  fn_part1 (F := F) main_arg6 main_arg7 main_v2 main_v5 main_v8 main_v11 main_v14 main_v17
-- ==== Pre_finite4.lean ====
abbrev S2x512 : Shape := ⟨2, ![2, 512]⟩
abbrev S_ : Shape := ⟨0, ![]⟩

class Facts : Prop where
  bcast_S_S2x512 : S_.BroadcastsInDim S2x512 (![] : Fin 0 → Fin S2x512.rank)

variable [Facts]

def fn {F : FTy → Type} [FloatOps F] (main_arg0 : FVec F S2x512 .f32) (main_arg1 : FVec F S2x512 .f32) : IVec S2x512 1 × IVec S2x512 1 :=
  let main_v0 : FVec F S2x512 .f32 := Host.absf main_arg0
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  let main_v3 : FVec F S2x512 .f32 := Host.absf main_arg1
  let main_cst_0 : FVec F S_ .f32 := constant S_ .f32 0x7F800000#32
  let main_v4 : FVec F S2x512 .f32 := broadcastInDim S2x512 ![] bcast_S_S2x512 main_cst_0
  let main_v5 : IVec S2x512 1 := cmpf .olt main_v3 main_v4
  (main_v2, main_v5)
-- ==== Pre_finite8.lean ====
abbrev S4096x3584 : Shape := ⟨2, ![4096, 3584]⟩
abbrev S_ : Shape := ⟨0, ![]⟩

class Facts : Prop where
  bcast_S_S4096x3584 : S_.BroadcastsInDim S4096x3584 (![] : Fin 0 → Fin S4096x3584.rank)

variable [Facts]

def fn {F : FTy → Type} [FloatOps F] (main_arg0 : FVec F S4096x3584 .f32) : IVec S4096x3584 1 :=
  let main_v0 : FVec F S4096x3584 .f32 := Host.absf main_arg0
  let main_cst : FVec F S_ .f32 := constant S_ .f32 0x7F800000#32
  let main_v1 : FVec F S4096x3584 .f32 := broadcastInDim S4096x3584 ![] bcast_S_S4096x3584 main_cst
  let main_v2 : IVec S4096x3584 1 := cmpf .olt main_v0 main_v1
  main_v2
-- ==== Kernel.lean ====
abbrev S4096x1024 : Shape := ⟨2, ![4096, 1024]⟩
abbrev S2x1024 : Shape := ⟨2, ![2, 1024]⟩
abbrev S2x1024x3584 : Shape := ⟨3, ![2, 1024, 3584]⟩
abbrev S4096x3584 : Shape := ⟨2, ![4096, 3584]⟩
abbrev S2x3584x1024 : Shape := ⟨3, ![2, 3584, 1024]⟩
abbrev S1x3584x1024 : Shape := ⟨3, ![1, 3584, 1024]⟩
abbrev S4096x7x512 : Shape := ⟨3, ![4096, 7, 512]⟩
abbrev S7x4096x512 : Shape := ⟨3, ![7, 4096, 512]⟩
abbrev S3x4096x512 : Shape := ⟨3, ![3, 4096, 512]⟩
abbrev S4x4096x512 : Shape := ⟨3, ![4, 4096, 512]⟩
abbrev S2x1x1024 : Shape := ⟨3, ![2, 1, 1024]⟩
abbrev S8x1024 : Shape := ⟨2, ![8, 1024]⟩
abbrev S3x512x512 : Shape := ⟨3, ![3, 512, 512]⟩
abbrev S4x512x512 : Shape := ⟨3, ![4, 512, 512]⟩
abbrev S512x1024 : Shape := ⟨2, ![512, 1024]⟩
abbrev S1x1x1024 : Shape := ⟨3, ![1, 1, 1024]⟩
abbrev S1x512x512 : Shape := ⟨3, ![1, 512, 512]⟩
abbrev S512x512 : Shape := ⟨2, ![512, 512]⟩
abbrev S1x512x1024 : Shape := ⟨3, ![1, 512, 1024]⟩
abbrev S1x1024 : Shape := ⟨2, ![1, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 19
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S2x1024x3584, .f32⟩
  | .hbm, ⟨3, _⟩ => ⟨S4096x3584, .f32⟩
  | .hbm, ⟨4, _⟩ => ⟨S4096x1024, .f32⟩
  | .hbm, ⟨5, _⟩ => ⟨S2x3584x1024, .f32⟩
  | .hbm, ⟨6, _⟩ => ⟨S1x3584x1024, .f32⟩
  | .hbm, ⟨7, _⟩ => ⟨S1x3584x1024, .bf16⟩
  | .hbm, ⟨8, _⟩ => ⟨S4096x7x512, .f32⟩
  | .hbm, ⟨9, _⟩ => ⟨S7x4096x512, .f32⟩
  | .hbm, ⟨10, _⟩ => ⟨S7x4096x512, .bf16⟩
  | .hbm, ⟨11, _⟩ => ⟨S3x4096x512, .bf16⟩
  | .hbm, ⟨12, _⟩ => ⟨S4x4096x512, .bf16⟩
  | .hbm, ⟨13, _⟩ => ⟨S2x1x1024, .f32⟩
  | .hbm, ⟨14, _⟩ => ⟨S4096x1024, .f32⟩
  | .hbm, ⟨15, _⟩ => ⟨S4096x1024, .bf16⟩
  | .hbm, ⟨16, _⟩ => ⟨S8x1024, .f32⟩
  | .hbm, ⟨17, _⟩ => ⟨S_, .f32⟩
  | .hbm, ⟨18, _⟩ => ⟨S1024, .f32⟩
  | .local _ .vmem, ⟨0, _⟩ => ⟨S3x512x512, .bf16⟩
  | .local _ .vmem, ⟨1, _⟩ => ⟨S3x512x512, .bf16⟩
  | .local _ .vmem, ⟨2, _⟩ => ⟨S4x512x512, .bf16⟩
  | .local _ .vmem, ⟨3, _⟩ => ⟨S4x512x512, .bf16⟩
  | .local _ .vmem, ⟨4, _⟩ => ⟨S1x3584x1024, .bf16⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_cst : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v76 : BitVec 1 := Scalar.cmpi .eq arg0 c0_i32
  let v77 : BitVec 32 := Scalar.extui v76
  let c0_i32_56 : BitVec 32 := 0#32
  let v78 : BitVec 1 := Scalar.cmpi .ne v77 c0_i32_56
  v78

def k0_cond2 (i : grid0.Coords) : BitVec 1 :=
  let arg0 : BitVec 32 := BitVec.ofNat 32 (i 0).val
  let c0_i32_57 : BitVec 32 := 0#32
  let v79 : BitVec 1 := Scalar.cmpi .sgt arg0 c0_i32_57
  let v80 : BitVec 32 := Scalar.extui v79
  let c0_i32_58 : BitVec 32 := 0#32
  let v81 : BitVec 1 := Scalar.cmpi .ne v80 c0_i32_58
  v81

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3584x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4096x1024 : Shape := ⟨2, ![4096, 1024]⟩
abbrev S2x1024 : Shape := ⟨2, ![2, 1024]⟩
abbrev S2x1024x3584 : Shape := ⟨3, ![2, 1024, 3584]⟩
abbrev S4096x3584 : Shape := ⟨2, ![4096, 3584]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024x3584 : Shape := ⟨3, ![1, 1024, 3584]⟩
abbrev S1024x3584 : Shape := ⟨2, ![1024, 3584]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S2x1024x3584, .f32⟩
  | .hbm, ⟨3, _⟩ => ⟨S4096x3584, .f32⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1x1024x3584, .f32⟩
  | .hbm, ⟨28, _⟩ => ⟨S1024x3584, .f32⟩
  | .hbm, ⟨29, _⟩ => ⟨S4096x3584, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel2.lean ====
abbrev S4096x512 : Shape := ⟨2, ![4096, 512]⟩
abbrev S4096x1024 : Shape := ⟨2, ![4096, 1024]⟩
abbrev S2x512 : Shape := ⟨2, ![2, 512]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024x1024 : Shape := ⟨3, ![1, 1024, 1024]⟩
abbrev S1x512 : Shape := ⟨2, ![1, 512]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩
abbrev S1x1024 : Shape := ⟨2, ![1, 1024]⟩
abbrev S1x1024x4096 : Shape := ⟨3, ![1, 1024, 4096]⟩
abbrev S1024x4096 : Shape := ⟨2, ![1024, 4096]⟩
abbrev S4096x4096 : Shape := ⟨2, ![4096, 4096]⟩
abbrev S1x4096x1024 : Shape := ⟨3, ![1, 4096, 1024]⟩
abbrev S1024x8x512 : Shape := ⟨3, ![1024, 8, 512]⟩
abbrev S8x1024x512 : Shape := ⟨3, ![8, 1024, 512]⟩
abbrev S1x8x1024x512 : Shape := ⟨4, ![1, 8, 1024, 512]⟩
abbrev S2x1x1024 : Shape := ⟨3, ![2, 1, 1024]⟩
abbrev S2x1x512 : Shape := ⟨3, ![2, 1, 512]⟩
abbrev S8x1024 : Shape := ⟨2, ![8, 1024]⟩
abbrev S8x512 : Shape := ⟨2, ![8, 512]⟩
abbrev S256x1024 : Shape := ⟨2, ![256, 1024]⟩
abbrev S1x1x1024 : Shape := ⟨3, ![1, 1, 1024]⟩
abbrev S256x4096 : Shape := ⟨2, ![256, 4096]⟩
abbrev S256x512 : Shape := ⟨2, ![256, 512]⟩
abbrev S1x1x512 : Shape := ⟨3, ![1, 1, 512]⟩
abbrev S1x512x1024 : Shape := ⟨3, ![1, 512, 1024]⟩
abbrev S512x1024 : Shape := ⟨2, ![512, 1024]⟩
abbrev S1x1x1024x512 : Shape := ⟨4, ![1, 1, 1024, 512]⟩
abbrev S1024x512 : Shape := ⟨2, ![1024, 512]⟩
abbrev S256 : Shape := ⟨1, ![256]⟩
abbrev S256x1 : Shape := ⟨2, ![256, 1]⟩
abbrev S512x512 : Shape := ⟨2, ![512, 512]⟩
abbrev S32x8x1024 : Shape := ⟨3, ![32, 8, 1024]⟩
abbrev S32x8x512 : Shape := ⟨3, ![32, 8, 512]⟩
abbrev S1024 : Shape := ⟨1, ![1024]⟩
abbrev S512 : Shape := ⟨1, ![512]⟩

abbrev nBuf : Space → Nat
  | .hbm => 74
  | .vmem => 29
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S2x512, .f32⟩
  | .hbm, ⟨4, _⟩ => ⟨S2x1024x1024, .f32⟩
  | .hbm, ⟨5, _⟩ => ⟨S2x1024, .f32⟩
  | .hbm, ⟨6, _⟩ => ⟨S2x1024x4096, .f32⟩
  | .hbm, ⟨7, _⟩ => ⟨S2x4096x1024, .f32⟩
  | .hbm, ⟨8, _⟩ => ⟨S4096x1024, .f32⟩
  | .hbm, ⟨9, _⟩ => ⟨S1x1024x1024, .f32⟩
  | .hbm, ⟨10, _⟩ => ⟨S1x512, .f32⟩
  | .hbm, ⟨11, _⟩ => ⟨S4096x512, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x1024, .f32⟩
  | .hbm, ⟨27, _⟩ => ⟨S1024x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S1x1024x4096, .f32⟩
  | .hbm, ⟨47, _⟩ => ⟨S1024x4096, .f32⟩
  | .hbm, ⟨48, _⟩ => ⟨S4096x4096, .f32⟩
  | .hbm, ⟨49, _⟩ => ⟨S4096x4096, .bf16⟩
  | .hbm, ⟨50, _⟩ => ⟨S1x1024x1024, .bf16⟩
  | .hbm, ⟨51, _⟩ => ⟨S1x4096x1024, .f32⟩
  | .hbm, ⟨52, _⟩ => ⟨S1x4096x1024, .bf16⟩
  | .hbm, ⟨53, _⟩ => ⟨S1x1024x4096, .f32⟩
  | .hbm, ⟨54, _⟩ => ⟨S1024x4096, .f32⟩
  | .hbm, ⟨55, _⟩ => ⟨S1024x8x512, .f32⟩
  | .hbm, ⟨56, _⟩ => ⟨S8x1024x512, .f32⟩
  | .hbm, ⟨57, _⟩ => ⟨S1x8x1024x512, .f32⟩
  | .hbm, ⟨58, _⟩ => ⟨S1x8x1024x512, .bf16⟩
  | .hbm, ⟨59, _⟩ => ⟨S4096x1024, .bf16⟩
  | .hbm, ⟨60, _⟩ => ⟨S2x1x1024, .f32⟩
  | .hbm, ⟨61, _⟩ => ⟨S2x1x512, .f32⟩
  | .hbm, ⟨62, _⟩ => ⟨S4096x1024, .f32⟩
  | .hbm, ⟨63, _⟩ => ⟨S4096x1024, .bf16⟩
  | .hbm, ⟨64, _⟩ => ⟨S4096x4096, .bf16⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S8x1024, .f32⟩
  | .hbm, ⟨69, _⟩ => ⟨S8x512, .f32⟩
  | .hbm, ⟨70, _⟩ => ⟨S_, .f32⟩
  | .hbm, ⟨71, _⟩ => ⟨S1024, .f32⟩
  | .hbm, ⟨72, _⟩ => ⟨S_, .f32⟩
  | .hbm, ⟨73, _⟩ => ⟨S512, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1x1x1024, .f32⟩
  | .local _ .vmem, ⟨7, _⟩ => ⟨S256x4096, .bf16⟩
  | .local _ .vmem, ⟨8, _⟩ => ⟨S256x4096, .bf16⟩
  | .local _ .vmem, ⟨9, _⟩ => ⟨S256x512, .f32⟩
  | .local _ .vmem, ⟨10, _⟩ => ⟨S256x512, .f32⟩
  | .local _ .vmem, ⟨11, _⟩ => ⟨S1x1x512, .f32⟩
  | .local _ .vmem, ⟨12, _⟩ => ⟨S1x1024x1024, .bf16⟩
  | .local _ .vmem, ⟨13, _⟩ => ⟨S1x8x1024x512, .bf16⟩
  | .local _ .vmem, ⟨14, _⟩ => ⟨S1x4096x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x4096, .bf16⟩
  | .local _ .vmem, ⟨20, _⟩ => ⟨S256x4096, .bf16⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S8x1024, .f32⟩
  | .local _ .vmem, ⟨28, _⟩ => ⟨S8x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47_0 : Ref sig .tc := ⟨.hbm, 62, rfl⟩
abbrev main_v47_1 : Ref sig .tc := ⟨.hbm, 63, rfl⟩
abbrev main_v47_2 : Ref sig .tc := ⟨.hbm, 64, rfl⟩
abbrev main_v47_3 : Ref sig .tc := ⟨.hbm, 65, rfl⟩
abbrev main_v47_4 : Ref sig .tc := ⟨.hbm, 66, rfl⟩
abbrev main_v47_5 : Ref sig .tc := ⟨.hbm, 67, rfl⟩
abbrev main_v47_6 : Ref sig .tc := ⟨.hbm, 68, rfl⟩
abbrev main_v47_7 : Ref sig .tc := ⟨.hbm, 69, rfl⟩
abbrev main_cst_5 : Ref sig .tc := ⟨.hbm, 70, rfl⟩
abbrev main_v48 : Ref sig .tc := ⟨.hbm, 71, rfl⟩
abbrev main_cst_6 : Ref sig .tc := ⟨.hbm, 72, rfl⟩
abbrev main_v49 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_175 : BitVec 32 := 0#32
  let v286 : BitVec 1 := Scalar.cmpi .eq arg0 c0_i32_175
  let v287 : BitVec 32 := Scalar.extui v286
  let c0_i32_176 : BitVec 32 := 0#32
  let v288 : BitVec 1 := Scalar.cmpi .ne v287 c0_i32_176
  v288

def k0_cond2 (i : grid0.Coords) : BitVec 1 :=
  let arg0 : BitVec 32 := BitVec.ofNat 32 (i 0).val
  let c0_i32_177 : BitVec 32 := 0#32
  let v289 : BitVec 1 := Scalar.cmpi .sgt arg0 c0_i32_177
  let v290 : BitVec 32 := Scalar.extui v289
  let c0_i32_178 : BitVec 32 := 0#32
  let v291 : BitVec 1 := Scalar.cmpi .ne v290 c0_i32_178
  v291

def k0_cond3 (i : grid0.Coords) : BitVec 1 :=
  let arg0 : BitVec 32 := BitVec.ofNat 32 (i 0).val
  let c0_i32_180 : BitVec 32 := 0#32
  let v294 : BitVec 1 := Scalar.cmpi .eq arg0 c0_i32_180
  let v295 : BitVec 32 := Scalar.extui v294
  let c0_i32_181 : BitVec 32 := 0#32
  let v296 : BitVec 1 := Scalar.cmpi .ne v295 c0_i32_181
  v296

def k0_cond4 (i : grid0.Coords) : BitVec 1 :=
  let arg0 : BitVec 32 := BitVec.ofNat 32 (i 0).val
  let c0_i32_182 : BitVec 32 := 0#32
  let v297 : BitVec 1 := Scalar.cmpi .sgt arg0 c0_i32_182
  let v298 : BitVec 32 := Scalar.extui v297
  let c0_i32_183 : BitVec 32 := 0#32
  let v299 : BitVec 1 := Scalar.cmpi .ne v298 c0_i32_183
  v299

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8x1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference2Ideal.lean ====
abbrev S4096x512 : Shape := ⟨2, ![4096, 512]⟩
abbrev S4096x1024 : Shape := ⟨2, ![4096, 1024]⟩
abbrev S2x512 : Shape := ⟨2, ![2, 512]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x512 : Shape := ⟨2, ![1, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1024x4096 : Shape := ⟨3, ![1, 1024, 4096]⟩
abbrev S1024x4096 : Shape := ⟨2, ![1024, 4096]⟩
abbrev S4096x4096 : Shape := ⟨2, ![4096, 4096]⟩
abbrev S1x4096x1024 : Shape := ⟨3, ![1, 4096, 1024]⟩
abbrev S4096x8x64 : Shape := ⟨3, ![4096, 8, 64]⟩
abbrev S4096x8 : Shape := ⟨2, ![4096, 8]⟩

abbrev nBuf : Space → Nat
  | .hbm => 147
  | .vmem => 0
  | .smem => 0
  | _ => 0

abbrev hbmTy0_0 (i : Nat) : BufTy := match i % 128 with
  | 0 => ⟨S4096x512, .f32⟩
  | 1 => ⟨S4096x512, .f32⟩
  | 2 => ⟨S4096x1024, .f32⟩
  | 3 => ⟨S2x512, .f32⟩
  | 4 => ⟨S2x1024x1024, .f32⟩
  | 5 => ⟨S2x1024, .f32⟩
  | 6 => ⟨S2x1024x4096, .f32⟩
  | 7 => ⟨S2x4096x1024, .f32⟩
  | 8 => ⟨S4096x1024, .f32⟩
  | 9 => ⟨S1x512, .f32⟩
  | 10 => ⟨S512, .f32⟩
  | 11 => ⟨S4096x512, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x512, .f32⟩
  | 27 => ⟨S4096x512, .f32⟩
  | 28 => ⟨S1x512, .f32⟩
  | 29 => ⟨S4096x512, .f32⟩
  | 30 => ⟨S4096x512, .f32⟩
  | 31 => ⟨S4096x1024, .f32⟩
  | 32 => ⟨S1x1024x1024, .f32⟩
  | 33 => ⟨S1024x1024, .f32⟩
  | 34 => ⟨S4096x1024, .f32⟩
  | 35 => ⟨S4096x1024, .f32⟩
  | 36 => ⟨S1x1024, .f32⟩
  | 37 => ⟨S1024, .f32⟩
  | 38 => ⟨S4096x1024, .f32⟩
  | 39 => ⟨S_, .f32⟩
  | 40 => ⟨S4096, .f32⟩
  | 41 => ⟨S4096x1, .f32⟩
  | 42 => ⟨S_, .f32⟩
  | 43 => ⟨S4096x1, .f32⟩
  | 44 => ⟨S4096x1, .f32⟩
  | 45 => ⟨S_, .f32⟩
  | 46 => ⟨S4096x1, .f32⟩
  | 47 => ⟨S4096x1, .f32⟩
  | 48 => ⟨S4096x1, .f32⟩
  | 49 => ⟨S4096x1, .f32⟩
  | 50 => ⟨S_, .f32⟩
  | 51 => ⟨S4096x1, .f32⟩
  | 52 => ⟨S4096x1, .f32⟩
  | 53 => ⟨S4096x1024, .f32⟩
  | 54 => ⟨S4096x1024, .f32⟩
  | 55 => ⟨S1x1024, .f32⟩
  | 56 => ⟨S4096x1024, .f32⟩
  | 57 => ⟨S4096x1024, .f32⟩
  | 58 => ⟨S1x1024x4096, .f32⟩
  | 59 => ⟨S1024x4096, .f32⟩
  | 60 => ⟨S4096x4096, .f32⟩
  | 61 => ⟨S_, .f32⟩
  | 62 => ⟨S4096x4096, .f32⟩
  | 63 => ⟨S4096x4096, .f32⟩
  | 64 => ⟨S_, .f32⟩
  | 65 => ⟨S4096x4096, .f32⟩
  | 66 => ⟨S4096x4096, .i1⟩
  | 67 => ⟨S_, .f32⟩
  | 68 => ⟨S4096x4096, .f32⟩
  | 69 => ⟨S4096x4096, .f32⟩
  | 70 => ⟨S_, .f32⟩
  | 71 => ⟨S4096x4096, .f32⟩
  | 72 => ⟨S4096x4096, .f32⟩
  | 73 => ⟨S1x4096x1024, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S4096x4096, .f32⟩
  | 80 => ⟨S4096x4096, .f32⟩
  | 81 => ⟨S_, .f32⟩
  | 82 => ⟨S4096x4096, .f32⟩
  | 83 => ⟨S4096x4096, .f32⟩
  | 84 => ⟨S4096x1024, .f32⟩
  | 85 => ⟨S4096x1024, .f32⟩
  | 86 => ⟨S_, .f32⟩
  | 87 => ⟨S1024, .f32⟩
  | 88 => ⟨S1x1024, .f32⟩
  | 89 => ⟨S4096x1024, .f32⟩
  | 90 => ⟨S4096x1024, .f32⟩
  | 91 => ⟨S_, .f32⟩
  | 92 => ⟨S1024, .f32⟩
  | 93 => ⟨S4096x1024, .f32⟩
  | 94 => ⟨S_, .f32⟩
  | 95 => ⟨S4096, .f32⟩
  | 96 => ⟨S4096x1, .f32⟩
  | 97 => ⟨S4096x1024, .f32⟩
  | 98 => ⟨S4096x1024, .f32⟩
  | 99 => ⟨S4096x1024, .f32⟩
  | 100 => ⟨S4096x1, .f32⟩
  | 101 => ⟨S_, .f32⟩
  | 102 => ⟨S4096x1, .f32⟩
  | 103 => ⟨S4096x1, .f32⟩
  | 104 => ⟨S_, .f32⟩
  | 105 => ⟨S4096, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S4096x512, .f32⟩
  | 113 => ⟨S4096x512, .f32⟩
  | 114 => ⟨S4096x512, .f32⟩
  | 115 => ⟨S_, .f32⟩
  | 116 => ⟨S512, .f32⟩
  | 117 => ⟨S1x512, .f32⟩
  | 118 => ⟨S4096x512, .f32⟩
  | 119 => ⟨S4096x512, .f32⟩
  | 120 => ⟨S_, .f32⟩
  | 121 => ⟨S512, .f32⟩
  | 122 => ⟨S4096x512, .f32⟩
  | 123 => ⟨S_, .f32⟩
  | 124 => ⟨S4096, .f32⟩
  | 125 => ⟨S4096x1, .f32⟩
  | 126 => ⟨S4096x512, .f32⟩
  | 127 => ⟨S4096x512, .f32⟩
  | _ => ⟨S4096x512, .f32⟩

abbrev hbmTy0_1 (i : Nat) : BufTy := match i % 128 with
  | 0 => ⟨S4096x1, .f32⟩
  | 1 => ⟨S_, .f32⟩
  | 2 => ⟨S4096x1, .f32⟩
  | 3 => ⟨S4096x1, .f32⟩
  | 4 => ⟨S_, .f32⟩
  | 5 => ⟨S4096, .f32⟩
  | 6 => ⟨S4096x512, .f32⟩
  | 7 => ⟨S4096x512, .f32⟩
  | 8 => ⟨S4096x512, .f32⟩
  | 9 => ⟨S4096x512, .f32⟩
  | 10 => ⟨S4096x512, .f32⟩
  | 11 => ⟨S4096x512, .f32⟩
  | 12 => ⟨S4096x8x64, .f32⟩
  | 13 => ⟨S_, .f32⟩
  | 14 => ⟨S4096x8, .f32⟩
  | 15 => ⟨S4096x8x64, .f32⟩
  | 16 => ⟨S4096x512, .f32⟩
  | 17 => ⟨S4096x1024, .bf16⟩
  | 18 => ⟨S4096x4096, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_cst_15 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_16 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_17 : Ref sig .tc := ⟨.hbm, 120, rfl⟩
abbrev main_v91 : Ref sig .tc := ⟨.hbm, 121, rfl⟩
abbrev main_v92 : Ref sig .tc := ⟨.hbm, 122, rfl⟩
abbrev main_cst_18 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_19 : Ref sig .tc := ⟨.hbm, 129, rfl⟩
abbrev main_v98 : Ref sig .tc := ⟨.hbm, 130, rfl⟩
abbrev main_v99 : Ref sig .tc := ⟨.hbm, 131, rfl⟩
abbrev main_cst_20 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_21 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩

abbrev nD : Nat := 1
abbrev τ : Topo := Topo.v7x

variable {F : FTy → Type} [FloatOps F]
-- ==== Kernel3.lean ====
abbrev S4096x1024 : Shape := ⟨2, ![4096, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S2x1x1024 : Shape := ⟨3, ![2, 1, 1024]⟩
abbrev S1x1024x1024 : Shape := ⟨3, ![1, 1024, 1024]⟩
abbrev S1x4096x1024 : Shape := ⟨3, ![1, 4096, 1024]⟩
abbrev S1x1024x4096 : Shape := ⟨3, ![1, 1024, 4096]⟩
abbrev S1024x4096 : Shape := ⟨2, ![1024, 4096]⟩
abbrev S1024x8x512 : Shape := ⟨3, ![1024, 8, 512]⟩
abbrev S8x1024x512 : Shape := ⟨3, ![8, 1024, 512]⟩
abbrev S1x8x1024x512 : Shape := ⟨4, ![1, 8, 1024, 512]⟩
abbrev S1x1024 : Shape := ⟨2, ![1, 1024]⟩
abbrev S4096x4096 : Shape := ⟨2, ![4096, 4096]⟩
abbrev S8x1024 : Shape := ⟨2, ![8, 1024]⟩
abbrev S8x128 : Shape := ⟨2, ![8, 128]⟩
abbrev S512x1024 : Shape := ⟨2, ![512, 1024]⟩
abbrev S1x1x1024 : Shape := ⟨3, ![1, 1, 1024]⟩
abbrev S512x4096 : Shape := ⟨2, ![512, 4096]⟩
abbrev S1024x1024 : Shape := ⟨2, ![1024, 1024]⟩
abbrev S512 : Shape := ⟨1, ![512]⟩
abbrev S512x1 : Shape := ⟨2, ![512, 1]⟩
abbrev S1x1x1024x512 : Shape := ⟨4, ![1, 1, 1024, 512]⟩
abbrev S1024x512 : Shape := ⟨2, ![1024, 512]⟩
abbrev S512x512 : Shape := ⟨2, ![512, 512]⟩
abbrev S1x512x1024 : Shape := ⟨3, ![1, 512, 1024]⟩
abbrev S64x8x1024 : Shape := ⟨3, ![64, 8, 1024]⟩
abbrev S1x128 : Shape := ⟨2, ![1, 128]⟩
abbrev S512x128 : Shape := ⟨2, ![512, 128]⟩
abbrev S64x8x128 : Shape := ⟨3, ![64, 8, 128]⟩
abbrev S8x1 : Shape := ⟨2, ![8, 1]⟩
abbrev S8 : Shape := ⟨1, ![8]⟩
abbrev S_ : Shape := ⟨0, ![]⟩

abbrev nBuf : Space → Nat
  | .hbm => 34
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S4096x1024, .f32⟩
  | .hbm, ⟨8, _⟩ => ⟨S2x1x1024, .f32⟩
  | .hbm, ⟨9, _⟩ => ⟨S1x1024x1024, .f32⟩
  | .hbm, ⟨10, _⟩ => ⟨S1x1024x1024, .bf16⟩
  | .hbm, ⟨11, _⟩ => ⟨S1x4096x1024, .f32⟩
  | .hbm, ⟨12, _⟩ => ⟨S1x4096x1024, .bf16⟩
  | .hbm, ⟨13, _⟩ => ⟨S1x1024x4096, .f32⟩
  | .hbm, ⟨14, _⟩ => ⟨S1024x4096, .f32⟩
  | .hbm, ⟨15, _⟩ => ⟨S1024x8x512, .f32⟩
  | .hbm, ⟨16, _⟩ => ⟨S8x1024x512, .f32⟩
  | .hbm, ⟨17, _⟩ => ⟨S1x8x1024x512, .f32⟩
  | .hbm, ⟨18, _⟩ => ⟨S1x8x1024x512, .bf16⟩
  | .hbm, ⟨19, _⟩ => ⟨S4096x1024, .bf16⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x4096, .bf16⟩
  | .hbm, ⟨24, _⟩ => ⟨S4096x1024, .bf16⟩
  | .hbm, ⟨25, _⟩ => ⟨S4096x1024, .bf16⟩
  | .hbm, ⟨26, _⟩ => ⟨S8x1024, .f32⟩
  | .hbm, ⟨27, _⟩ => ⟨S8x128, .f32⟩
  | .hbm, ⟨28, _⟩ => ⟨S8x1, .f32⟩
  | .hbm, ⟨29, _⟩ => ⟨S8, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x1024, .f32⟩
  | .local _ .vmem, ⟨5, _⟩ => ⟨S1x1024x1024, .bf16⟩
  | .local _ .vmem, ⟨6, _⟩ => ⟨S1x8x1024x512, .bf16⟩
  | .local _ .vmem, ⟨7, _⟩ => ⟨S1x4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x4096, .bf16⟩
  | .local _ .vmem, ⟨16, _⟩ => ⟨S512x4096, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S8x1024, .f32⟩
  | .local _ .vmem, ⟨22, _⟩ => ⟨S8x128, .f32⟩
  | .local _ .vmem, ⟨23, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev main_v13_5 : Ref sig .tc := ⟨.hbm, 26, rfl⟩
abbrev main_v13_6 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v206 : BitVec 1 := Scalar.cmpi .eq arg0 c0_i32
  let v207 : BitVec 32 := Scalar.extui v206
  let c0_i32_148 : BitVec 32 := 0#32
  let v208 : BitVec 1 := Scalar.cmpi .ne v207 c0_i32_148
  v208

def k0_cond2 (i : grid0.Coords) : BitVec 1 :=
  let arg0 : BitVec 32 := BitVec.ofNat 32 (i 0).val
  let c0_i32_149 : BitVec 32 := 0#32
  let v209 : BitVec 1 := Scalar.cmpi .sgt arg0 c0_i32_149
  let v210 : BitVec 32 := Scalar.extui v209
  let c0_i32_150 : BitVec 32 := 0#32
  let v211 : BitVec 1 := Scalar.cmpi .ne v210 c0_i32_150
  v211

def k0_cond3 (i : grid0.Coords) : BitVec 1 :=
  let arg0 : BitVec 32 := BitVec.ofNat 32 (i 0).val
  let c0_i32_156 : BitVec 32 := 0#32
  let v225 : BitVec 1 := Scalar.cmpi .eq arg0 c0_i32_156
  let v226 : BitVec 32 := Scalar.extui v225
  let c0_i32_157 : BitVec 32 := 0#32
  let v227 : BitVec 1 := Scalar.cmpi .ne v226 c0_i32_157
  v227

def k0_cond4 (i : grid0.Coords) : BitVec 1 :=
  let arg0 : BitVec 32 := BitVec.ofNat 32 (i 0).val
  let c0_i32_158 : BitVec 32 := 0#32
  let v228 : BitVec 1 := Scalar.cmpi .sgt arg0 c0_i32_158
  let v229 : BitVec 32 := Scalar.extui v228
  let c0_i32_159 : BitVec 32 := 0#32
  let v230 : BitVec 1 := Scalar.cmpi .ne v229 c0_i32_159
  v230

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference3Ideal.lean ====
abbrev S4096x1024 : Shape := ⟨2, ![4096, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x1024x4096 : Shape := ⟨3, ![1, 1024, 4096]⟩
abbrev S1024x4096 : Shape := ⟨2, ![1024, 4096]⟩
abbrev S4096x4096 : Shape := ⟨2, ![4096, 4096]⟩
abbrev S1x4096x1024 : Shape := ⟨3, ![1, 4096, 1024]⟩

abbrev nBuf : Space → Nat
  | .hbm => 112
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S4096x1024, .f32⟩
  | .hbm, ⟨8, _⟩ => ⟨S1x1024x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S1x1024, .f32⟩
  | .hbm, ⟨13, _⟩ => ⟨S1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S1x1024x4096, .f32⟩
  | .hbm, ⟨31, _⟩ => ⟨S1024x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S1x4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S4096, .f32⟩
  | .hbm, ⟨79, _⟩ => ⟨S_, .f32⟩
  | .hbm, ⟨80, _⟩ => ⟨S4096, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S1024, .f32⟩
  | .hbm, ⟨92, _⟩ => ⟨S4096x1024, .f32⟩
  | .hbm, ⟨93, _⟩ => ⟨S_, .f32⟩
  | .hbm, ⟨94, _⟩ => ⟨S4096, .f32⟩
  | .hbm, ⟨95, _⟩ => ⟨S4096x1, .f32⟩
  | .hbm, ⟨96, _⟩ => ⟨S4096x1024, .f32⟩
  | .hbm, ⟨97, _⟩ => ⟨S4096x1024, .f32⟩
  | .hbm, ⟨98, _⟩ => ⟨S4096x1, .f32⟩
  | .hbm, ⟨99, _⟩ => ⟨S_, .f32⟩
  | .hbm, ⟨100, _⟩ => ⟨S4096x1, .f32⟩
  | .hbm, ⟨101, _⟩ => ⟨S4096x1, .f32⟩
  | .hbm, ⟨102, _⟩ => ⟨S_, .f32⟩
  | .hbm, ⟨103, _⟩ => ⟨S4096, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S4096x1024, .f32⟩
  | .hbm, ⟨108, _⟩ => ⟨S4096x1024, .f32⟩
  | .hbm, ⟨109, _⟩ => ⟨S4096x1024, .bf16⟩
  | .hbm, ⟨110, _⟩ => ⟨S4096x4096, .bf16⟩
  | .hbm, ⟨111, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_cst_11 : Ref sig .tc := ⟨.hbm, 75, rfl⟩
abbrev main_cst_12 : Ref sig .tc := ⟨.hbm, 76, rfl⟩
abbrev main_v53 : Ref sig .tc := ⟨.hbm, 77, rfl⟩
abbrev main_v54 : Ref sig .tc := ⟨.hbm, 78, rfl⟩
abbrev main_cst_13 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_14 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_15 : Ref sig .tc := ⟨.hbm, 90, rfl⟩
abbrev main_v64 : Ref sig .tc := ⟨.hbm, 91, rfl⟩
abbrev main_v65 : Ref sig .tc := ⟨.hbm, 92, rfl⟩
abbrev main_cst_16 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_17 : Ref sig .tc := ⟨.hbm, 99, rfl⟩
abbrev main_v71 : Ref sig .tc := ⟨.hbm, 100, rfl⟩
abbrev main_v72 : Ref sig .tc := ⟨.hbm, 101, rfl⟩
abbrev main_cst_18 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]
-- ==== Kernel4.lean ====
abbrev S2x512 : Shape := ⟨2, ![2, 512]⟩
abbrev S1x512 : Shape := ⟨2, ![1, 512]⟩

abbrev nBuf : Space → Nat
  | .hbm => 7
  | .vmem => 3
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S1x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference4Ideal.lean ====
abbrev S2x512 : Shape := ⟨2, ![2, 512]⟩
abbrev S_ : Shape := ⟨0, ![]⟩
abbrev S512 : Shape := ⟨1, ![512]⟩
abbrev S1x512 : Shape := ⟨2, ![1, 512]⟩

abbrev nBuf : Space → Nat
  | .hbm => 76
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S_, .f32⟩
  | .hbm, ⟨3, _⟩ => ⟨S512, .f32⟩
  | .hbm, ⟨4, _⟩ => ⟨S1x512, .f32⟩
  | .hbm, ⟨5, _⟩ => ⟨S2x512, .f32⟩
  | .hbm, ⟨6, _⟩ => ⟨S2x512, .i1⟩
  | .hbm, ⟨7, _⟩ => ⟨S2x512, .f32⟩
  | .hbm, ⟨8, _⟩ => ⟨S_, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .i1⟩
  | .hbm, ⟨16, _⟩ => ⟨S_, .f32⟩
  | .hbm, ⟨17, _⟩ => ⟨S512, .f32⟩
  | .hbm, ⟨18, _⟩ => ⟨S512, .i1⟩
  | .hbm, ⟨19, _⟩ => ⟨S_, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S2x512, .f32⟩
  | .hbm, ⟨29, _⟩ => ⟨S2x512, .f32⟩
  | .hbm, ⟨30, _⟩ => ⟨S2x512, .f32⟩
  | .hbm, ⟨31, _⟩ => ⟨S_, .f32⟩
  | .hbm, ⟨32, _⟩ => ⟨S512, .f32⟩
  | .hbm, ⟨33, _⟩ => ⟨S1x512, .f32⟩
  | .hbm, ⟨34, _⟩ => ⟨S2x512, .f32⟩
  | .hbm, ⟨35, _⟩ => ⟨S2x512, .f32⟩
  | .hbm, ⟨36, _⟩ => ⟨S1x512, .f32⟩
  | .hbm, ⟨37, _⟩ => ⟨S_, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S_, .f32⟩
  | .hbm, ⟨42, _⟩ => ⟨S2x512, .f32⟩
  | .hbm, ⟨43, _⟩ => ⟨S1x512, .f32⟩
  | .hbm, ⟨44, _⟩ => ⟨S512, .f32⟩
  | .hbm, ⟨45, _⟩ => ⟨S1x512, .f32⟩
  | .hbm, ⟨46, _⟩ => ⟨S2x512, .f32⟩
  | .hbm, ⟨47, _⟩ => ⟨S2x512, .f32⟩
  | .hbm, ⟨48, _⟩ => ⟨S2x512, .f32⟩
  | .hbm, ⟨49, _⟩ => ⟨S2x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S_, .f32⟩
  | .hbm, ⟨54, _⟩ => ⟨S512, .f32⟩
  | .hbm, ⟨55, _⟩ => ⟨S1x512, .f32⟩
  | .hbm, ⟨56, _⟩ => ⟨S_, .f32⟩
  | .hbm, ⟨57, _⟩ => ⟨S2x512, .f32⟩
  | .hbm, ⟨58, _⟩ => ⟨S_, .f32⟩
  | .hbm, ⟨59, _⟩ => ⟨S_, .f32⟩
  | .hbm, ⟨60, _⟩ => ⟨S2x512, .f32⟩
  | .hbm, ⟨61, _⟩ => ⟨S2x512, .f32⟩
  | .hbm, ⟨62, _⟩ => ⟨S2x512, .f32⟩
  | .hbm, ⟨63, _⟩ => ⟨S2x512, .f32⟩
  | .hbm, ⟨64, _⟩ => ⟨S2x512, .f32⟩
  | .hbm, ⟨65, _⟩ => ⟨S_, .f32⟩
  | .hbm, ⟨66, _⟩ => ⟨S512, .f32⟩
  | .hbm, ⟨67, _⟩ => ⟨S1x512, .f32⟩
  | .hbm, ⟨68, _⟩ => ⟨S1x512, .f32⟩
  | .hbm, ⟨69, _⟩ => ⟨S2x512, .f32⟩
  | .hbm, ⟨70, _⟩ => ⟨S2x512, .f32⟩
  | .hbm, ⟨71, _⟩ => ⟨S_, .f32⟩
  | .hbm, ⟨72, _⟩ => ⟨S512, .f32⟩
  | .hbm, ⟨73, _⟩ => ⟨S2x512, .f32⟩
  | .hbm, ⟨74, _⟩ => ⟨S2x512, .f32⟩
  | .hbm, ⟨75, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_call1_call0_cst : Ref sig .tc := ⟨.hbm, 58, rfl⟩
abbrev main_call1_call0_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Kernel8.lean ====
abbrev S4096x3584 : Shape := ⟨2, ![4096, 3584]⟩
abbrev S4096x512 : Shape := ⟨2, ![4096, 512]⟩
abbrev S2048x128 : Shape := ⟨2, ![2048, 128]⟩
abbrev S3x2048x128 : Shape := ⟨3, ![3, 2048, 128]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S1x128x128 : Shape := ⟨3, ![1, 128, 128]⟩
abbrev S1x256x128 : Shape := ⟨3, ![1, 256, 128]⟩

abbrev nBuf : Space → Nat
  | .hbm => 3
  | .vmem => 16
  | .smem => 0
  | _ => 0

abbrev bufTy : (tb : Table) → Fin (tcTables nBuf tb) → BufTy
  | .hbm, ⟨0, _⟩ => ⟨S4096x3584, .f32⟩
  | .hbm, ⟨1, _⟩ => ⟨S4096x512, .f32⟩
  | .hbm, ⟨2, _⟩ => ⟨S4096x512, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S3x2048x128, .f32⟩
  | .local _ .vmem, ⟨15, _⟩ => ⟨S3x2048x128, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let v2 : BitVec 32 := Scalar.addi c4_i32 arg0
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c8_i32 : BitVec 32 := 8#32
  let v2 : BitVec 32 := Scalar.addi c8_i32 arg0
  let c0_i32_0 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel8Ideal.lean ====
variable {F : FTy → Type} [FloatOps F] [Named F]
def κ : String → Option EReal := fun
  | "mask" => some ⊥
  | _ => none
-- ==== Reference8Ideal.lean ====
abbrev S4096x3584 : Shape := ⟨2, ![4096, 3584]⟩
abbrev S4096x512 : Shape := ⟨2, ![4096, 512]⟩
abbrev S4096x8x64 : Shape := ⟨3, ![4096, 8, 64]⟩
abbrev S8x4096x64 : Shape := ⟨3, ![8, 4096, 64]⟩
abbrev S8x4096x1x64 : Shape := ⟨4, ![8, 4096, 1, 64]⟩
abbrev S8x1x4096x64 : Shape := ⟨4, ![8, 1, 4096, 64]⟩
abbrev S8x1x32x128x64 : Shape := ⟨5, ![8, 1, 32, 128, 64]⟩
abbrev S8x1x1x128x64 : Shape := ⟨5, ![8, 1, 1, 128, 64]⟩
abbrev S_ : Shape := ⟨0, ![]⟩
abbrev S8x1x31x128x64 : Shape := ⟨5, ![8, 1, 31, 128, 64]⟩
abbrev S8x1x32x256x64 : Shape := ⟨5, ![8, 1, 32, 256, 64]⟩
abbrev S8x1x32x128x256 : Shape := ⟨5, ![8, 1, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S8x1x32x128 : Shape := ⟨4, ![8, 1, 32, 128]⟩
abbrev S8x1x32x128x1 : Shape := ⟨5, ![8, 1, 32, 128, 1]⟩
abbrev S8x1x4096 : Shape := ⟨3, ![8, 1, 4096]⟩
abbrev S8x4096x1 : Shape := ⟨3, ![8, 4096, 1]⟩
abbrev S8x4096 : Shape := ⟨2, ![8, 4096]⟩
abbrev S8x1024x4x64 : Shape := ⟨4, ![8, 1024, 4, 64]⟩
abbrev S8x4x1024x64 : Shape := ⟨4, ![8, 4, 1024, 64]⟩
abbrev S8x4x8x128x64 : Shape := ⟨5, ![8, 4, 8, 128, 64]⟩
abbrev S8x4x1x128x64 : Shape := ⟨5, ![8, 4, 1, 128, 64]⟩
abbrev S8x4x7x128x64 : Shape := ⟨5, ![8, 4, 7, 128, 64]⟩
abbrev S8x4x8x256x64 : Shape := ⟨5, ![8, 4, 8, 256, 64]⟩
abbrev S8x4x8x128x256 : Shape := ⟨5, ![8, 4, 8, 128, 256]⟩
abbrev S8 : Shape := ⟨1, ![8]⟩
abbrev S8x1x1 : Shape := ⟨3, ![8, 1, 1]⟩
abbrev S8x1x256 : Shape := ⟨3, ![8, 1, 256]⟩
abbrev S8x128x256 : Shape := ⟨3, ![8, 128, 256]⟩
abbrev S8x4x8x128 : Shape := ⟨4, ![8, 4, 8, 128]⟩
abbrev S8x4x8x128x1 : Shape := ⟨5, ![8, 4, 8, 128, 1]⟩
abbrev S8x4x1024 : Shape := ⟨3, ![8, 4, 1024]⟩
abbrev S8x1024x4 : Shape := ⟨3, ![8, 1024, 4]⟩
abbrev S8x256x16x64 : Shape := ⟨4, ![8, 256, 16, 64]⟩
abbrev S8x16x256x64 : Shape := ⟨4, ![8, 16, 256, 64]⟩
abbrev S8x16x2x128x64 : Shape := ⟨5, ![8, 16, 2, 128, 64]⟩
abbrev S8x16x1x128x64 : Shape := ⟨5, ![8, 16, 1, 128, 64]⟩
abbrev S8x16x2x256x64 : Shape := ⟨5, ![8, 16, 2, 256, 64]⟩
abbrev S8x16x2x128x256 : Shape := ⟨5, ![8, 16, 2, 128, 256]⟩
abbrev S2 : Shape := ⟨1, ![2]⟩
abbrev S2x1x1 : Shape := ⟨3, ![2, 1, 1]⟩
abbrev S2x1x256 : Shape := ⟨3, ![2, 1, 256]⟩
abbrev S2x128x256 : Shape := ⟨3, ![2, 128, 256]⟩
abbrev S8x16x2x128 : Shape := ⟨4, ![8, 16, 2, 128]⟩
abbrev S8x16x2x128x1 : Shape := ⟨5, ![8, 16, 2, 128, 1]⟩
abbrev S8x16x256 : Shape := ⟨3, ![8, 16, 256]⟩
abbrev S8x256x16 : Shape := ⟨3, ![8, 256, 16]⟩
abbrev S1x8x4096 : Shape := ⟨3, ![1, 8, 4096]⟩
abbrev S3x8x4096 : Shape := ⟨3, ![3, 8, 4096]⟩
abbrev S4096x8 : Shape := ⟨2, ![4096, 8]⟩

abbrev nBuf : Space → Nat
  | .hbm => 321
  | .vmem => 0
  | .smem => 0
  | _ => 0

abbrev hbmTy0_0 (i : Nat) : BufTy := match i % 128 with
  | 0 => ⟨S4096x3584, .f32⟩
  | 1 => ⟨S4096x512, .f32⟩
  | 2 => ⟨S4096x8x64, .f32⟩
  | 3 => ⟨S8x4096x64, .f32⟩
  | 4 => ⟨S4096x512, .f32⟩
  | 5 => ⟨S4096x8x64, .f32⟩
  | 6 => ⟨S8x4096x64, .f32⟩
  | 7 => ⟨S4096x512, .f32⟩
  | 8 => ⟨S4096x8x64, .f32⟩
  | 9 => ⟨S8x4096x64, .f32⟩
  | 10 => ⟨S8x4096x1x64, .f32⟩
  | 11 => ⟨S8x1x4096x64, .f32⟩
  | 12 => ⟨S8x1x32x128x64, .f32⟩
  | 13 => ⟨S8x4096x1x64, .f32⟩
  | 14 => ⟨S8x1x4096x64, .f32⟩
  | 15 => ⟨S8x1x32x128x64, .f32⟩
  | 16 => ⟨S8x1x1x128x64, .f32⟩
  | 17 => ⟨S_, .f32⟩
  | 18 => ⟨S8x1x1x128x64, .f32⟩
  | 19 => ⟨S8x1x31x128x64, .f32⟩
  | 20 => ⟨S8x1x32x128x64, .f32⟩
  | 21 => ⟨S8x1x32x256x64, .f32⟩
  | 22 => ⟨S8x4096x1x64, .f32⟩
  | 23 => ⟨S8x1x4096x64, .f32⟩
  | 24 => ⟨S8x1x32x128x64, .f32⟩
  | 25 => ⟨S8x1x1x128x64, .f32⟩
  | 26 => ⟨S_, .f32⟩
  | 27 => ⟨S8x1x1x128x64, .f32⟩
  | 28 => ⟨S8x1x31x128x64, .f32⟩
  | 29 => ⟨S8x1x32x128x64, .f32⟩
  | 30 => ⟨S8x1x32x256x64, .f32⟩
  | 31 => ⟨S8x1x32x128x256, .f32⟩
  | 32 => ⟨S128, .i32⟩
  | 33 => ⟨S128x1, .i32⟩
  | 34 => ⟨S256, .i32⟩
  | 35 => ⟨S1x256, .i32⟩
  | 36 => ⟨S_, .i32⟩
  | 37 => ⟨S128x1, .i32⟩
  | 38 => ⟨S128x1, .i32⟩
  | 39 => ⟨S128x256, .i32⟩
  | 40 => ⟨S128x256, .i32⟩
  | 41 => ⟨S128x256, .i32⟩
  | 42 => ⟨S_, .i32⟩
  | 43 => ⟨S128x256, .i32⟩
  | 44 => ⟨S128x256, .i1⟩
  | 45 => ⟨S_, .i32⟩
  | 46 => ⟨S128x256, .i32⟩
  | 47 => ⟨S128x256, .i1⟩
  | 48 => ⟨S128x256, .i1⟩
  | 49 => ⟨S32, .i32⟩
  | 50 => ⟨S32x1x1, .i32⟩
  | 51 => ⟨S1x128x256, .i1⟩
  | 52 => ⟨S_, .i32⟩
  | 53 => ⟨S32x1x1, .i32⟩
  | 54 => ⟨S32x1x1, .i1⟩
  | 55 => ⟨S_, .i32⟩
  | 56 => ⟨S1x256, .i32⟩
  | 57 => ⟨S1x256, .i1⟩
  | 58 => ⟨S1x1x256, .i1⟩
  | 59 => ⟨S32x1x256, .i1⟩
  | 60 => ⟨S32x1x256, .i1⟩
  | 61 => ⟨S32x1x256, .i1⟩
  | 62 => ⟨S32x128x256, .i1⟩
  | 63 => ⟨S32x128x256, .i1⟩
  | 64 => ⟨S32x128x256, .i1⟩
  | 65 => ⟨S_, .f32⟩
  | 66 => ⟨S_, .f32⟩
  | 67 => ⟨S8x1x32x128x256, .i1⟩
  | 68 => ⟨S8x1x32x128x256, .f32⟩
  | 69 => ⟨S8x1x32x128x256, .f32⟩
  | 70 => ⟨S_, .f32⟩
  | 71 => ⟨S8x1x32x128, .f32⟩
  | 72 => ⟨S8x1x32x128x1, .f32⟩
  | 73 => ⟨S8x1x32x128x256, .f32⟩
  | 74 => ⟨S8x1x32x128x256, .f32⟩
  | 75 => ⟨S8x1x32x128x256, .f32⟩
  | 76 => ⟨S_, .f32⟩
  | 77 => ⟨S_, .f32⟩
  | 78 => ⟨S8x1x32x128x256, .i1⟩
  | 79 => ⟨S8x1x32x128x256, .f32⟩
  | 80 => ⟨S8x1x32x128x256, .f32⟩
  | 81 => ⟨S_, .f32⟩
  | 82 => ⟨S8x1x32x128, .f32⟩
  | 83 => ⟨S8x1x32x128x1, .f32⟩
  | 84 => ⟨S8x1x32x128x64, .f32⟩
  | 85 => ⟨S8x1x32x128x64, .f32⟩
  | 86 => ⟨S8x1x32x128x64, .f32⟩
  | 87 => ⟨S8x1x32x128x1, .f32⟩
  | 88 => ⟨S8x1x32x128x1, .f32⟩
  | 89 => ⟨S8x1x32x128, .f32⟩
  | 90 => ⟨S8x1x4096x64, .f32⟩
  | 91 => ⟨S8x4096x1x64, .f32⟩
  | 92 => ⟨S8x4096x64, .f32⟩
  | 93 => ⟨S8x1x4096, .f32⟩
  | 94 => ⟨S8x4096x1, .f32⟩
  | 95 => ⟨S8x4096, .f32⟩
  | 96 => ⟨S8x1024x4x64, .f32⟩
  | 97 => ⟨S8x4x1024x64, .f32⟩
  | 98 => ⟨S8x4x8x128x64, .f32⟩
  | 99 => ⟨S8x1024x4x64, .f32⟩
  | 100 => ⟨S8x4x1024x64, .f32⟩
  | 101 => ⟨S8x4x8x128x64, .f32⟩
  | 102 => ⟨S8x4x1x128x64, .f32⟩
  | 103 => ⟨S_, .f32⟩
  | 104 => ⟨S8x4x1x128x64, .f32⟩
  | 105 => ⟨S8x4x7x128x64, .f32⟩
  | 106 => ⟨S8x4x8x128x64, .f32⟩
  | 107 => ⟨S8x4x8x256x64, .f32⟩
  | 108 => ⟨S8x1024x4x64, .f32⟩
  | 109 => ⟨S8x4x1024x64, .f32⟩
  | 110 => ⟨S8x4x8x128x64, .f32⟩
  | 111 => ⟨S8x4x1x128x64, .f32⟩
  | 112 => ⟨S_, .f32⟩
  | 113 => ⟨S8x4x1x128x64, .f32⟩
  | 114 => ⟨S8x4x7x128x64, .f32⟩
  | 115 => ⟨S8x4x8x128x64, .f32⟩
  | 116 => ⟨S8x4x8x256x64, .f32⟩
  | 117 => ⟨S8x4x8x128x256, .f32⟩
  | 118 => ⟨S128, .i32⟩
  | 119 => ⟨S128x1, .i32⟩
  | 120 => ⟨S256, .i32⟩
  | 121 => ⟨S1x256, .i32⟩
  | 122 => ⟨S_, .i32⟩
  | 123 => ⟨S128x1, .i32⟩
  | 124 => ⟨S128x1, .i32⟩
  | 125 => ⟨S128x256, .i32⟩
  | 126 => ⟨S128x256, .i32⟩
  | 127 => ⟨S128x256, .i32⟩
  | _ => ⟨S4096x3584, .f32⟩

abbrev hbmTy0_1 (i : Nat) : BufTy := match i % 128 with
  | 0 => ⟨S_, .i32⟩
  | 1 => ⟨S128x256, .i32⟩
  | 2 => ⟨S128x256, .i1⟩
  | 3 => ⟨S_, .i32⟩
  | 4 => ⟨S128x256, .i32⟩
  | 5 => ⟨S128x256, .i1⟩
  | 6 => ⟨S128x256, .i1⟩
  | 7 => ⟨S8, .i32⟩
  | 8 => ⟨S8x1x1, .i32⟩
  | 9 => ⟨S1x128x256, .i1⟩
  | 10 => ⟨S_, .i32⟩
  | 11 => ⟨S8x1x1, .i32⟩
  | 12 => ⟨S8x1x1, .i1⟩
  | 13 => ⟨S_, .i32⟩
  | 14 => ⟨S1x256, .i32⟩
  | 15 => ⟨S1x256, .i1⟩
  | 16 => ⟨S1x1x256, .i1⟩
  | 17 => ⟨S8x1x256, .i1⟩
  | 18 => ⟨S8x1x256, .i1⟩
  | 19 => ⟨S8x1x256, .i1⟩
  | 20 => ⟨S8x128x256, .i1⟩
  | 21 => ⟨S8x128x256, .i1⟩
  | 22 => ⟨S8x128x256, .i1⟩
  | 23 => ⟨S_, .f32⟩
  | 24 => ⟨S_, .f32⟩
  | 25 => ⟨S8x4x8x128x256, .i1⟩
  | 26 => ⟨S8x4x8x128x256, .f32⟩
  | 27 => ⟨S8x4x8x128x256, .f32⟩
  | 28 => ⟨S_, .f32⟩
  | 29 => ⟨S8x4x8x128, .f32⟩
  | 30 => ⟨S8x4x8x128x1, .f32⟩
  | 31 => ⟨S8x4x8x128x256, .f32⟩
  | 32 => ⟨S8x4x8x128x256, .f32⟩
  | 33 => ⟨S8x4x8x128x256, .f32⟩
  | 34 => ⟨S_, .f32⟩
  | 35 => ⟨S_, .f32⟩
  | 36 => ⟨S8x4x8x128x256, .i1⟩
  | 37 => ⟨S8x4x8x128x256, .f32⟩
  | 38 => ⟨S8x4x8x128x256, .f32⟩
  | 39 => ⟨S_, .f32⟩
  | 40 => ⟨S8x4x8x128, .f32⟩
  | 41 => ⟨S8x4x8x128x1, .f32⟩
  | 42 => ⟨S8x4x8x128x64, .f32⟩
  | 43 => ⟨S8x4x8x128x64, .f32⟩
  | 44 => ⟨S8x4x8x128x64, .f32⟩
  | 45 => ⟨S8x4x8x128x1, .f32⟩
  | 46 => ⟨S8x4x8x128x1, .f32⟩
  | 47 => ⟨S8x4x8x128, .f32⟩
  | 48 => ⟨S8x4x1024x64, .f32⟩
  | 49 => ⟨S8x1024x4x64, .f32⟩
  | 50 => ⟨S8x4096x64, .f32⟩
  | 51 => ⟨S8x4x1024, .f32⟩
  | 52 => ⟨S8x1024x4, .f32⟩
  | 53 => ⟨S8x4096, .f32⟩
  | 54 => ⟨S8x256x16x64, .f32⟩
  | 55 => ⟨S8x16x256x64, .f32⟩
  | 56 => ⟨S8x16x2x128x64, .f32⟩
  | 57 => ⟨S8x256x16x64, .f32⟩
  | 58 => ⟨S8x16x256x64, .f32⟩
  | 59 => ⟨S8x16x2x128x64, .f32⟩
  | 60 => ⟨S8x16x1x128x64, .f32⟩
  | 61 => ⟨S_, .f32⟩
  | 62 => ⟨S8x16x1x128x64, .f32⟩
  | 63 => ⟨S8x16x1x128x64, .f32⟩
  | 64 => ⟨S8x16x2x128x64, .f32⟩
  | 65 => ⟨S8x16x2x256x64, .f32⟩
  | 66 => ⟨S8x256x16x64, .f32⟩
  | 67 => ⟨S8x16x256x64, .f32⟩
  | 68 => ⟨S8x16x2x128x64, .f32⟩
  | 69 => ⟨S8x16x1x128x64, .f32⟩
  | 70 => ⟨S_, .f32⟩
  | 71 => ⟨S8x16x1x128x64, .f32⟩
  | 72 => ⟨S8x16x1x128x64, .f32⟩
  | 73 => ⟨S8x16x2x128x64, .f32⟩
  | 74 => ⟨S8x16x2x256x64, .f32⟩
  | 75 => ⟨S8x16x2x128x256, .f32⟩
  | 76 => ⟨S128, .i32⟩
  | 77 => ⟨S128x1, .i32⟩
  | 78 => ⟨S256, .i32⟩
  | 79 => ⟨S1x256, .i32⟩
  | 80 => ⟨S_, .i32⟩
  | 81 => ⟨S128x1, .i32⟩
  | 82 => ⟨S128x1, .i32⟩
  | 83 => ⟨S128x256, .i32⟩
  | 84 => ⟨S128x256, .i32⟩
  | 85 => ⟨S128x256, .i32⟩
  | 86 => ⟨S_, .i32⟩
  | 87 => ⟨S128x256, .i32⟩
  | 88 => ⟨S128x256, .i1⟩
  | 89 => ⟨S_, .i32⟩
  | 90 => ⟨S128x256, .i32⟩
  | 91 => ⟨S128x256, .i1⟩
  | 92 => ⟨S128x256, .i1⟩
  | 93 => ⟨S2, .i32⟩
  | 94 => ⟨S2x1x1, .i32⟩
  | 95 => ⟨S1x128x256, .i1⟩
  | 96 => ⟨S_, .i32⟩
  | 97 => ⟨S2x1x1, .i32⟩
  | 98 => ⟨S2x1x1, .i1⟩
  | 99 => ⟨S_, .i32⟩
  | 100 => ⟨S1x256, .i32⟩
  | 101 => ⟨S1x256, .i1⟩
  | 102 => ⟨S1x1x256, .i1⟩
  | 103 => ⟨S2x1x256, .i1⟩
  | 104 => ⟨S2x1x256, .i1⟩
  | 105 => ⟨S2x1x256, .i1⟩
  | 106 => ⟨S2x128x256, .i1⟩
  | 107 => ⟨S2x128x256, .i1⟩
  | 108 => ⟨S2x128x256, .i1⟩
  | 109 => ⟨S_, .f32⟩
  | 110 => ⟨S_, .f32⟩
  | 111 => ⟨S8x16x2x128x256, .i1⟩
  | 112 => ⟨S8x16x2x128x256, .f32⟩
  | 113 => ⟨S8x16x2x128x256, .f32⟩
  | 114 => ⟨S_, .f32⟩
  | 115 => ⟨S8x16x2x128, .f32⟩
  | 116 => ⟨S8x16x2x128x1, .f32⟩
  | 117 => ⟨S8x16x2x128x256, .f32⟩
  | 118 => ⟨S8x16x2x128x256, .f32⟩
  | 119 => ⟨S8x16x2x128x256, .f32⟩
  | 120 => ⟨S_, .f32⟩
  | 121 => ⟨S_, .f32⟩
  | 122 => ⟨S8x16x2x128x256, .i1⟩
  | 123 => ⟨S8x16x2x128x256, .f32⟩
  | 124 => ⟨S8x16x2x128x256, .f32⟩
  | 125 => ⟨S_, .f32⟩
  | 126 => ⟨S8x16x2x128, .f32⟩
  | 127 => ⟨S8x16x2x128x1, .f32⟩
  | _ => ⟨S4096x3584, .f32⟩

abbrev hbmTy0_2 (i : Nat) : BufTy := match i % 128 with
  | 0 => ⟨S8x16x2x128x64, .f32⟩
  | 1 => ⟨S8x16x2x128x64, .f32⟩
  | 2 => ⟨S8x16x2x128x64, .f32⟩
  | 3 => ⟨S8x16x2x128x1, .f32⟩
  | 4 => ⟨S8x16x2x128x1, .f32⟩
  | 5 => ⟨S8x16x2x128, .f32⟩
  | 6 => ⟨S8x16x256x64, .f32⟩
  | 7 => ⟨S8x256x16x64, .f32⟩
  | 8 => ⟨S8x4096x64, .f32⟩
  | 9 => ⟨S8x16x256, .f32⟩
  | 10 => ⟨S8x256x16, .f32⟩
  | 11 => ⟨S8x4096, .f32⟩
  | 12 => ⟨S1x8x4096, .f32⟩
  | 13 => ⟨S1x8x4096, .f32⟩
  | 14 => ⟨S1x8x4096, .f32⟩
  | 15 => ⟨S3x8x4096, .f32⟩
  | 16 => ⟨S_, .f32⟩
  | 17 => ⟨S8x4096, .f32⟩
  | 18 => ⟨S_, .f32⟩
  | 19 => ⟨S8x4096, .f32⟩
  | 20 => ⟨S8x4096, .f32⟩
  | 21 => ⟨S1x8x4096, .f32⟩
  | 22 => ⟨S3x8x4096, .f32⟩
  | 23 => ⟨S3x8x4096, .f32⟩
  | 24 => ⟨S3x8x4096, .f32⟩
  | 25 => ⟨S_, .f32⟩
  | 26 => ⟨S8x4096, .f32⟩
  | 27 => ⟨S1x8x4096, .f32⟩
  | 28 => ⟨S3x8x4096, .f32⟩
  | 29 => ⟨S3x8x4096, .f32⟩
  | 30 => ⟨S1x8x4096, .f32⟩
  | 31 => ⟨S8x4096, .f32⟩
  | 32 => ⟨S8x4096x1, .f32⟩
  | 33 => ⟨S8x4096x64, .f32⟩
  | 34 => ⟨S8x4096x64, .f32⟩
  | 35 => ⟨S_, .f32⟩
  | 36 => ⟨S8x4096x64, .f32⟩
  | 37 => ⟨S8x4096x64, .f32⟩
  | 38 => ⟨S1x8x4096, .f32⟩
  | 39 => ⟨S8x4096, .f32⟩
  | 40 => ⟨S8x4096x1, .f32⟩
  | 41 => ⟨S8x4096x64, .f32⟩
  | 42 => ⟨S8x4096x64, .f32⟩
  | 43 => ⟨S8x4096x64, .f32⟩
  | 44 => ⟨S1x8x4096, .f32⟩
  | 45 => ⟨S8x4096, .f32⟩
  | 46 => ⟨S8x4096x1, .f32⟩
  | 47 => ⟨S8x4096x64, .f32⟩
  | 48 => ⟨S8x4096x64, .f32⟩
  | 49 => ⟨S8x4096x64, .f32⟩
  | 50 => ⟨S_, .f32⟩
  | 51 => ⟨S8x4096, .f32⟩
  | 52 => ⟨S1x8x4096, .f32⟩
  | 53 => ⟨S3x8x4096, .f32⟩
  | 54 => ⟨S3x8x4096, .f32⟩
  | 55 => ⟨S3x8x4096, .f32⟩
  | 56 => ⟨S_, .f32⟩
  | 57 => ⟨S8x4096, .f32⟩
  | 58 => ⟨S8x4096, .f32⟩
  | 59 => ⟨S8x4096, .f32⟩
  | 60 => ⟨S4096x8x64, .f32⟩
  | 61 => ⟨S4096x512, .f32⟩
  | 62 => ⟨S4096x8, .f32⟩
  | 63 => ⟨S4096x8x64, .f32⟩
  | 64 => ⟨S4096x512, .f32⟩
  | _ => ⟨S4096x3584, .f32⟩

abbrev hbmTy (i : Nat) : BufTy := match i / 128 with
  | 0 => hbmTy0_0 i
  | 1 => hbmTy0_1 i
  | 2 => hbmTy0_2 i
  | _ => ⟨S4096x3584, .f32⟩

abbrev bufTy : (tb : Table) → Fin (tcTables nBuf tb) → BufTy
  | .hbm, ⟨i, _⟩ => hbmTy i
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_cst : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_cst_0 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_c : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_c_1 : Ref sig .tc := ⟨.hbm, 42, rfl⟩
abbrev main_v38 : Ref sig .tc := ⟨.hbm, 43, rfl⟩
abbrev main_v39 : Ref sig .tc := ⟨.hbm, 44, rfl⟩
abbrev main_c_2 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_c_3 : Ref sig .tc := ⟨.hbm, 52, rfl⟩
abbrev main_v46 : Ref sig .tc := ⟨.hbm, 53, rfl⟩
abbrev main_v47 : Ref sig .tc := ⟨.hbm, 54, rfl⟩
abbrev main_c_4 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_5 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_v57 : Ref sig .tc := ⟨.hbm, 69, rfl⟩
abbrev main_cst_6 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_7 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v63 : Ref sig .tc := ⟨.hbm, 80, rfl⟩
abbrev main_cst_8 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_9 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_10 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_c_11 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_c_12 : Ref sig .tc := ⟨.hbm, 128, rfl⟩
abbrev main_v107 : Ref sig .tc := ⟨.hbm, 129, rfl⟩
abbrev main_v108 : Ref sig .tc := ⟨.hbm, 130, rfl⟩
abbrev main_c_13 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_c_14 : Ref sig .tc := ⟨.hbm, 138, rfl⟩
abbrev main_v115 : Ref sig .tc := ⟨.hbm, 139, rfl⟩
abbrev main_v116 : Ref sig .tc := ⟨.hbm, 140, rfl⟩
abbrev main_c_15 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_cst_16 : Ref sig .tc := ⟨.hbm, 151, rfl⟩
abbrev main_call2_v0 : Ref sig .tc := ⟨.hbm, 152, rfl⟩
abbrev main_call2_v1 : Ref sig .tc := ⟨.hbm, 153, rfl⟩
abbrev main_call2_v2 : Ref sig .tc := ⟨.hbm, 154, rfl⟩
abbrev main_v126 : Ref sig .tc := ⟨.hbm, 155, rfl⟩
abbrev main_cst_17 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_cst_18 : Ref sig .tc := ⟨.hbm, 162, rfl⟩
abbrev main_call3_v0 : Ref sig .tc := ⟨.hbm, 163, rfl⟩
abbrev main_call3_v1 : Ref sig .tc := ⟨.hbm, 164, rfl⟩
abbrev main_call3_v2 : Ref sig .tc := ⟨.hbm, 165, rfl⟩
abbrev main_v132 : Ref sig .tc := ⟨.hbm, 166, rfl⟩
abbrev main_cst_19 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_cst_20 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_cst_21 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_c_22 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_c_23 : Ref sig .tc := ⟨.hbm, 214, rfl⟩
abbrev main_v176 : Ref sig .tc := ⟨.hbm, 215, rfl⟩
abbrev main_v177 : Ref sig .tc := ⟨.hbm, 216, rfl⟩
abbrev main_c_24 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_c_25 : Ref sig .tc := ⟨.hbm, 224, rfl⟩
abbrev main_v184 : Ref sig .tc := ⟨.hbm, 225, rfl⟩
abbrev main_v185 : Ref sig .tc := ⟨.hbm, 226, rfl⟩
abbrev main_c_26 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_cst_27 : Ref sig .tc := ⟨.hbm, 237, rfl⟩
abbrev main_call4_v0 : Ref sig .tc := ⟨.hbm, 238, rfl⟩
abbrev main_call4_v1 : Ref sig .tc := ⟨.hbm, 239, rfl⟩
abbrev main_call4_v2 : Ref sig .tc := ⟨.hbm, 240, rfl⟩
abbrev main_v195 : Ref sig .tc := ⟨.hbm, 241, rfl⟩
abbrev main_cst_28 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_cst_29 : Ref sig .tc := ⟨.hbm, 248, rfl⟩
abbrev main_call5_v0 : Ref sig .tc := ⟨.hbm, 249, rfl⟩
abbrev main_call5_v1 : Ref sig .tc := ⟨.hbm, 250, rfl⟩
abbrev main_call5_v2 : Ref sig .tc := ⟨.hbm, 251, rfl⟩
abbrev main_v201 : Ref sig .tc := ⟨.hbm, 252, rfl⟩
abbrev main_cst_30 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_cst_31 : Ref sig .tc := ⟨.hbm, 272, rfl⟩
abbrev main_v220 : Ref sig .tc := ⟨.hbm, 273, rfl⟩
abbrev main_cst_32 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_cst_33 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_v233 : Ref sig .tc := ⟨.hbm, 288, rfl⟩
abbrev main_v234 : Ref sig .tc := ⟨.hbm, 289, rfl⟩
abbrev main_v235 : Ref sig .tc := ⟨.hbm, 290, rfl⟩
abbrev main_cst_34 : Ref sig .tc := ⟨.hbm, 291, rfl⟩
abbrev main_v236 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_v244 : Ref sig .tc := ⟨.hbm, 300, rfl⟩
abbrev main_v245 : Ref sig .tc := ⟨.hbm, 301, rfl⟩
abbrev main_v246 : Ref sig .tc := ⟨.hbm, 302, rfl⟩
abbrev main_v247 : Ref sig .tc := ⟨.hbm, 303, rfl⟩
abbrev main_v248 : Ref sig .tc := ⟨.hbm, 304, rfl⟩
abbrev main_v249 : Ref sig .tc := ⟨.hbm, 305, rfl⟩
abbrev main_cst_35 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_cst_36 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩

abbrev nD : Nat := 1
abbrev τ : Topo := Topo.v7x

variable {F : FTy → Type} [FloatOps F]

def κ : String → Option EReal := fun
  | "mask" => some ⊥
  | _ => none
-- ==== Kernel10.lean ====
abbrev S8x512x1024 : Shape := ⟨3, ![8, 512, 1024]⟩
abbrev S2x512x1024 : Shape := ⟨3, ![2, 512, 1024]⟩
abbrev S8x128 : Shape := ⟨2, ![8, 128]⟩
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 10
  | .vmem => 19
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .hbm, ⟨9, _⟩ => ⟨S8x128, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S2x128x1024, .f32⟩
  | .local _ .vmem, ⟨5, _⟩ => ⟨S2x128x1024, .f32⟩
  | .local _ .vmem, ⟨6, _⟩ => ⟨S2x128x1024, .f32⟩
  | .local _ .vmem, ⟨7, _⟩ => ⟨S2x128x1024, .f32⟩
  | .local _ .vmem, ⟨8, _⟩ => ⟨S2x128x1024, .f32⟩
  | .local _ .vmem, ⟨9, _⟩ => ⟨S2x128x1024, .f32⟩
  | .local _ .vmem, ⟨10, _⟩ => ⟨S2x128x1024, .f32⟩
  | .local _ .vmem, ⟨11, _⟩ => ⟨S2x128x1024, .f32⟩
  | .local _ .vmem, ⟨12, _⟩ => ⟨S2x128x1024, .f32⟩
  | .local _ .vmem, ⟨13, _⟩ => ⟨S2x128x1024, .f32⟩
  | .local _ .vmem, ⟨14, _⟩ => ⟨S2x128x1024, .f32⟩
  | .local _ .vmem, ⟨15, _⟩ => ⟨S2x128x1024, .f32⟩
  | .local _ .vmem, ⟨16, _⟩ => ⟨S2x128x1024, .f32⟩
  | .local _ .vmem, ⟨17, _⟩ => ⟨S2x128x1024, .f32⟩
  | .local _ .vmem, ⟨18, _⟩ => ⟨S8x128, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference10Ideal.lean ====
abbrev S8x512x1024 : Shape := ⟨3, ![8, 512, 1024]⟩
abbrev S2x512x1024 : Shape := ⟨3, ![2, 512, 1024]⟩
abbrev S1x8x512x1024 : Shape := ⟨4, ![1, 8, 512, 1024]⟩
abbrev S2x8x512x1024 : Shape := ⟨4, ![2, 8, 512, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S1x8x512x1024, .bf16⟩
  | .hbm, ⟨6, _⟩ => ⟨S1x8x512x1024, .bf16⟩
  | .hbm, ⟨7, _⟩ => ⟨S2x8x512x1024, .bf16⟩
  | .hbm, ⟨8, _⟩ => ⟨S2x8x512x1024, .f32⟩
  | .hbm, ⟨9, _⟩ => ⟨S_, .f32⟩
  | .hbm, ⟨10, _⟩ => ⟨S2x512x1024, .f32⟩
  | .hbm, ⟨11, _⟩ => ⟨S_, .f32⟩
  | .hbm, ⟨12, _⟩ => ⟨S2x512x1024, .f32⟩
  | .hbm, ⟨13, _⟩ => ⟨S2x512x1024, .f32⟩
  | .hbm, ⟨14, _⟩ => ⟨S_, .f32⟩
  | .hbm, ⟨15, _⟩ => ⟨S2x512x1024, .f32⟩
  | .hbm, ⟨16, _⟩ => ⟨S2x512x1024, .f32⟩
  | .hbm, ⟨17, _⟩ => ⟨S2x512x1024, .f32⟩
  | .hbm, ⟨18, _⟩ => ⟨S_, .f32⟩
  | .hbm, ⟨19, _⟩ => ⟨S2x512x1024, .f32⟩
  | .hbm, ⟨20, _⟩ => ⟨S2x512x1024, .f32⟩
  | .hbm, ⟨21, _⟩ => ⟨S2x512x1024, .f32⟩
  | .hbm, ⟨22, _⟩ => ⟨S_, .f32⟩
  | .hbm, ⟨23, _⟩ => ⟨S2x512x1024, .f32⟩
  | .hbm, ⟨24, _⟩ => ⟨S2x512x1024, .f32⟩
  | .hbm, ⟨25, _⟩ => ⟨S2x512x1024, .f32⟩
  | .hbm, ⟨26, _⟩ => ⟨S_, .f32⟩
  | .hbm, ⟨27, _⟩ => ⟨S2x512x1024, .f32⟩
  | .hbm, ⟨28, _⟩ => ⟨S2x512x1024, .f32⟩
  | .hbm, ⟨29, _⟩ => ⟨S_, .f32⟩
  | .hbm, ⟨30, _⟩ => ⟨S2x512x1024, .f32⟩
  | .hbm, ⟨31, _⟩ => ⟨S2x512x1024, .f32⟩
  | .hbm, ⟨32, _⟩ => ⟨S2x512x1024, .f32⟩
  | .hbm, ⟨33, _⟩ => ⟨S_, .f32⟩
  | .hbm, ⟨34, _⟩ => ⟨S2x512x1024, .f32⟩
  | .hbm, ⟨35, _⟩ => ⟨S2x512x1024, .f32⟩
  | .hbm, ⟨36, _⟩ => ⟨S2x512x1024, .f32⟩
  | .hbm, ⟨37, _⟩ => ⟨S_, .f32⟩
  | .hbm, ⟨38, _⟩ => ⟨S2x512x1024, .f32⟩
  | .hbm, ⟨39, _⟩ => ⟨S2x512x1024, .f32⟩
  | .hbm, ⟨40, _⟩ => ⟨S2x512x1024, .f32⟩
  | .hbm, ⟨41, _⟩ => ⟨S_, .f32⟩
  | .hbm, ⟨42, _⟩ => ⟨S2x512x1024, .f32⟩
  | .hbm, ⟨43, _⟩ => ⟨S2x512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel11.lean ====
abbrev S4096x1024 : Shape := ⟨2, ![4096, 1024]⟩
abbrev S2x1024 : Shape := ⟨2, ![2, 1024]⟩
abbrev S2x1024x3584 : Shape := ⟨3, ![2, 1024, 3584]⟩
abbrev S2x3584x1024 : Shape := ⟨3, ![2, 3584, 1024]⟩
abbrev S1x3584x1024 : Shape := ⟨3, ![1, 3584, 1024]⟩
abbrev S_ : Shape := ⟨0, ![]⟩
abbrev S8x128 : Shape := ⟨2, ![8, 128]⟩
abbrev S32 : Shape := ⟨1, ![32]⟩
abbrev S4096 : Shape := ⟨1, ![4096]⟩
abbrev S1x1 : Shape := ⟨2, ![1, 1]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S2x1x1024 : Shape := ⟨3, ![2, 1, 1024]⟩
abbrev S4096x3584 : Shape := ⟨2, ![4096, 3584]⟩
abbrev S512x1024 : Shape := ⟨2, ![512, 1024]⟩
abbrev S1x1x1024 : Shape := ⟨3, ![1, 1, 1024]⟩
abbrev S512x128 : Shape := ⟨2, ![512, 128]⟩
abbrev S512x3584 : Shape := ⟨2, ![512, 3584]⟩
abbrev S1x1024 : Shape := ⟨2, ![1, 1024]⟩
abbrev S512 : Shape := ⟨1, ![512]⟩
abbrev S512x1 : Shape := ⟨2, ![512, 1]⟩
abbrev S512x512 : Shape := ⟨2, ![512, 512]⟩
abbrev S1x512x1024 : Shape := ⟨3, ![1, 512, 1024]⟩

abbrev nBuf : Space → Nat
  | .hbm => 36
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S2x1024x3584, .f32⟩
  | .hbm, ⟨3, _⟩ => ⟨S2x3584x1024, .f32⟩
  | .hbm, ⟨4, _⟩ => ⟨S1x3584x1024, .f32⟩
  | .hbm, ⟨5, _⟩ => ⟨S1x3584x1024, .bf16⟩
  | .hbm, ⟨6, _⟩ => ⟨S_, .f32⟩
  | .hbm, ⟨7, _⟩ => ⟨S8x128, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S4096, .i32⟩
  | .hbm, ⟨17, _⟩ => ⟨S4096, .f32⟩
  | .hbm, ⟨18, _⟩ => ⟨S1x1, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x128, .f32⟩
  | .hbm, ⟨30, _⟩ => ⟨S4096x32, .f32⟩
  | .hbm, ⟨31, _⟩ => ⟨S4096x32, .f32⟩
  | .hbm, ⟨32, _⟩ => ⟨S4096x128, .f32⟩
  | .hbm, ⟨33, _⟩ => ⟨S2x1x1024, .f32⟩
  | .hbm, ⟨34, _⟩ => ⟨S4096x3584, .f32⟩
  | .hbm, ⟨35, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x3584x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x3584, .f32⟩
  | .local _ .vmem, ⟨9, _⟩ => ⟨S512x3584, .f32⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28_0 : Ref sig .tc := ⟨.hbm, 34, rfl⟩
abbrev main_v28_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3584x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S4096x1024 : Shape := ⟨2, ![4096, 1024]⟩
abbrev S2x1024 : Shape := ⟨2, ![2, 1024]⟩
abbrev S2x1024x3584 : Shape := ⟨3, ![2, 1024, 3584]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024x3584 : Shape := ⟨3, ![1, 1024, 3584]⟩
abbrev S1024x3584 : Shape := ⟨2, ![1024, 3584]⟩
abbrev S4096x3584 : Shape := ⟨2, ![4096, 3584]⟩
abbrev S4096x512 : Shape := ⟨2, ![4096, 512]⟩
abbrev S4096x8x64 : Shape := ⟨3, ![4096, 8, 64]⟩
abbrev S8x4096x64 : Shape := ⟨3, ![8, 4096, 64]⟩
abbrev S32 : Shape := ⟨1, ![32]⟩
abbrev S1x32 : Shape := ⟨2, ![1, 32]⟩
abbrev S4096x32 : Shape := ⟨2, ![4096, 32]⟩
abbrev S8x4096x32 : Shape := ⟨3, ![8, 4096, 32]⟩
abbrev S1x4096x32 : Shape := ⟨3, ![1, 4096, 32]⟩
abbrev S4096x2560 : Shape := ⟨2, ![4096, 2560]⟩

abbrev nBuf : Space → Nat
  | .hbm => 108
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024, .f32⟩
  | .hbm, ⟨2, _⟩ => ⟨S2x1024x3584, .f32⟩
  | .hbm, ⟨3, _⟩ => ⟨S1x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1x1024x3584, .f32⟩
  | .hbm, ⟨22, _⟩ => ⟨S1024x3584, .f32⟩
  | .hbm, ⟨23, _⟩ => ⟨S4096x3584, .f32⟩
  | .hbm, ⟨24, _⟩ => ⟨S4096x512, .f32⟩
  | .hbm, ⟨25, _⟩ => ⟨S4096x8x64, .f32⟩
  | .hbm, ⟨26, _⟩ => ⟨S8x4096x64, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S4096, .i32⟩
  | .hbm, ⟨36, _⟩ => ⟨S4096, .f32⟩
  | .hbm, ⟨37, _⟩ => ⟨S4096x1, .f32⟩
  | .hbm, ⟨38, _⟩ => ⟨S1x32, .f32⟩
  | .hbm, ⟨39, _⟩ => ⟨S4096x32, .f32⟩
  | .hbm, ⟨40, _⟩ => ⟨S4096x32, .f32⟩
  | .hbm, ⟨41, _⟩ => ⟨S4096x32, .f32⟩
  | .hbm, ⟨42, _⟩ => ⟨S4096x32, .f32⟩
  | .hbm, ⟨43, _⟩ => ⟨S4096x32, .f32⟩
  | .hbm, ⟨44, _⟩ => ⟨S8x4096x32, .f32⟩
  | .hbm, ⟨45, _⟩ => ⟨S8x4096x32, .f32⟩
  | .hbm, ⟨46, _⟩ => ⟨S1x4096x32, .f32⟩
  | .hbm, ⟨47, _⟩ => ⟨S8x4096x32, .f32⟩
  | .hbm, ⟨48, _⟩ => ⟨S8x4096x32, .f32⟩
  | .hbm, ⟨49, _⟩ => ⟨S1x4096x32, .f32⟩
  | .hbm, ⟨50, _⟩ => ⟨S8x4096x32, .f32⟩
  | .hbm, ⟨51, _⟩ => ⟨S8x4096x32, .f32⟩
  | .hbm, ⟨52, _⟩ => ⟨S8x4096x32, .f32⟩
  | .hbm, ⟨53, _⟩ => ⟨S1x4096x32, .f32⟩
  | .hbm, ⟨54, _⟩ => ⟨S8x4096x32, .f32⟩
  | .hbm, ⟨55, _⟩ => ⟨S8x4096x32, .f32⟩
  | .hbm, ⟨56, _⟩ => ⟨S1x4096x32, .f32⟩
  | .hbm, ⟨57, _⟩ => ⟨S8x4096x32, .f32⟩
  | .hbm, ⟨58, _⟩ => ⟨S8x4096x32, .f32⟩
  | .hbm, ⟨59, _⟩ => ⟨S8x4096x32, .f32⟩
  | .hbm, ⟨60, _⟩ => ⟨S8x4096x64, .f32⟩
  | .hbm, ⟨61, _⟩ => ⟨S_, .f32⟩
  | .hbm, ⟨62, _⟩ => ⟨S8x4096x64, .f32⟩
  | .hbm, ⟨63, _⟩ => ⟨S8x4096x64, .f32⟩
  | .hbm, ⟨64, _⟩ => ⟨S4096x512, .f32⟩
  | .hbm, ⟨65, _⟩ => ⟨S4096x8x64, .f32⟩
  | .hbm, ⟨66, _⟩ => ⟨S8x4096x64, .f32⟩
  | .hbm, ⟨67, _⟩ => ⟨S32, .f32⟩
  | .hbm, ⟨68, _⟩ => ⟨S32, .f32⟩
  | .hbm, ⟨69, _⟩ => ⟨S_, .f32⟩
  | .hbm, ⟨70, _⟩ => ⟨S32, .f32⟩
  | .hbm, ⟨71, _⟩ => ⟨S32, .f32⟩
  | .hbm, ⟨72, _⟩ => ⟨S_, .f32⟩
  | .hbm, ⟨73, _⟩ => ⟨S32, .f32⟩
  | .hbm, ⟨74, _⟩ => ⟨S32, .f32⟩
  | .hbm, ⟨75, _⟩ => ⟨S4096, .i32⟩
  | .hbm, ⟨76, _⟩ => ⟨S4096, .f32⟩
  | .hbm, ⟨77, _⟩ => ⟨S4096x1, .f32⟩
  | .hbm, ⟨78, _⟩ => ⟨S1x32, .f32⟩
  | .hbm, ⟨79, _⟩ => ⟨S4096x32, .f32⟩
  | .hbm, ⟨80, _⟩ => ⟨S4096x32, .f32⟩
  | .hbm, ⟨81, _⟩ => ⟨S4096x32, .f32⟩
  | .hbm, ⟨82, _⟩ => ⟨S4096x32, .f32⟩
  | .hbm, ⟨83, _⟩ => ⟨S4096x32, .f32⟩
  | .hbm, ⟨84, _⟩ => ⟨S8x4096x32, .f32⟩
  | .hbm, ⟨85, _⟩ => ⟨S8x4096x32, .f32⟩
  | .hbm, ⟨86, _⟩ => ⟨S1x4096x32, .f32⟩
  | .hbm, ⟨87, _⟩ => ⟨S8x4096x32, .f32⟩
  | .hbm, ⟨88, _⟩ => ⟨S8x4096x32, .f32⟩
  | .hbm, ⟨89, _⟩ => ⟨S1x4096x32, .f32⟩
  | .hbm, ⟨90, _⟩ => ⟨S8x4096x32, .f32⟩
  | .hbm, ⟨91, _⟩ => ⟨S8x4096x32, .f32⟩
  | .hbm, ⟨92, _⟩ => ⟨S8x4096x32, .f32⟩
  | .hbm, ⟨93, _⟩ => ⟨S1x4096x32, .f32⟩
  | .hbm, ⟨94, _⟩ => ⟨S8x4096x32, .f32⟩
  | .hbm, ⟨95, _⟩ => ⟨S8x4096x32, .f32⟩
  | .hbm, ⟨96, _⟩ => ⟨S1x4096x32, .f32⟩
  | .hbm, ⟨97, _⟩ => ⟨S8x4096x32, .f32⟩
  | .hbm, ⟨98, _⟩ => ⟨S8x4096x32, .f32⟩
  | .hbm, ⟨99, _⟩ => ⟨S8x4096x32, .f32⟩
  | .hbm, ⟨100, _⟩ => ⟨S8x4096x64, .f32⟩
  | .hbm, ⟨101, _⟩ => ⟨S4096x8x64, .f32⟩
  | .hbm, ⟨102, _⟩ => ⟨S4096x512, .f32⟩
  | .hbm, ⟨103, _⟩ => ⟨S4096x8x64, .f32⟩
  | .hbm, ⟨104, _⟩ => ⟨S4096x512, .f32⟩
  | .hbm, ⟨105, _⟩ => ⟨S4096x2560, .f32⟩
  | .hbm, ⟨106, _⟩ => ⟨S4096x3584, .f32⟩
  | .hbm, ⟨107, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_4 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_5 : Ref sig .tc := ⟨.hbm, 69, rfl⟩
abbrev main_v60 : Ref sig .tc := ⟨.hbm, 70, rfl⟩
abbrev main_v61 : Ref sig .tc := ⟨.hbm, 71, rfl⟩
abbrev main_cst_6 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩

abbrev nD : Nat := 1
abbrev τ : Topo := Topo.v7x

variable {F : FTy → Type} [FloatOps F]
-- ==== Kernel12.lean ====
abbrev S4096x512 : Shape := ⟨2, ![4096, 512]⟩
abbrev S2x512 : Shape := ⟨2, ![2, 512]⟩
abbrev S4096x1024 : Shape := ⟨2, ![4096, 1024]⟩
abbrev S2x1x512 : Shape := ⟨3, ![2, 1, 512]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S2x512, .f32⟩
  | .hbm, ⟨2, _⟩ => ⟨S4096x1024, .bf16⟩
  | .hbm, ⟨3, _⟩ => ⟨S2x1x512, .f32⟩
  | .hbm, ⟨4, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S1x1x512, .f32⟩
  | .local _ .vmem, ⟨3, _⟩ => ⟨S512x512, .bf16⟩
  | .local _ .vmem, ⟨4, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S4096x512 : Shape := ⟨2, ![4096, 512]⟩
abbrev S2x512 : Shape := ⟨2, ![2, 512]⟩
abbrev S4096x1024 : Shape := ⟨2, ![4096, 1024]⟩
abbrev S1x512 : Shape := ⟨2, ![1, 512]⟩
abbrev S512 : Shape := ⟨1, ![512]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S2x512, .f32⟩
  | .hbm, ⟨2, _⟩ => ⟨S4096x1024, .bf16⟩
  | .hbm, ⟨3, _⟩ => ⟨S1x512, .f32⟩
  | .hbm, ⟨4, _⟩ => ⟨S512, .f32⟩
  | .hbm, ⟨5, _⟩ => ⟨S4096x512, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x512, .f32⟩
  | .hbm, ⟨17, _⟩ => ⟨S4096x512, .f32⟩
  | .hbm, ⟨18, _⟩ => ⟨S1x512, .f32⟩
  | .hbm, ⟨19, _⟩ => ⟨S4096x512, .f32⟩
  | .hbm, ⟨20, _⟩ => ⟨S4096x512, .f32⟩
  | .hbm, ⟨21, _⟩ => ⟨S4096x512, .bf16⟩
  | .hbm, ⟨22, _⟩ => ⟨S4096x512, .bf16⟩
  | .hbm, ⟨23, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel13.lean ====
abbrev S4096x1024 : Shape := ⟨2, ![4096, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024x1024 : Shape := ⟨3, ![1, 1024, 1024]⟩
abbrev S1x4096x1024 : Shape := ⟨3, ![1, 4096, 1024]⟩
abbrev S1x1024x4096 : Shape := ⟨3, ![1, 1024, 4096]⟩
abbrev S1024x4096 : Shape := ⟨2, ![1024, 4096]⟩
abbrev S1024x8x512 : Shape := ⟨3, ![1024, 8, 512]⟩
abbrev S8x1024x512 : Shape := ⟨3, ![8, 1024, 512]⟩
abbrev S1x8x1024x512 : Shape := ⟨4, ![1, 8, 1024, 512]⟩
abbrev S2x1x1024 : Shape := ⟨3, ![2, 1, 1024]⟩
abbrev S4096x4096 : Shape := ⟨2, ![4096, 4096]⟩
abbrev S512x1024 : Shape := ⟨2, ![512, 1024]⟩
abbrev S1x1x1024 : Shape := ⟨3, ![1, 1, 1024]⟩
abbrev S512x4096 : Shape := ⟨2, ![512, 4096]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩
abbrev S1x1x1024x512 : Shape := ⟨4, ![1, 1, 1024, 512]⟩
abbrev S1024x512 : Shape := ⟨2, ![1024, 512]⟩
abbrev S512x512 : Shape := ⟨2, ![512, 512]⟩
abbrev S1x512x1024 : Shape := ⟨3, ![1, 512, 1024]⟩

abbrev nBuf : Space → Nat
  | .hbm => 22
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1x1024x1024, .f32⟩
  | .hbm, ⟨7, _⟩ => ⟨S1x1024x1024, .bf16⟩
  | .hbm, ⟨8, _⟩ => ⟨S1x4096x1024, .f32⟩
  | .hbm, ⟨9, _⟩ => ⟨S1x4096x1024, .bf16⟩
  | .hbm, ⟨10, _⟩ => ⟨S1x1024x4096, .f32⟩
  | .hbm, ⟨11, _⟩ => ⟨S1024x4096, .f32⟩
  | .hbm, ⟨12, _⟩ => ⟨S1024x8x512, .f32⟩
  | .hbm, ⟨13, _⟩ => ⟨S8x1024x512, .f32⟩
  | .hbm, ⟨14, _⟩ => ⟨S1x8x1024x512, .f32⟩
  | .hbm, ⟨15, _⟩ => ⟨S1x8x1024x512, .bf16⟩
  | .hbm, ⟨16, _⟩ => ⟨S4096x1024, .bf16⟩
  | .hbm, ⟨17, _⟩ => ⟨S2x1x1024, .f32⟩
  | .hbm, ⟨18, _⟩ => ⟨S4096x1024, .f32⟩
  | .hbm, ⟨19, _⟩ => ⟨S4096x1024, .f32⟩
  | .hbm, ⟨20, _⟩ => ⟨S4096x4096, .bf16⟩
  | .hbm, ⟨21, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x1024, .f32⟩
  | .local _ .vmem, ⟨5, _⟩ => ⟨S1x1024x1024, .bf16⟩
  | .local _ .vmem, ⟨6, _⟩ => ⟨S1x8x1024x512, .bf16⟩
  | .local _ .vmem, ⟨7, _⟩ => ⟨S1x4096x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x4096, .bf16⟩
  | .local _ .vmem, ⟨13, _⟩ => ⟨S512x4096, .bf16⟩
  | .local _ .vmem, ⟨14, _⟩ => ⟨S512x1024, .bf16⟩
  | .local _ .vmem, ⟨15, _⟩ => ⟨S512x1024, .bf16⟩
  | .local _ .vmem, ⟨16, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference13Ideal.lean ====
abbrev S4096x1024 : Shape := ⟨2, ![4096, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024x4096 : Shape := ⟨3, ![1, 1024, 4096]⟩
abbrev S1024x4096 : Shape := ⟨2, ![1024, 4096]⟩
abbrev S4096x4096 : Shape := ⟨2, ![4096, 4096]⟩
abbrev S1x4096x1024 : Shape := ⟨3, ![1, 4096, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1x1024x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1x1024x4096, .f32⟩
  | .hbm, ⟨29, _⟩ => ⟨S1024x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S1x4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x4096, .bf16⟩
  | .hbm, ⟨40, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_cst : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel14.lean ====
abbrev S4096x1024 : Shape := ⟨2, ![4096, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024x4096 : Shape := ⟨3, ![1, 1024, 4096]⟩
abbrev S1024x4096 : Shape := ⟨2, ![1024, 4096]⟩
abbrev S4096x4096 : Shape := ⟨2, ![4096, 4096]⟩
abbrev S4096x512 : Shape := ⟨2, ![4096, 512]⟩
abbrev S512x1024 : Shape := ⟨2, ![512, 1024]⟩
abbrev S512x512 : Shape := ⟨2, ![512, 512]⟩

abbrev nBuf : Space → Nat
  | .hbm => 35
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S4096x1024, .f32⟩
  | .hbm, ⟨7, _⟩ => ⟨S1x1024x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S1x1024, .f32⟩
  | .hbm, ⟨12, _⟩ => ⟨S1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1x1024x4096, .f32⟩
  | .hbm, ⟨30, _⟩ => ⟨S1024x4096, .f32⟩
  | .hbm, ⟨31, _⟩ => ⟨S4096x4096, .f32⟩
  | .hbm, ⟨32, _⟩ => ⟨S4096x4096, .bf16⟩
  | .hbm, ⟨33, _⟩ => ⟨S4096x1024, .bf16⟩
  | .hbm, ⟨34, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![v0.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4096x1024 : Shape := ⟨2, ![4096, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024x4096 : Shape := ⟨3, ![1, 1024, 4096]⟩
abbrev S1024x4096 : Shape := ⟨2, ![1024, 4096]⟩
abbrev S4096x4096 : Shape := ⟨2, ![4096, 4096]⟩
abbrev S1x4096x1024 : Shape := ⟨3, ![1, 4096, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S4096x1024, .f32⟩
  | .hbm, ⟨7, _⟩ => ⟨S1x1024x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S1x1024, .f32⟩
  | .hbm, ⟨12, _⟩ => ⟨S1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1x1024x4096, .f32⟩
  | .hbm, ⟨30, _⟩ => ⟨S1024x4096, .f32⟩
  | .hbm, ⟨31, _⟩ => ⟨S4096x4096, .f32⟩
  | .hbm, ⟨32, _⟩ => ⟨S1x4096x1024, .f32⟩
  | .hbm, ⟨33, _⟩ => ⟨S4096x1024, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x1024, .f32⟩
  | .hbm, ⟨39, _⟩ => ⟨S1024x4096, .f32⟩
  | .hbm, ⟨40, _⟩ => ⟨S4096x1024, .f32⟩
  | .hbm, ⟨41, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Proof.Reals.lean ====
/- Extended reals that are real numbers: the operations of both programs on finite arguments. -/
module

public import Idealize.ShloMosaic.Lib.Pipeline.ValueKit
public import Idealize.ShloMosaic.Lib.Pointwise

@[expose] public section

namespace Cert.Reals

open Idealize.ShloMosaic

/-- A value whose magnitude compares below `⊤` is a real number. -/
theorem of_abs_lt {x : EReal} (h : max x (-x) < ⊤) : x = ((x.toReal : ℝ) : EReal) := by
  refine (EReal.coe_toReal ?_ ?_).symm
  · rintro rfl; simp at h
  · rintro rfl; simp at h

/-- The same from the comparison a program computes with the format's infinity. -/
theorem of_word {x : EReal} (h : BitVec.ofBool (decide (FloatOps.absf (F := Ideal) (φ := .f32) x < Ideal.ofBits .f32 0x7F800000#32)) = 1#1) :
    x = ((x.toReal : ℝ) : EReal) := by
  refine of_abs_lt ?_
  have h' : decide (FloatOps.absf (F := Ideal) (φ := .f32) x < Ideal.ofBits .f32 0x7F800000#32) = true := by
    cases hb : decide (FloatOps.absf (F := Ideal) (φ := .f32) x < Ideal.ofBits .f32 0x7F800000#32)
    · rw [hb] at h; exact absurd h (by decide)
    · rfl
  have h2 := of_decide_eq_true h'
  rw [show Ideal.ofBits .f32 0x7F800000#32 = (⊤ : EReal) by simp [Ideal.ofBits, Ideal.ieee]] at h2
  exact h2

/-- A sum of real numbers. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A quotient of real numbers. -/
theorem div_coe {x y : ℝ} (h : y ≠ 0) : Ideal.div (x : EReal) (y : EReal) = ((x / y : ℝ) : EReal) := by
  rw [Ideal.div_coe h, ← EReal.coe_mul]; congr 1; ring

/-- The reciprocal square root of a positive number. -/
theorem rsqrt_coe {x : ℝ} (h : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.mpr h.le), if_neg h.ne']

theorem exp_coe (x : ℝ) : Ideal.exp (x : EReal) = ((Real.exp x : ℝ) : EReal) := rfl

theorem log_coe {x : ℝ} (h : 0 < x) : Ideal.log (x : EReal) = ((Real.log x : ℝ) : EReal) := by
  show (if x ≤ 0 then ⊥ else ((Real.log x : ℝ) : EReal)) = _
  rw [if_neg (not_le.mpr h)]

theorem c1024 : Ideal.ofBits .f32 0x44800000#32 = ((1024 : ℝ) : EReal) := by
  simp [Ideal.ofBits, Ideal.ieee, -EReal.coe_mul]; norm_num

theorem cNegHalf : Ideal.ofBits .f32 0xBF000000#32 = ((-(1 / 2) : ℝ) : EReal) := by
  simp [Ideal.ofBits, Ideal.ieee, -EReal.coe_mul]; norm_num

theorem cInf : Ideal.ofBits .f32 0x7F800000#32 = (⊤ : EReal) := by
  simp [Ideal.ofBits, Ideal.ieee]

/-- The norms' `1e-6`, as the format rounds it. -/
noncomputable def eps : ℝ := (Ideal.ofBits .f32 0x358637BD#32 : EReal).toReal

theorem cEps : Ideal.ofBits .f32 0x358637BD#32 = ((eps : ℝ) : EReal) := by
  unfold eps
  refine (EReal.coe_toReal ?_ ?_).symm <;> simp [Ideal.ofBits, Ideal.ieee, -EReal.coe_mul]

theorem eps_pos : 0 < eps := by
  unfold eps; simp [Ideal.ofBits, Ideal.ieee, -EReal.coe_mul]

/-- The mean of squares and the norm's constant are positive. -/
theorem ms_pos {n : ℕ} (x : Fin n → ℝ) {d : ℝ} (hd : 0 < d) : 0 < (∑ k, x k * x k) / d + eps :=
  add_pos_of_nonneg_of_pos (div_nonneg (Finset.sum_nonneg fun k _ => mul_self_nonneg (x k)) hd.le) eps_pos

/-- The gradient of a root mean square norm: the derivative of each step against the closed row formula. `v` is the mean of
squares with the norm's constant, `x` the row, `b` the normalised row's cotangent, `d` the row's length. -/
theorem rms_bwd {n : ℕ} (x b : Fin n → ℝ) (l : Fin n) (D d : ℝ) {v : ℝ} (hv : 0 < v) :
    D + b l * (Real.sqrt v)⁻¹ + x l * ((∑ i, x i * b i) * (-(1 / 2) * ((Real.sqrt v)⁻¹ / v)) / d) + (∑ i, x i * b i) * (-(1 / 2) * ((Real.sqrt v)⁻¹ / v)) / d * x l
      = D + (Real.sqrt v)⁻¹ * (b l - x l * (Real.sqrt v)⁻¹ * ((∑ i, b i * (x i * (Real.sqrt v)⁻¹)) / d)) := by
  have hs : ∑ i, b i * (x i * (Real.sqrt v)⁻¹) = (∑ i, x i * b i) * (Real.sqrt v)⁻¹ := by
    rw [Finset.sum_mul]; exact Finset.sum_congr rfl fun i _ => by ring
  have hq : (Real.sqrt v)⁻¹ * (Real.sqrt v)⁻¹ = v⁻¹ := by
    rw [← mul_inv, Real.mul_self_sqrt hv.le]
  rw [hs, div_eq_mul_inv (Real.sqrt v)⁻¹ v, ← hq]
  ring

end Cert.Reals

end
-- ==== Proof.InArgs.lean ====
/- The argument arrays of the entry's gradient are arrays of real numbers, and the blocks the body reads of them. -/
module

public import proofs.«01_k».proof.Defs
public import proofs.«01_k».proof.Proof.Gen.Pre_finite
public import proofs.«01_k».proof.Proof.Gen.KernelIdeal.Frame
public import proofs.«01_k».proof.Proof.Reals
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Reals

variable (m : (ℓ : Loc nD τ sig) → Buf (Elt Ideal) ℓ)

/-- The real numbers of the arguments: input rows, gains, weights, the products' cotangent, the residual's cotangent. -/
def aX (c : Dev nD) (r : Fin 4096) (k : Fin 1024) : ℝ := EReal.toReal (show EReal from m ((c : Thread nD τ).loc main_arg0) (ix2 r k))
def aG (c : Dev nD) (r : Fin 2) (k : Fin 1024) : ℝ := EReal.toReal (show EReal from m ((c : Thread nD τ).loc main_arg1) (ix2 r k))
def aW (c : Dev nD) (i : Fin 2) (k : Fin 1024) (l : Fin 3584) : ℝ := EReal.toReal (show EReal from m ((c : Thread nD τ).loc main_arg2) (ix3 i k l))
def aP (c : Dev nD) (r : Fin 4096) (l : Fin 3584) : ℝ := EReal.toReal (show EReal from m ((c : Thread nD τ).loc main_arg3) (ix2 r l))
def aD (c : Dev nD) (r : Fin 4096) (k : Fin 1024) : ℝ := EReal.toReal (show EReal from m ((c : Thread nD τ).loc main_arg4) (ix2 r k))

section
variable {m} (h : Cert.Pre_KernelIdeal_finite m) (c : Dev nD)
include h

theorem arg0_real (r : Fin 4096) (k : Fin 1024) : m ((c : Thread nD τ).loc main_arg0) (ix2 r k) = ((aX m c r k : ℝ) : EReal) := by
  have e := congrFun (h c).1 (ix2 r k)
  pointwise [Cert.Pre_finite.fn] at e
  exact of_word e

theorem arg1_real (r : Fin 2) (k : Fin 1024) : m ((c : Thread nD τ).loc main_arg1) (ix2 r k) = ((aG m c r k : ℝ) : EReal) := by
  have e := congrFun (h c).2.1 (ix2 r k)
  pointwise [Cert.Pre_finite.fn] at e
  exact of_word e

theorem arg2_real (i : Fin 2) (k : Fin 1024) (l : Fin 3584) : m ((c : Thread nD τ).loc main_arg2) (ix3 i k l) = ((aW m c i k l : ℝ) : EReal) := by
  have e := congrFun (h c).2.2.1 (ix3 i k l)
  pointwise [Cert.Pre_finite.fn] at e
  exact of_word e

theorem arg3_real (r : Fin 4096) (l : Fin 3584) : m ((c : Thread nD τ).loc main_arg3) (ix2 r l) = ((aP m c r l : ℝ) : EReal) := by
  have e := congrFun (h c).2.2.2.1 (ix2 r l)
  pointwise [Cert.Pre_finite.fn] at e
  exact of_word e

theorem arg4_real (r : Fin 4096) (k : Fin 1024) : m ((c : Thread nD τ).loc main_arg4) (ix2 r k) = ((aD m c r k : ℝ) : EReal) := by
  have e := congrFun (h c).2.2.2.2 (ix2 r k)
  pointwise [Cert.Pre_finite.fn] at e
  exact of_word e

end

/-- The block a window is at, at each grid point. -/
theorem idx_val : ∀ t : Fin cfg0.N, win0_0.index t = ![0, t.val, 0] ∧ win0_1.index t = ![0, t.val, 0] ∧ win0_2.index t = ![0, 0, 0]
    ∧ win0_3.index t = ![t.val, 0] ∧ win0_4.index t = ![0, 0, 0] ∧ win0_5.index t = ![t.val, 0] ∧ win0_6.index t = ![t.val, 0]
    ∧ win0_7.index t = ![t.val, 0] ∧ win0_8.index t = ![0, 0] ∧ t.val < 8 :=
  (by decide +kernel : ∀ t : Fin grid0.N, _)

/-! The operands the host code prepares, at an index. -/

theorem prep8 (c : Dev nD) (i : Fin 2) (k : Fin 1024) : V m c main_v8 (ix3 i 0 k) = m ((c : Thread nD τ).loc main_arg1) (ix2 i k) := by
  simp only [V, V0, List.flatten_cons, List.flatten_nil, List.append_nil]
  entry_read
  pointwise

theorem prep2 (c : Dev nD) (k : Fin 3584) (l : Fin 1024) : V m c main_v2 (ix3 0 k l) = m ((c : Thread nD τ).loc main_arg2) (ix3 0 l k) := by
  simp only [V, V0, List.flatten_cons, List.flatten_nil, List.append_nil]
  entry_read
  pointwise

theorem prep6 (c : Dev nD) (i : Fin 3) (r : Fin 4096) (k : Fin 512) : V m c main_v6 (ix3 i r k) = m ((c : Thread nD τ).loc main_arg3) (ix2 r ⟨i.val * 512 + k, by omega⟩) := by
  simp only [V, V0, List.flatten_cons, List.flatten_nil, List.append_nil]
  entry_read
  pointwise

theorem prep7 (c : Dev nD) (i : Fin 4) (r : Fin 4096) (k : Fin 512) : V m c main_v7 (ix3 i r k) = m ((c : Thread nD τ).loc main_arg3) (ix2 r ⟨(3 + i.val) * 512 + k, by omega⟩) := by
  simp only [V, V0, List.flatten_cons, List.flatten_nil, List.append_nil]
  entry_read
  pointwise

section
variable {m} (h : Cert.Pre_KernelIdeal_finite m) (c : Dev nD) (t : Fin cfg0.N)
include h

theorem blk3 (r : Fin 512) (k : Fin 1024) : iblk m c 3 t (ix2 r k) = ((aX m c ⟨t.val * 512 + r, by have := (idx_val t).2.2.2.2.2.2.2.2.2; omega⟩ k : ℝ) : EReal) := by
  refine Eq.trans ?_ (arg0_real h c _ _)
  blk_ext [iblk, V, idx_val t]

theorem blk5 (r : Fin 512) (k : Fin 1024) : iblk m c 5 t (ix2 r k) = ((aD m c ⟨t.val * 512 + r, by have := (idx_val t).2.2.2.2.2.2.2.2.2; omega⟩ k : ℝ) : EReal) := by
  refine Eq.trans ?_ (arg4_real h c _ _)
  blk_ext [iblk, V, idx_val t]

theorem blk4 (k : Fin 1024) : iblk m c 4 t (ix3 0 0 k) = ((aG m c 0 k : ℝ) : EReal) := by
  refine Eq.trans ?_ ((prep8 m c 0 k).trans (arg1_real h c 0 k))
  blk_ext [iblk, idx_val t]

theorem blk2 (k : Fin 3584) (l : Fin 1024) : iblk m c 2 t (ix3 0 k l) = ((aW m c 0 l k : ℝ) : EReal) := by
  refine Eq.trans ?_ ((prep2 m c k l).trans (arg2_real h c 0 l k))
  blk_ext [iblk, idx_val t]

theorem blk0 (i : Fin 3) (r : Fin 512) (k : Fin 512) : iblk m c 0 t (ix3 i r k)
    = ((aP m c ⟨t.val * 512 + r, by have := (idx_val t).2.2.2.2.2.2.2.2.2; omega⟩ ⟨i.val * 512 + k, by omega⟩ : ℝ) : EReal) := by
  refine Eq.trans ?_ ((prep6 m c i _ k).trans (arg3_real h c _ _))
  blk_ext [iblk, idx_val t]

theorem blk1 (i : Fin 4) (r : Fin 512) (k : Fin 512) : iblk m c 1 t (ix3 i r k)
    = ((aP m c ⟨t.val * 512 + r, by have := (idx_val t).2.2.2.2.2.2.2.2.2; omega⟩ ⟨(3 + i.val) * 512 + k, by omega⟩ : ℝ) : EReal) := by
  refine Eq.trans ?_ ((prep7 m c i _ k).trans (arg3_real h c _ _))
  blk_ext [iblk, idx_val t]

end
end Cert.KernelIdeal.Value

end

end
-- ==== Proof.InPayload.lean ====
/- What the body of the entry's gradient computes on a block of real numbers. -/
module

public import proofs.«01_k».proof.Proof.Gen.KernelIdeal.Skeleton
public import proofs.«01_k».proof.Proof.Reals

@[expose] public section

set_option maxRecDepth 16384

noncomputable section

open Idealize.ShloMosaic Idealize.ShloMosaic.TcCoe Idealize.SL.Sem

namespace Cert.KernelIdeal.Value

open Cert.KernelIdeal Cert.KernelIdeal.Gen Cert.Reals

/-- The reciprocal norm of row `r`. -/
def rn (x : Fin 512 → Fin 1024 → ℝ) (r : Fin 512) : ℝ := (Real.sqrt ((∑ k, x r k * x r k) / 1024 + eps))⁻¹

/-- The gradient of the products: seven segments of 512 columns. -/
def prods (a : Fin 7 → Fin 512 → Fin 512 → ℝ) (w : Fin 7 → Fin 512 → Fin 1024 → ℝ) (r : Fin 512) (l : Fin 1024) : ℝ :=
  ∑ s, ∑ k, a s r k * w s k l

theorem pay7_real (a : Fin 7 → Fin 512 → Fin 512 → ℝ) (w : Fin 7 → Fin 512 → Fin 1024 → ℝ)
    (v1 v7 v13 v19 v25 v31 v37 : Vec Ideal S1x512x512 .bf16) (v3 v9 v15 v21 v27 v33 v39 : Vec Ideal S1x512x1024 .bf16)
    (h1 : ∀ r k, v1 (ix3 0 r k) = ((a 0 r k : ℝ) : EReal)) (h3 : ∀ k l, v3 (ix3 0 k l) = ((w 0 k l : ℝ) : EReal))
    (h7 : ∀ r k, v7 (ix3 0 r k) = ((a 1 r k : ℝ) : EReal)) (h9 : ∀ k l, v9 (ix3 0 k l) = ((w 1 k l : ℝ) : EReal))
    (h13 : ∀ r k, v13 (ix3 0 r k) = ((a 2 r k : ℝ) : EReal)) (h15 : ∀ k l, v15 (ix3 0 k l) = ((w 2 k l : ℝ) : EReal))
    (h19 : ∀ r k, v19 (ix3 0 r k) = ((a 3 r k : ℝ) : EReal)) (h21 : ∀ k l, v21 (ix3 0 k l) = ((w 3 k l : ℝ) : EReal))
    (h25 : ∀ r k, v25 (ix3 0 r k) = ((a 4 r k : ℝ) : EReal)) (h27 : ∀ k l, v27 (ix3 0 k l) = ((w 4 k l : ℝ) : EReal))
    (h31 : ∀ r k, v31 (ix3 0 r k) = ((a 5 r k : ℝ) : EReal)) (h33 : ∀ k l, v33 (ix3 0 k l) = ((w 5 k l : ℝ) : EReal))
    (h37 : ∀ r k, v37 (ix3 0 r k) = ((a 6 r k : ℝ) : EReal)) (h39 : ∀ k l, v39 (ix3 0 k l) = ((w 6 k l : ℝ) : EReal))
    (r : Fin 512) (l : Fin 1024) :
    k0_pay7 (F := Ideal) (k0_pay5 v1 v3 v7 v9 v13 v15 v19 v21) (k0_pay6 v25) v27 v31 v33 v37 v39 (ix2 r l)
      = ((prods a w r l : ℝ) : EReal) := by
  pointwise [k0_pay7, k0_pay6, k0_pay5, h1, h3, h7, h9, h13, h15, h19, h21, h25, h27, h31, h33, h37, h39]
  simp only [← EReal.coe_mul, sum_coe, ← EReal.coe_add, ← EReal.coe_zero, prods, Fin.sum_univ_seven]

theorem pay8_real (x : Fin 512 → Fin 1024 → ℝ) (v43 : Vec Ideal S512x1024 .f32)
    (h : ∀ r k, v43 (ix2 r k) = ((x r k : ℝ) : EReal)) (r : Fin 512) :
    k0_pay8 (F := Ideal) v43 (ix2 r 0) = ((rn x r : ℝ) : EReal) := by
  pointwise [k0_pay8, h]
  simp only [← EReal.coe_mul, sum_coe, cEps, c1024]
  rw [div_coe (by norm_num), ← EReal.coe_add, rsqrt_coe (ms_pos (x r) (by norm_num))]; rfl

theorem pay9_real (x : Fin 512 → Fin 1024 → ℝ) (v43 : Vec Ideal S512x1024 .f32)
    (h : ∀ r k, v43 (ix2 r k) = ((x r k : ℝ) : EReal)) (r : Fin 512) (l : Fin 1024) :
    k0_pay9 (F := Ideal) v43 (ix2 r l) = ((x r l * rn x r : ℝ) : EReal) := by
  pointwise [k0_pay9, h, pay8_real x v43 h]
  rw [← EReal.coe_mul]

theorem pay1_real (x a b d : Fin 512 → Fin 1024 → ℝ) (R s : Fin 512 → ℝ)
    (v53 : FVec Ideal S512x1 .f32) (v55 v57 : FVec Ideal S512x1024 .f32) (v59 : FVec Ideal S512 .f32) (v69 : Vec Ideal S512x1024 .f32)
    (h53 : ∀ r, v53 (ix2 r 0) = ((R r : ℝ) : EReal)) (h55 : ∀ r l, v55 (ix2 r l) = ((a r l : ℝ) : EReal))
    (h57 : ∀ r l, v57 (ix2 r l) = ((b r l : ℝ) : EReal)) (h59 : ∀ r, v59 (ix1 r) = ((s r : ℝ) : EReal))
    (h69 : ∀ r l, v69 (ix2 r l) = ((d r l : ℝ) : EReal)) (r : Fin 512) (l : Fin 1024) :
    k0_pay1 (F := Ideal) v53 v55 v57 v59 v69 (ix2 r l) = ((d r l + R r * (b r l - a r l * (s r / 1024)) : ℝ) : EReal) := by
  pointwise [k0_pay1, h53, h55, h57, h59, h69]
  rw [c1024, div_coe (by norm_num)]; norm_cast

theorem pay3_real (x y : Fin 512 → Fin 1024 → ℝ) (v42 v55 : FVec Ideal S512x1024 .f32)
    (h42 : ∀ r l, v42 (ix2 r l) = ((x r l : ℝ) : EReal)) (h55 : ∀ r l, v55 (ix2 r l) = ((y r l : ℝ) : EReal))
    (q : Fin 8) (l : Fin 1024) :
    k0_pay3 (F := Ideal) v42 v55 (ix2 q l) = ((∑ k : Fin 64, x ⟨k * 8 + q, by omega⟩ l * y ⟨k * 8 + q, by omega⟩ l : ℝ) : EReal) := by
  pointwise [k0_pay3, h42, h55]
  simp only [← EReal.coe_mul, sum_coe]

theorem pay4_real (x y : Fin 512 → Fin 1024 → ℝ) (z : EReal) (v42 v55 : FVec Ideal S512x1024 .f32) (v82 : Vec Ideal S8x1024 .f32)
    (q : Fin 8) (l : Fin 1024) :
    k0_pay4 (F := Ideal) v42 v55 v82 (ix2 q l) = v82 (ix2 q l) + k0_pay3 (F := Ideal) v42 v55 (ix2 q l) := by
  pointwise [k0_pay4]

theorem pay10_real (y : Fin 512 → Fin 1024 → ℝ) (g : Fin 1024 → ℝ) (v24 v26 v27 v31 v33 v37 v39)
    (v44 : Vec Ideal S1x1x1024 .f32)
    (hy : ∀ r l, k0_pay7 (F := Ideal) v24 v26 v27 v31 v33 v37 v39 (ix2 r l) = ((y r l : ℝ) : EReal))
    (hg : ∀ l, v44 (ix3 0 0 l) = ((g l : ℝ) : EReal)) (r : Fin 512) (l : Fin 1024) :
    k0_pay10 (F := Ideal) v24 v26 v27 v31 v33 v37 v39 v44 (ix2 r l) = ((y r l * g l : ℝ) : EReal) := by
  pointwise [k0_pay10, hy, hg]
  rw [← EReal.coe_mul]

theorem pay11_real (x y : Fin 512 → Fin 1024 → ℝ) (g : Fin 1024 → ℝ) (v24 v26 v27 v31 v33 v37 v39)
    (v43 : Vec Ideal S512x1024 .f32) (v44 : Vec Ideal S1x1x1024 .f32)
    (hx : ∀ r k, v43 (ix2 r k) = ((x r k : ℝ) : EReal))
    (hy : ∀ r l, k0_pay7 (F := Ideal) v24 v26 v27 v31 v33 v37 v39 (ix2 r l) = ((y r l : ℝ) : EReal))
    (hg : ∀ l, v44 (ix3 0 0 l) = ((g l : ℝ) : EReal)) (r : Fin 512) :
    k0_pay11 (F := Ideal) v24 v26 v27 v31 v33 v37 v39 v43 v44 (ix1 r) = ((∑ l, y r l * g l * (x r l * rn x r) : ℝ) : EReal) := by
  pointwise [k0_pay11, pay10_real y g v24 v26 v27 v31 v33 v37 v39 v44 hy hg, pay9_real x v43 hx]
  simp only [← EReal.coe_mul, sum_coe]

end Cert.KernelIdeal.Value

end

end
-- ==== Proof.InKernel.lean ====
/- The result arrays of the entry's gradient kernel, as real numbers. -/
module

public import proofs.«01_k».proof.Proof.InArgs
public import proofs.«01_k».proof.Proof.InPayload
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Reals

variable (m : (ℓ : Loc nD τ sig) → Buf (Elt Ideal) ℓ)

/-- The products' gradient, the reciprocal norm of a row, the row's inner product, the result row. -/
def gY (c : Dev nD) (R : Fin 4096) (l : Fin 1024) : ℝ := ∑ j : Fin 3584, aP m c R j * aW m c 0 l j
def gR (c : Dev nD) (R : Fin 4096) : ℝ := (Real.sqrt ((∑ k, aX m c R k * aX m c R k) / 1024 + eps))⁻¹
def gS (c : Dev nD) (R : Fin 4096) : ℝ := ∑ l, gY m c R l * aG m c 0 l * (aX m c R l * gR m c R)
def gDx (c : Dev nD) (R : Fin 4096) (l : Fin 1024) : ℝ :=
  aD m c R l + gR m c R * (gY m c R l * aG m c 0 l - aX m c R l * gR m c R * (gS m c R / 1024))
def gDg (c : Dev nD) (R : Fin 4096) (l : Fin 1024) : ℝ := gY m c R l * (aX m c R l * gR m c R)

/-- The array row of a block's row. -/
def row (t : Fin cfg0.N) (r : Fin 512) : Fin 4096 := ⟨t.val * 512 + r, by have := (idx_val t).2.2.2.2.2.2.2.2.2; omega⟩

/-- One point's share of the gain's gradient. -/
def part (c : Dev nD) (t : Fin cfg0.N) (q : Fin 8) (l : Fin 1024) : ℝ :=
  ∑ k : Fin 64, gDg m c (row t ⟨k.val * 8 + q.val, by omega⟩) l

theorem prods_eq (c : Dev nD) (t : Fin cfg0.N) (r : Fin 512) (l : Fin 1024) :
    prods (fun s r k => aP m c (row t r) ⟨s.val * 512 + k.val, by omega⟩) (fun s k l => aW m c 0 l ⟨s.val * 512 + k.val, by omega⟩) r l = gY m c (row t r) l := by
  unfold prods gY
  exact (Fin.sum_univ_tiles 7 512 rfl (fun j : Fin 3584 => aP m c (row t r) j * aW m c 0 l j)).symm

/-- The eight partial rows together are the sum over the array's rows. -/
theorem sum_parts (c : Dev nD) (l : Fin 1024) :
    ∑ q : Fin 8, ∑ t : Fin cfg0.N, part m c t q l = ∑ R : Fin 4096, gDg m c R l := by
  rw [Fin.sum_univ_tiles 8 512 rfl (fun R : Fin 4096 => gDg m c R l), Finset.sum_comm]
  refine Finset.sum_congr rfl fun t _ => ?_
  rw [Fin.sum_univ_tiles 64 8 rfl (fun r : Fin 512 => gDg m c ⟨t.val * 512 + r.val, by have := t.isLt; have : cfg0.N = 8 := N_0; omega⟩ l), Finset.sum_comm]
  rfl

section
variable {m} (h : Cert.Pre_KernelIdeal_finite m) (c : Dev nD) (t : Fin cfg0.N)
include h

/-- What the body leaves at a point, over the products' operands. -/
theorem outs : ∃ (v24 : FVec Ideal S512x1024 .f32) (v26 : FVec Ideal S512x512 .bf16) (v27 : Vec Ideal S1x512x1024 .bf16) (v31 : Vec Ideal S1x512x512 .bf16)
      (v33 : Vec Ideal S1x512x1024 .bf16) (v37 : Vec Ideal S1x512x512 .bf16) (v39 : Vec Ideal S1x512x1024 .bf16),
    (∀ r l, k0_pay7 v24 v26 v27 v31 v33 v37 v39 (ix2 r l) = ((gY m c (row t r) l : ℝ) : EReal))
    ∧ (outsAt0 m c t.val t.isLt).1 = k0_pay1 (k0_pay8 (iblk m c 3 t)) (k0_pay9 (iblk m c 3 t)) (k0_pay10 v24 v26 v27 v31 v33 v37 v39 (iblk m c 4 t)) (k0_pay11 v24 v26 v27 v31 v33 v37 v39 (iblk m c 3 t) (iblk m c 4 t)) (iblk m c 5 t)
    ∧ (outsAt0 m c t.val t.isLt).2.1 = k0_pay2 (k0_pay8 (iblk m c 3 t)) (k0_pay9 (iblk m c 3 t)) (k0_pay10 v24 v26 v27 v31 v33 v37 v39 (iblk m c 4 t)) (k0_pay11 v24 v26 v27 v31 v33 v37 v39 (iblk m c 3 t) (iblk m c 4 t)) (iblk m c 5 t)
    ∧ (t.val % 8 = 0 → (outsAt0 m c t.val t.isLt).2.2 = k0_pay3 (k0_pay7 v24 v26 v27 v31 v33 v37 v39) (k0_pay9 (iblk m c 3 t)))
    ∧ (¬ t.val % 8 = 0 → (outsAt0 m c t.val t.isLt).2.2
        = k0_pay4 (k0_pay7 v24 v26 v27 v31 v33 v37 v39) (k0_pay9 (iblk m c 3 t)) (outsAt0 m c (t.val - 1) (Nat.lt_of_le_of_lt (Nat.sub_le _ _) t.isLt)).2.2) := by
  have hw := blk2 h c t
  have hp0 := blk0 h c t
  have hp1 := blk1 h c t
  have h8 := (idx_val t).2.2.2.2.2.2.2.2.2
  have hz : ∀ (b : Fin 512) (hb : b.val < 3584) (h0 : 0 * 512 + b.val < 3584), (⟨b.val, hb⟩ : Fin 3584) = ⟨0 * 512 + b.val, h0⟩ := fun b _ _ => Fin.ext (by simp)
  by_cases h0 : t.val % 8 = 0
  · have h1 : ¬ 1 ≤ t.val := by omega
    iterate 7 apply Exists.intro
    refine ⟨?_, ?e1, ?e2, fun _ => ?e3, fun hn => ?e4⟩
    case e1 => rw [outsAt0_A m c t h0 h1]; frame_out; rfl
    case e2 => rw [outsAt0_A m c t h0 h1]; frame_out
    case e3 => rw [outsAt0_A m c t h0 h1]; frame_out
    case e4 => exact absurd h0 hn
    intro r l
    rw [← prods_eq m c t r l]
    refine pay7_real _ _ _ _ _ _ _ _ _ _ _ _ _ _ _ _ ?_ ?_ ?_ ?_ ?_ ?_ ?_ ?_ ?_ ?_ ?_ ?_ ?_ ?_ r l
    all_goals intro a b
    all_goals pointwise
    · rw [hp0 0 a b]; exact congrArg (fun j => ((aP m c (row t a) j : ℝ) : EReal)) (Fin.ext (by simp))
    · exact hw _ _
    · exact hp0 1 a b
    · exact hw _ _
    · exact hp0 2 a b
    · exact hw _ _
    · exact hp1 0 a b
    · exact hw _ _
    · exact hp1 1 a b
    · exact hw _ _
    · exact hp1 2 a b
    · exact hw _ _
    · exact hp1 3 a b
    · exact hw _ _
  · have h1 : 1 ≤ t.val := by omega
    iterate 7 apply Exists.intro
    refine ⟨?_, ?e1, ?e2, fun hn => ?e4, fun _ => ?e3⟩
    case e1 => rw [outsAt0_B m c t h0 h1]; frame_out; rfl
    case e2 => rw [outsAt0_B m c t h0 h1]; frame_out
    case e3 => rw [outsAt0_B m c t h0 h1]; frame_out
    case e4 => exact absurd hn h0
    intro r l
    rw [← prods_eq m c t r l]
    refine pay7_real _ _ _ _ _ _ _ _ _ _ _ _ _ _ _ _ ?_ ?_ ?_ ?_ ?_ ?_ ?_ ?_ ?_ ?_ ?_ ?_ ?_ ?_ r l
    all_goals intro a b
    all_goals pointwise
    · rw [hp0 0 a b]; exact congrArg (fun j => ((aP m c (row t a) j : ℝ) : EReal)) (Fin.ext (by simp))
    · exact hw _ _
    · exact hp0 1 a b
    · exact hw _ _
    · exact hp0 2 a b
    · exact hw _ _
    · exact hp1 0 a b
    · exact hw _ _
    · exact hp1 1 a b
    · exact hw _ _
    · exact hp1 2 a b
    · exact hw _ _
    · exact hp1 3 a b
    · exact hw _ _

theorem out6 (r : Fin 512) (l : Fin 1024) : (outsAt0 m c t.val t.isLt).1 (ix2 r l) = ((gDx m c (row t r) l : ℝ) : EReal) := by
  obtain ⟨v24, v26, v27, v31, v33, v37, v39, hY, e6, _⟩ := outs h c t
  rw [e6]
  exact pay1_real (fun r l => aX m c (row t r) l) (fun r l => aX m c (row t r) l * gR m c (row t r)) (fun r l => gY m c (row t r) l * aG m c 0 l) (fun r l => aD m c (row t r) l)
    (fun r => gR m c (row t r)) (fun r => gS m c (row t r)) _ _ _ _ _ (pay8_real _ _ (blk3 h c t)) (pay9_real _ _ (blk3 h c t))
    (pay10_real (fun r l => gY m c (row t r) l) _ _ _ _ _ _ _ _ _ hY (blk4 h c t))
    (pay11_real _ (fun r l => gY m c (row t r) l) _ _ _ _ _ _ _ _ _ _ (blk3 h c t) hY (blk4 h c t)) (blk5 h c t) r l

theorem out7 (r : Fin 512) (l : Fin 1024) : (outsAt0 m c t.val t.isLt).2.1 (ix2 r l) = ((gDx m c (row t r) l : ℝ) : EReal) := by
  have e := out6 h c t r l
  obtain ⟨v24, v26, v27, v31, v33, v37, v39, hY, e6, e7, _⟩ := outs h c t
  rw [e6] at e
  rw [e7]
  pointwise [k0_pay2]
  exact e

theorem out8_zero (q : Fin 8) (l : Fin 1024) (h0 : t.val % 8 = 0) : (outsAt0 m c t.val t.isLt).2.2 (ix2 q l) = ((part m c t q l : ℝ) : EReal) := by
  obtain ⟨v24, v26, v27, v31, v33, v37, v39, hY, e6, e7, e8, _⟩ := outs h c t
  rw [e8 h0]
  exact pay3_real _ _ _ _ hY (pay9_real _ _ (blk3 h c t)) q l

theorem out8_succ (q : Fin 8) (l : Fin 1024) (h0 : ¬ t.val % 8 = 0) : (outsAt0 m c t.val t.isLt).2.2 (ix2 q l)
    = (outsAt0 m c (t.val - 1) (Nat.lt_of_le_of_lt (Nat.sub_le _ _) t.isLt)).2.2 (ix2 q l) + ((part m c t q l : ℝ) : EReal) := by
  obtain ⟨v24, v26, v27, v31, v33, v37, v39, hY, e6, e7, e8, e9⟩ := outs h c t
  rw [e9 h0]
  exact (pay4_real (fun _ _ => 0) (fun _ _ => 0) 0 _ _ _ q l).trans
    (congrArg₂ (· + ·) rfl (pay3_real _ _ _ _ hY (pay9_real _ _ (blk3 h c t)) q l))

end

section
variable {m} (h : Cert.Pre_KernelIdeal_finite m) (c : Dev nD)
include h

theorem final6 : (dats m 0 c).arrAt 6 (cfgs 0).N = (fun i : S4096x1024.Idx => ((gDx m c (i 0) (i 1) : ℝ) : EReal)) := by
  refine (dats m 0 c).arrAt_eq_of_covers 6 _ (by decide +kernel) fun t hf y => ?_
  blk_simp
  rw [after0_6]
  idx_vars y
  refine (out6 h c t y0 y1).trans ?_
  have e : (((View.whole main_v9_0).slice (win0_6.rect t)).emb (ix2 y0 y1)) = ix2 (row t y0) y1 := by blk_ext [row, idx_val t]
  rw [e]; rfl

theorem final7 : (dats m 0 c).arrAt 7 (cfgs 0).N = (fun i : S4096x1024.Idx => ((gDx m c (i 0) (i 1) : ℝ) : EReal)) := by
  refine (dats m 0 c).arrAt_eq_of_covers 7 _ (by decide +kernel) fun t hf y => ?_
  blk_simp
  rw [after0_7]
  idx_vars y
  refine (out7 h c t y0 y1).trans ?_
  have e : (((View.whole main_v9_1).slice (win0_7.rect t)).emb (ix2 y0 y1)) = ix2 (row t y0) y1 := by blk_ext [row, idx_val t]
  rw [e]; rfl

theorem final8 : (dats m 0 c).arrAt 8 (cfgs 0).N = (fun i : S8x1024.Idx => ((∑ t : Fin cfg0.N, part m c t (i 0) (i 1) : ℝ) : EReal)) := by
  refine (dats m 0 c).arrAt_eq_of_after_last 8 t0_7 (by decide +kernel) _ fun j => ?_
  blk_simp
  have key := fun j : S8x1024.Idx => Pipeline.eq_sum_fin_of_reset_step_apply_last (fun n hn => (show S8x1024.Idx → EReal from (outsAt0 m c n hn).2.2)) 8 (fun _ => 0)
    (fun p j => ((part m c p (j 0) (j 1) : ℝ) : EReal))
    (fun t h0 j => by idx_vars j; exact (out8_zero h c t j0 j1 h0).trans (zero_add _).symm)
    (fun t h0 j => by idx_vars j; exact out8_succ h c t j0 j1 h0)
    (le_of_eq N_0) t0_7 rfl j
  rw [after0_8]
  refine (key j).trans ?_
  rw [zero_add, sum_coe]

/-- The host's sum of the eight partial rows. -/
theorem tail10 (l : Fin 1024) :
    (show S1024.Idx → EReal from Pipeline.afterTail₀ cfgs (dats m) 0 (V0 m) [hostOps1] c main_v10) (ix1 l) = ((∑ R : Fin 4096, gDg m c R l : ℝ) : EReal) := by
  have e : (Pipeline.withArrays (cfgs 0).spec c (V0 m c) (fun w => (dats m 0 c).arrAt w (cfgs 0).N) (Proc.tc.devRef main_v9_2))
      = fun i : S8x1024.Idx => ((∑ t : Fin cfg0.N, part m c t (i 0) (i 1) : ℝ) : EReal) :=
    (Pipeline.withArrays_arr spec0 (by decide) c (V0 m c) (fun w => (dats m 0 c).arrAt w (cfgs 0).N) 8).trans (final8 h c)
  simp only [Pipeline.afterTail₀, List.flatten_cons, List.flatten_nil, List.append_nil]
  after_results
  rw [e]
  pointwise
  rw [sum_coe, ← sum_parts m c l]

end

end Cert.KernelIdeal.Value

end

end
-- ==== Proof.InRef.lean ====
/- The reference's results for the entry's gradient, as real numbers. -/
module

public import proofs.«01_k».proof.Proof.Gen.ReferenceIdeal.Run
public import proofs.«01_k».proof.Proof.Reals

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Reals

/-- The gain's gradient as the reference composes it. -/
def refG (x : FVec Ideal S4096x1024 .f32) (w : FVec Ideal S2x1024x3584 .f32) (p : FVec Ideal S4096x3584 .f32) : FVec Ideal S1024 .f32 :=
  Host.reduceAdd (shapeCast _ (Host.reduceAdd (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (Host.dotGeneral dot_S4096x3584_S1024x3584_S4096x1024_1_1_0_0_n_n none p (shapeCast _ (extractStridedSlice S1x1024x3584 ![0, 0, 0] w slices_S2x1024x3584_S1x1024x3584_0_0_0) shapeCasts_S1x1024x3584_S1024x3584))) (constant S_ .f32 0x00000000#32) reducesTo_S4096x1024_S1024_d0 h_S_) shapeCasts_S1024_S1x1024) (constant S_ .f32 0x00000000#32) reducesTo_S1x1024_S1024_d0 h_S_

variable (m : (ℓ : Loc nD τ sig) → Buf (Elt Ideal) ℓ) (c : Dev nD)
  (X D : Fin 4096 → Fin 1024 → ℝ) (G : Fin 2 → Fin 1024 → ℝ) (W : Fin 2 → Fin 1024 → Fin 3584 → ℝ) (P : Fin 4096 → Fin 3584 → ℝ)
  (hX : ∀ r k, m ((c : Thread nD τ).loc main_arg0) (ix2 r k) = ((X r k : ℝ) : EReal))
  (hG : ∀ r k, m ((c : Thread nD τ).loc main_arg1) (ix2 r k) = ((G r k : ℝ) : EReal))
  (hW : ∀ i k l, m ((c : Thread nD τ).loc main_arg2) (ix3 i k l) = ((W i k l : ℝ) : EReal))
  (hP : ∀ r l, m ((c : Thread nD τ).loc main_arg3) (ix2 r l) = ((P r l : ℝ) : EReal))
  (hD : ∀ r k, m ((c : Thread nD τ).loc main_arg4) (ix2 r k) = ((D r k : ℝ) : EReal))
include hX hG hW hP hD

theorem out0_real (r : Fin 4096) (l : Fin 1024) : res_out0 m c (ix2 r l)
    = ((D r l + (Real.sqrt ((∑ k, X r k * X r k) / 1024 + eps))⁻¹ * ((∑ j, P r j * W 0 l j) * G 0 l
        - X r l * (Real.sqrt ((∑ k, X r k * X r k) / 1024 + eps))⁻¹
          * ((∑ i, (∑ j, P r j * W 0 i j) * G 0 i * (X r i * (Real.sqrt ((∑ k, X r k * X r k) / 1024 + eps))⁻¹)) / 1024)) : ℝ) : EReal) := by
  have hv := ms_pos (X r) (show (0 : ℝ) < 1024 by norm_num)
  rw [← rms_bwd (X r) (fun i => (∑ j, P r j * W 0 i j) * G 0 i) l (D r l) 1024 hv]
  pointwise [res_out0, res_main_v42, hX, hG, hW, hP, hD]
  simp only [zero_add, cEps, c1024, cNegHalf, ← EReal.coe_mul, sum_coe, Fin.sum_univ_one]
  simp only [div_coe (show (1024 : ℝ) ≠ 0 by norm_num), ← EReal.coe_add, rsqrt_coe hv, div_coe hv.ne', ← EReal.coe_mul]

theorem out1_real (r : Fin 4096) (l : Fin 1024) : res_out1 m c (ix2 r l) = res_out0 m c (ix2 r l) := by
  pointwise [res_out1, res_main_v43, res_out0, res_main_v42]

theorem out2_real (l : Fin 1024) : refG (m ((c : Thread nD τ).loc main_arg0)) (m ((c : Thread nD τ).loc main_arg2)) (m ((c : Thread nD τ).loc main_arg3)) (ix1 l)
    = ((∑ r, (∑ j, P r j * W 0 l j) * (X r l * (Real.sqrt ((∑ k, X r k * X r k) / 1024 + eps))⁻¹) : ℝ) : EReal) := by
  have hv := fun r => ms_pos (X r) (show (0 : ℝ) < 1024 by norm_num)
  pointwise [refG, hX, hG, hW, hP, hD]
  simp only [zero_add, cEps, c1024, cNegHalf, ← EReal.coe_mul, sum_coe, Fin.sum_univ_one]
  simp only [div_coe (show (1024 : ℝ) ≠ 0 by norm_num), ← EReal.coe_add, rsqrt_coe (hv _), ← EReal.coe_mul, sum_coe]
  exact congrArg _ (Finset.sum_congr rfl fun i _ => by ring)

end Cert.ReferenceIdeal.Value

end

end
-- ==== Proof.InClaim.lean ====
/- The entry's gradient: kernel and reference agree over the reals. -/
module

public import proofs.«01_k».proof.Proof.InKernel
public import proofs.«01_k».proof.Proof.InRef
public import Idealize.ShloMosaic.Lib.Claim

@[expose] public section

set_option maxRecDepth 16384

noncomputable section

namespace Cert.Proof

open Idealize.ShloMosaic Idealize.SL.Sem

theorem algebraic1 : Cert.algebraic_KernelIdeal_ReferenceIdeal_pre_finite := by
  pair_intro
  · run_from Cert.KernelIdeal.Gen.run_main m g
    · exact Cert.KernelIdeal.Gen.W_main_arg1 m _ c
    · exact Cert.KernelIdeal.Gen.W_main_arg2 m _ c
    · exact Cert.KernelIdeal.Gen.W_main_arg3 m _ c
  · run_from Cert.ReferenceIdeal.Value.run m' g'
    all_goals have hX := fun r k => (congrFun (hagree c).1 (ix2 r k)).trans (Cert.KernelIdeal.Value.arg0_real hpre c r k)
    all_goals have hG := fun r k => (congrFun (hagree c).2.1 (ix2 r k)).trans (Cert.KernelIdeal.Value.arg1_real hpre c r k)
    all_goals have hW := fun i k l => (congrFun (hagree c).2.2.1 (ix3 i k l)).trans (Cert.KernelIdeal.Value.arg2_real hpre c i k l)
    all_goals have hP := fun r l => (congrFun (hagree c).2.2.2.1 (ix2 r l)).trans (Cert.KernelIdeal.Value.arg3_real hpre c r l)
    all_goals have hD := fun r k => (congrFun (hagree c).2.2.2.2 (ix2 r k)).trans (Cert.KernelIdeal.Value.arg4_real hpre c r k)
    · rw [Cert.KernelIdeal.Value.final6 hpre c]
      funext j; idx_vars j
      exact Cert.ReferenceIdeal.Value.out0_real m' c _ _ _ _ _ hX hG hW hP hD j0 j1
    · rw [Cert.KernelIdeal.Value.final7 hpre c]
      funext j; idx_vars j
      exact (Cert.ReferenceIdeal.Value.out1_real m' c _ _ _ _ _ hX hG hW hP hD j0 j1).trans
        (Cert.ReferenceIdeal.Value.out0_real m' c _ _ _ _ _ hX hG hW hP hD j0 j1)
    · rw [← (hagree c).1, ← (hagree c).2.2.1, ← (hagree c).2.2.2.1]
      funext j; idx_vars j
      exact (Cert.ReferenceIdeal.Value.out2_real m' c _ _ _ _ _ hX hG hW hP hD j0).trans (Cert.KernelIdeal.Value.tail10 hpre c j0).symm

end Cert.Proof

end

end
-- ==== Proof.Rows.lean ====
/- Row functions of a layer's feed-forward half: the norm, the squared rectifier, the residuals and the loss, on real numbers. -/
module

public import proofs.«01_k».proof.Proof.Reals

@[expose] public section

noncomputable section

namespace Cert.Rows

open Cert.Reals Idealize.ShloMosaic

/-- The reciprocal root mean square of a row of 1024. -/
def rn (x : Fin 1024 → ℝ) : ℝ := (Real.sqrt ((∑ k, x k * x k) / 1024 + eps))⁻¹

/-- A row times a matrix. -/
def mulRow {n k : ℕ} (x : Fin n → ℝ) (W : Fin n → Fin k → ℝ) (l : Fin k) : ℝ := ∑ i, x i * W i l

/-- A row and a row times a matrix. -/
def addMul {n k : ℕ} (x : Fin k → ℝ) (y : Fin n → ℝ) (W : Fin n → Fin k → ℝ) (l : Fin k) : ℝ := x l + ∑ i, y i * W i l

/-- The norm with its gain. -/
def normed (x g : Fin 1024 → ℝ) (l : Fin 1024) : ℝ := x l * rn x * g l

/-- The squared rectifier. -/
def relu2 {n : ℕ} (u : Fin n → ℝ) (j : Fin n) : ℝ := max (u j) 0 * max (u j) 0

/-- The difference of the final norm and the target. -/
def err (x f t : Fin 1024 → ℝ) (l : Fin 1024) : ℝ := x l * rn x * f l - t l

/-- The gradient of the final norm's output. -/
def dy (x f t : Fin 1024 → ℝ) (l : Fin 1024) : ℝ := err x f t l * (1 / 1024)

/-- The gradient of a norm's input from the gradient of its output before the gain. -/
def dNorm (x b : Fin 1024 → ℝ) (l : Fin 1024) : ℝ :=
  rn x * (b l - x l * rn x * ((∑ i, b i * (x i * rn x)) / 1024))

/-- The gradient of the final norm's input. -/
def dx (x f t : Fin 1024 → ℝ) : Fin 1024 → ℝ := dNorm x fun l => dy x f t l * f l

/-- A row's share of the loss. -/
def lossRow (x f t : Fin 1024 → ℝ) : ℝ := 1 / 2 * ((∑ l, err x f t l * err x f t l) / 1024)

theorem rn_pos_arg (x : Fin 1024 → ℝ) : 0 < (∑ k, x k * x k) / 1024 + eps := ms_pos x (by norm_num)

/-- The reciprocal root mean square as both programs compute it. -/
theorem rn_coe (x : Fin 1024 → ℝ) : Ideal.rsqrt (Ideal.div ((∑ k, x k * x k : ℝ) : EReal) ((1024 : ℝ) : EReal) + ((eps : ℝ) : EReal)) = ((rn x : ℝ) : EReal) := by
  rw [div_coe (by norm_num), ← EReal.coe_add, rsqrt_coe (rn_pos_arg x)]; rfl

/-! The same for a row of 512: the norm of the attention's output. -/

def rn5 (x : Fin 512 → ℝ) : ℝ := (Real.sqrt ((∑ k, x k * x k) / 512 + eps))⁻¹
def normed5 (x g : Fin 512 → ℝ) (l : Fin 512) : ℝ := x l * rn5 x * g l
def dNorm5 (x b : Fin 512 → ℝ) (l : Fin 512) : ℝ := rn5 x * (b l - x l * rn5 x * ((∑ i, b i * (x i * rn5 x)) / 512))

/-- Two rows of 512 side by side. -/
def cat (a b : Fin 512 → ℝ) (k : Fin 1024) : ℝ := if h : k.val < 512 then a ⟨k.val, h⟩ else b ⟨k.val - 512, by omega⟩

/-- The gradient of the squared rectifier's input `u` from the gradient `y` of the layer's output and the weights after it. -/
def dU {n k : ℕ} (y : Fin n → ℝ) (W : Fin k → Fin n → ℝ) (u : Fin k → ℝ) (j : Fin k) : ℝ := (∑ l, y l * W j l) * (2 * max (u j) 0)

/-- A row times a transposed matrix. -/
def mulT {n k : ℕ} (x : Fin n → ℝ) (W : Fin k → Fin n → ℝ) (l : Fin k) : ℝ := ∑ i, x i * W l i

/-- The sum of the 64 lanes of a lane's head. -/
def headSum (x : Fin 512 → ℝ) (j : Fin 512) : ℝ := ∑ k : Fin 64, x ⟨j.val / 64 * 64 + k.val, by omega⟩

theorem rn5_pos_arg (x : Fin 512 → ℝ) : 0 < (∑ k, x k * x k) / 512 + eps := ms_pos x (by norm_num)

theorem rn5_coe (x : Fin 512 → ℝ) : Ideal.rsqrt (Ideal.div ((∑ k, x k * x k : ℝ) : EReal) ((512 : ℝ) : EReal) + ((eps : ℝ) : EReal)) = ((rn5 x : ℝ) : EReal) := by
  rw [div_coe (by norm_num), ← EReal.coe_add, rsqrt_coe (rn5_pos_arg x)]; rfl

/-- A head's sum is the product with the matrix of equal heads. -/
theorem headSum_eq (x : Fin 512 → ℝ) (j : Fin 512) : ∑ i : Fin 512, x i * (if i.val / 64 = j.val / 64 then 1 else 0) = headSum x j := by
  rw [Fin.sum_univ_tiles 8 64 rfl (fun i : Fin 512 => x i * (if i.val / 64 = j.val / 64 then 1 else 0))]
  rw [Finset.sum_eq_single (⟨j.val / 64, by omega⟩ : Fin 8)]
  · refine Finset.sum_congr rfl fun k _ => ?_
    rw [if_pos (show (j.val / 64 * 64 + k.val) / 64 = j.val / 64 by omega), mul_one]
  · intro h _ hne
    refine Finset.sum_eq_zero fun k _ => ?_
    rw [if_neg (fun e => hne (Fin.ext (show h.val = j.val / 64 by have : (h.val * 64 + k.val) / 64 = j.val / 64 := e; omega))), mul_zero]
  · intro hn; exact absurd (Finset.mem_univ _) hn

/-- A row plus the product of two rows side by side with a matrix. -/
theorem addMul_cat {n : ℕ} (x : Fin n → ℝ) (a b : Fin 512 → ℝ) (W : Fin 1024 → Fin n → ℝ) (l : Fin n) :
    x l + ((∑ k : Fin 512, a k * W ⟨k.val, by omega⟩ l) + ∑ k : Fin 512, b k * W ⟨512 + k.val, by omega⟩ l) = addMul x (cat a b) W l := by
  have e : ∑ k : Fin 1024, cat a b k * W k l = _ := Fin.sum_univ_add (a := 512) (b := 512) fun k : Fin (512 + 512) => cat a b k * W k l
  unfold addMul
  rw [e]
  refine congrArg (x l + ·) (congrArg₂ (· + ·) (Finset.sum_congr rfl fun k _ => ?_) (Finset.sum_congr rfl fun k _ => ?_))
  · exact congrArg (· * _) (show cat a b (Fin.castAdd 512 k) = a k from dif_pos k.isLt).symm
  · exact congrArg (· * _) (show cat a b (Fin.natAdd 512 k) = b k from (dif_neg (by simp)).trans (congrArg b (Fin.ext (by simp)))).symm

theorem max_coe (x y : ℝ) : max (x : EReal) (y : EReal) = ((max x y : ℝ) : EReal) := (EReal.coe_strictMono.monotone.map_max).symm

theorem c1 : Ideal.ofBits .f32 0x3F800000#32 = ((1 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem cHalf : Ideal.ofBits .f32 0x3F000000#32 = ((1 / 2 : ℝ) : EReal) := by
  simp [Ideal.ofBits, Ideal.ieee, -EReal.coe_mul]; norm_num
theorem c512 : Ideal.ofBits .f32 0x44000000#32 = ((512 : ℝ) : EReal) := by
  simp [Ideal.ofBits, Ideal.ieee, -EReal.coe_mul]; norm_num
theorem cInv1024 : Ideal.ofBits .f32 0x3A800000#32 = ((1 / 1024 : ℝ) : EReal) := by
  simp [Ideal.ofBits, Ideal.ieee, -EReal.coe_mul]; norm_num

end Cert.Rows

end

end
-- ==== Proof.MlpArgs.lean ====
/- The argument arrays of the feed-forward gradient are arrays of real numbers, and the blocks the body reads of them. -/
module

public import proofs.«01_k».proof.Defs
public import proofs.«01_k».proof.Proof.Gen.Pre_finite2
public import proofs.«01_k».proof.Proof.Gen.Kernel2Ideal.Frame
public import proofs.«01_k».proof.Proof.Rows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Reals Cert.Rows

variable (m : (ℓ : Loc nD τ sig) → Buf (Elt Ideal) ℓ)

/-- The real numbers of the arguments: the mixers' outputs (attention, recurrence), the residual, the attention norm's gain, output
weights, gain, up and down weights, cotangent. -/
def aA (c : Dev nD) (i : Fin 4096) (j : Fin 512) : ℝ := EReal.toReal (show EReal from m ((c : Thread nD τ).loc main_arg0) (ix2 i j))
def aR (c : Dev nD) (i : Fin 4096) (j : Fin 512) : ℝ := EReal.toReal (show EReal from m ((c : Thread nD τ).loc main_arg1) (ix2 i j))
def aX (c : Dev nD) (i : Fin 4096) (j : Fin 1024) : ℝ := EReal.toReal (show EReal from m ((c : Thread nD τ).loc main_arg2) (ix2 i j))
def aQ (c : Dev nD) (i : Fin 2) (j : Fin 512) : ℝ := EReal.toReal (show EReal from m ((c : Thread nD τ).loc main_arg3) (ix2 i j))
def aO (c : Dev nD) (i : Fin 2) (j : Fin 1024) (k : Fin 1024) : ℝ := EReal.toReal (show EReal from m ((c : Thread nD τ).loc main_arg4) (ix3 i j k))
def aG (c : Dev nD) (i : Fin 2) (j : Fin 1024) : ℝ := EReal.toReal (show EReal from m ((c : Thread nD τ).loc main_arg5) (ix2 i j))
def aU (c : Dev nD) (i : Fin 2) (j : Fin 1024) (k : Fin 4096) : ℝ := EReal.toReal (show EReal from m ((c : Thread nD τ).loc main_arg6) (ix3 i j k))
def aD (c : Dev nD) (i : Fin 2) (j : Fin 4096) (k : Fin 1024) : ℝ := EReal.toReal (show EReal from m ((c : Thread nD τ).loc main_arg7) (ix3 i j k))
def aC (c : Dev nD) (i : Fin 4096) (j : Fin 1024) : ℝ := EReal.toReal (show EReal from m ((c : Thread nD τ).loc main_arg8) (ix2 i j))

section
variable {m} (h : Cert.Pre_Kernel2Ideal_finite2 m) (c : Dev nD)
include h

theorem arg0_real (i : Fin 4096) (j : Fin 512) : m ((c : Thread nD τ).loc main_arg0) (ix2 i j) = ((aA m c i j : ℝ) : EReal) := by
  have e := congrFun (h c).1 (ix2 i j)
  pointwise [Cert.Pre_finite2.fn] at e
  exact of_word e

theorem arg1_real (i : Fin 4096) (j : Fin 512) : m ((c : Thread nD τ).loc main_arg1) (ix2 i j) = ((aR m c i j : ℝ) : EReal) := by
  have e := congrFun (h c).2.1 (ix2 i j)
  pointwise [Cert.Pre_finite2.fn] at e
  exact of_word e

theorem arg2_real (i : Fin 4096) (j : Fin 1024) : m ((c : Thread nD τ).loc main_arg2) (ix2 i j) = ((aX m c i j : ℝ) : EReal) := by
  have e := congrFun (h c).2.2.1 (ix2 i j)
  pointwise [Cert.Pre_finite2.fn] at e
  exact of_word e

theorem arg3_real (i : Fin 2) (j : Fin 512) : m ((c : Thread nD τ).loc main_arg3) (ix2 i j) = ((aQ m c i j : ℝ) : EReal) := by
  have e := congrFun (h c).2.2.2.1 (ix2 i j)
  pointwise [Cert.Pre_finite2.fn] at e
  exact of_word e

theorem arg4_real (i : Fin 2) (j : Fin 1024) (k : Fin 1024) : m ((c : Thread nD τ).loc main_arg4) (ix3 i j k) = ((aO m c i j k : ℝ) : EReal) := by
  have e := congrFun (h c).2.2.2.2.1 (ix3 i j k)
  pointwise [Cert.Pre_finite2.fn] at e
  exact of_word e

theorem arg5_real (i : Fin 2) (j : Fin 1024) : m ((c : Thread nD τ).loc main_arg5) (ix2 i j) = ((aG m c i j : ℝ) : EReal) := by
  have e := congrFun (h c).2.2.2.2.2.1 (ix2 i j)
  pointwise [Cert.Pre_finite2.fn] at e
  exact of_word e

theorem arg6_real (i : Fin 2) (j : Fin 1024) (k : Fin 4096) : m ((c : Thread nD τ).loc main_arg6) (ix3 i j k) = ((aU m c i j k : ℝ) : EReal) := by
  have e := congrFun (h c).2.2.2.2.2.2.1 (ix3 i j k)
  pointwise [Cert.Pre_finite2.fn] at e
  exact of_word e

theorem arg7_real (i : Fin 2) (j : Fin 4096) (k : Fin 1024) : m ((c : Thread nD τ).loc main_arg7) (ix3 i j k) = ((aD m c i j k : ℝ) : EReal) := by
  have e := congrFun (h c).2.2.2.2.2.2.2.1 (ix3 i j k)
  pointwise [Cert.Pre_finite2.fn] at e
  exact of_word e

theorem arg8_real (i : Fin 4096) (j : Fin 1024) : m ((c : Thread nD τ).loc main_arg8) (ix2 i j) = ((aC m c i j : ℝ) : EReal) := by
  have e := congrFun (h c).2.2.2.2.2.2.2.2 (ix2 i j)
  pointwise [Cert.Pre_finite2.fn] at e
  exact of_word e

end

/-- The block a window is at, at each grid point. -/
theorem idx_val : ∀ t : Fin cfg0.N, win0_0.index t = ![t.val, 0] ∧ win0_1.index t = ![t.val, 0] ∧ win0_2.index t = ![t.val, 0]
    ∧ win0_3.index t = ![0, 0, 0] ∧ win0_4.index t = ![t.val, 0] ∧ win0_5.index t = ![t.val, 0] ∧ win0_6.index t = ![0, 0, 0]
    ∧ win0_7.index t = ![0, 0, 0] ∧ win0_8.index t = ![0, 0, 0, 0] ∧ win0_9.index t = ![0, 0, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![0, 0] ∧ win0_17.index t = ![0, 0] :=
  (by decide +kernel : ∀ t : Fin grid0.N, _)

theorem t_lt (t : Fin cfg0.N) : t.val < 16 := lt_of_lt_of_eq t.isLt N_0

/-- The array row of a block's row. -/
def row (t : Fin cfg0.N) (r : Fin 256) : Fin 4096 := ⟨t.val * 256 + r, by have := t_lt t; omega⟩

/-- A row of the residual after the mixers, of its norm and of the first product. -/
def mixed (c : Dev nD) (R : Fin 4096) : Fin 1024 → ℝ := cat (normed5 (aA m c R) (aQ m c 0)) (aR m c R)
def xm (c : Dev nD) (R : Fin 4096) : Fin 1024 → ℝ := addMul (aX m c R) (mixed m c R) (aO m c 0)
def hr (c : Dev nD) (R : Fin 4096) : Fin 1024 → ℝ := normed (xm m c R) (aG m c 0)
def ur (c : Dev nD) (R : Fin 4096) : Fin 4096 → ℝ := mulRow (hr m c R) (aU m c 0)

theorem xm_eq (c : Dev nD) (R : Fin 4096) (l : Fin 1024) : aX m c R l + ((∑ k : Fin 512, normed5 (aA m c R) (aQ m c 0) k * aO m c 0 ⟨k.val, by omega⟩ l)
    + ∑ k : Fin 512, aR m c R k * aO m c 0 ⟨512 + k.val, by omega⟩ l) = xm m c R l :=
  addMul_cat (aX m c R) (normed5 (aA m c R) (aQ m c 0)) (aR m c R) (aO m c 0) l

/-! The operands the host code prepares, at an index. -/

theorem prepG (c : Dev nD) (i : Fin 2) (k : Fin 1024) : V m c main_v45 (ix3 i 0 k) = m ((c : Thread nD τ).loc main_arg5) (ix2 i k) := by
  simp only [V, V0, List.flatten_cons, List.flatten_nil, List.append_nil]
  entry_read
  pointwise

theorem prepQ (c : Dev nD) (i : Fin 2) (k : Fin 512) : V m c main_v46 (ix3 i 0 k) = m ((c : Thread nD τ).loc main_arg3) (ix2 i k) := by
  simp only [V, V0, List.flatten_cons, List.flatten_nil, List.append_nil]
  entry_read
  pointwise

theorem prepO (c : Dev nD) (k l : Fin 1024) : V m c main_v35 (ix3 0 k l) = m ((c : Thread nD τ).loc main_arg4) (ix3 0 k l) := by
  simp only [V, V0, List.flatten_cons, List.flatten_nil, List.append_nil]
  entry_read
  pointwise

theorem prepD (c : Dev nD) (k : Fin 4096) (l : Fin 1024) : V m c main_v37 (ix3 0 k l) = m ((c : Thread nD τ).loc main_arg7) (ix3 0 k l) := by
  simp only [V, V0, List.flatten_cons, List.flatten_nil, List.append_nil]
  entry_read
  pointwise

theorem prepU (c : Dev nD) (p : Fin 8) (k : Fin 1024) (j : Fin 512) : V m c main_v43 (ix4 0 p k j) = m ((c : Thread nD τ).loc main_arg6) (ix3 0 k ⟨p.val * 512 + j.val, by omega⟩) := by
  simp only [V, V0, List.flatten_cons, List.flatten_nil, List.append_nil]
  entry_read
  pointwise

theorem prepC (c : Dev nD) (r : Fin 4096) (k : Fin 1024) : V m c main_v44 (ix2 r k) = m ((c : Thread nD τ).loc main_arg8) (ix2 r k) := by
  simp only [V, V0, List.flatten_cons, List.flatten_nil, List.append_nil]
  entry_read
  pointwise

section
variable {m} (h : Cert.Pre_Kernel2Ideal_finite2 m) (c : Dev nD)
include h

/-- The residual the forward lines compute on the host. -/
theorem prepXm (r : Fin 4096) (l : Fin 1024) : V m c main_v17 (ix2 r l) = ((xm m c r l : ℝ) : EReal) := by
  simp only [V, V0, List.flatten_cons, List.flatten_nil, List.append_nil]
  entry_read
  pointwise [arg0_real h c, arg1_real h c, arg2_real h c, arg3_real h c, arg4_real h c]
  simp only [← EReal.coe_mul, sum_coe, cEps, c512, rn5_coe, ← EReal.coe_add]
  exact congrArg _ (xm_eq m c r l)

/-- The first product the forward lines compute on the host. -/
theorem prepU1 (r j : Fin 4096) : V m c main_v34 (ix2 r j) = ((ur m c r j : ℝ) : EReal) := by
  simp only [V, V0, List.flatten_cons, List.flatten_nil, List.append_nil]
  entry_read
  pointwise [arg0_real h c, arg1_real h c, arg2_real h c, arg3_real h c, arg4_real h c, arg5_real h c, arg6_real h c]
  simp only [← EReal.coe_mul, sum_coe, cEps, c512, c1024, rn5_coe, ← EReal.coe_add]
  have e := xm_eq m c r
  simp only [normed5] at e
  simp only [e, rn_coe, ← EReal.coe_mul, sum_coe]
  rfl

end

section
variable {m} (h : Cert.Pre_Kernel2Ideal_finite2 m) (c : Dev nD) (t : Fin cfg0.N)
include h

theorem blk0 (r : Fin 256) (k : Fin 1024) : iblk m c 0 t (ix2 r k) = ((aC m c (row t r) k : ℝ) : EReal) := by
  refine Eq.trans ?_ (arg8_real h c _ _)
  blk_ext [iblk, V, row, idx_val t]

theorem blk1 (r : Fin 256) (k : Fin 1024) : iblk m c 1 t (ix2 r k) = ((aC m c (row t r) k : ℝ) : EReal) := by
  refine Eq.trans ?_ ((prepC m c _ _).trans (arg8_real h c _ _))
  blk_ext [iblk, row, idx_val t]

theorem blk2 (r : Fin 256) (k : Fin 1024) : iblk m c 2 t (ix2 r k) = ((xm m c (row t r) k : ℝ) : EReal) := by
  refine Eq.trans ?_ (prepXm h c _ _)
  blk_ext [iblk, row, idx_val t]

theorem blk3 (k : Fin 1024) : iblk m c 3 t (ix3 0 0 k) = ((aG m c 0 k : ℝ) : EReal) := by
  refine Eq.trans ?_ ((prepG m c 0 k).trans (arg5_real h c 0 k))
  blk_ext [iblk, idx_val t]

theorem blk4 (r : Fin 256) (k : Fin 4096) : iblk m c 4 t (ix2 r k) = ((ur m c (row t r) k : ℝ) : EReal) := by
  refine Eq.trans ?_ (prepU1 h c _ _)
  blk_ext [iblk, row, idx_val t]

theorem blk5 (r : Fin 256) (k : Fin 512) : iblk m c 5 t (ix2 r k) = ((aA m c (row t r) k : ℝ) : EReal) := by
  refine Eq.trans ?_ (arg0_real h c _ _)
  blk_ext [iblk, V, row, idx_val t]

theorem blk6 (k : Fin 512) : iblk m c 6 t (ix3 0 0 k) = ((aQ m c 0 k : ℝ) : EReal) := by
  refine Eq.trans ?_ ((prepQ m c 0 k).trans (arg3_real h c 0 k))
  blk_ext [iblk, idx_val t]

theorem blk7 (k l : Fin 1024) : iblk m c 7 t (ix3 0 k l) = ((aO m c 0 k l : ℝ) : EReal) := by
  refine Eq.trans ?_ ((prepO m c k l).trans (arg4_real h c 0 k l))
  blk_ext [iblk, idx_val t]

theorem blk8 (p : Fin 8) (k : Fin 1024) (j : Fin 512) : iblk m c 8 t (ix4 0 p k j) = ((aU m c 0 k ⟨p.val * 512 + j.val, by omega⟩ : ℝ) : EReal) := by
  refine Eq.trans ?_ ((prepU m c p k j).trans (arg6_real h c 0 k _))
  blk_ext [iblk, idx_val t]

theorem blk9 (k : Fin 4096) (l : Fin 1024) : iblk m c 9 t (ix3 0 k l) = ((aD m c 0 k l : ℝ) : EReal) := by
  refine Eq.trans ?_ ((prepD m c k l).trans (arg7_real h c 0 k l))
  blk_ext [iblk, idx_val t]

end
end Cert.Kernel2Ideal.Value

end

end
-- ==== Proof.MlpPayload.lean ====
/- What the body of the feed-forward gradient computes on a block of real numbers. -/
module

public import proofs.«01_k».proof.Proof.Gen.Kernel2Ideal.Skeleton
public import proofs.«01_k».proof.Proof.Rows

@[expose] public section

set_option maxRecDepth 16384

noncomputable section

open Idealize.ShloMosaic Idealize.ShloMosaic.TcCoe Idealize.SL.Sem

namespace Cert.Kernel2Ideal.Value

open Cert.Kernel2Ideal Cert.Kernel2Ideal.Gen Cert.Reals Cert.Rows

/-- One piece of 512 columns of the gradient of the squared rectifier's input. -/
theorem pay7_real (C : Fin 256 → Fin 1024 → ℝ) (D : Fin 512 → Fin 1024 → ℝ) (U : Fin 256 → Fin 512 → ℝ)
    (v0 : Vec Ideal S256x1024 .bf16) (v2 : Vec Ideal S1x512x1024 .bf16) (v5 : Vec Ideal S256x512 .bf16)
    (h0 : ∀ r k, v0 (ix2 r k) = ((C r k : ℝ) : EReal)) (h2 : ∀ k l, v2 (ix3 0 k l) = ((D k l : ℝ) : EReal))
    (h5 : ∀ r k, v5 (ix2 r k) = ((U r k : ℝ) : EReal)) (r : Fin 256) (j : Fin 512) :
    k0_pay7 (F := Ideal) v0 v2 v5 (ix2 r j) = ((dU (C r) D (U r) j : ℝ) : EReal) := by
  pointwise [k0_pay7, k0_pay6, h0, h2, h5, c2]
  simp only [← EReal.coe_zero, max_coe, ← EReal.coe_mul, sum_coe]
  rfl

/-- The gradient of the norm's output: eight pieces of 512 columns. -/
theorem pay22_real (A : Fin 8 → Fin 256 → Fin 512 → ℝ) (W : Fin 8 → Fin 1024 → Fin 512 → ℝ)
    (a0 a1 a2 a3 a4 a5 a6 a7 : Vec Ideal S256x512 .bf16) (d0 d1 d2 d3 d4 d5 d6 d7 : Vec Ideal S1x1x1024x512 .bf16)
    (ha0 : ∀ r k, a0 (ix2 r k) = ((A 0 r k : ℝ) : EReal)) (hd0 : ∀ l k, d0 (ix4 0 0 l k) = ((W 0 l k : ℝ) : EReal))
    (ha1 : ∀ r k, a1 (ix2 r k) = ((A 1 r k : ℝ) : EReal)) (hd1 : ∀ l k, d1 (ix4 0 0 l k) = ((W 1 l k : ℝ) : EReal))
    (ha2 : ∀ r k, a2 (ix2 r k) = ((A 2 r k : ℝ) : EReal)) (hd2 : ∀ l k, d2 (ix4 0 0 l k) = ((W 2 l k : ℝ) : EReal))
    (ha3 : ∀ r k, a3 (ix2 r k) = ((A 3 r k : ℝ) : EReal)) (hd3 : ∀ l k, d3 (ix4 0 0 l k) = ((W 3 l k : ℝ) : EReal))
    (ha4 : ∀ r k, a4 (ix2 r k) = ((A 4 r k : ℝ) : EReal)) (hd4 : ∀ l k, d4 (ix4 0 0 l k) = ((W 4 l k : ℝ) : EReal))
    (ha5 : ∀ r k, a5 (ix2 r k) = ((A 5 r k : ℝ) : EReal)) (hd5 : ∀ l k, d5 (ix4 0 0 l k) = ((W 5 l k : ℝ) : EReal))
    (ha6 : ∀ r k, a6 (ix2 r k) = ((A 6 r k : ℝ) : EReal)) (hd6 : ∀ l k, d6 (ix4 0 0 l k) = ((W 6 l k : ℝ) : EReal))
    (ha7 : ∀ r k, a7 (ix2 r k) = ((A 7 r k : ℝ) : EReal)) (hd7 : ∀ l k, d7 (ix4 0 0 l k) = ((W 7 l k : ℝ) : EReal))
    (r : Fin 256) (l : Fin 1024) :
    k0_pay22 (F := Ideal) (k0_pay19 (k0_pay18 a0 d0 a1 d1 a2 d2) a3 d3 a4 d4 a5 d5 a6 d6) (k0_pay20 a7) (k0_pay21 d7) (ix2 r l)
      = ((∑ p, ∑ k, A p r k * W p l k : ℝ) : EReal) := by
  pointwise [k0_pay22, k0_pay21, k0_pay20, k0_pay19, k0_pay18, ha0, hd0, ha1, hd1, ha2, hd2, ha3, hd3, ha4, hd4, ha5, hd5, ha6, hd6, ha7, hd7]
  simp only [← EReal.coe_mul, sum_coe, ← EReal.coe_add, Fin.sum_univ_eight]

section mid
variable (X M C : Fin 256 → Fin 1024 → ℝ) (G : Fin 1024 → ℝ) (v148 : FVec Ideal S256x1024 .f32) (v150 : FVec Ideal S256x512 .bf16) (v152 : FVec Ideal S1024x512 .bf16)
  (v155 : Vec Ideal S256x1024 .f32) (v157 : Vec Ideal S1x1x1024 .f32) (v182 : Vec Ideal S256x1024 .f32)
  (hX : ∀ r l, v155 (ix2 r l) = ((X r l : ℝ) : EReal)) (hM : ∀ r l, k0_pay22 (F := Ideal) v148 v150 v152 (ix2 r l) = ((M r l : ℝ) : EReal))
  (hG : ∀ l, v157 (ix3 0 0 l) = ((G l : ℝ) : EReal)) (hC : ∀ r l, v182 (ix2 r l) = ((C r l : ℝ) : EReal))
include hX

/-- The norm's reciprocal root mean square, and the norm. -/
theorem pay24_real (r : Fin 256) : k0_pay24 (F := Ideal) v155 (ix2 r 0) = ((rn (X r) : ℝ) : EReal) := by
  pointwise [k0_pay24, k0_pay23, hX]
  simp only [← EReal.coe_mul, sum_coe, cEps, c1024, rn_coe]

theorem pay25_real (r : Fin 256) (l : Fin 1024) : k0_pay25 (F := Ideal) v155 (ix2 r l) = ((X r l * rn (X r) : ℝ) : EReal) := by
  pointwise [k0_pay25, k0_pay23, hX, pay24_real X v155 hX]
  rw [← EReal.coe_mul]

include hM in
/-- The sum over the rows of the gain's gradient. -/
theorem pay2_real (q : Fin 8) (l : Fin 1024) : k0_pay2 (F := Ideal) (k0_pay26 v148 v150 v152 v155) (ix2 q l)
    = ((∑ k : Fin 32, M ⟨k.val * 8 + q.val, by omega⟩ l * (X ⟨k.val * 8 + q.val, by omega⟩ l * rn (X ⟨k.val * 8 + q.val, by omega⟩)) : ℝ) : EReal) := by
  pointwise [k0_pay2, k0_pay26, pay25_real X v155 hX, hM]
  simp only [← EReal.coe_mul, sum_coe]

include hM hG hC in
/-- The gradient of the residual. -/
theorem pay27_real (r : Fin 256) (l : Fin 1024) : k0_pay27 (F := Ideal) v148 v150 v152 v155 v157 v182 (ix2 r l)
    = ((C r l + dNorm (X r) (fun l => M r l * G l) l : ℝ) : EReal) := by
  pointwise [k0_pay27, pay25_real X v155 hX, pay24_real X v155 hX, hM, hG, hC, c1024]
  simp only [← EReal.coe_mul, sum_coe, div_coe (show (1024 : ℝ) ≠ 0 by norm_num), ← EReal.coe_sub, ← EReal.coe_add]; rfl
end mid

/-- The product with the transposed output weights. -/
theorem pay29_real (E : Fin 256 → Fin 1024 → ℝ) (O : Fin 1024 → Fin 1024 → ℝ)
    (v148 : FVec Ideal S256x1024 .f32) (v150 : FVec Ideal S256x512 .bf16) (v152 : FVec Ideal S1024x512 .bf16)
    (v155 : Vec Ideal S256x1024 .f32) (v157 : Vec Ideal S1x1x1024 .f32) (v182 : Vec Ideal S256x1024 .f32) (v187 : Vec Ideal S1x1024x1024 .bf16)
    (hE : ∀ r l, k0_pay27 (F := Ideal) v148 v150 v152 v155 v157 v182 (ix2 r l) = ((E r l : ℝ) : EReal))
    (hO : ∀ k l, v187 (ix3 0 k l) = ((O k l : ℝ) : EReal)) (r : Fin 256) (k : Fin 1024) :
    k0_pay29 (F := Ideal) v148 v150 v152 v155 v157 v182 v187 (ix2 r k) = ((mulT (E r) O k : ℝ) : EReal) := by
  pointwise [k0_pay29, k0_pay28, hE, hO]
  simp only [← EReal.coe_mul, sum_coe]; rfl

/-- A lane's head, as the body computes it: the quotient by 64, rounded down. -/
theorem head_word : ∀ a : Fin 512, Scalar.select
      (IntOp.andi
        (IntOp.cmpi CmpIPredicate.ne
          (IntOp.subi (BitVec.setWidth 32 (IntOp.cmpi CmpIPredicate.sgt (BitVec.ofNat 32 a.val) 0#32))
            (BitVec.setWidth 32 (IntOp.cmpi CmpIPredicate.slt (BitVec.ofNat 32 a.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 a.val) 64#32) 0#32))
      (IntOp.subi (IntOp.divsi ArithUnit.vector (BitVec.ofNat 32 a.val) 64#32) 1#32)
      (IntOp.divsi ArithUnit.vector (BitVec.ofNat 32 a.val) 64#32) = BitVec.ofNat 32 (a.val / 64) := by
  decide +kernel

theorem head_inj (a b : Fin 512) : IntOp.cmpi CmpIPredicate.eq (BitVec.ofNat 32 (a.val / 64)) (BitVec.ofNat 32 (b.val / 64)) = if a.val / 64 = b.val / 64 then 1#1 else 0#1 := by
  have e : ∀ x y : Fin 8, IntOp.cmpi CmpIPredicate.eq (BitVec.ofNat 32 x.val) (BitVec.ofNat 32 y.val) = if x.val = y.val then 1#1 else 0#1 := by decide +kernel
  exact e ⟨a.val / 64, by omega⟩ ⟨b.val / 64, by omega⟩

/-- The matrix of equal heads. -/
theorem pay40_real (a b : Fin 512) : k0_pay40 (F := Ideal) (iota .tc S512x512 32 [0] iota_S512x512_d0_w32) (iota .tc S512x512 32 [1] iota_S512x512_d1_w32) 64#32 k0_pay37 k0_pay38 k0_pay39 (ix2 a b)
    = (((if a.val / 64 = b.val / 64 then 1 else 0 : ℝ) : ℝ) : EReal) := by
  pointwise [k0_pay40, k0_pay37, k0_pay38, k0_pay39, c1]
  rw [head_word a, head_word b, head_inj]
  by_cases h : a.val / 64 = b.val / 64
  · rw [if_pos h, if_pos h]; rfl
  · rw [if_neg h, if_neg h]; rfl

section mixer
variable (N : Fin 256 → Fin 1024 → ℝ) (A : Fin 256 → Fin 512 → ℝ) (Q : Fin 512 → ℝ) (v189 : FVec Ideal S256x1024 .f32) (v192 : Vec Ideal S256x512 .f32) (v194 : Vec Ideal S1x1x512 .f32)
  (hN : ∀ r k, v189 (ix2 r k) = ((N r k : ℝ) : EReal)) (hA : ∀ r k, v192 (ix2 r k) = ((A r k : ℝ) : EReal)) (hQ : ∀ k, v194 (ix3 0 0 k) = ((Q k : ℝ) : EReal))

include hA in
theorem pay32_real (r : Fin 256) : k0_pay32 (F := Ideal) v192 (ix2 r 0) = ((rn5 (A r) : ℝ) : EReal) := by
  pointwise [k0_pay32, hA]
  simp only [← EReal.coe_mul, sum_coe, cEps, c512, rn5_coe]

include hA in
theorem pay33_real (r : Fin 256) (k : Fin 512) : k0_pay33 (F := Ideal) v192 (ix2 r k) = ((A r k * rn5 (A r) : ℝ) : EReal) := by
  pointwise [k0_pay33, hA, pay32_real A v192 hA]
  rw [← EReal.coe_mul]

include hN in
theorem pay30_real (r : Fin 256) (k : Fin 512) : k0_pay30 (F := Ideal) v189 (ix2 r k) = ((N r ⟨512 + k.val, by omega⟩ : ℝ) : EReal) := by
  pointwise [k0_pay30, hN]

include hN in
theorem pay31_real (r : Fin 256) (k : Fin 512) : k0_pay31 (F := Ideal) v189 (ix2 r k) = ((N r ⟨k.val, by omega⟩ : ℝ) : EReal) := by
  pointwise [k0_pay31, hN]

include hN hA hQ in
/-- The gradient of the attention's output. -/
theorem pay34_real (r : Fin 256) (k : Fin 512) : k0_pay34 (F := Ideal) v189 v192 v194 (ix2 r k)
    = ((dNorm5 (A r) (fun k => N r ⟨k.val, by omega⟩ * Q k) k : ℝ) : EReal) := by
  pointwise [k0_pay34, pay31_real N v189 hN, pay32_real A v192 hA, pay33_real A v192 hA, hQ, c512]
  simp only [← EReal.coe_mul, sum_coe, div_coe (show (512 : ℝ) ≠ 0 by norm_num), ← EReal.coe_sub]; rfl

include hN hA in
/-- The sum over the rows of its gain's gradient. -/
theorem pay4_real (q : Fin 8) (k : Fin 512) : k0_pay4 (F := Ideal) (k0_pay35 v189 v192) (ix2 q k)
    = ((∑ i : Fin 32, N ⟨i.val * 8 + q.val, by omega⟩ ⟨k.val, by omega⟩ * (A ⟨i.val * 8 + q.val, by omega⟩ k * rn5 (A ⟨i.val * 8 + q.val, by omega⟩)) : ℝ) : EReal) := by
  pointwise [k0_pay4, k0_pay35, pay31_real N v189 hN, pay33_real A v192 hA]
  simp only [← EReal.coe_mul, sum_coe]

include hN hA hQ in
/-- The products of the output with its gradient, summed over each head. -/
theorem pay1_real (v275 : FVec Ideal S512x512 .bf16)
    (h : ∀ a b, v275 (ix2 a b) = (((if a.val / 64 = b.val / 64 then 1 else 0 : ℝ) : ℝ) : EReal)) (r : Fin 256) (j : Fin 512) :
    k0_pay1 (F := Ideal) (k0_pay36 v189 v192 v194) v275 (k0_pay41 (k0_pay36 v189 v192 v194)) (k0_pay42 (k0_pay36 v189 v192 v194)) (ix2 r j)
      = ((headSum (fun k => dNorm5 (A r) (fun k => N r ⟨k.val, by omega⟩ * Q k) k * A r k) j : ℝ) : EReal) := by
  pointwise [k0_pay1, k0_pay42, k0_pay41, k0_pay36, pay34_real N A Q v189 v192 v194 hN hA hQ, hA, h]
  simp only [← EReal.coe_mul, ← EReal.coe_sub, sum_coe, ← EReal.coe_add, sub_self, zero_mul, Finset.sum_const_zero, add_zero]
  exact congrArg _ (headSum_eq _ j)
end mixer

end Cert.Kernel2Ideal.Value

end

end
-- ==== Proof.MlpKernel.lean ====
/- The result arrays of the feed-forward gradient's kernel, as real numbers: what the body leaves at a grid point. -/
module

public import proofs.«01_k».proof.Proof.MlpArgs
public import proofs.«01_k».proof.Proof.MlpPayload
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Reals Cert.Rows

variable (m : (ℓ : Loc nD τ sig) → Buf (Elt Ideal) ℓ)

/-- A row of the gradient of the first product, of the norm's output, of the residual, of the mixers' outputs. -/
def du (c : Dev nD) (R : Fin 4096) : Fin 4096 → ℝ := dU (aC m c R) (aD m c 0) (ur m c R)
def dm (c : Dev nD) (R : Fin 4096) : Fin 1024 → ℝ := mulT (du m c R) (aU m c 0)
def dxm (c : Dev nD) (R : Fin 4096) (l : Fin 1024) : ℝ := aC m c R l + dNorm (xm m c R) (fun l => dm m c R l * aG m c 0 l) l
def dmix (c : Dev nD) (R : Fin 4096) : Fin 1024 → ℝ := mulT (dxm m c R) (aO m c 0)
def dattn (c : Dev nD) (R : Fin 4096) : Fin 512 → ℝ := dNorm5 (aA m c R) fun k => dmix m c R ⟨k.val, by omega⟩ * aQ m c 0 k

/-- A piece of 512 columns. -/
def col (p : Fin 8) (j : Fin 512) : Fin 4096 := ⟨p.val * 512 + j.val, by omega⟩

/-- A block of eight pieces of 512 columns. -/
theorem canon_cols (f : Fin 256 → Fin 4096 → EReal) (p0 p1 p2 p3 p4 p5 p6 p7 : Vec Ideal S256x512 .bf16)
    (h0 : ∀ r j, p0 (ix2 r j) = f r (col 0 j)) (h1 : ∀ r j, p1 (ix2 r j) = f r (col 1 j)) (h2 : ∀ r j, p2 (ix2 r j) = f r (col 2 j))
    (h3 : ∀ r j, p3 (ix2 r j) = f r (col 3 j)) (h4 : ∀ r j, p4 (ix2 r j) = f r (col 4 j)) (h5 : ∀ r j, p5 (ix2 r j) = f r (col 5 j))
    (h6 : ∀ r j, p6 (ix2 r j) = f r (col 6 j)) (h7 : ∀ r j, p7 (ix2 r j) = f r (col 7 j)) (r : Fin 256) (j : Fin 4096) :
    View.canon (Val := Elt Ideal) (e := .bf16) [⟨Rect.unit ![0, 3584] ![256, 512] inb_S256x4096_S256x512_0_3584, p7⟩, ⟨Rect.unit ![0, 3072] ![256, 512] inb_S256x4096_S256x512_0_3072, p6⟩,
      ⟨Rect.unit ![0, 2560] ![256, 512] inb_S256x4096_S256x512_0_2560, p5⟩, ⟨Rect.unit ![0, 2048] ![256, 512] inb_S256x4096_S256x512_0_2048, p4⟩,
      ⟨Rect.unit ![0, 1536] ![256, 512] inb_S256x4096_S256x512_0_1536, p3⟩, ⟨Rect.unit ![0, 1024] ![256, 512] inb_S256x4096_S256x512_0_1024, p2⟩,
      ⟨Rect.unit ![0, 512] ![256, 512] inb_S256x4096_S256x512_0_512, p1⟩, ⟨Rect.unit ![0, 0] ![256, 512] inb_S256x4096_S256x512_0_0, p0⟩] (ix2 r j) = f r j := by
  refine View.canon_apply_of_pieces (Val := Elt Ideal) (e := .bf16) (fun y : S256x4096.Idx => (f (y 0) (y 1) : EReal)) _ ?_ (ix2 r j) (View.cover_of_tiledL (s := S256x4096) _ ![256, 512] (by sl_kernel_rfl) _)
  intro p hp x
  have key : ∀ (q : Fin 8) (o) (x0 : Fin 256) (x1 : Fin 512), (Rect.unit (s := S256x4096) ![0, q.val * 512] ![256, 512] o).emb (ix2 x0 x1) = (ix2 x0 (col q x1) : S256x4096.Idx) := fun q o x0 x1 => by
    blk_ext [LoadRect.idx_apply, Rect.off_unit, Rect.stride_unit, col]
  simp only [List.mem_cons, List.not_mem_nil, or_false] at hp
  rcases hp with rfl | rfl | rfl | rfl | rfl | rfl | rfl | rfl
  · idx_vars x; exact (h7 x0 x1).trans (congrArg (fun y : S256x4096.Idx => f (y 0) (y 1)) (key 7 _ x0 x1).symm)
  · idx_vars x; exact (h6 x0 x1).trans (congrArg (fun y : S256x4096.Idx => f (y 0) (y 1)) (key 6 _ x0 x1).symm)
  · idx_vars x; exact (h5 x0 x1).trans (congrArg (fun y : S256x4096.Idx => f (y 0) (y 1)) (key 5 _ x0 x1).symm)
  · idx_vars x; exact (h4 x0 x1).trans (congrArg (fun y : S256x4096.Idx => f (y 0) (y 1)) (key 4 _ x0 x1).symm)
  · idx_vars x; exact (h3 x0 x1).trans (congrArg (fun y : S256x4096.Idx => f (y 0) (y 1)) (key 3 _ x0 x1).symm)
  · idx_vars x; exact (h2 x0 x1).trans (congrArg (fun y : S256x4096.Idx => f (y 0) (y 1)) (key 2 _ x0 x1).symm)
  · idx_vars x; exact (h1 x0 x1).trans (congrArg (fun y : S256x4096.Idx => f (y 0) (y 1)) (key 1 _ x0 x1).symm)
  · idx_vars x; exact (h0 x0 x1).trans (congrArg (fun y : S256x4096.Idx => f (y 0) (y 1)) (key 0 _ x0 x1).symm)

theorem dm_tiles (c : Dev nD) (R : Fin 4096) (l : Fin 1024) :
    dm m c R l = ∑ p : Fin 8, ∑ k : Fin 512, du m c R (col p k) * aU m c 0 l (col p k) := by
  unfold dm mulT
  rw [Fin.sum_univ_tiles 8 512 rfl (fun j : Fin 4096 => du m c R j * aU m c 0 l j)]
  rfl

section
variable {m} (h : Cert.Pre_Kernel2Ideal_finite2 m) (c : Dev nD) (t : Fin cfg0.N)
include h

theorem up (p : Fin 8) (o : ∀ a, (![0, p.val, 0, 0] : Fin 4 → ℕ) a + (![1, 1, 1024, 512] : Fin 4 → ℕ) a ≤ S1x8x1024x512.size a) (k : Fin 1024) (j : Fin 512) :
    View.ld (iblk m c 8 t) (Rect.unit ![0, p.val, 0, 0] ![1, 1, 1024, 512] o) (ix4 0 0 k j) = ((aU m c 0 k (col p j) : ℝ) : EReal) := by
  refine Eq.trans ?_ (blk8 h c t p k j)
  blk_ext [View.ld, LoadRect.idx_apply, Rect.off_unit, Rect.stride_unit]

theorem down (p : Fin 8) (o : ∀ a, (![0, p.val * 512, 0] : Fin 3 → ℕ) a + (![1, 512, 1024] : Fin 3 → ℕ) a ≤ S1x4096x1024.size a) (k : Fin 512) (l : Fin 1024) :
    View.ld (iblk m c 9 t) (Rect.unit ![0, p.val * 512, 0] ![1, 512, 1024] o) (ix3 0 k l) = ((aD m c 0 (col p k) l : ℝ) : EReal) := by
  refine Eq.trans ?_ (blk9 h c t (col p k) l)
  blk_ext [View.ld, LoadRect.idx_apply, Rect.off_unit, Rect.stride_unit, col]

theorem first (p : Fin 8) (o : ∀ a, (![0, p.val * 512] : Fin 2 → ℕ) a + (![256, 512] : Fin 2 → ℕ) a ≤ S256x4096.size a) (r : Fin 256) (k : Fin 512) :
    View.ld (iblk m c 4 t) (Rect.unit ![0, p.val * 512] ![256, 512] o) (ix2 r k) = ((ur m c (row t r) (col p k) : ℝ) : EReal) := by
  refine Eq.trans ?_ (blk4 h c t r (col p k))
  blk_ext [View.ld, LoadRect.idx_apply, Rect.off_unit, Rect.stride_unit, col]

theorem piece (p : Fin 8) (o o') (r : Fin 256) (j : Fin 512) :
    k0_pay7 (F := Ideal) (iblk m c 1 t) (View.ld (iblk m c 9 t) (Rect.unit ![0, p.val * 512, 0] ![1, 512, 1024] o)) (View.ld (iblk m c 4 t) (Rect.unit ![0, p.val * 512] ![256, 512] o')) (ix2 r j)
      = ((du m c (row t r) (col p j) : ℝ) : EReal) :=
  pay7_real (fun r => aC m c (row t r)) (fun k => aD m c 0 (col p k)) (fun r k => ur m c (row t r) (col p k)) _ _ _ (blk1 h c t) (down h c t p o) (first h c t p o') r j

/-- The gradient of the first product, stored in eight pieces. -/
theorem out12 (r : Fin 256) (j : Fin 4096) : (outsAt0 m c t.val t.isLt).2.2.1 (ix2 r j) = ((du m c (row t r) j : ℝ) : EReal) := by
  have h8 := t_lt t
  have hp := piece h c t
  by_cases h0 : t.val % 16 = 0
  · have h1 : ¬ 1 ≤ t.val := by omega
    rw [outsAt0_A m c t h0 h1 h0 h1]; frame_out
    exact canon_cols (fun r j => ((du m c (row t r) j : ℝ) : EReal)) _ _ _ _ _ _ _ _ (hp 0 _ _) (hp 1 _ _) (hp 2 _ _) (hp 3 _ _) (hp 4 _ _) (hp 5 _ _) (hp 6 _ _) (hp 7 _ _) r j
  · have h1 : 1 ≤ t.val := by omega
    rw [outsAt0_B m c t h0 h1 h0 h1]; frame_out
    exact canon_cols (fun r j => ((du m c (row t r) j : ℝ) : EReal)) _ _ _ _ _ _ _ _ (hp 0 _ _) (hp 1 _ _) (hp 2 _ _) (hp 3 _ _) (hp 4 _ _) (hp 5 _ _) (hp 6 _ _) (hp 7 _ _) r j

set_option maxHeartbeats 2000000 in
/-- What the body leaves at a point, over the gradient of the norm's output. -/
theorem outs : ∃ (v148 : FVec Ideal S256x1024 .f32) (v150 : FVec Ideal S256x512 .bf16) (v152 : FVec Ideal S1024x512 .bf16),
    (∀ r l, k0_pay22 (F := Ideal) v148 v150 v152 (ix2 r l) = ((dm m c (row t r) l : ℝ) : EReal))
    ∧ (outsAt0 m c t.val t.isLt).1 = k0_pay27 v148 v150 v152 (iblk m c 2 t) (iblk m c 3 t) (iblk m c 0 t)
    ∧ (outsAt0 m c t.val t.isLt).2.1 = k0_pay28 v148 v150 v152 (iblk m c 2 t) (iblk m c 3 t) (iblk m c 0 t)
    ∧ (outsAt0 m c t.val t.isLt).2.2.2.1 = k0_pay30 (k0_pay29 v148 v150 v152 (iblk m c 2 t) (iblk m c 3 t) (iblk m c 0 t) (iblk m c 7 t))
    ∧ (outsAt0 m c t.val t.isLt).2.2.2.2.1 = k0_pay34 (k0_pay29 v148 v150 v152 (iblk m c 2 t) (iblk m c 3 t) (iblk m c 0 t) (iblk m c 7 t)) (iblk m c 5 t) (iblk m c 6 t)
    ∧ (outsAt0 m c t.val t.isLt).2.2.2.2.2.1 = k0_pay1 (k0_pay36 (k0_pay29 v148 v150 v152 (iblk m c 2 t) (iblk m c 3 t) (iblk m c 0 t) (iblk m c 7 t)) (iblk m c 5 t) (iblk m c 6 t))
        (k0_pay40 (iota .tc S512x512 32 [0] iota_S512x512_d0_w32) (iota .tc S512x512 32 [1] iota_S512x512_d1_w32) 64#32 k0_pay37 k0_pay38 k0_pay39)
        (k0_pay41 (k0_pay36 (k0_pay29 v148 v150 v152 (iblk m c 2 t) (iblk m c 3 t) (iblk m c 0 t) (iblk m c 7 t)) (iblk m c 5 t) (iblk m c 6 t)))
        (k0_pay42 (k0_pay36 (k0_pay29 v148 v150 v152 (iblk m c 2 t) (iblk m c 3 t) (iblk m c 0 t) (iblk m c 7 t)) (iblk m c 5 t) (iblk m c 6 t)))
    ∧ (t.val % 16 = 0 → (outsAt0 m c t.val t.isLt).2.2.2.2.2.2.1 = k0_pay2 (k0_pay26 v148 v150 v152 (iblk m c 2 t)))
    ∧ (t.val % 16 = 0 → (outsAt0 m c t.val t.isLt).2.2.2.2.2.2.2 = k0_pay4 (k0_pay35 (k0_pay29 v148 v150 v152 (iblk m c 2 t) (iblk m c 3 t) (iblk m c 0 t) (iblk m c 7 t)) (iblk m c 5 t)))
    ∧ (¬ t.val % 16 = 0 → (outsAt0 m c t.val t.isLt).2.2.2.2.2.2.1 = k0_pay3 (k0_pay26 v148 v150 v152 (iblk m c 2 t)) (outsAt0 m c (t.val - 1) (Nat.lt_of_le_of_lt (Nat.sub_le _ _) t.isLt)).2.2.2.2.2.2.1)
    ∧ (¬ t.val % 16 = 0 → (outsAt0 m c t.val t.isLt).2.2.2.2.2.2.2 = k0_pay5 (k0_pay35 (k0_pay29 v148 v150 v152 (iblk m c 2 t) (iblk m c 3 t) (iblk m c 0 t) (iblk m c 7 t)) (iblk m c 5 t))
        (outsAt0 m c (t.val - 1) (Nat.lt_of_le_of_lt (Nat.sub_le _ _) t.isLt)).2.2.2.2.2.2.2) := by
  have h8 := t_lt t
  have hp := piece h c t
  have hu := up h c t
  by_cases h0 : t.val % 16 = 0
  · have h1 : ¬ 1 ≤ t.val := by omega
    iterate 3 apply Exists.intro
    refine ⟨?_, ?e10, ?e11, ?e13, ?e14, ?e15, fun _ => ?e16, fun _ => ?e17, fun hn => absurd h0 hn, fun hn => absurd h0 hn⟩
    case e10 => rw [outsAt0_A m c t h0 h1 h0 h1]; frame_open; simp (disch := decide) only [↓ View.readCov_skip, ↓ View.readCov_cons_toLoadRect, ↓ View.readCov_fill]; frame_out; rfl
    case e11 => rw [outsAt0_A m c t h0 h1 h0 h1]; frame_open; simp (disch := decide) only [↓ View.readCov_skip, ↓ View.readCov_cons_toLoadRect, ↓ View.readCov_fill]; frame_out
    case e13 => rw [outsAt0_A m c t h0 h1 h0 h1]; frame_open; simp (disch := decide) only [↓ View.readCov_skip, ↓ View.readCov_cons_toLoadRect, ↓ View.readCov_fill]; frame_out
    case e14 => rw [outsAt0_A m c t h0 h1 h0 h1]; frame_open; simp (disch := decide) only [↓ View.readCov_skip, ↓ View.readCov_cons_toLoadRect, ↓ View.readCov_fill]; frame_out
    case e15 => rw [outsAt0_A m c t h0 h1 h0 h1]; frame_open; simp (disch := decide) only [↓ View.readCov_skip, ↓ View.readCov_cons_toLoadRect, ↓ View.readCov_fill]; frame_out
    case e16 => rw [outsAt0_A m c t h0 h1 h0 h1]; frame_open; simp (disch := decide) only [↓ View.readCov_skip, ↓ View.readCov_cons_toLoadRect, ↓ View.readCov_fill]; frame_out
    case e17 => rw [outsAt0_A m c t h0 h1 h0 h1]; frame_open; simp (disch := decide) only [↓ View.readCov_skip, ↓ View.readCov_cons_toLoadRect, ↓ View.readCov_fill]; frame_out
    intro r l
    rw [dm_tiles m c (row t r) l]
    exact pay22_real (fun p r k => du m c (row t r) (col p k)) (fun p l k => aU m c 0 l (col p k)) _ _ _ _ _ _ _ _ _ _ _ _ _ _ _ _
      (hp 0 _ _) (hu 0 _) (hp 1 _ _) (hu 1 _) (hp 2 _ _) (hu 2 _) (hp 3 _ _) (hu 3 _) (hp 4 _ _) (hu 4 _) (hp 5 _ _) (hu 5 _) (hp 6 _ _) (hu 6 _) (hp 7 _ _) (hu 7 _) r l
  · have h1 :  1 ≤ t.val := by omega
    iterate 3 apply Exists.intro
    refine ⟨?_, ?e10, ?e11, ?e13, ?e14, ?e15, fun hn => absurd hn h0, fun hn => absurd hn h0, fun _ => ?e16, fun _ => ?e17⟩
    case e10 => rw [outsAt0_B m c t h0 h1 h0 h1]; frame_open; simp (disch := decide) only [↓ View.readCov_skip, ↓ View.readCov_cons_toLoadRect, ↓ View.readCov_fill]; frame_out; rfl
    case e11 => rw [outsAt0_B m c t h0 h1 h0 h1]; frame_open; simp (disch := decide) only [↓ View.readCov_skip, ↓ View.readCov_cons_toLoadRect, ↓ View.readCov_fill]; frame_out
    case e13 => rw [outsAt0_B m c t h0 h1 h0 h1]; frame_open; simp (disch := decide) only [↓ View.readCov_skip, ↓ View.readCov_cons_toLoadRect, ↓ View.readCov_fill]; frame_out
    case e14 => rw [outsAt0_B m c t h0 h1 h0 h1]; frame_open; simp (disch := decide) only [↓ View.readCov_skip, ↓ View.readCov_cons_toLoadRect, ↓ View.readCov_fill]; frame_out
    case e15 => rw [outsAt0_B m c t h0 h1 h0 h1]; frame_open; simp (disch := decide) only [↓ View.readCov_skip, ↓ View.readCov_cons_toLoadRect, ↓ View.readCov_fill]; frame_out
    case e16 => rw [outsAt0_B m c t h0 h1 h0 h1]; frame_open; simp (disch := decide) only [↓ View.readCov_skip, ↓ View.readCov_cons_toLoadRect, ↓ View.readCov_fill]; frame_out
    case e17 => rw [outsAt0_B m c t h0 h1 h0 h1]; frame_open; simp (disch := decide) only [↓ View.readCov_skip, ↓ View.readCov_cons_toLoadRect, ↓ View.readCov_fill]; frame_out
    intro r l
    rw [dm_tiles m c (row t r) l]
    exact pay22_real (fun p r k => du m c (row t r) (col p k)) (fun p l k => aU m c 0 l (col p k)) _ _ _ _ _ _ _ _ _ _ _ _ _ _ _ _
      (hp 0 _ _) (hu 0 _) (hp 1 _ _) (hu 1 _) (hp 2 _ _) (hu 2 _) (hp 3 _ _) (hu 3 _) (hp 4 _ _) (hu 4 _) (hp 5 _ _) (hu 5 _) (hp 6 _ _) (hu 6 _) (hp 7 _ _) (hu 7 _) r l

end
end Cert.Kernel2Ideal.Value

end

end
-- ==== Proof.MlpFinal.lean ====
/- The result arrays of the feed-forward gradient's kernel at the end of a run. -/
module

public import proofs.«01_k».proof.Proof.MlpKernel
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen Cert.Reals Cert.Rows

variable (m : (ℓ : Loc nD τ sig) → Buf (Elt Ideal) ℓ)

/-- A row of the gradient of the recurrence's output. -/
def drec (c : Dev nD) (R : Fin 4096) (k : Fin 512) : ℝ := dmix m c R ⟨512 + k.val, by omega⟩

/-- One row's shares of the two gains' gradients, and one point's. -/
def dgRow (c : Dev nD) (R : Fin 4096) (l : Fin 1024) : ℝ := dm m c R l * (xm m c R l * rn (xm m c R))
def dgPart (c : Dev nD) (t : Fin cfg0.N) (q : Fin 8) (l : Fin 1024) : ℝ := ∑ k : Fin 32, dgRow m c (row t ⟨k.val * 8 + q.val, by omega⟩) l
def dqRow (c : Dev nD) (R : Fin 4096) (k : Fin 512) : ℝ := dmix m c R ⟨k.val, by omega⟩ * (aA m c R k * rn5 (aA m c R))
def dqPart (c : Dev nD) (t : Fin cfg0.N) (q : Fin 8) (k : Fin 512) : ℝ := ∑ i : Fin 32, dqRow m c (row t ⟨i.val * 8 + q.val, by omega⟩) k

/-- The eight partial rows of sixteen points together run over the array's rows. -/
theorem sum_rows (f : Fin 4096 → ℝ) : ∑ q : Fin 8, ∑ t : Fin cfg0.N, ∑ k : Fin 32, f (row t ⟨k.val * 8 + q.val, by omega⟩) = ∑ R, f R := by
  rw [Fin.sum_univ_tiles 16 256 rfl f, Finset.sum_comm]
  refine Finset.sum_congr rfl fun t _ => ?_
  rw [Fin.sum_univ_tiles 32 8 rfl (fun r : Fin 256 => f ⟨t.val * 256 + r.val, by have := t_lt t; omega⟩), Finset.sum_comm]
  rfl

section
variable {m} (h : Cert.Pre_Kernel2Ideal_finite2 m) (c : Dev nD) (t : Fin cfg0.N)
include h

section
variable {v148 : FVec Ideal S256x1024 .f32} {v150 : FVec Ideal S256x512 .bf16} {v152 : FVec Ideal S1024x512 .bf16}
  (hM : ∀ r l, k0_pay22 (F := Ideal) v148 v150 v152 (ix2 r l) = ((dm m c (row t r) l : ℝ) : EReal))
include hM

theorem dxm_blk (r : Fin 256) (l : Fin 1024) : k0_pay27 (F := Ideal) v148 v150 v152 (iblk m c 2 t) (iblk m c 3 t) (iblk m c 0 t) (ix2 r l) = ((dxm m c (row t r) l : ℝ) : EReal) :=
  pay27_real (fun r => xm m c (row t r)) (fun r => dm m c (row t r)) (fun r => aC m c (row t r)) (aG m c 0) _ _ _ _ _ _ (blk2 h c t) hM (blk3 h c t) (blk0 h c t) r l

theorem dmix_blk (r : Fin 256) (k : Fin 1024) : k0_pay29 (F := Ideal) v148 v150 v152 (iblk m c 2 t) (iblk m c 3 t) (iblk m c 0 t) (iblk m c 7 t) (ix2 r k) = ((dmix m c (row t r) k : ℝ) : EReal) :=
  pay29_real (fun r => dxm m c (row t r)) (aO m c 0) _ _ _ _ _ _ _ (dxm_blk h c t hM) (blk7 h c t) r k
end

theorem out10 (r : Fin 256) (l : Fin 1024) : (outsAt0 m c t.val t.isLt).1 (ix2 r l) = ((dxm m c (row t r) l : ℝ) : EReal) := by
  obtain ⟨v148, v150, v152, hM, e10, _⟩ := outs h c t
  rw [e10]; exact dxm_blk h c t hM r l

theorem out11 (r : Fin 256) (l : Fin 1024) : (outsAt0 m c t.val t.isLt).2.1 (ix2 r l) = ((dxm m c (row t r) l : ℝ) : EReal) := by
  obtain ⟨v148, v150, v152, hM, e10, e11, _⟩ := outs h c t
  rw [e11]; pointwise [k0_pay28]; exact dxm_blk h c t hM r l

theorem out13 (r : Fin 256) (k : Fin 512) : (outsAt0 m c t.val t.isLt).2.2.2.1 (ix2 r k) = ((drec m c (row t r) k : ℝ) : EReal) := by
  obtain ⟨v148, v150, v152, hM, e10, e11, e13, _⟩ := outs h c t
  rw [e13]; exact pay30_real (fun r => dmix m c (row t r)) _ (dmix_blk h c t hM) r k

theorem out14 (r : Fin 256) (k : Fin 512) : (outsAt0 m c t.val t.isLt).2.2.2.2.1 (ix2 r k) = ((dattn m c (row t r) k : ℝ) : EReal) := by
  obtain ⟨v148, v150, v152, hM, e10, e11, e13, e14, _⟩ := outs h c t
  rw [e14]; exact pay34_real (fun r => dmix m c (row t r)) (fun r => aA m c (row t r)) (aQ m c 0) _ _ _ (dmix_blk h c t hM) (blk5 h c t) (blk6 h c t) r k

theorem out15 (r : Fin 256) (j : Fin 512) : (outsAt0 m c t.val t.isLt).2.2.2.2.2.1 (ix2 r j) = ((headSum (fun k => dattn m c (row t r) k * aA m c (row t r) k) j : ℝ) : EReal) := by
  obtain ⟨v148, v150, v152, hM, e10, e11, e13, e14, e15, _⟩ := outs h c t
  rw [e15]; exact pay1_real (fun r => dmix m c (row t r)) (fun r => aA m c (row t r)) (aQ m c 0) _ _ _ (dmix_blk h c t hM) (blk5 h c t) (blk6 h c t) _ pay40_real r j

theorem out16_zero (q : Fin 8) (l : Fin 1024) (h0 : t.val % 16 = 0) : (outsAt0 m c t.val t.isLt).2.2.2.2.2.2.1 (ix2 q l) = ((dgPart m c t q l : ℝ) : EReal) := by
  obtain ⟨v148, v150, v152, hM, e10, e11, e13, e14, e15, e16, _⟩ := outs h c t
  rw [e16 h0]; exact pay2_real (fun r => xm m c (row t r)) (fun r => dm m c (row t r)) _ _ _ _ (blk2 h c t) hM q l

theorem out16_succ (q : Fin 8) (l : Fin 1024) (h0 : ¬ t.val % 16 = 0) : (outsAt0 m c t.val t.isLt).2.2.2.2.2.2.1 (ix2 q l)
    = (outsAt0 m c (t.val - 1) (Nat.lt_of_le_of_lt (Nat.sub_le _ _) t.isLt)).2.2.2.2.2.2.1 (ix2 q l) + ((dgPart m c t q l : ℝ) : EReal) := by
  obtain ⟨v148, v150, v152, hM, e10, e11, e13, e14, e15, e16, e17, e16', _⟩ := outs h c t
  rw [e16' h0]
  pointwise [k0_pay3]
  exact congrArg₂ (· + ·) rfl (pay2_real (fun r => xm m c (row t r)) (fun r => dm m c (row t r)) _ _ _ _ (blk2 h c t) hM q l)

theorem out17_zero (q : Fin 8) (k : Fin 512) (h0 : t.val % 16 = 0) : (outsAt0 m c t.val t.isLt).2.2.2.2.2.2.2 (ix2 q k) = ((dqPart m c t q k : ℝ) : EReal) := by
  obtain ⟨v148, v150, v152, hM, e10, e11, e13, e14, e15, e16, e17, _⟩ := outs h c t
  rw [e17 h0]; exact pay4_real (fun r => dmix m c (row t r)) (fun r => aA m c (row t r)) _ _ (dmix_blk h c t hM) (blk5 h c t) q k

theorem out17_succ (q : Fin 8) (k : Fin 512) (h0 : ¬ t.val % 16 = 0) : (outsAt0 m c t.val t.isLt).2.2.2.2.2.2.2 (ix2 q k)
    = (outsAt0 m c (t.val - 1) (Nat.lt_of_le_of_lt (Nat.sub_le _ _) t.isLt)).2.2.2.2.2.2.2 (ix2 q k) + ((dqPart m c t q k : ℝ) : EReal) := by
  obtain ⟨v148, v150, v152, hM, e10, e11, e13, e14, e15, e16, e17, e16', e17'⟩ := outs h c t
  rw [e17' h0]
  pointwise [k0_pay5]
  exact congrArg₂ (· + ·) rfl (pay4_real (fun r => dmix m c (row t r)) (fun r => aA m c (row t r)) _ _ (dmix_blk h c t hM) (blk5 h c t) q k)
end

section
variable {m} (h : Cert.Pre_Kernel2Ideal_finite2 m) (c : Dev nD)
include h

theorem final10 : (dats m 0 c).arrAt 10 (cfgs 0).N = (fun i : S4096x1024.Idx => ((dxm m c (i 0) (i 1) : ℝ) : EReal)) := by
  refine (dats m 0 c).arrAt_eq_of_covers 10 _ (by decide +kernel) fun t hf y => ?_
  blk_simp
  rw [after0_10]
  idx_vars y
  refine (out10 h c t y0 y1).trans ?_
  have e : (((View.whole main_v47_0).slice (win0_10.rect t)).emb (ix2 y0 y1)) = ix2 (row t y0) y1 := by blk_ext [row, idx_val t]
  rw [e]; rfl

theorem final11 : (dats m 0 c).arrAt 11 (cfgs 0).N = (fun i : S4096x1024.Idx => ((dxm m c (i 0) (i 1) : ℝ) : EReal)) := by
  refine (dats m 0 c).arrAt_eq_of_covers 11 _ (by decide +kernel) fun t hf y => ?_
  blk_simp
  rw [after0_11]
  idx_vars y
  refine (out11 h c t y0 y1).trans ?_
  have e : (((View.whole main_v47_1).slice (win0_11.rect t)).emb (ix2 y0 y1)) = ix2 (row t y0) y1 := by blk_ext [row, idx_val t]
  rw [e]; rfl

theorem final12 : (dats m 0 c).arrAt 12 (cfgs 0).N = (fun i : S4096x4096.Idx => ((du m c (i 0) (i 1) : ℝ) : EReal)) := by
  refine (dats m 0 c).arrAt_eq_of_covers 12 _ (by decide +kernel) fun t hf y => ?_
  blk_simp
  rw [after0_12]
  idx_vars y
  refine (out12 h c t y0 y1).trans ?_
  have e : (((View.whole main_v47_2).slice (win0_12.rect t)).emb (ix2 y0 y1)) = ix2 (row t y0) y1 := by blk_ext [row, idx_val t]
  rw [e]; rfl

theorem final13 : (dats m 0 c).arrAt 13 (cfgs 0).N = (fun i : S4096x512.Idx => ((drec m c (i 0) (i 1) : ℝ) : EReal)) := by
  refine (dats m 0 c).arrAt_eq_of_covers 13 _ (by decide +kernel) fun t hf y => ?_
  blk_simp
  rw [after0_13]
  idx_vars y
  refine (out13 h c t y0 y1).trans ?_
  have e : (((View.whole main_v47_3).slice (win0_13.rect t)).emb (ix2 y0 y1)) = ix2 (row t y0) y1 := by blk_ext [row, idx_val t]
  rw [e]; rfl

theorem final14 : (dats m 0 c).arrAt 14 (cfgs 0).N = (fun i : S4096x512.Idx => ((dattn m c (i 0) (i 1) : ℝ) : EReal)) := by
  refine (dats m 0 c).arrAt_eq_of_covers 14 _ (by decide +kernel) fun t hf y => ?_
  blk_simp
  rw [after0_14]
  idx_vars y
  refine (out14 h c t y0 y1).trans ?_
  have e : (((View.whole main_v47_4).slice (win0_14.rect t)).emb (ix2 y0 y1)) = ix2 (row t y0) y1 := by blk_ext [row, idx_val t]
  rw [e]; rfl

theorem final15 : (dats m 0 c).arrAt 15 (cfgs 0).N = (fun i : S4096x512.Idx => ((headSum (fun k => dattn m c (i 0) k * aA m c (i 0) k) (i 1) : ℝ) : EReal)) := by
  refine (dats m 0 c).arrAt_eq_of_covers 15 _ (by decide +kernel) fun t hf y => ?_
  blk_simp
  rw [after0_15]
  idx_vars y
  refine (out15 h c t y0 y1).trans ?_
  have e : (((View.whole main_v47_5).slice (win0_15.rect t)).emb (ix2 y0 y1)) = ix2 (row t y0) y1 := by blk_ext [row, idx_val t]
  rw [e]; rfl

theorem final16 : (dats m 0 c).arrAt 16 (cfgs 0).N = (fun i : S8x1024.Idx => ((∑ t : Fin cfg0.N, dgPart m c t (i 0) (i 1) : ℝ) : EReal)) := by
  refine (dats m 0 c).arrAt_eq_of_after_last 16 t0_15 (by decide +kernel) _ fun j => ?_
  blk_simp
  have key := fun j : S8x1024.Idx => Pipeline.eq_sum_fin_of_reset_step_apply_last (fun n hn => (show S8x1024.Idx → EReal from (outsAt0 m c n hn).2.2.2.2.2.2.1)) 16 (fun _ => 0)
    (fun t i => ((dgPart m c t (i 0) (i 1) : ℝ) : EReal))
    (fun t h0 j => by idx_vars j; exact (out16_zero h c t j0 j1 h0).trans (zero_add _).symm)
    (fun t h0 j => by idx_vars j; exact out16_succ h c t j0 j1 h0)
    (le_of_eq N_0) t0_15 rfl j
  rw [after0_16]
  refine (key j).trans ?_
  rw [zero_add, sum_coe]

theorem final17 : (dats m 0 c).arrAt 17 (cfgs 0).N = (fun i : S8x512.Idx => ((∑ t : Fin cfg0.N, dqPart m c t (i 0) (i 1) : ℝ) : EReal)) := by
  refine (dats m 0 c).arrAt_eq_of_after_last 17 t0_15 (by decide +kernel) _ fun j => ?_
  blk_simp
  have key := fun j : S8x512.Idx => Pipeline.eq_sum_fin_of_reset_step_apply_last (fun n hn => (show S8x512.Idx → EReal from (outsAt0 m c n hn).2.2.2.2.2.2.2)) 16 (fun _ => 0)
    (fun t i => ((dqPart m c t (i 0) (i 1) : ℝ) : EReal))
    (fun t h0 j => by idx_vars j; exact (out17_zero h c t j0 j1 h0).trans (zero_add _).symm)
    (fun t h0 j => by idx_vars j; exact out17_succ h c t j0 j1 h0)
    (le_of_eq N_0) t0_15 rfl j
  rw [after0_17]
  refine (key j).trans ?_
  rw [zero_add, sum_coe]

/-! The host's sums of the eight partial rows of the gains' gradients. -/

theorem tail48 (l : Fin 1024) :
    (show S1024.Idx → EReal from Pipeline.afterTail₀ cfgs (dats m) 0 (V0 m) [hostOps1] c main_v48) (ix1 l) = ((∑ R : Fin 4096, dgRow m c R l : ℝ) : EReal) := by
  have e : (Pipeline.withArrays (cfgs 0).spec c (V0 m c) (fun w => (dats m 0 c).arrAt w (cfgs 0).N) (Proc.tc.devRef main_v47_6))
      = fun i : S8x1024.Idx => ((∑ t : Fin cfg0.N, dgPart m c t (i 0) (i 1) : ℝ) : EReal) :=
    (Pipeline.withArrays_arr spec0 (by decide) c (V0 m c) (fun w => (dats m 0 c).arrAt w (cfgs 0).N) 16).trans (final16 h c)
  simp only [Pipeline.afterTail₀, List.flatten_cons, List.flatten_nil, List.append_nil]
  after_results
  rw [e]
  pointwise
  rw [sum_coe, ← sum_rows (fun R => dgRow m c R l)]; rfl

theorem tail49 (l : Fin 512) :
    (show S512.Idx → EReal from Pipeline.afterTail₀ cfgs (dats m) 0 (V0 m) [hostOps1] c main_v49) (ix1 l) = ((∑ R : Fin 4096, dqRow m c R l : ℝ) : EReal) := by
  have e : (Pipeline.withArrays (cfgs 0).spec c (V0 m c) (fun w => (dats m 0 c).arrAt w (cfgs 0).N) (Proc.tc.devRef main_v47_7))
      = fun i : S8x512.Idx => ((∑ t : Fin cfg0.N, dqPart m c t (i 0) (i 1) : ℝ) : EReal) :=
    (Pipeline.withArrays_arr spec0 (by decide) c (V0 m c) (fun w => (dats m 0 c).arrAt w (cfgs 0).N) 17).trans (final17 h c)
  simp only [Pipeline.afterTail₀, List.flatten_cons, List.flatten_nil, List.append_nil]
  after_results
  rw [e]
  pointwise
  rw [sum_coe, ← sum_rows (fun R => dqRow m c R l)]; rfl

end

end Cert.Kernel2Ideal.Value

end

end
-- ==== Proof.MlpRef.lean ====
/- The reference's results for the feed-forward gradient, as real numbers. -/
module

public import proofs.«01_k».proof.Proof.Gen.Reference2Ideal.Run
public import proofs.«01_k».proof.Proof.Rows

@[expose] public section

set_option maxRecDepth 16384

noncomputable section

open Idealize.ShloMosaic Idealize.ShloMosaic.TcCoe Idealize.SL.Sem

namespace Cert.Reference2Ideal.Value

open Cert.Reference2Ideal Cert.Reference2Ideal.Gen Cert.Reals Cert.Rows

variable (V0 : Valuation τ sig (Elt Ideal))
  (A E : Fin 4096 → Fin 512 → ℝ) (X C : Fin 4096 → Fin 1024 → ℝ) (Q : Fin 2 → Fin 512 → ℝ) (O : Fin 2 → Fin 1024 → Fin 1024 → ℝ) (G : Fin 2 → Fin 1024 → ℝ)
  (U : Fin 2 → Fin 1024 → Fin 4096 → ℝ) (D : Fin 2 → Fin 4096 → Fin 1024 → ℝ)

section
variable (hA : ∀ r k, V0 (Proc.devRef .tc main_arg0) (ix2 r k) = ((A r k : ℝ) : EReal))
include hA

theorem v8_real (r : Fin 4096) : res_main_v8 V0 (ix2 r 0) = (((∑ k, A r k * A r k) / 512 + eps : ℝ) : EReal) := by
  pointwise [res_main_v8, hA]
  simp only [zero_add, ← EReal.coe_mul, sum_coe, cEps, c512, div_coe (show (512 : ℝ) ≠ 0 by norm_num), ← EReal.coe_add]

theorem v9_real (r : Fin 4096) : res_main_v9 V0 (ix2 r 0) = ((rn5 (A r) : ℝ) : EReal) := by
  pointwise [res_main_v9, v8_real V0 A hA]
  exact rsqrt_coe (rn5_pos_arg (A r))

theorem v14_real (r : Fin 4096) (k : Fin 512) : res_main_v14 V0 (ix2 r k) = ((A r k * rn5 (A r) : ℝ) : EReal) := by
  pointwise [res_main_v14, hA, v9_real V0 A hA]
  rw [← EReal.coe_mul]

/-- The residual after the mixers. -/
theorem v22_real (hE : ∀ r k, V0 (Proc.devRef .tc main_arg1) (ix2 r k) = ((E r k : ℝ) : EReal)) (hX : ∀ r k, V0 (Proc.devRef .tc main_arg2) (ix2 r k) = ((X r k : ℝ) : EReal))
    (hQ : ∀ i k, V0 (Proc.devRef .tc main_arg3) (ix2 i k) = ((Q i k : ℝ) : EReal)) (hO : ∀ i k l, V0 (Proc.devRef .tc main_arg4) (ix3 i k l) = ((O i k l : ℝ) : EReal)) (r : Fin 4096) (l : Fin 1024) :
    res_main_v22 V0 (ix2 r l) = ((addMul (X r) (cat (normed5 (A r) (Q 0)) (E r)) (O 0) l : ℝ) : EReal) := by
  pointwise [res_main_v22, res_main_v15, res_main_v20, v14_real V0 A hA, hE, hX, hQ, hO]
  simp only [zero_add, ← EReal.coe_mul, sum_coe, ← EReal.coe_add]
  exact congrArg _ (addMul_cat (X r) (normed5 (A r) (Q 0)) (E r) (O 0) l)
end

/-! The steps after that residual `Y`. -/
section
variable (Y : Fin 4096 → Fin 1024 → ℝ) (hY : ∀ r l, res_main_v22 V0 (ix2 r l) = ((Y r l : ℝ) : EReal))
include hY

theorem v31_real (r : Fin 4096) : res_main_v31 V0 (ix2 r 0) = (((∑ k, Y r k * Y r k) / 1024 + eps : ℝ) : EReal) := by
  pointwise [res_main_v31, hY]
  simp only [zero_add, ← EReal.coe_mul, sum_coe, cEps, c1024, div_coe (show (1024 : ℝ) ≠ 0 by norm_num), ← EReal.coe_add]

theorem v32_real (r : Fin 4096) : res_main_v32 V0 (ix2 r 0) = ((rn (Y r) : ℝ) : EReal) := by
  pointwise [res_main_v32, v31_real V0 Y hY]
  exact rsqrt_coe (rn_pos_arg (Y r))

theorem v37_real (r : Fin 4096) (l : Fin 1024) : res_main_v37 V0 (ix2 r l) = ((Y r l * rn (Y r) : ℝ) : EReal) := by
  pointwise [res_main_v37, hY, v32_real V0 Y hY]
  rw [← EReal.coe_mul]

variable (hG : ∀ i k, V0 (Proc.devRef .tc main_arg5) (ix2 i k) = ((G i k : ℝ) : EReal)) (hU : ∀ i k l, V0 (Proc.devRef .tc main_arg6) (ix3 i k l) = ((U i k l : ℝ) : EReal))
include hG hU

theorem v43_real (r j : Fin 4096) : res_main_v43 V0 (ix2 r j) = ((mulRow (normed (Y r) (G 0)) (U 0) j : ℝ) : EReal) := by
  pointwise [res_main_v43, res_main_v42, res_main_v38, v37_real V0 Y hY, hG, hU]
  simp only [zero_add, ← EReal.coe_mul, sum_coe]; rfl
end

/-! The gradients, over the first product `P`. -/
section
variable (P : Fin 4096 → Fin 4096 → ℝ) (hP : ∀ r j, res_main_v43 V0 (ix2 r j) = ((P r j : ℝ) : EReal))
  (hD : ∀ i k l, V0 (Proc.devRef .tc main_arg7) (ix3 i k l) = ((D i k l : ℝ) : EReal)) (hC : ∀ r k, V0 (Proc.devRef .tc main_arg8) (ix2 r k) = ((C r k : ℝ) : EReal))
include hP hD hC

theorem v60_real (r j : Fin 4096) : res_main_v60 V0 (ix2 r j) = ((dU (C r) (D 0) (P r) j : ℝ) : EReal) := by
  pointwise [res_main_v60, res_main_v52, res_main_v44, hP, hD, hC, c2]
  simp only [zero_add, ← EReal.coe_zero, max_coe, ← EReal.coe_mul, sum_coe]
  by_cases hp : 0 < P r j
  · rw [if_pos (EReal.coe_lt_coe_iff.mpr hp)]; rfl
  · rw [if_neg (fun e => hp (EReal.coe_lt_coe_iff.mp e))]
    refine congrArg _ ?_
    unfold dU
    rw [max_eq_right (not_lt.mp hp), mul_zero, mul_zero]
end

section
variable (B : Fin 4096 → Fin 4096 → ℝ) (hB : ∀ r j, res_main_v60 V0 (ix2 r j) = ((B r j : ℝ) : EReal))
  (hU : ∀ i k l, V0 (Proc.devRef .tc main_arg6) (ix3 i k l) = ((U i k l : ℝ) : EReal))
include hB hU

theorem v61_real (r : Fin 4096) (l : Fin 1024) : res_main_v61 V0 (ix2 r l) = ((mulT (B r) (U 0) l : ℝ) : EReal) := by
  pointwise [res_main_v61, res_main_v42, hB, hU]
  simp only [zero_add, ← EReal.coe_mul, sum_coe]; rfl
end

section
variable (Y M : Fin 4096 → Fin 1024 → ℝ) (hY : ∀ r l, res_main_v22 V0 (ix2 r l) = ((Y r l : ℝ) : EReal)) (hM : ∀ r l, res_main_v61 V0 (ix2 r l) = ((M r l : ℝ) : EReal))
include hY hM

/-- The gradient of the layer's gain. -/
theorem dg_real (l : Fin 1024) :
    Host.reduceAdd (shapeCast S1x1024 (Host.reduceAdd (mulf (res_main_v37 V0) (res_main_v61 V0)) (constant S_ .f32 0x00000000#32) reducesTo_S4096x1024_S1024_d0 h_S_) shapeCasts_S1024_S1x1024) (constant S_ .f32 0x00000000#32) reducesTo_S1x1024_S1024_d0 h_S_ (ix1 l)
      = ((∑ R, M R l * (Y R l * rn (Y R)) : ℝ) : EReal) := by
  pointwise [v37_real V0 Y hY, hM]
  simp only [zero_add, ← EReal.coe_mul, sum_coe, Fin.sum_univ_one]
  exact congrArg _ (Finset.sum_congr rfl fun i _ => by ring)

variable (hG : ∀ i k, V0 (Proc.devRef .tc main_arg5) (ix2 i k) = ((G i k : ℝ) : EReal)) (hC : ∀ r k, V0 (Proc.devRef .tc main_arg8) (ix2 r k) = ((C r k : ℝ) : EReal))
include hG

theorem v66_real (r : Fin 4096) (l : Fin 1024) : res_main_v66 V0 (ix2 r l) = ((M r l * G 0 l : ℝ) : EReal) := by
  pointwise [res_main_v66, res_main_v38, hM, hG]
  rw [← EReal.coe_mul]

theorem v78_real (r : Fin 4096) (l : Fin 1024) : res_main_v78 V0 (ix2 r l)
    = (((∑ i, Y r i * (M r i * G 0 i)) * (-(1 / 2) * (rn (Y r) / ((∑ k, Y r k * Y r k) / 1024 + eps))) / 1024 : ℝ) : EReal) := by
  pointwise [res_main_v78, hY, v66_real V0 G Y M hY hM hG, cNegHalf, c1024]
  simp only [zero_add, ← EReal.coe_mul, sum_coe, Fin.sum_univ_one, v32_real V0 Y hY, v31_real V0 Y hY, div_coe (show (1024 : ℝ) ≠ 0 by norm_num), div_coe (rn_pos_arg (Y r)).ne']

include hC in
/-- The gradient of the residual. -/
theorem v82_real (r : Fin 4096) (l : Fin 1024) : res_main_v82 V0 (ix2 r l) = ((C r l + dNorm (Y r) (fun l => M r l * G 0 l) l : ℝ) : EReal) := by
  pointwise [res_main_v82, hC, hY, v66_real V0 G Y M hY hM hG, v32_real V0 Y hY, v78_real V0 G Y M hY hM hG]
  simp only [← EReal.coe_mul, ← EReal.coe_add]
  exact congrArg _ (rms_bwd (Y r) (fun l => M r l * G 0 l) l (C r l) 1024 (rn_pos_arg (Y r)))
end

section
variable (B : Fin 4096 → Fin 1024 → ℝ) (hB : ∀ r l, res_main_v82 V0 (ix2 r l) = ((B r l : ℝ) : EReal)) (hO : ∀ i k l, V0 (Proc.devRef .tc main_arg4) (ix3 i k l) = ((O i k l : ℝ) : EReal))
include hB hO

theorem v83_real (r : Fin 4096) (k : Fin 1024) : res_main_v83 V0 (ix2 r k) = ((mulT (B r) (O 0) k : ℝ) : EReal) := by
  pointwise [res_main_v83, res_main_v20, hB, hO]
  simp only [zero_add, ← EReal.coe_mul, sum_coe]; rfl
end

/-! The gradients of the mixers, over the gradient `N` of their outputs side by side. -/
section
variable (N : Fin 4096 → Fin 1024 → ℝ) (hN : ∀ r k, res_main_v83 V0 (ix2 r k) = ((N r k : ℝ) : EReal))
include hN

theorem drec_real (r : Fin 4096) (k : Fin 512) : extractStridedSlice S4096x512 ![0, 512] (res_main_v83 V0) slices_S4096x1024_S4096x512_0_512 (ix2 r k) = ((N r ⟨512 + k.val, by omega⟩ : ℝ) : EReal) := by
  pointwise [hN]

theorem v84_real (r : Fin 4096) (k : Fin 512) : res_main_v84 V0 (ix2 r k) = ((N r ⟨k.val, by omega⟩ : ℝ) : EReal) := by
  pointwise [res_main_v84, hN]

variable (hA : ∀ r k, V0 (Proc.devRef .tc main_arg0) (ix2 r k) = ((A r k : ℝ) : EReal))
include hA

/-- The gradient of the attention norm's gain. -/
theorem dq_real (k : Fin 512) :
    Host.reduceAdd (shapeCast S1x512 (Host.reduceAdd (mulf (res_main_v14 V0) (res_main_v84 V0)) (constant S_ .f32 0x00000000#32) reducesTo_S4096x512_S512_d0 h_S_) shapeCasts_S512_S1x512) (constant S_ .f32 0x00000000#32) reducesTo_S1x512_S512_d0 h_S_ (ix1 k)
      = ((∑ R, N R ⟨k.val, by omega⟩ * (A R k * rn5 (A R)) : ℝ) : EReal) := by
  pointwise [v14_real V0 A hA, v84_real V0 N hN]
  simp only [zero_add, ← EReal.coe_mul, sum_coe, Fin.sum_univ_one]
  exact congrArg _ (Finset.sum_congr rfl fun i _ => by ring)

variable (hQ : ∀ i k, V0 (Proc.devRef .tc main_arg3) (ix2 i k) = ((Q i k : ℝ) : EReal))
include hQ

theorem v90_real (r : Fin 4096) (k : Fin 512) : res_main_v90 V0 (ix2 r k) = ((N r ⟨k.val, by omega⟩ * Q 0 k : ℝ) : EReal) := by
  pointwise [res_main_v90, res_main_v15, v84_real V0 N hN, hQ]
  rw [← EReal.coe_mul]

theorem v101_real (r : Fin 4096) (k : Fin 512) : res_main_v101 V0 (ix2 r k)
    = (((∑ i : Fin 512, A r i * (N r ⟨i.val, by omega⟩ * Q 0 i)) * (-(1 / 2) * (rn5 (A r) / ((∑ k, A r k * A r k) / 512 + eps))) / 512 : ℝ) : EReal) := by
  pointwise [res_main_v101, hA, v90_real V0 A Q N hN hA hQ, cNegHalf, c512]
  simp only [zero_add, ← EReal.coe_mul, sum_coe, Fin.sum_univ_one, v9_real V0 A hA, v8_real V0 A hA, div_coe (show (512 : ℝ) ≠ 0 by norm_num), div_coe (rn5_pos_arg (A r)).ne']

/-- The gradient of the attention's output. -/
theorem do_real (r : Fin 4096) (k : Fin 512) :
    addf (addf (mulf (res_main_v90 V0) (broadcastInDim S4096x512 ![0, 1] bcast_S4096x1_S4096x512_0_1 (res_main_v9 V0))) (mulf (V0 (Proc.devRef .tc main_arg0)) (res_main_v101 V0))) (mulf (res_main_v101 V0) (V0 (Proc.devRef .tc main_arg0))) (ix2 r k)
      = ((dNorm5 (A r) (fun k => N r ⟨k.val, by omega⟩ * Q 0 k) k : ℝ) : EReal) := by
  pointwise [hA, v90_real V0 A Q N hN hA hQ, v9_real V0 A hA, v101_real V0 A Q N hN hA hQ]
  simp only [← EReal.coe_mul, ← EReal.coe_add]
  refine congrArg _ ?_
  have e := rms_bwd (A r) (fun k : Fin 512 => N r ⟨k.val, by omega⟩ * Q 0 k) k 0 512 (rn5_pos_arg (A r))
  rw [zero_add, zero_add] at e
  exact e

/-- Its products with the output, summed over each head. -/
theorem delta_real (r : Fin 4096) (j : Fin 512) :
    shapeCast S4096x512 (broadcastInDim S4096x8x64 ![0, 1] bcast_S4096x8_S4096x8x64_0_1 (Host.reduceAdd (shapeCast S4096x8x64 (mulf (addf (addf (mulf (res_main_v90 V0) (broadcastInDim S4096x512 ![0, 1] bcast_S4096x1_S4096x512_0_1 (res_main_v9 V0))) (mulf (V0 (Proc.devRef .tc main_arg0)) (res_main_v101 V0))) (mulf (res_main_v101 V0) (V0 (Proc.devRef .tc main_arg0)))) (V0 (Proc.devRef .tc main_arg0))) shapeCasts_S4096x512_S4096x8x64) (constant S_ .f32 0x00000000#32) reducesTo_S4096x8x64_S4096x8_d2 h_S_)) shapeCasts_S4096x8x64_S4096x512 (ix2 r j)
      = ((headSum (fun k => dNorm5 (A r) (fun k => N r ⟨k.val, by omega⟩ * Q 0 k) k * A r k) j : ℝ) : EReal) := by
  have hd := do_real V0 A Q N hN hA hQ
  generalize addf (addf (mulf (res_main_v90 V0) (broadcastInDim S4096x512 ![0, 1] bcast_S4096x1_S4096x512_0_1 (res_main_v9 V0))) (mulf (V0 (Proc.devRef .tc main_arg0)) (res_main_v101 V0))) (mulf (res_main_v101 V0) (V0 (Proc.devRef .tc main_arg0))) = z at hd ⊢
  pointwise [hd, hA]
  simp only [zero_add, ← EReal.coe_mul, sum_coe]
  rfl
end

end Cert.Reference2Ideal.Value

end

end
-- ==== Proof.MlpClaim.lean ====
/- The gradient of the feed-forward layer and the output projection: kernel and reference agree over the reals. -/
module

public import proofs.«01_k».proof.Proof.MlpFinal
public import proofs.«01_k».proof.Proof.MlpRef
public import Idealize.ShloMosaic.Lib.Claim

@[expose] public section

set_option maxRecDepth 16384

noncomputable section

namespace Cert.Proof

open Idealize.ShloMosaic Idealize.SL.Sem
open Cert.Kernel2Ideal.Value

set_option maxHeartbeats 2000000 in
theorem algebraic2 : Cert.algebraic_Kernel2Ideal_Reference2Ideal_pre_finite2 := by
  pair_intro
  · run_from Cert.Kernel2Ideal.Gen.run_main m g
    · exact Cert.Kernel2Ideal.Gen.W_main_arg1 m _ c
    · exact Cert.Kernel2Ideal.Gen.W_main_arg2 m _ c
    · exact Cert.Kernel2Ideal.Gen.W_main_arg3 m _ c
    · exact Cert.Kernel2Ideal.Gen.W_main_arg4 m _ c
    · exact Cert.Kernel2Ideal.Gen.W_main_arg5 m _ c
    · exact Cert.Kernel2Ideal.Gen.W_main_arg6 m _ c
    · exact Cert.Kernel2Ideal.Gen.W_main_arg7 m _ c
  · refine θ_run_mono (Cert.Reference2Ideal.Value.run m' g') ?_
    intro r hr c
    obtain ⟨hx, hxb, hdu, hdr, hdo, hde, hdg, hdq, hargs⟩ := hr c
    obtain ⟨g0, g1, g2, g3, g4, g5, g6, g7, g8⟩ := hagree c
    have hA := fun r k => (congrFun g0 (ix2 r k)).trans (arg0_real hpre c r k)
    have hE := fun r k => (congrFun g1 (ix2 r k)).trans (arg1_real hpre c r k)
    have hX := fun r k => (congrFun g2 (ix2 r k)).trans (arg2_real hpre c r k)
    have hQ := fun i k => (congrFun g3 (ix2 i k)).trans (arg3_real hpre c i k)
    have hO := fun i k l => (congrFun g4 (ix3 i k l)).trans (arg4_real hpre c i k l)
    have hG := fun i k => (congrFun g5 (ix2 i k)).trans (arg5_real hpre c i k)
    have hU := fun i k l => (congrFun g6 (ix3 i k l)).trans (arg6_real hpre c i k l)
    have hD := fun i k l => (congrFun g7 (ix3 i k l)).trans (arg7_real hpre c i k l)
    have hC := fun r k => (congrFun g8 (ix2 r k)).trans (arg8_real hpre c r k)
    have hY : ∀ r l, Cert.Reference2Ideal.Value.res_main_v22 (Idealize.ShloMosaic.StableHlo.launchContents m' c) (ix2 r l) = ((xm m c r l : ℝ) : EReal) :=
      Cert.Reference2Ideal.Value.v22_real (Idealize.ShloMosaic.StableHlo.launchContents m' c) _ _ _ _ _ hA hE hX hQ hO
    have hP : ∀ r j, Cert.Reference2Ideal.Value.res_main_v43 (Idealize.ShloMosaic.StableHlo.launchContents m' c) (ix2 r j) = ((ur m c r j : ℝ) : EReal) :=
      Cert.Reference2Ideal.Value.v43_real _ _ _ _ hY hG hU
    have hB : ∀ r j, Cert.Reference2Ideal.Value.res_main_v60 (Idealize.ShloMosaic.StableHlo.launchContents m' c) (ix2 r j) = ((du m c r j : ℝ) : EReal) :=
      Cert.Reference2Ideal.Value.v60_real _ _ _ _ hP hD hC
    have hM : ∀ r l, Cert.Reference2Ideal.Value.res_main_v61 (Idealize.ShloMosaic.StableHlo.launchContents m' c) (ix2 r l) = ((dm m c r l : ℝ) : EReal) :=
      Cert.Reference2Ideal.Value.v61_real _ _ _ hB hU
    have hT : ∀ r l, Cert.Reference2Ideal.Value.res_main_v82 (Idealize.ShloMosaic.StableHlo.launchContents m' c) (ix2 r l) = ((dxm m c r l : ℝ) : EReal) :=
      Cert.Reference2Ideal.Value.v82_real _ _ _ _ _ hY hM hG hC
    have hN : ∀ r l, Cert.Reference2Ideal.Value.res_main_v83 (Idealize.ShloMosaic.StableHlo.launchContents m' c) (ix2 r l) = ((dmix m c r l : ℝ) : EReal) :=
      Cert.Reference2Ideal.Value.v83_real _ _ _ hT hO
    refine ⟨hx.trans ?_, hxb.trans ?_, hdu.trans ?_, hdr.trans ?_, hdo.trans ?_, hde.trans ?_, hdg.trans ?_, hdq.trans ?_, hargs⟩
    · refine Eq.trans ?_ (final10 hpre c).symm
      funext j; idx_vars j
      exact hT j0 j1
    · refine Eq.trans ?_ (final11 hpre c).symm
      funext j; idx_vars j
      exact hT j0 j1
    · refine Eq.trans ?_ (final12 hpre c).symm
      funext j; idx_vars j
      exact hB j0 j1
    · refine Eq.trans ?_ (final13 hpre c).symm
      funext j; idx_vars j
      exact Cert.Reference2Ideal.Value.drec_real _ _ hN j0 j1
    · refine Eq.trans ?_ (final14 hpre c).symm
      funext j; idx_vars j
      exact Cert.Reference2Ideal.Value.do_real _ _ _ _ hN hA hQ j0 j1
    · refine Eq.trans ?_ (final15 hpre c).symm
      funext j; idx_vars j
      exact Cert.Reference2Ideal.Value.delta_real _ _ _ _ hN hA hQ j0 j1
    · funext j; idx_vars j
      exact (Cert.Reference2Ideal.Value.dg_real _ _ _ hY hM j0).trans (tail48 hpre c j0).symm
    · funext j; idx_vars j
      exact (Cert.Reference2Ideal.Value.dq_real _ _ _ hN hA j0).trans (tail49 hpre c j0).symm

end Cert.Proof

end

end
-- ==== Proof.HeadArgs.lean ====
/- The argument arrays of the head's layer are arrays of real numbers, and the blocks the body reads of them. -/
module

public import proofs.«01_k».proof.Defs
public import proofs.«01_k».proof.Proof.Gen.Pre_finite3
public import proofs.«01_k».proof.Proof.Gen.Kernel3Ideal.Frame
public import proofs.«01_k».proof.Proof.Reals
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen Cert.Reals

variable (m : (ℓ : Loc nD τ sig) → Buf (Elt Ideal) ℓ)

/-- The real numbers of the arguments: input rows, mixed rows, output weights, gains, up and down weights, final gain, target. -/
def aX (c : Dev nD) (r : Fin 4096) (k : Fin 1024) : ℝ := EReal.toReal (show EReal from m ((c : Thread nD τ).loc main_arg0) (ix2 r k))
def aM (c : Dev nD) (r : Fin 4096) (k : Fin 1024) : ℝ := EReal.toReal (show EReal from m ((c : Thread nD τ).loc main_arg1) (ix2 r k))
def aO (c : Dev nD) (i : Fin 2) (k : Fin 1024) (l : Fin 1024) : ℝ := EReal.toReal (show EReal from m ((c : Thread nD τ).loc main_arg2) (ix3 i k l))
def aG (c : Dev nD) (i : Fin 2) (k : Fin 1024) : ℝ := EReal.toReal (show EReal from m ((c : Thread nD τ).loc main_arg3) (ix2 i k))
def aU (c : Dev nD) (i : Fin 2) (k : Fin 1024) (l : Fin 4096) : ℝ := EReal.toReal (show EReal from m ((c : Thread nD τ).loc main_arg4) (ix3 i k l))
def aD (c : Dev nD) (i : Fin 2) (k : Fin 4096) (l : Fin 1024) : ℝ := EReal.toReal (show EReal from m ((c : Thread nD τ).loc main_arg5) (ix3 i k l))
def aF (c : Dev nD) (k : Fin 1024) : ℝ := EReal.toReal (show EReal from m ((c : Thread nD τ).loc main_arg6) (ix1 k))
def aT (c : Dev nD) (r : Fin 4096) (k : Fin 1024) : ℝ := EReal.toReal (show EReal from m ((c : Thread nD τ).loc main_arg7) (ix2 r k))

section
variable {m} (h : Cert.Pre_Kernel3Ideal_finite3 m) (c : Dev nD)
include h

theorem arg0_real (r : Fin 4096) (k : Fin 1024) : m ((c : Thread nD τ).loc main_arg0) (ix2 r k) = ((aX m c r k : ℝ) : EReal) := by
  have e := congrFun (h c).1 (ix2 r k)
  pointwise [Cert.Pre_finite3.fn] at e
  exact of_word e

theorem arg1_real (r : Fin 4096) (k : Fin 1024) : m ((c : Thread nD τ).loc main_arg1) (ix2 r k) = ((aM m c r k : ℝ) : EReal) := by
  have e := congrFun (h c).2.1 (ix2 r k)
  pointwise [Cert.Pre_finite3.fn] at e
  exact of_word e

theorem arg2_real (i : Fin 2) (k l : Fin 1024) : m ((c : Thread nD τ).loc main_arg2) (ix3 i k l) = ((aO m c i k l : ℝ) : EReal) := by
  have e := congrFun (h c).2.2.1 (ix3 i k l)
  pointwise [Cert.Pre_finite3.fn] at e
  exact of_word e

theorem arg3_real (i : Fin 2) (k : Fin 1024) : m ((c : Thread nD τ).loc main_arg3) (ix2 i k) = ((aG m c i k : ℝ) : EReal) := by
  have e := congrFun (h c).2.2.2.1 (ix2 i k)
  pointwise [Cert.Pre_finite3.fn] at e
  exact of_word e

theorem arg4_real (i : Fin 2) (k : Fin 1024) (l : Fin 4096) : m ((c : Thread nD τ).loc main_arg4) (ix3 i k l) = ((aU m c i k l : ℝ) : EReal) := by
  have e := congrFun (h c).2.2.2.2.1 (ix3 i k l)
  pointwise [Cert.Pre_finite3.fn] at e
  exact of_word e

theorem arg5_real (i : Fin 2) (k : Fin 4096) (l : Fin 1024) : m ((c : Thread nD τ).loc main_arg5) (ix3 i k l) = ((aD m c i k l : ℝ) : EReal) := by
  have e := congrFun (h c).2.2.2.2.2.1 (ix3 i k l)
  pointwise [Cert.Pre_finite3.fn] at e
  exact of_word e

theorem arg6_real (k : Fin 1024) : m ((c : Thread nD τ).loc main_arg6) (ix1 k) = ((aF m c k : ℝ) : EReal) := by
  have e := congrFun (h c).2.2.2.2.2.2.1 (ix1 k)
  pointwise [Cert.Pre_finite3.fn] at e
  exact of_word e

theorem arg7_real (r : Fin 4096) (k : Fin 1024) : m ((c : Thread nD τ).loc main_arg7) (ix2 r k) = ((aT m c r k : ℝ) : EReal) := by
  have e := congrFun (h c).2.2.2.2.2.2.2 (ix2 r k)
  pointwise [Cert.Pre_finite3.fn] at e
  exact of_word e

end

/-- The block a window is at, at each grid point. -/
theorem idx_val : ∀ t : Fin cfg0.N, win0_0.index t = ![t.val, 0] ∧ win0_1.index t = ![t.val, 0] ∧ win0_2.index t = ![0, 0, 0]
    ∧ win0_3.index t = ![0, 0, 0] ∧ win0_4.index t = ![0, 0, 0, 0] ∧ win0_5.index t = ![0, 0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![0, 0] ∧ win0_14.index t = ![0, 0] :=
  (by decide +kernel : ∀ t : Fin grid0.N, _)

theorem t_lt (t : Fin cfg0.N) : t.val < 8 := lt_of_lt_of_eq t.isLt N_0

/-- The array row of a block's row. -/
def row (t : Fin cfg0.N) (r : Fin 512) : Fin 4096 := ⟨t.val * 512 + r, by have := t_lt t; omega⟩

/-! The operands the host code prepares, at an index. -/

theorem prep0 (c : Dev nD) (i : Fin 2) (k : Fin 1024) : V m c main_v0 (ix3 i 0 k) = m ((c : Thread nD τ).loc main_arg3) (ix2 i k) := by
  simp only [V, V0, List.flatten_cons, List.flatten_nil, List.append_nil]
  entry_read
  pointwise

theorem prep2 (c : Dev nD) (k l : Fin 1024) : V m c main_v2 (ix3 0 k l) = m ((c : Thread nD τ).loc main_arg2) (ix3 0 k l) := by
  simp only [V, V0, List.flatten_cons, List.flatten_nil, List.append_nil]
  entry_read
  pointwise

theorem prep4 (c : Dev nD) (k : Fin 4096) (l : Fin 1024) : V m c main_v4 (ix3 0 k l) = m ((c : Thread nD τ).loc main_arg5) (ix3 0 k l) := by
  simp only [V, V0, List.flatten_cons, List.flatten_nil, List.append_nil]
  entry_read
  pointwise

theorem prep10 (c : Dev nD) (p : Fin 8) (k : Fin 1024) (j : Fin 512) : V m c main_v10 (ix4 0 p k j) = m ((c : Thread nD τ).loc main_arg4) (ix3 0 k ⟨p.val * 512 + j.val, by omega⟩) := by
  simp only [V, V0, List.flatten_cons, List.flatten_nil, List.append_nil]
  entry_read
  pointwise

theorem prep11 (c : Dev nD) (r : Fin 4096) (k : Fin 1024) : V m c main_v11 (ix2 r k) = m ((c : Thread nD τ).loc main_arg1) (ix2 r k) := by
  simp only [V, V0, List.flatten_cons, List.flatten_nil, List.append_nil]
  entry_read
  pointwise

theorem prep12 (c : Dev nD) (k : Fin 1024) : V m c main_v12 (ix2 0 k) = m ((c : Thread nD τ).loc main_arg6) (ix1 k) := by
  simp only [V, V0, List.flatten_cons, List.flatten_nil, List.append_nil]
  entry_read
  pointwise

section
variable {m} (h : Cert.Pre_Kernel3Ideal_finite3 m) (c : Dev nD) (t : Fin cfg0.N)
include h

theorem blk0 (r : Fin 512) (k : Fin 1024) : iblk m c 0 t (ix2 r k) = ((aX m c (row t r) k : ℝ) : EReal) := by
  refine Eq.trans ?_ (arg0_real h c _ _)
  blk_ext [iblk, V, row, idx_val t]

theorem blk7 (r : Fin 512) (k : Fin 1024) : iblk m c 7 t (ix2 r k) = ((aT m c (row t r) k : ℝ) : EReal) := by
  refine Eq.trans ?_ (arg7_real h c _ _)
  blk_ext [iblk, V, row, idx_val t]

theorem blk1 (r : Fin 512) (k : Fin 1024) : iblk m c 1 t (ix2 r k) = ((aM m c (row t r) k : ℝ) : EReal) := by
  refine Eq.trans ?_ ((prep11 m c _ _).trans (arg1_real h c _ _))
  blk_ext [iblk, row, idx_val t]

theorem blk2 (k : Fin 1024) : iblk m c 2 t (ix3 0 0 k) = ((aG m c 0 k : ℝ) : EReal) := by
  refine Eq.trans ?_ ((prep0 m c 0 k).trans (arg3_real h c 0 k))
  blk_ext [iblk, idx_val t]

theorem blk3 (k l : Fin 1024) : iblk m c 3 t (ix3 0 k l) = ((aO m c 0 k l : ℝ) : EReal) := by
  refine Eq.trans ?_ ((prep2 m c k l).trans (arg2_real h c 0 k l))
  blk_ext [iblk, idx_val t]

theorem blk4 (p : Fin 8) (k : Fin 1024) (j : Fin 512) : iblk m c 4 t (ix4 0 p k j) = ((aU m c 0 k ⟨p.val * 512 + j.val, by omega⟩ : ℝ) : EReal) := by
  refine Eq.trans ?_ ((prep10 m c p k j).trans (arg4_real h c 0 k _))
  blk_ext [iblk, idx_val t]

theorem blk5 (k : Fin 4096) (l : Fin 1024) : iblk m c 5 t (ix3 0 k l) = ((aD m c 0 k l : ℝ) : EReal) := by
  refine Eq.trans ?_ ((prep4 m c k l).trans (arg5_real h c 0 k l))
  blk_ext [iblk, idx_val t]

theorem blk6 (k : Fin 1024) : iblk m c 6 t (ix2 0 k) = ((aF m c k : ℝ) : EReal) := by
  refine Eq.trans ?_ ((prep12 m c k).trans (arg6_real h c k))
  blk_ext [iblk, idx_val t]

end
end Cert.Kernel3Ideal.Value

end

end
-- ==== Proof.HeadPayload.lean ====
/- What the body of the head's layer computes on a block of real numbers. -/
module

public import proofs.«01_k».proof.Proof.Gen.Kernel3Ideal.Skeleton
public import proofs.«01_k».proof.Proof.Rows

@[expose] public section

set_option maxRecDepth 16384

noncomputable section

open Idealize.ShloMosaic Idealize.ShloMosaic.TcCoe Idealize.SL.Sem

namespace Cert.Kernel3Ideal.Value

open Cert.Kernel3Ideal Cert.Kernel3Ideal.Gen Cert.Reals Cert.Rows

/-- The residual after the mixers. -/
theorem pay3_real (X M : Fin 512 → Fin 1024 → ℝ) (O : Fin 1024 → Fin 1024 → ℝ)
    (v0 : Vec Ideal S512x1024 .f32) (v1 : Vec Ideal S512x1024 .bf16) (v3 : Vec Ideal S1x1024x1024 .bf16)
    (h0 : ∀ r k, v0 (ix2 r k) = ((X r k : ℝ) : EReal)) (h1 : ∀ r k, v1 (ix2 r k) = ((M r k : ℝ) : EReal))
    (h3 : ∀ k l, v3 (ix3 0 k l) = ((O k l : ℝ) : EReal)) (r : Fin 512) (l : Fin 1024) :
    k0_pay3 (F := Ideal) v0 v1 v3 (ix2 r l) = ((addMul (X r) (M r) O l : ℝ) : EReal) := by
  pointwise [k0_pay3, h0, h1, h3]
  simp only [← EReal.coe_mul, sum_coe, ← EReal.coe_add, addMul]

/-- The norm with its gain. -/
theorem pay4_real (Y : Fin 512 → Fin 1024 → ℝ) (G : Fin 1024 → ℝ)
    (v0 : Vec Ideal S512x1024 .f32) (v1 : Vec Ideal S512x1024 .bf16) (v3 : Vec Ideal S1x1024x1024 .bf16) (v8 : Vec Ideal S1x1x1024 .f32)
    (hY : ∀ r l, k0_pay3 (F := Ideal) v0 v1 v3 (ix2 r l) = ((Y r l : ℝ) : EReal))
    (h8 : ∀ l, v8 (ix3 0 0 l) = ((G l : ℝ) : EReal)) (r : Fin 512) (l : Fin 1024) :
    k0_pay4 (F := Ideal) v0 v1 v3 v8 (ix2 r l) = ((normed (Y r) G l : ℝ) : EReal) := by
  pointwise [k0_pay4, hY, h8]
  simp only [← EReal.coe_mul, sum_coe, cEps, c1024, rn_coe]; rfl

/-- One piece of 512 columns of the first product. -/
theorem pay9_real (H : Fin 512 → Fin 1024 → ℝ) (W : Fin 1024 → Fin 512 → ℝ) (v22 : FVec Ideal S512x1024 .bf16) (v36 : Vec Ideal S1x1x1024x512 .bf16)
    (hH : ∀ r l, v22 (ix2 r l) = ((H r l : ℝ) : EReal)) (hW : ∀ k j, v36 (ix4 0 0 k j) = ((W k j : ℝ) : EReal)) (r j : Fin 512) :
    k0_pay9 (F := Ideal) v22 v36 (ix2 r j) = ((mulRow (H r) W j : ℝ) : EReal) := by
  pointwise [k0_pay9, hH, hW]
  simp only [← EReal.coe_mul, sum_coe, mulRow]

/-- The same piece as stored. -/
theorem pay10_real (H : Fin 512 → Fin 1024 → ℝ) (W : Fin 1024 → Fin 512 → ℝ) (v22 : FVec Ideal S512x1024 .bf16) (v36 : Vec Ideal S1x1x1024x512 .bf16)
    (hH : ∀ r l, v22 (ix2 r l) = ((H r l : ℝ) : EReal)) (hW : ∀ k j, v36 (ix4 0 0 k j) = ((W k j : ℝ) : EReal)) (r j : Fin 512) :
    k0_pay10 (F := Ideal) v22 v36 (ix2 r j) = ((mulRow (H r) W j : ℝ) : EReal) := by
  pointwise [k0_pay10, pay9_real H W v22 v36 hH hW]

/-- Its squared rectifier. -/
theorem pay11_real (H : Fin 512 → Fin 1024 → ℝ) (W : Fin 1024 → Fin 512 → ℝ) (v22 : FVec Ideal S512x1024 .bf16) (v36 : Vec Ideal S1x1x1024x512 .bf16)
    (hH : ∀ r l, v22 (ix2 r l) = ((H r l : ℝ) : EReal)) (hW : ∀ k j, v36 (ix4 0 0 k j) = ((W k j : ℝ) : EReal)) (r j : Fin 512) :
    k0_pay11 (F := Ideal) v22 v36 (ix2 r j) = ((relu2 (mulRow (H r) W) j : ℝ) : EReal) := by
  pointwise [k0_pay11, pay9_real H W v22 v36 hH hW]
  simp only [← EReal.coe_zero, max_coe, ← EReal.coe_mul]; rfl

/-- The layer's output: eight pieces of the second product over the residual. -/
theorem pay33_real (X : Fin 512 → Fin 1024 → ℝ) (A : Fin 8 → Fin 512 → Fin 512 → ℝ) (D : Fin 8 → Fin 512 → Fin 1024 → ℝ)
    (v6 : FVec Ideal S512x1024 .f32) (a0 a1 a2 a3 a4 a5 a6 a7 : Vec Ideal S512x512 .bf16) (d0 d1 d2 d3 d4 d5 d6 d7 : Vec Ideal S1x512x1024 .bf16)
    (h6 : ∀ r l, v6 (ix2 r l) = ((X r l : ℝ) : EReal))
    (ha0 : ∀ r k, a0 (ix2 r k) = ((A 0 r k : ℝ) : EReal)) (hd0 : ∀ k l, d0 (ix3 0 k l) = ((D 0 k l : ℝ) : EReal))
    (ha1 : ∀ r k, a1 (ix2 r k) = ((A 1 r k : ℝ) : EReal)) (hd1 : ∀ k l, d1 (ix3 0 k l) = ((D 1 k l : ℝ) : EReal))
    (ha2 : ∀ r k, a2 (ix2 r k) = ((A 2 r k : ℝ) : EReal)) (hd2 : ∀ k l, d2 (ix3 0 k l) = ((D 2 k l : ℝ) : EReal))
    (ha3 : ∀ r k, a3 (ix2 r k) = ((A 3 r k : ℝ) : EReal)) (hd3 : ∀ k l, d3 (ix3 0 k l) = ((D 3 k l : ℝ) : EReal))
    (ha4 : ∀ r k, a4 (ix2 r k) = ((A 4 r k : ℝ) : EReal)) (hd4 : ∀ k l, d4 (ix3 0 k l) = ((D 4 k l : ℝ) : EReal))
    (ha5 : ∀ r k, a5 (ix2 r k) = ((A 5 r k : ℝ) : EReal)) (hd5 : ∀ k l, d5 (ix3 0 k l) = ((D 5 k l : ℝ) : EReal))
    (ha6 : ∀ r k, a6 (ix2 r k) = ((A 6 r k : ℝ) : EReal)) (hd6 : ∀ k l, d6 (ix3 0 k l) = ((D 6 k l : ℝ) : EReal))
    (ha7 : ∀ r k, a7 (ix2 r k) = ((A 7 r k : ℝ) : EReal)) (hd7 : ∀ k l, d7 (ix3 0 k l) = ((D 7 k l : ℝ) : EReal))
    (r : Fin 512) (l : Fin 1024) :
    k0_pay33 (F := Ideal) (k0_pay31 v6 a0 d0 a1 d1 a2 d2 a3 d3 a4 d4) a5 (k0_pay32 d5) a6 d6 a7 d7 (ix2 r l)
      = ((X r l + ∑ p, ∑ k, A p r k * D p k l : ℝ) : EReal) := by
  pointwise [k0_pay33, k0_pay32, k0_pay31, h6, ha0, hd0, ha1, hd1, ha2, hd2, ha3, hd3, ha4, hd4, ha5, hd5, ha6, hd6, ha7, hd7]
  simp only [← EReal.coe_mul, sum_coe, ← EReal.coe_add, Fin.sum_univ_eight, add_assoc]

section final
variable (Y T : Fin 512 → Fin 1024 → ℝ) (G : Fin 1024 → ℝ) (v144 : FVec Ideal S512x1024 .f32) (v145 : Vec Ideal S512x512 .bf16) (v147 : FVec Ideal S512x1024 .bf16)
  (v150 : Vec Ideal S512x512 .bf16) (v151 : Vec Ideal S1x512x1024 .bf16) (v155 : Vec Ideal S512x512 .bf16) (v156 : Vec Ideal S1x512x1024 .bf16)
  (v160 : Vec Ideal S1x1024 .f32) (v174 : Vec Ideal S512x1024 .f32)
  (hY : ∀ r l, k0_pay33 (F := Ideal) v144 v145 v147 v150 v151 v155 v156 (ix2 r l) = ((Y r l : ℝ) : EReal))
  (hG : ∀ l, v160 (ix2 0 l) = ((G l : ℝ) : EReal)) (hT : ∀ r l, v174 (ix2 r l) = ((T r l : ℝ) : EReal))
include hY

section
include hG hT
/-- The difference to the target. -/
theorem pay35_real (r : Fin 512) (l : Fin 1024) :
    k0_pay35 (F := Ideal) v144 v145 v147 v150 v151 v155 v156 v160 v174 (ix2 r l) = ((err (Y r) G (T r) l : ℝ) : EReal) := by
  pointwise [k0_pay35, k0_pay34, hY, hG, hT]
  simp only [← EReal.coe_mul, sum_coe, cEps, c1024, rn_coe, ← EReal.coe_sub]; rfl

/-- The gradient of the final norm's output. -/
theorem pay36_real (r : Fin 512) (l : Fin 1024) :
    k0_pay36 (F := Ideal) v144 v145 v147 v150 v151 v155 v156 v160 v174 (ix2 r l) = ((dy (Y r) G (T r) l : ℝ) : EReal) := by
  pointwise [k0_pay36, pay35_real Y T G v144 v145 v147 v150 v151 v155 v156 v160 v174 hY hG hT, cInv1024]
  rw [← EReal.coe_mul]; rfl

/-- A row's share of the loss, on every lane. -/
theorem pay1_real (q : Fin 8) (j : Fin 128) :
    k0_pay1 (F := Ideal) (k0_pay45 (k0_pay35 (F := Ideal) v144 v145 v147 v150 v151 v155 v156 v160 v174)) (ix2 q j)
      = ((∑ k : Fin 64, lossRow (Y ⟨k.val * 8 + q.val, by omega⟩) G (T ⟨k.val * 8 + q.val, by omega⟩) : ℝ) : EReal) := by
  pointwise [k0_pay1, k0_pay45, pay35_real Y T G v144 v145 v147 v150 v151 v155 v156 v160 v174 hY hG hT, cHalf, c1, c1024]
  simp only [← EReal.coe_mul, sum_coe, div_coe (show (1024 : ℝ) ≠ 0 by norm_num), mul_one]; rfl
end

/-- The final norm's reciprocal root mean square. -/
theorem pay39_real (r : Fin 512) :
    k0_pay39 (F := Ideal) (k0_pay37 v144 v145 v147 v150 v151 v155 v156) k0_pay38 (ix2 r 0) = ((rn (Y r) : ℝ) : EReal) := by
  pointwise [k0_pay39, k0_pay38, k0_pay37, hY]
  simp only [← EReal.coe_mul, sum_coe, cEps, c1024, rn_coe]
end final

section last
variable (Y B : Fin 512 → Fin 1024 → ℝ) (G : Fin 1024 → ℝ) (v159 : FVec Ideal S512x1024 .f32) (v161 : FVec Ideal S1x1024 .f32) (v177 : FVec Ideal S512x1024 .f32)
  (v182 v183 : FVec Ideal S512x1 .f32)
  (hY : ∀ r l, v159 (ix2 r l) = ((Y r l : ℝ) : EReal)) (hR : ∀ r, k0_pay39 (F := Ideal) v182 v183 (ix2 r 0) = ((rn (Y r) : ℝ) : EReal))
  (hB : ∀ r l, v177 (ix2 r l) = ((B r l : ℝ) : EReal)) (hG : ∀ l, v161 (ix2 0 l) = ((G l : ℝ) : EReal))
include hY hR

theorem pay40_real (r : Fin 512) (l : Fin 1024) : k0_pay40 (F := Ideal) v159 v182 v183 (ix2 r l) = ((Y r l * rn (Y r) : ℝ) : EReal) := by
  pointwise [k0_pay40, hY, hR]
  rw [← EReal.coe_mul]

include hB in
theorem pay43_real (q : Fin 8) (l : Fin 1024) : k0_pay43 (F := Ideal) v159 v177 v182 v183 (ix2 q l)
    = ((∑ k : Fin 64, B ⟨k.val * 8 + q.val, by omega⟩ l * (Y ⟨k.val * 8 + q.val, by omega⟩ l * rn (Y ⟨k.val * 8 + q.val, by omega⟩)) : ℝ) : EReal) := by
  pointwise [k0_pay43, pay40_real Y v159 v182 v183 hY hR, hB]
  simp only [← EReal.coe_mul, sum_coe]

include hB hG in
theorem pay41_real (r : Fin 512) (l : Fin 1024) : k0_pay41 (F := Ideal) v159 v161 v177 v182 v183 (ix2 r l)
    = ((dNorm (Y r) (fun l => B r l * G l) l : ℝ) : EReal) := by
  pointwise [k0_pay41, pay40_real Y v159 v182 v183 hY hR, hB, hG, hR, c1024]
  simp only [← EReal.coe_mul, sum_coe, div_coe (show (1024 : ℝ) ≠ 0 by norm_num), ← EReal.coe_sub]; rfl
end last

end Cert.Kernel3Ideal.Value

end

end
-- ==== Proof.HeadKernel.lean ====
/- The result arrays of the head's layer kernel, as real numbers: what the body leaves at a grid point. -/
module

public import proofs.«01_k».proof.Proof.HeadArgs
public import proofs.«01_k».proof.Proof.HeadPayload
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen Cert.Reals Cert.Rows

variable (m : (ℓ : Loc nD τ sig) → Buf (Elt Ideal) ℓ)

/-- A row of the residual after the mixers, of its norm, of the first product, of the layer's output. -/
def xm (c : Dev nD) (R : Fin 4096) : Fin 1024 → ℝ := addMul (aX m c R) (aM m c R) (aO m c 0)
def hr (c : Dev nD) (R : Fin 4096) : Fin 1024 → ℝ := normed (xm m c R) (aG m c 0)
def ur (c : Dev nD) (R : Fin 4096) : Fin 4096 → ℝ := mulRow (hr m c R) (aU m c 0)
def x2 (c : Dev nD) (R : Fin 4096) : Fin 1024 → ℝ := addMul (xm m c R) (relu2 (ur m c R)) (aD m c 0)

/-- A piece of 512 columns. -/
def col (p : Fin 8) (j : Fin 512) : Fin 4096 := ⟨p.val * 512 + j.val, by omega⟩

/-- A block of eight pieces of 512 columns. -/
theorem canon_cols (f : Fin 512 → Fin 4096 → EReal) (p0 p1 p2 p3 p4 p5 p6 p7 : Vec Ideal S512x512 .bf16)
    (h0 : ∀ r j, p0 (ix2 r j) = f r (col 0 j)) (h1 : ∀ r j, p1 (ix2 r j) = f r (col 1 j)) (h2 : ∀ r j, p2 (ix2 r j) = f r (col 2 j))
    (h3 : ∀ r j, p3 (ix2 r j) = f r (col 3 j)) (h4 : ∀ r j, p4 (ix2 r j) = f r (col 4 j)) (h5 : ∀ r j, p5 (ix2 r j) = f r (col 5 j))
    (h6 : ∀ r j, p6 (ix2 r j) = f r (col 6 j)) (h7 : ∀ r j, p7 (ix2 r j) = f r (col 7 j)) (r : Fin 512) (j : Fin 4096) :
    View.canon (Val := Elt Ideal) (e := .bf16) [⟨Rect.unit ![0, 3584] ![512, 512] inb_S512x4096_S512x512_0_3584, p7⟩, ⟨Rect.unit ![0, 3072] ![512, 512] inb_S512x4096_S512x512_0_3072, p6⟩,
      ⟨Rect.unit ![0, 2560] ![512, 512] inb_S512x4096_S512x512_0_2560, p5⟩, ⟨Rect.unit ![0, 2048] ![512, 512] inb_S512x4096_S512x512_0_2048, p4⟩,
      ⟨Rect.unit ![0, 1536] ![512, 512] inb_S512x4096_S512x512_0_1536, p3⟩, ⟨Rect.unit ![0, 1024] ![512, 512] inb_S512x4096_S512x512_0_1024, p2⟩,
      ⟨Rect.unit ![0, 512] ![512, 512] inb_S512x4096_S512x512_0_512, p1⟩, ⟨Rect.unit ![0, 0] ![512, 512] inb_S512x4096_S512x512_0_0, p0⟩] (ix2 r j) = f r j := by
  refine View.canon_apply_of_pieces (Val := Elt Ideal) (e := .bf16) (fun y : S512x4096.Idx => (f (y 0) (y 1) : EReal)) _ ?_ (ix2 r j) (View.cover_of_tiledL (s := S512x4096) _ ![512, 512] (by sl_kernel_rfl) _)
  intro p hp x
  have key : ∀ (q : Fin 8) (o) (x0 x1 : Fin 512), (Rect.unit (s := S512x4096) ![0, q.val * 512] ![512, 512] o).emb (ix2 x0 x1) = (ix2 x0 (col q x1) : S512x4096.Idx) := fun q o x0 x1 => by
    blk_ext [LoadRect.idx_apply, Rect.off_unit, Rect.stride_unit, col]
  simp only [List.mem_cons, List.not_mem_nil, or_false] at hp
  rcases hp with rfl | rfl | rfl | rfl | rfl | rfl | rfl | rfl
  · idx_vars x; exact (h7 x0 x1).trans (congrArg (fun y : S512x4096.Idx => f (y 0) (y 1)) (key 7 _ x0 x1).symm)
  · idx_vars x; exact (h6 x0 x1).trans (congrArg (fun y : S512x4096.Idx => f (y 0) (y 1)) (key 6 _ x0 x1).symm)
  · idx_vars x; exact (h5 x0 x1).trans (congrArg (fun y : S512x4096.Idx => f (y 0) (y 1)) (key 5 _ x0 x1).symm)
  · idx_vars x; exact (h4 x0 x1).trans (congrArg (fun y : S512x4096.Idx => f (y 0) (y 1)) (key 4 _ x0 x1).symm)
  · idx_vars x; exact (h3 x0 x1).trans (congrArg (fun y : S512x4096.Idx => f (y 0) (y 1)) (key 3 _ x0 x1).symm)
  · idx_vars x; exact (h2 x0 x1).trans (congrArg (fun y : S512x4096.Idx => f (y 0) (y 1)) (key 2 _ x0 x1).symm)
  · idx_vars x; exact (h1 x0 x1).trans (congrArg (fun y : S512x4096.Idx => f (y 0) (y 1)) (key 1 _ x0 x1).symm)
  · idx_vars x; exact (h0 x0 x1).trans (congrArg (fun y : S512x4096.Idx => f (y 0) (y 1)) (key 0 _ x0 x1).symm)

theorem x2_tiles (c : Dev nD) (R : Fin 4096) (l : Fin 1024) :
    x2 m c R l = xm m c R l + ∑ p : Fin 8, ∑ k : Fin 512, relu2 (mulRow (hr m c R) fun k j => aU m c 0 k (col p j)) k * aD m c 0 (col p k) l := by
  unfold x2 addMul
  rw [Fin.sum_univ_tiles 8 512 rfl (fun j : Fin 4096 => relu2 (ur m c R) j * aD m c 0 j l)]
  rfl

section
variable {m} (h : Cert.Pre_Kernel3Ideal_finite3 m) (c : Dev nD) (t : Fin cfg0.N)
include h

theorem up (p : Fin 8) (o : ∀ a, (![0, p.val, 0, 0] : Fin 4 → ℕ) a + (![1, 1, 1024, 512] : Fin 4 → ℕ) a ≤ S1x8x1024x512.size a) (k : Fin 1024) (j : Fin 512) :
    View.ld (iblk m c 4 t) (Rect.unit ![0, p.val, 0, 0] ![1, 1, 1024, 512] o) (ix4 0 0 k j) = ((aU m c 0 k (col p j) : ℝ) : EReal) := by
  refine Eq.trans ?_ (blk4 h c t p k j)
  blk_ext [View.ld, LoadRect.idx_apply, Rect.off_unit, Rect.stride_unit]

theorem down (p : Fin 8) (o : ∀ a, (![0, p.val * 512, 0] : Fin 3 → ℕ) a + (![1, 512, 1024] : Fin 3 → ℕ) a ≤ S1x4096x1024.size a) (k : Fin 512) (l : Fin 1024) :
    View.ld (iblk m c 5 t) (Rect.unit ![0, p.val * 512, 0] ![1, 512, 1024] o) (ix3 0 k l) = ((aD m c 0 (col p k) l : ℝ) : EReal) := by
  refine Eq.trans ?_ (blk5 h c t (col p k) l)
  blk_ext [View.ld, LoadRect.idx_apply, Rect.off_unit, Rect.stride_unit, col]

theorem blkXm (r : Fin 512) (l : Fin 1024) : k0_pay3 (F := Ideal) (iblk m c 0 t) (iblk m c 1 t) (iblk m c 3 t) (ix2 r l) = ((xm m c (row t r) l : ℝ) : EReal) :=
  pay3_real _ _ _ _ _ _ (blk0 h c t) (blk1 h c t) (blk3 h c t) r l

theorem blkH (r : Fin 512) (l : Fin 1024) : k0_pay4 (F := Ideal) (iblk m c 0 t) (iblk m c 1 t) (iblk m c 3 t) (iblk m c 2 t) (ix2 r l) = ((hr m c (row t r) l : ℝ) : EReal) :=
  pay4_real _ _ _ _ _ _ (blkXm h c t) (blk2 h c t) r l

theorem act (p : Fin 8) (o) (r j : Fin 512) :
    k0_pay11 (F := Ideal) (k0_pay4 (iblk m c 0 t) (iblk m c 1 t) (iblk m c 3 t) (iblk m c 2 t)) (View.ld (iblk m c 4 t) (Rect.unit ![0, p.val, 0, 0] ![1, 1, 1024, 512] o)) (ix2 r j)
      = ((relu2 (mulRow (hr m c (row t r)) fun k j => aU m c 0 k (col p j)) j : ℝ) : EReal) :=
  pay11_real _ _ _ _ (blkH h c t) (up h c t p o) r j

/-- What the body leaves at a point, over the layer's output. -/
theorem outs : ∃ (v144 : FVec Ideal S512x1024 .f32) (v145 : Vec Ideal S512x512 .bf16) (v147 : FVec Ideal S512x1024 .bf16)
      (v150 : Vec Ideal S512x512 .bf16) (v151 : Vec Ideal S1x512x1024 .bf16) (v155 : Vec Ideal S512x512 .bf16) (v156 : Vec Ideal S1x512x1024 .bf16),
    (∀ r l, k0_pay33 v144 v145 v147 v150 v151 v155 v156 (ix2 r l) = ((x2 m c (row t r) l : ℝ) : EReal))
    ∧ (outsAt0 m c t.val t.isLt).1 = k0_pay41 (k0_pay33 v144 v145 v147 v150 v151 v155 v156) (k0_pay34 (iblk m c 6 t)) (k0_pay36 v144 v145 v147 v150 v151 v155 v156 (iblk m c 6 t) (iblk m c 7 t))
        (k0_pay37 v144 v145 v147 v150 v151 v155 v156) k0_pay38
    ∧ (outsAt0 m c t.val t.isLt).2.1 = k0_pay3 (iblk m c 0 t) (iblk m c 1 t) (iblk m c 3 t)
    ∧ (outsAt0 m c t.val t.isLt).2.2.2.1 = k0_pay4 (iblk m c 0 t) (iblk m c 1 t) (iblk m c 3 t) (iblk m c 2 t)
    ∧ (outsAt0 m c t.val t.isLt).2.2.2.2.1 = k0_pay42 (k0_pay33 v144 v145 v147 v150 v151 v155 v156) (k0_pay34 (iblk m c 6 t)) (k0_pay36 v144 v145 v147 v150 v151 v155 v156 (iblk m c 6 t) (iblk m c 7 t))
        (k0_pay37 v144 v145 v147 v150 v151 v155 v156) k0_pay38
    ∧ (t.val % 8 = 0 → (outsAt0 m c t.val t.isLt).2.2.2.2.2.1 = k0_pay43 (k0_pay33 v144 v145 v147 v150 v151 v155 v156) (k0_pay36 v144 v145 v147 v150 v151 v155 v156 (iblk m c 6 t) (iblk m c 7 t))
        (k0_pay37 v144 v145 v147 v150 v151 v155 v156) k0_pay38)
    ∧ (t.val % 8 = 0 → (outsAt0 m c t.val t.isLt).2.2.2.2.2.2 = k0_pay1 (k0_pay45 (k0_pay35 v144 v145 v147 v150 v151 v155 v156 (iblk m c 6 t) (iblk m c 7 t))))
    ∧ (¬ t.val % 8 = 0 → (outsAt0 m c t.val t.isLt).2.2.2.2.2.1 = k0_pay44 (k0_pay33 v144 v145 v147 v150 v151 v155 v156) (k0_pay36 v144 v145 v147 v150 v151 v155 v156 (iblk m c 6 t) (iblk m c 7 t))
        (k0_pay37 v144 v145 v147 v150 v151 v155 v156) k0_pay38 (outsAt0 m c (t.val - 1) (Nat.lt_of_le_of_lt (Nat.sub_le _ _) t.isLt)).2.2.2.2.2.1)
    ∧ (¬ t.val % 8 = 0 → (outsAt0 m c t.val t.isLt).2.2.2.2.2.2 = k0_pay2 (k0_pay45 (k0_pay35 v144 v145 v147 v150 v151 v155 v156 (iblk m c 6 t) (iblk m c 7 t)))
        (outsAt0 m c (t.val - 1) (Nat.lt_of_le_of_lt (Nat.sub_le _ _) t.isLt)).2.2.2.2.2.2) := by
  have h8 := t_lt t
  have ha := act h c t
  have hd := down h c t
  by_cases h0 : t.val % 8 = 0
  · have h1 : ¬ 1 ≤ t.val := by omega
    iterate 7 apply Exists.intro
    refine ⟨?_, ?e8, ?e9, ?e11, ?e12, fun _ => ?e13, fun _ => ?e14, fun hn => absurd h0 hn, fun hn => absurd h0 hn⟩
    case e8 => rw [outsAt0_A m c t h0 h1 h0 h1]; frame_open; simp (disch := decide) only [↓ View.readCov_skip, ↓ View.readCov_cons_toLoadRect, ↓ View.readCov_fill]; frame_out; rfl
    case e9 => rw [outsAt0_A m c t h0 h1 h0 h1]; frame_out
    case e11 => rw [outsAt0_A m c t h0 h1 h0 h1]; frame_out
    case e12 => rw [outsAt0_A m c t h0 h1 h0 h1]; frame_open; simp (disch := decide) only [↓ View.readCov_skip, ↓ View.readCov_cons_toLoadRect, ↓ View.readCov_fill]; frame_out
    case e13 => rw [outsAt0_A m c t h0 h1 h0 h1]; frame_open; simp (disch := decide) only [↓ View.readCov_skip, ↓ View.readCov_cons_toLoadRect, ↓ View.readCov_fill]; frame_out
    case e14 => rw [outsAt0_A m c t h0 h1 h0 h1]; frame_open; simp (disch := decide) only [↓ View.readCov_skip, ↓ View.readCov_cons_toLoadRect, ↓ View.readCov_fill]; frame_out
    intro r l
    rw [x2_tiles m c (row t r) l]
    refine pay33_real (fun r => xm m c (row t r)) (fun p r => relu2 (mulRow (hr m c (row t r)) fun k j => aU m c 0 k (col p j))) (fun p k => aD m c 0 (col p k)) _ _ _ _ _ _ _ _ _ _ _ _ _ _ _ _ _ (blkXm h c t)
      (ha 0 _) (hd 0 _) (ha 1 _) (hd 1 _) (ha 2 _) (hd 2 _) (ha 3 _) (hd 3 _) (ha 4 _) (hd 4 _) (ha 5 _) (hd 5 _) (ha 6 _) (hd 6 _) (ha 7 _) (hd 7 _) r l
  · have h1 : 1 ≤ t.val := by omega
    iterate 7 apply Exists.intro
    refine ⟨?_, ?e8, ?e9, ?e11, ?e12, fun hn => absurd hn h0, fun hn => absurd hn h0, fun _ => ?e13, fun _ => ?e14⟩
    case e8 => rw [outsAt0_B m c t h0 h1 h0 h1]; frame_open; simp (disch := decide) only [↓ View.readCov_skip, ↓ View.readCov_cons_toLoadRect, ↓ View.readCov_fill]; frame_out; rfl
    case e9 => rw [outsAt0_B m c t h0 h1 h0 h1]; frame_out
    case e11 => rw [outsAt0_B m c t h0 h1 h0 h1]; frame_out
    case e12 => rw [outsAt0_B m c t h0 h1 h0 h1]; frame_open; simp (disch := decide) only [↓ View.readCov_skip, ↓ View.readCov_cons_toLoadRect, ↓ View.readCov_fill]; frame_out
    case e13 => rw [outsAt0_B m c t h0 h1 h0 h1]; frame_open; simp (disch := decide) only [↓ View.readCov_skip, ↓ View.readCov_cons_toLoadRect, ↓ View.readCov_fill]; frame_out
    case e14 => rw [outsAt0_B m c t h0 h1 h0 h1]; frame_open; simp (disch := decide) only [↓ View.readCov_skip, ↓ View.readCov_cons_toLoadRect, ↓ View.readCov_fill]; frame_out
    intro r l
    rw [x2_tiles m c (row t r) l]
    refine pay33_real (fun r => xm m c (row t r)) (fun p r => relu2 (mulRow (hr m c (row t r)) fun k j => aU m c 0 k (col p j))) (fun p k => aD m c 0 (col p k)) _ _ _ _ _ _ _ _ _ _ _ _ _ _ _ _ _ (blkXm h c t)
      (ha 0 _) (hd 0 _) (ha 1 _) (hd 1 _) (ha 2 _) (hd 2 _) (ha 3 _) (hd 3 _) (ha 4 _) (hd 4 _) (ha 5 _) (hd 5 _) (ha 6 _) (hd 6 _) (ha 7 _) (hd 7 _) r l

/-- The first product, stored in eight pieces. -/
theorem out10 (r : Fin 512) (j : Fin 4096) : (outsAt0 m c t.val t.isLt).2.2.1 (ix2 r j) = ((ur m c (row t r) j : ℝ) : EReal) := by
  have h8 := t_lt t
  have hp := fun p o r j => pay10_real _ _ _ _ (blkH h c t) (up h c t p o) r j
  by_cases h0 : t.val % 8 = 0
  · have h1 : ¬ 1 ≤ t.val := by omega
    rw [outsAt0_A m c t h0 h1 h0 h1]; frame_out
    exact canon_cols (fun r j => ((ur m c (row t r) j : ℝ) : EReal)) _ _ _ _ _ _ _ _ (hp 0 _) (hp 1 _) (hp 2 _) (hp 3 _) (hp 4 _) (hp 5 _) (hp 6 _) (hp 7 _) r j
  · have h1 : 1 ≤ t.val := by omega
    rw [outsAt0_B m c t h0 h1 h0 h1]; frame_out
    exact canon_cols (fun r j => ((ur m c (row t r) j : ℝ) : EReal)) _ _ _ _ _ _ _ _ (hp 0 _) (hp 1 _) (hp 2 _) (hp 3 _) (hp 4 _) (hp 5 _) (hp 6 _) (hp 7 _) r j

theorem out8 (r : Fin 512) (l : Fin 1024) : (outsAt0 m c t.val t.isLt).1 (ix2 r l) = ((dx (x2 m c (row t r)) (aF m c) (aT m c (row t r)) l : ℝ) : EReal) := by
  obtain ⟨v144, v145, v147, v150, v151, v155, v156, hY, e8, _⟩ := outs h c t
  rw [e8]
  exact pay41_real (fun r => x2 m c (row t r)) (fun r => dy (x2 m c (row t r)) (aF m c) (aT m c (row t r))) (aF m c) _ _ _ _ _ hY
    (pay39_real (fun r => x2 m c (row t r)) _ _ _ _ _ _ _ hY)
    (pay36_real (fun r => x2 m c (row t r)) (fun r => aT m c (row t r)) (aF m c) _ _ _ _ _ _ _ _ _ hY (blk6 h c t) (blk7 h c t))
    (fun l => by pointwise [k0_pay34]; exact blk6 h c t l) r l

theorem out12 (r : Fin 512) (l : Fin 1024) : (outsAt0 m c t.val t.isLt).2.2.2.2.1 (ix2 r l) = ((dx (x2 m c (row t r)) (aF m c) (aT m c (row t r)) l : ℝ) : EReal) := by
  have e := out8 h c t r l
  obtain ⟨v144, v145, v147, v150, v151, v155, v156, hY, e8, e9, e11, e12, _⟩ := outs h c t
  rw [e8] at e
  rw [e12]
  pointwise [k0_pay42]
  exact e

theorem out9 (r : Fin 512) (l : Fin 1024) : (outsAt0 m c t.val t.isLt).2.1 (ix2 r l) = ((xm m c (row t r) l : ℝ) : EReal) := by
  obtain ⟨v144, v145, v147, v150, v151, v155, v156, hY, e8, e9, _⟩ := outs h c t
  rw [e9]; exact blkXm h c t r l

theorem out11 (r : Fin 512) (l : Fin 1024) : (outsAt0 m c t.val t.isLt).2.2.2.1 (ix2 r l) = ((hr m c (row t r) l : ℝ) : EReal) := by
  obtain ⟨v144, v145, v147, v150, v151, v155, v156, hY, e8, e9, e11, _⟩ := outs h c t
  rw [e11]; exact blkH h c t r l

end

/-- One row's share of the final gain's gradient, and one point's shares of that gradient and of the loss. -/
def dfRow (c : Dev nD) (R : Fin 4096) (l : Fin 1024) : ℝ := dy (x2 m c R) (aF m c) (aT m c R) l * (x2 m c R l * rn (x2 m c R))
def dfPart (c : Dev nD) (t : Fin cfg0.N) (q : Fin 8) (l : Fin 1024) : ℝ := ∑ k : Fin 64, dfRow m c (row t ⟨k.val * 8 + q.val, by omega⟩) l
def lossR (c : Dev nD) (R : Fin 4096) : ℝ := lossRow (x2 m c R) (aF m c) (aT m c R)
def lossPart (c : Dev nD) (t : Fin cfg0.N) (q : Fin 8) : ℝ := ∑ k : Fin 64, lossR m c (row t ⟨k.val * 8 + q.val, by omega⟩)

section
variable {m} (h : Cert.Pre_Kernel3Ideal_finite3 m) (c : Dev nD) (t : Fin cfg0.N)
include h

theorem out13_zero (q : Fin 8) (l : Fin 1024) (h0 : t.val % 8 = 0) : (outsAt0 m c t.val t.isLt).2.2.2.2.2.1 (ix2 q l) = ((dfPart m c t q l : ℝ) : EReal) := by
  obtain ⟨v144, v145, v147, v150, v151, v155, v156, hY, e8, e9, e11, e12, e13, _⟩ := outs h c t
  rw [e13 h0]
  exact pay43_real (fun r => x2 m c (row t r)) (fun r => dy (x2 m c (row t r)) (aF m c) (aT m c (row t r))) _ _ _ _ hY
    (pay39_real (fun r => x2 m c (row t r)) _ _ _ _ _ _ _ hY)
    (pay36_real (fun r => x2 m c (row t r)) (fun r => aT m c (row t r)) (aF m c) _ _ _ _ _ _ _ _ _ hY (blk6 h c t) (blk7 h c t)) q l

theorem out13_succ (q : Fin 8) (l : Fin 1024) (h0 : ¬ t.val % 8 = 0) : (outsAt0 m c t.val t.isLt).2.2.2.2.2.1 (ix2 q l)
    = (outsAt0 m c (t.val - 1) (Nat.lt_of_le_of_lt (Nat.sub_le _ _) t.isLt)).2.2.2.2.2.1 (ix2 q l) + ((dfPart m c t q l : ℝ) : EReal) := by
  obtain ⟨v144, v145, v147, v150, v151, v155, v156, hY, e8, e9, e11, e12, e13, e14, e13', _⟩ := outs h c t
  rw [e13' h0]
  pointwise [k0_pay44]
  exact congrArg₂ (· + ·) rfl (pay43_real (fun r => x2 m c (row t r)) (fun r => dy (x2 m c (row t r)) (aF m c) (aT m c (row t r))) _ _ _ _ hY
    (pay39_real (fun r => x2 m c (row t r)) _ _ _ _ _ _ _ hY)
    (pay36_real (fun r => x2 m c (row t r)) (fun r => aT m c (row t r)) (aF m c) _ _ _ _ _ _ _ _ _ hY (blk6 h c t) (blk7 h c t)) q l)

theorem out14_zero (q : Fin 8) (j : Fin 128) (h0 : t.val % 8 = 0) : (outsAt0 m c t.val t.isLt).2.2.2.2.2.2 (ix2 q j) = ((lossPart m c t q : ℝ) : EReal) := by
  obtain ⟨v144, v145, v147, v150, v151, v155, v156, hY, e8, e9, e11, e12, e13, e14, _⟩ := outs h c t
  rw [e14 h0]
  exact pay1_real (fun r => x2 m c (row t r)) (fun r => aT m c (row t r)) (aF m c) _ _ _ _ _ _ _ _ _ hY (blk6 h c t) (blk7 h c t) q j

theorem out14_succ (q : Fin 8) (j : Fin 128) (h0 : ¬ t.val % 8 = 0) : (outsAt0 m c t.val t.isLt).2.2.2.2.2.2 (ix2 q j)
    = (outsAt0 m c (t.val - 1) (Nat.lt_of_le_of_lt (Nat.sub_le _ _) t.isLt)).2.2.2.2.2.2 (ix2 q j) + ((lossPart m c t q : ℝ) : EReal) := by
  obtain ⟨v144, v145, v147, v150, v151, v155, v156, hY, e8, e9, e11, e12, e13, e14, e13', e14'⟩ := outs h c t
  rw [e14' h0]
  pointwise [k0_pay2]
  exact congrArg₂ (· + ·) rfl (pay1_real (fun r => x2 m c (row t r)) (fun r => aT m c (row t r)) (aF m c) _ _ _ _ _ _ _ _ _ hY (blk6 h c t) (blk7 h c t) q j)

end

end Cert.Kernel3Ideal.Value

end

end
-- ==== Proof.HeadFinal.lean ====
/- The result arrays of the head's layer kernel at the end of a run. -/
module

public import proofs.«01_k».proof.Proof.HeadKernel
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen Cert.Reals Cert.Rows

variable (m : (ℓ : Loc nD τ sig) → Buf (Elt Ideal) ℓ)

/-- The eight partial rows of eight points together run over the array's rows. -/
theorem sum_rows (f : Fin 4096 → ℝ) : ∑ q : Fin 8, ∑ t : Fin cfg0.N, ∑ k : Fin 64, f (row t ⟨k.val * 8 + q.val, by omega⟩) = ∑ R, f R := by
  rw [Fin.sum_univ_tiles 8 512 rfl f, Finset.sum_comm]
  refine Finset.sum_congr rfl fun t _ => ?_
  rw [Fin.sum_univ_tiles 64 8 rfl (fun r : Fin 512 => f ⟨t.val * 512 + r.val, by have := t_lt t; omega⟩), Finset.sum_comm]
  rfl

section
variable {m} (h : Cert.Pre_Kernel3Ideal_finite3 m) (c : Dev nD)
include h

theorem final8 : (dats m 0 c).arrAt 8 (cfgs 0).N = (fun i : S4096x1024.Idx => ((dx (x2 m c (i 0)) (aF m c) (aT m c (i 0)) (i 1) : ℝ) : EReal)) := by
  refine (dats m 0 c).arrAt_eq_of_covers 8 _ (by decide +kernel) fun t hf y => ?_
  blk_simp
  rw [after0_8]
  idx_vars y
  refine (out8 h c t y0 y1).trans ?_
  have e : (((View.whole main_v13_0).slice (win0_8.rect t)).emb (ix2 y0 y1)) = ix2 (row t y0) y1 := by blk_ext [row, idx_val t]
  rw [e]; rfl

theorem final9 : (dats m 0 c).arrAt 9 (cfgs 0).N = (fun i : S4096x1024.Idx => ((xm m c (i 0) (i 1) : ℝ) : EReal)) := by
  refine (dats m 0 c).arrAt_eq_of_covers 9 _ (by decide +kernel) fun t hf y => ?_
  blk_simp
  rw [after0_9]
  idx_vars y
  refine (out9 h c t y0 y1).trans ?_
  have e : (((View.whole main_v13_1).slice (win0_9.rect t)).emb (ix2 y0 y1)) = ix2 (row t y0) y1 := by blk_ext [row, idx_val t]
  rw [e]; rfl

theorem final10 : (dats m 0 c).arrAt 10 (cfgs 0).N = (fun i : S4096x4096.Idx => ((ur m c (i 0) (i 1) : ℝ) : EReal)) := by
  refine (dats m 0 c).arrAt_eq_of_covers 10 _ (by decide +kernel) fun t hf y => ?_
  blk_simp
  rw [after0_10]
  idx_vars y
  refine (out10 h c t y0 y1).trans ?_
  have e : (((View.whole main_v13_2).slice (win0_10.rect t)).emb (ix2 y0 y1)) = ix2 (row t y0) y1 := by blk_ext [row, idx_val t]
  rw [e]; rfl

theorem final11 : (dats m 0 c).arrAt 11 (cfgs 0).N = (fun i : S4096x1024.Idx => ((hr m c (i 0) (i 1) : ℝ) : EReal)) := by
  refine (dats m 0 c).arrAt_eq_of_covers 11 _ (by decide +kernel) fun t hf y => ?_
  blk_simp
  rw [after0_11]
  idx_vars y
  refine (out11 h c t y0 y1).trans ?_
  have e : (((View.whole main_v13_3).slice (win0_11.rect t)).emb (ix2 y0 y1)) = ix2 (row t y0) y1 := by blk_ext [row, idx_val t]
  rw [e]; rfl

theorem final12 : (dats m 0 c).arrAt 12 (cfgs 0).N = (fun i : S4096x1024.Idx => ((dx (x2 m c (i 0)) (aF m c) (aT m c (i 0)) (i 1) : ℝ) : EReal)) := by
  refine (dats m 0 c).arrAt_eq_of_covers 12 _ (by decide +kernel) fun t hf y => ?_
  blk_simp
  rw [after0_12]
  idx_vars y
  refine (out12 h c t y0 y1).trans ?_
  have e : (((View.whole main_v13_4).slice (win0_12.rect t)).emb (ix2 y0 y1)) = ix2 (row t y0) y1 := by blk_ext [row, idx_val t]
  rw [e]; rfl

theorem final13 : (dats m 0 c).arrAt 13 (cfgs 0).N = (fun i : S8x1024.Idx => ((∑ t : Fin cfg0.N, dfPart m c t (i 0) (i 1) : ℝ) : EReal)) := by
  refine (dats m 0 c).arrAt_eq_of_after_last 13 t0_7 (by decide +kernel) _ fun j => ?_
  blk_simp
  have key := fun j : S8x1024.Idx => Pipeline.eq_sum_fin_of_reset_step_apply_last (fun n hn => (show S8x1024.Idx → EReal from (outsAt0 m c n hn).2.2.2.2.2.1)) 8 (fun _ => 0)
    (fun t i => ((dfPart m c t (i 0) (i 1) : ℝ) : EReal))
    (fun t h0 j => by idx_vars j; exact (out13_zero h c t j0 j1 h0).trans (zero_add _).symm)
    (fun t h0 j => by idx_vars j; exact out13_succ h c t j0 j1 h0)
    (le_of_eq N_0) t0_7 rfl j
  rw [after0_13]
  refine (key j).trans ?_
  rw [zero_add, sum_coe]

theorem final14 : (dats m 0 c).arrAt 14 (cfgs 0).N = (fun i : S8x128.Idx => ((∑ t : Fin cfg0.N, lossPart m c t (i 0) : ℝ) : EReal)) := by
  refine (dats m 0 c).arrAt_eq_of_after_last 14 t0_7 (by decide +kernel) _ fun j => ?_
  blk_simp
  have key := fun j : S8x128.Idx => Pipeline.eq_sum_fin_of_reset_step_apply_last (fun n hn => (show S8x128.Idx → EReal from (outsAt0 m c n hn).2.2.2.2.2.2)) 8 (fun _ => 0)
    (fun t i => ((lossPart m c t (i 0) : ℝ) : EReal))
    (fun t h0 j => by idx_vars j; exact (out14_zero h c t j0 j1 h0).trans (zero_add _).symm)
    (fun t h0 j => by idx_vars j; exact out14_succ h c t j0 j1 h0)
    (le_of_eq N_0) t0_7 rfl j
  rw [after0_14]
  refine (key j).trans ?_
  rw [zero_add, sum_coe]

/-- The host's sum of the eight partial losses. -/
theorem tail16 (i : S_.Idx) :
    (show S_.Idx → EReal from Pipeline.afterTail₀ cfgs (dats m) 0 (V0 m) [hostOps1] c main_v16) i = ((∑ R : Fin 4096, lossR m c R : ℝ) : EReal) := by
  have e : (Pipeline.withArrays (cfgs 0).spec c (V0 m c) (fun w => (dats m 0 c).arrAt w (cfgs 0).N) (Proc.tc.devRef main_v13_6))
      = fun i : S8x128.Idx => ((∑ t : Fin cfg0.N, lossPart m c t (i 0) : ℝ) : EReal) :=
    (Pipeline.withArrays_arr spec0 (by decide) c (V0 m c) (fun w => (dats m 0 c).arrAt w (cfgs 0).N) 14).trans (final14 h c)
  simp only [Pipeline.afterTail₀, List.flatten_cons, List.flatten_nil, List.append_nil]
  after_results
  rw [e]
  pointwise
  rw [sum_coe, ← sum_rows (lossR m c)]; rfl

/-- The host's sum of the eight partial rows of the final gain's gradient. -/
theorem tail17 (l : Fin 1024) :
    (show S1024.Idx → EReal from Pipeline.afterTail₀ cfgs (dats m) 0 (V0 m) [hostOps1] c main_v17) (ix1 l) = ((∑ R : Fin 4096, dfRow m c R l : ℝ) : EReal) := by
  have e : (Pipeline.withArrays (cfgs 0).spec c (V0 m c) (fun w => (dats m 0 c).arrAt w (cfgs 0).N) (Proc.tc.devRef main_v13_5))
      = fun i : S8x1024.Idx => ((∑ t : Fin cfg0.N, dfPart m c t (i 0) (i 1) : ℝ) : EReal) :=
    (Pipeline.withArrays_arr spec0 (by decide) c (V0 m c) (fun w => (dats m 0 c).arrAt w (cfgs 0).N) 13).trans (final13 h c)
  simp only [Pipeline.afterTail₀, List.flatten_cons, List.flatten_nil, List.append_nil]
  after_results
  rw [e]
  pointwise
  rw [sum_coe, ← sum_rows (fun R => dfRow m c R l)]; rfl

end

end Cert.Kernel3Ideal.Value

end

end
-- ==== Proof.HeadRef.lean ====
/- The reference's results for the head's layer, as real numbers. -/
module

public import proofs.«01_k».proof.Proof.Gen.Reference3Ideal.Run
public import proofs.«01_k».proof.Proof.Rows

@[expose] public section

set_option maxRecDepth 16384

noncomputable section

open Idealize.ShloMosaic Idealize.ShloMosaic.TcCoe Idealize.SL.Sem

namespace Cert.Reference3Ideal.Value

open Cert.Reference3Ideal Cert.Reference3Ideal.Gen Cert.Reals Cert.Rows

variable (V0 : Valuation τ sig (Elt Ideal))
  (X M T : Fin 4096 → Fin 1024 → ℝ) (O : Fin 2 → Fin 1024 → Fin 1024 → ℝ) (G : Fin 2 → Fin 1024 → ℝ)
  (U : Fin 2 → Fin 1024 → Fin 4096 → ℝ) (D : Fin 2 → Fin 4096 → Fin 1024 → ℝ) (F : Fin 1024 → ℝ)

/-- A row of the reference's residual, norm, first product and output. -/
def rXm (R : Fin 4096) : Fin 1024 → ℝ := addMul (X R) (M R) (O 0)
def rH (R : Fin 4096) : Fin 1024 → ℝ := normed (rXm X M O R) (G 0)
def rU (R : Fin 4096) : Fin 4096 → ℝ := mulRow (rH X M O G R) (U 0)
def rX2 (R : Fin 4096) : Fin 1024 → ℝ := addMul (rXm X M O R) (relu2 (rU X M O G U R)) (D 0)

section
variable (hX : ∀ r k, V0 (Proc.devRef .tc main_arg0) (ix2 r k) = ((X r k : ℝ) : EReal)) (hM : ∀ r k, V0 (Proc.devRef .tc main_arg1) (ix2 r k) = ((M r k : ℝ) : EReal))
  (hO : ∀ i k l, V0 (Proc.devRef .tc main_arg2) (ix3 i k l) = ((O i k l : ℝ) : EReal))
include hX hM hO

theorem v3_real (r : Fin 4096) (l : Fin 1024) : res_main_v3 V0 (ix2 r l) = ((rXm X M O r l : ℝ) : EReal) := by
  pointwise [res_main_v3, hX, hM, hO]
  simp only [zero_add, ← EReal.coe_mul, sum_coe, ← EReal.coe_add, rXm, addMul]

variable (hG : ∀ i k, V0 (Proc.devRef .tc main_arg3) (ix2 i k) = ((G i k : ℝ) : EReal))
include hG

theorem v18_real (r : Fin 4096) (l : Fin 1024) : res_main_v18 V0 (ix2 r l) = ((rH X M O G r l : ℝ) : EReal) := by
  pointwise [res_main_v18, v3_real V0 X M O hX hM hO, hG]
  simp only [zero_add, ← EReal.coe_mul, sum_coe, cEps, c1024, rn_coe]; rfl

variable (hU : ∀ i k l, V0 (Proc.devRef .tc main_arg4) (ix3 i k l) = ((U i k l : ℝ) : EReal))
include hU

theorem v21_real (r : Fin 4096) (j : Fin 4096) : res_main_v21 V0 (ix2 r j) = ((rU X M O G U r j : ℝ) : EReal) := by
  pointwise [res_main_v21, v18_real V0 X M O G hX hM hO hG, hU]
  simp only [zero_add, ← EReal.coe_mul, sum_coe]; rfl

theorem v22_real (r : Fin 4096) (j : Fin 4096) : res_main_v22 V0 (ix2 r j) = ((max (rU X M O G U r j) 0 : ℝ) : EReal) := by
  pointwise [res_main_v22, v21_real V0 X M O G U hX hM hO hG hU]
  simp only [← EReal.coe_zero, max_coe]

variable (hD : ∀ i k l, V0 (Proc.devRef .tc main_arg5) (ix3 i k l) = ((D i k l : ℝ) : EReal))
include hD

theorem v27_real (r : Fin 4096) (l : Fin 1024) : res_main_v27 V0 (ix2 r l) = ((rX2 X M O G U D r l : ℝ) : EReal) := by
  pointwise [res_main_v27, v3_real V0 X M O hX hM hO, v22_real V0 X M O G U hX hM hO hG hU, hD]
  simp only [zero_add, ← EReal.coe_mul, sum_coe, ← EReal.coe_add]; rfl
end

/-! The steps after the layer's output `Y`. -/
section
variable (Y : Fin 4096 → Fin 1024 → ℝ) (hY : ∀ r l, res_main_v27 V0 (ix2 r l) = ((Y r l : ℝ) : EReal))
  (hF : ∀ l, V0 (Proc.devRef .tc main_arg6) (ix1 l) = ((F l : ℝ) : EReal)) (hT : ∀ r k, V0 (Proc.devRef .tc main_arg7) (ix2 r k) = ((T r k : ℝ) : EReal))
include hY

theorem v34_real (r : Fin 4096) : res_main_v34 V0 (ix2 r 0) = (((∑ k, Y r k * Y r k) / 1024 + eps : ℝ) : EReal) := by
  pointwise [res_main_v34, hY]
  simp only [zero_add, ← EReal.coe_mul, sum_coe, cEps, c1024, div_coe (show (1024 : ℝ) ≠ 0 by norm_num), ← EReal.coe_add]

theorem v35_real (r : Fin 4096) : res_main_v35 V0 (ix2 r 0) = ((rn (Y r) : ℝ) : EReal) := by
  pointwise [res_main_v35, v34_real V0 Y hY]
  exact rsqrt_coe (rn_pos_arg (Y r))

theorem v40_real (r : Fin 4096) (l : Fin 1024) : res_main_v40 V0 (ix2 r l) = ((Y r l * rn (Y r) : ℝ) : EReal) := by
  pointwise [res_main_v40, hY, v35_real V0 Y hY]
  rw [← EReal.coe_mul]

include hF hT
theorem v44_real (r : Fin 4096) (l : Fin 1024) : res_main_v44 V0 (ix2 r l) = ((err (Y r) F (T r) l : ℝ) : EReal) := by
  pointwise [res_main_v44, res_main_v41, v40_real V0 Y hY, hF, hT]
  simp only [← EReal.coe_mul, ← EReal.coe_sub]; rfl

theorem v58_real (r : Fin 4096) (l : Fin 1024) : res_main_v58 V0 (ix2 r l) = ((dy (Y r) F (T r) l : ℝ) : EReal) := by
  pointwise [res_main_v58, v44_real V0 T F Y hY hF hT, cHalf, c1, c2, c1024]
  simp only [← EReal.coe_mul, div_coe (show (1024 : ℝ) ≠ 0 by norm_num)]
  exact congrArg _ (by unfold dy; ring)

theorem v63_real (r : Fin 4096) (l : Fin 1024) : res_main_v63 V0 (ix2 r l) = ((dy (Y r) F (T r) l * F l : ℝ) : EReal) := by
  pointwise [res_main_v63, res_main_v41, v58_real V0 T F Y hY hF hT, hF]
  rw [← EReal.coe_mul]

theorem v74_real (r : Fin 4096) (l : Fin 1024) : res_main_v74 V0 (ix2 r l)
    = (((∑ i, Y r i * (dy (Y r) F (T r) i * F i)) * (-(1 / 2) * (rn (Y r) / ((∑ k, Y r k * Y r k) / 1024 + eps))) / 1024 : ℝ) : EReal) := by
  pointwise [res_main_v74, hY, v63_real V0 T F Y hY hF hT, cNegHalf, c1024]
  simp only [zero_add, ← EReal.coe_mul, sum_coe, Fin.sum_univ_one, v35_real V0 Y hY, v34_real V0 Y hY, div_coe (show (1024 : ℝ) ≠ 0 by norm_num), div_coe (rn_pos_arg (Y r)).ne']

/-- The gradient of the layer's output. -/
theorem dx_real (r : Fin 4096) (l : Fin 1024) :
    addf (addf (mulf (res_main_v63 V0) (broadcastInDim S4096x1024 ![0, 1] bcast_S4096x1_S4096x1024_0_1 (res_main_v35 V0))) (mulf (res_main_v27 V0) (res_main_v74 V0))) (mulf (res_main_v74 V0) (res_main_v27 V0)) (ix2 r l)
      = ((dx (Y r) F (T r) l : ℝ) : EReal) := by
  pointwise [hY, v63_real V0 T F Y hY hF hT, v35_real V0 Y hY, v74_real V0 T F Y hY hF hT]
  simp only [← EReal.coe_mul, ← EReal.coe_add]
  refine congrArg _ ?_
  have e := rms_bwd (Y r) (fun l => dy (Y r) F (T r) l * F l) l 0 1024 (rn_pos_arg (Y r))
  rw [zero_add, zero_add] at e
  exact e

/-- The gradient of the final gain. -/
theorem df_real (l : Fin 1024) :
    Host.reduceAdd (shapeCast S1x1024 (Host.reduceAdd (mulf (res_main_v40 V0) (res_main_v58 V0)) (constant S_ .f32 0x00000000#32) reducesTo_S4096x1024_S1024_d0 h_S_) shapeCasts_S1024_S1x1024) (constant S_ .f32 0x00000000#32) reducesTo_S1x1024_S1024_d0 h_S_ (ix1 l)
      = ((∑ R, dy (Y R) F (T R) l * (Y R l * rn (Y R)) : ℝ) : EReal) := by
  pointwise [v40_real V0 Y hY, v58_real V0 T F Y hY hF hT]
  simp only [zero_add, ← EReal.coe_mul, sum_coe, Fin.sum_univ_one]
  exact congrArg _ (Finset.sum_congr rfl fun i _ => by ring)

/-- The loss. -/
theorem loss_real (i : S_.Idx) :
    mulf (constant S_ .f32 0x3F000000#32) (Host.reduceAdd (Host.divf (Host.reduceAdd (mulf (res_main_v44 V0) (res_main_v44 V0)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_) i
      = ((∑ R, lossRow (Y R) F (T R) : ℝ) : EReal) := by
  pointwise [v44_real V0 T F Y hY hF hT, cHalf, c1024]
  simp only [zero_add, ← EReal.coe_mul, sum_coe, div_coe (show (1024 : ℝ) ≠ 0 by norm_num)]
  exact congrArg _ (by simp only [lossRow, Finset.mul_sum])
end

end Cert.Reference3Ideal.Value

end

end
-- ==== Proof.HeadClaim.lean ====
/- The head's layer: kernel and reference agree over the reals. -/
module

public import proofs.«01_k».proof.Proof.HeadFinal
public import proofs.«01_k».proof.Proof.HeadRef
public import Idealize.ShloMosaic.Lib.Claim

@[expose] public section

set_option maxRecDepth 16384

noncomputable section

namespace Cert.Proof

open Idealize.ShloMosaic Idealize.SL.Sem
open Cert.Kernel3Ideal.Value

set_option maxHeartbeats 2000000 in
theorem algebraic3 : Cert.algebraic_Kernel3Ideal_Reference3Ideal_pre_finite3 := by
  pair_intro
  · run_from Cert.Kernel3Ideal.Gen.run_main m g
    · exact Cert.Kernel3Ideal.Gen.W_main_arg1 m _ c
    · exact Cert.Kernel3Ideal.Gen.W_main_arg2 m _ c
    · exact Cert.Kernel3Ideal.Gen.W_main_arg3 m _ c
    · exact Cert.Kernel3Ideal.Gen.W_main_arg4 m _ c
    · exact Cert.Kernel3Ideal.Gen.W_main_arg5 m _ c
    · exact Cert.Kernel3Ideal.Gen.W_main_arg6 m _ c
  · refine θ_run_mono (Cert.Reference3Ideal.Value.run m' g') ?_
    intro r hr c
    obtain ⟨hl, hdx, hdb, hdf, hx, hu, hh, hargs⟩ := hr c
    obtain ⟨g0, g1, g2, g3, g4, g5, g6, g7⟩ := hagree c
    have hX := fun r k => (congrFun g0 (ix2 r k)).trans (arg0_real hpre c r k)
    have hM := fun r k => (congrFun g1 (ix2 r k)).trans (arg1_real hpre c r k)
    have hO := fun i k l => (congrFun g2 (ix3 i k l)).trans (arg2_real hpre c i k l)
    have hG := fun i k => (congrFun g3 (ix2 i k)).trans (arg3_real hpre c i k)
    have hU := fun i k l => (congrFun g4 (ix3 i k l)).trans (arg4_real hpre c i k l)
    have hD := fun i k l => (congrFun g5 (ix3 i k l)).trans (arg5_real hpre c i k l)
    have hF := fun k => (congrFun g6 (ix1 k)).trans (arg6_real hpre c k)
    have hT := fun r k => (congrFun g7 (ix2 r k)).trans (arg7_real hpre c r k)
    have hY := Cert.Reference3Ideal.Value.v27_real (Idealize.ShloMosaic.StableHlo.launchContents m' c) _ _ _ _ _ _ hX hM hO hG hU hD
    refine ⟨hl.trans ?_, hdx.trans ?_, hdb.trans ?_, hdf.trans ?_, hx.trans ?_, hu.trans ?_, hh.trans ?_, hargs⟩
    · funext j
      exact (Cert.Reference3Ideal.Value.loss_real _ _ _ _ hY hF hT j).trans (tail16 hpre c j).symm
    · refine Eq.trans ?_ (final8 hpre c).symm
      funext j; idx_vars j
      exact Cert.Reference3Ideal.Value.dx_real _ _ _ _ hY hF hT j0 j1
    · refine Eq.trans ?_ (final12 hpre c).symm
      funext j; idx_vars j
      exact Cert.Reference3Ideal.Value.dx_real _ _ _ _ hY hF hT j0 j1
    · funext j; idx_vars j
      exact (Cert.Reference3Ideal.Value.df_real _ _ _ _ hY hF hT j0).trans (tail17 hpre c j0).symm
    · refine Eq.trans ?_ (final9 hpre c).symm
      funext j; idx_vars j
      exact Cert.Reference3Ideal.Value.v3_real _ _ _ _ hX hM hO j0 j1
    · refine Eq.trans ?_ (final10 hpre c).symm
      funext j; idx_vars j
      exact Cert.Reference3Ideal.Value.v21_real _ _ _ _ _ _ hX hM hO hG hU j0 j1
    · refine Eq.trans ?_ (final11 hpre c).symm
      funext j; idx_vars j
      exact Cert.Reference3Ideal.Value.v18_real _ _ _ _ _ hX hM hO hG j0 j1

end Cert.Proof

end

end
-- ==== Proof.LbRef.lean ====
/- The reference's lower bounds and the gradient of their logits, over the reals. -/
module

public import proofs.«01_k».proof.Defs
public import proofs.«01_k».proof.Proof.Gen.Reference4Ideal.Run
public import proofs.«01_k».proof.Proof.Reals
public import Idealize.ShloMosaic.Lib.Claim

@[expose] public section

set_option maxRecDepth 16384

noncomputable section

open Idealize.ShloMosaic Idealize.ShloMosaic.TcCoe Idealize.SL.Sem

namespace Cert.Reference4Ideal.Value

open Cert.Reference4Ideal Cert.Reference4Ideal.Gen Cert.Reals

/-- The exponentials of the logits less their column's largest. -/
def refE (x : FVec Ideal S2x512 .f32) : FVec Ideal S2x512 .f32 :=
  (Host.exp (subf x (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf x (constant S_ .f32 0xFF800000#32) reducesTo_S2x512_S512_d0 h_S_))))))

/-- The columns' sums. -/
def refS (e : FVec Ideal S2x512 .f32) : FVec Ideal S512 .f32 :=
  (Host.reduceAdd e (constant S_ .f32 0x00000000#32) reducesTo_S2x512_S512_d0 h_S_)

/-- The lower bounds from exponentials and sums. -/
def lbOf (e : FVec Ideal S2x512 .f32) (s : FVec Ideal S512 .f32) : FVec Ideal S2x512 .f32 :=
  subf (Host.reduceWindowAdd ![2, 1] ![1, 1] ![1, 0] ![0, 0] (Host.divf e (broadcastInDim S2x512 ![0, 1] bcast_S1x512_S2x512_0_1 (broadcastInDim S1x512 ![1] bcast_S512_S1x512_1 s))) (broadcastInDim S_ ![] bcast_S_S_ (constant S_ .f32 0x00000000#32)) reduceWindows_S2x512_S2x512_w2s1p1_0_w1s1p0_0 h_S_) (broadcastInDim S2x512 ![0, 1] bcast_S1x512_S2x512_0_1 (broadcastInDim S1x512 ![1] bcast_S512_S1x512_1 (shapeCast _ (extractStridedSlice S1x512 ![0, 0] (Host.divf e (broadcastInDim S2x512 ![0, 1] bcast_S1x512_S2x512_0_1 (broadcastInDim S1x512 ![1] bcast_S512_S1x512_1 s))) slices_S2x512_S1x512_0_0) shapeCasts_S1x512_S512)))

/-- The softmax's cotangent: back through the running sum and the first row's subtraction. -/
def refD (y : FVec Ideal S2x512 .f32) : FVec Ideal S2x512 .f32 :=
  (addf (pad S2x512 ![0, 0] ![1, 0] ![0, 0] (broadcastInDim S1x512 ![1] bcast_S512_S1x512_1 (Host.reduceAdd (shapeCast _ (Host.reduceAdd (Host.negf y) (constant S_ .f32 0x00000000#32) reducesTo_S2x512_S512_d0 h_S_) shapeCasts_S512_S1x512) (constant S_ .f32 0x00000000#32) reducesTo_S1x512_S512_d0 h_S_)) (constant S_ .f32 0x00000000#32) pads_S1x512_S2x512_010_000 h_S_) (Host.reduceWindowAdd ![2, 1] ![1, 1] ![0, 0] ![1, 0] (shapeCast _ y shapeCasts_S2x512_S2x512) (broadcastInDim S_ ![] bcast_S_S_ (constant S_ .f32 0x00000000#32)) reduceWindows_S2x512_S2x512_w2s1p0_1_w1s1p0_0 h_S_))

/-- The gradient of the logits from exponentials, sums and the softmax's cotangent. -/
def jacOf (e : FVec Ideal S2x512 .f32) (s : FVec Ideal S512 .f32) (d : FVec Ideal S2x512 .f32) : FVec Ideal S2x512 .f32 :=
  mulf (addf (Host.divf d (broadcastInDim S2x512 ![0, 1] bcast_S1x512_S2x512_0_1 (broadcastInDim S1x512 ![1] bcast_S512_S1x512_1 s))) (broadcastInDim S2x512 ![1] bcast_S512_S2x512_1 (Host.reduceAdd (Host.negf (shapeCast _ (Host.reduceAdd (mulf (mulf d (broadcastInDim S2x512 ![0, 1] bcast_S1x512_S2x512_0_1 (Host.divf (broadcastInDim S1x512 ![] bcast_S_S1x512 (constant S_ .f32 0x3F800000#32)) (mulf (broadcastInDim S1x512 ![1] bcast_S512_S1x512_1 s) (broadcastInDim S1x512 ![1] bcast_S512_S1x512_1 s))))) e) (constant S_ .f32 0x00000000#32) reducesTo_S2x512_S512_d0 h_S_) shapeCasts_S512_S1x512)) (constant S_ .f32 0x00000000#32) reducesTo_S1x512_S512_d0 h_S_))) e

/-- The positions of a window of two rows and one column, in order. -/
theorem win_list : List.finRange (⟨2, ![2, 1]⟩ : Shape).numel = [⟨0, by decide⟩, ⟨1, by decide⟩] := by decide
theorem win_0 : (⟨2, ![2, 1]⟩ : Shape).rowMajor.symm ⟨0, by decide⟩ = ix2 0 0 := by decide
theorem win_1 : (⟨2, ![2, 1]⟩ : Shape).rowMajor.symm ⟨1, by decide⟩ = ix2 1 0 := by decide

/-- The sum over a window of two rows that starts one row above: the row before and the row itself. -/
theorem cum_row (x : FVec Ideal S2x512 .f32) (v : FVec Ideal S_ .f32) (h) (hu) (i : Fin 2) (j : Fin 512) :
    Host.reduceWindowAdd (F := Ideal) ![2, 1] ![1, 1] ![1, 0] ![0, 0] x v h hu (ix2 i j)
      = if i = 0 then (v (Shape.Idx.first hu) + v (Shape.Idx.first hu)) + x (ix2 0 j)
        else (v (Shape.Idx.first hu) + x (ix2 0 j)) + x (ix2 1 j) := by
  change Host.reduceWindow (· + ·) ![2, 1] ![1, 1] ![1, 0] ![0, 0] x (fun _ : (⟨0, ![]⟩ : Shape).Idx => v (Shape.Idx.first hu)) h (by decide) (ix2 i j) = _
  unfold Host.reduceWindow
  simp only [win_list, List.foldl_cons, List.foldl_nil, win_0, win_1]
  fin_cases i
  · rw [dif_neg (fun H => absurd (H 0).1 (by simp [ix2])), dif_pos (by intro a; fin_cases a <;> simp [ix2])]
    refine congrArg (fun z => _ + x z) (funext fun a => ?_)
    fin_cases a <;> simp [ix2]
  · rw [dif_pos (by intro a; fin_cases a <;> simp [ix2]), dif_pos (by intro a; fin_cases a <;> simp [ix2])]
    refine congrArg₂ (fun y z => _ + x y + x z) (funext fun a => ?_) (funext fun a => ?_)
    all_goals fin_cases a <;> simp [ix2]

/-- The sum over a window of two rows that starts at the row: the row itself and the row behind. -/
theorem rev_row (x : FVec Ideal S2x512 .f32) (v : FVec Ideal S_ .f32) (h) (hu) (i : Fin 2) (j : Fin 512) :
    Host.reduceWindowAdd (F := Ideal) ![2, 1] ![1, 1] ![0, 0] ![1, 0] x v h hu (ix2 i j)
      = if i = 0 then (v (Shape.Idx.first hu) + x (ix2 0 j)) + x (ix2 1 j)
        else (v (Shape.Idx.first hu) + x (ix2 1 j)) + v (Shape.Idx.first hu) := by
  change Host.reduceWindow (· + ·) ![2, 1] ![1, 1] ![0, 0] ![1, 0] x (fun _ : (⟨0, ![]⟩ : Shape).Idx => v (Shape.Idx.first hu)) h (by decide) (ix2 i j) = _
  unfold Host.reduceWindow
  simp only [win_list, List.foldl_cons, List.foldl_nil, win_0, win_1]
  fin_cases i
  · rw [dif_pos (by intro a; fin_cases a <;> simp [ix2]), dif_pos (by intro a; fin_cases a <;> simp [ix2])]
    refine congrArg₂ (fun y z => _ + x y + x z) (funext fun a => ?_) (funext fun a => ?_)
    all_goals fin_cases a <;> simp [ix2]
  · rw [dif_pos (by intro a; fin_cases a <;> simp [ix2]), dif_neg (fun H => absurd (H 0).2 (by simp [ix2]))]
    refine congrArg (fun z => _ + x z + _) (funext fun a => ?_)
    fin_cases a <;> simp [ix2]

/-- The largest of a column's two logits, from the format's negative infinity. -/
theorem col_max (X : Fin 2 → Fin 512 → ℝ) (j : Fin 512) :
    max (Ideal.ofBits .f32 0xFF800000#32 : EReal) (Finset.fold max (Ideal.ofBits .f32 0xFF800000#32 : EReal) (fun x => ((X x j : ℝ) : EReal)) Finset.univ)
      = ((max (X 0 j) (X 1 j) : ℝ) : EReal) := by
  rw [show (Ideal.ofBits .f32 0xFF800000#32 : EReal) = ⊥ by simp [Ideal.ofBits, Ideal.ieee]]
  rw [show (Finset.univ : Finset (Fin 2)) = {0, 1} from rfl, Finset.fold_insert (by decide), Finset.fold_singleton]
  simp [EReal.coe_strictMono.monotone.map_max]

/-- The exponential of a logit less the column's largest, and the weight it has in the column. -/
def ex (X : Fin 2 → Fin 512 → ℝ) (i : Fin 2) (j : Fin 512) : ℝ := Real.exp (X i j - max (X 0 j) (X 1 j))
def wt (X : Fin 2 → Fin 512 → ℝ) (i : Fin 2) (j : Fin 512) : ℝ := ex X i j / (ex X 0 j + ex X 1 j)

theorem ex_pos (X : Fin 2 → Fin 512 → ℝ) (j : Fin 512) : ex X 0 j + ex X 1 j ≠ 0 :=
  (add_pos (Real.exp_pos _) (Real.exp_pos _)).ne'

section lower_bounds

variable (x y e d : FVec Ideal S2x512 .f32) (s : FVec Ideal S512 .f32) (X Y : Fin 2 → Fin 512 → ℝ)

theorem refE_real (hX : ∀ i j, x (ix2 i j) = ((X i j : ℝ) : EReal)) (i : Fin 2) (j : Fin 512) :
    refE x (ix2 i j) = ((ex X i j : ℝ) : EReal) := by
  unfold refE
  pointwise [hX]
  rw [col_max, ← EReal.coe_sub, exp_coe]
  rfl

theorem refS_real (hE : ∀ i j, e (ix2 i j) = ((ex X i j : ℝ) : EReal)) (j : Fin 512) :
    refS e (ix1 j) = ((ex X 0 j + ex X 1 j : ℝ) : EReal) := by
  unfold refS
  pointwise [hE]
  simp only [sum_coe, Fin.sum_univ_two]

theorem refD_real (hY : ∀ i j, y (ix2 i j) = ((Y i j : ℝ) : EReal)) (i : Fin 2) (j : Fin 512) :
    refD y (ix2 i j) = ((if i = 0 then 0 else Y 1 j : ℝ) : EReal) := by
  unfold refD
  fin_cases i
  · pointwise [rev_row, hY]
    simp only [← EReal.coe_neg, ← EReal.coe_add, sum_coe, Fin.sum_univ_one, Fin.sum_univ_two]
    refine congrArg _ ?_
    show -Y 0 j + -Y 1 j + (Y 0 j + Y 1 j) = 0
    ring
  · pointwise [rev_row, hY]

theorem lbOf_real (hE : ∀ i j, e (ix2 i j) = ((ex X i j : ℝ) : EReal))
    (hS : ∀ j, s (ix1 j) = ((ex X 0 j + ex X 1 j : ℝ) : EReal)) (i : Fin 2) (j : Fin 512) :
    lbOf e s (ix2 i j) = ((if i = 0 then 0 else wt X 1 j : ℝ) : EReal) := by
  have hs := ex_pos X j
  unfold lbOf
  fin_cases i
  · pointwise [cum_row, hE, hS]
    rw [div_coe hs, ← EReal.coe_sub]
    simp
  · pointwise [cum_row, hE, hS]
    rw [div_coe hs, div_coe hs, ← EReal.coe_add, ← EReal.coe_sub]
    simp [wt]

theorem jacOf_real (hE : ∀ i j, e (ix2 i j) = ((ex X i j : ℝ) : EReal))
    (hS : ∀ j, s (ix1 j) = ((ex X 0 j + ex X 1 j : ℝ) : EReal))
    (hD : ∀ i j, d (ix2 i j) = ((if i = 0 then 0 else Y 1 j : ℝ) : EReal)) (i : Fin 2) (j : Fin 512) :
    jacOf e s d (ix2 i j) = (((if i = 0 then -1 else 1) * (wt X 0 j * wt X 1 j) * Y 1 j : ℝ) : EReal) := by
  have hs := ex_pos X j
  unfold jacOf
  pointwise [hE, hS, hD]
  rw [← EReal.coe_mul, show (1 : EReal) = ((1 : ℝ) : EReal) from rfl, div_coe hs, div_coe (mul_ne_zero hs hs)]
  simp only [← EReal.coe_neg, ← EReal.coe_add, ← EReal.coe_mul, sum_coe, Fin.sum_univ_one, Fin.sum_univ_two]
  norm_cast
  fin_cases i
  · simp [wt]; field_simp
  · simp [wt]; field_simp; ring

end lower_bounds

/-- The reference's two results over the reals. -/
theorem lb_real (x : FVec Ideal S2x512 .f32) (X : Fin 2 → Fin 512 → ℝ) (hX : ∀ i j, x (ix2 i j) = ((X i j : ℝ) : EReal)) (i : Fin 2) (j : Fin 512) :
    lbOf (refE x) (refS (refE x)) (ix2 i j) = ((if i = 0 then 0 else wt X 1 j : ℝ) : EReal) :=
  lbOf_real _ _ X (refE_real x X hX) (refS_real _ X (refE_real x X hX)) i j

theorem jac_real (m : (ℓ : Loc nD τ sig) → Buf (Elt Ideal) ℓ) (c : Dev nD) (X Y : Fin 2 → Fin 512 → ℝ)
    (hX : ∀ i j, m ((c.tc : Thread nD τ).loc main_arg0) (ix2 i j) = ((X i j : ℝ) : EReal))
    (hY : ∀ i j, m ((c.tc : Thread nD τ).loc main_arg1) (ix2 i j) = ((Y i j : ℝ) : EReal)) (i : Fin 2) (j : Fin 512) :
    res_main_v54 m c (ix2 i j) = (((if i = 0 then -1 else 1) * (wt X 0 j * wt X 1 j) * Y 1 j : ℝ) : EReal) :=
  jacOf_real _ _ _ X Y (refE_real _ X hX) (refS_real _ X (refE_real _ X hX)) (refD_real _ Y hY) i j

/-- The reference's run with its first result named. -/
theorem run_lb (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33) = lbOf (refE (m ((c.tc : Thread nD τ).loc main_arg0))) (refS (refE (m ((c.tc : Thread nD τ).loc main_arg0))))
      ∧ r.2.mem ((c.tc : Thread nD τ).loc main_v54) = res_main_v54 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

end Cert.Reference4Ideal.Value

end

end
-- ==== Proof.LbKernel.lean ====
/- The lower bounds' kernel: what its two arrays hold, as real numbers. -/
module

public import proofs.«01_k».proof.Defs
public import proofs.«01_k».proof.Proof.Gen.Kernel4Ideal.Frame
public import proofs.«01_k».proof.Proof.Gen.Pre_finite4
public import proofs.«01_k».proof.Proof.LbRef
public import proofs.«01_k».proof.Proof.Reals
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen Cert.Reals
open Cert.Reference4Ideal.Value (ex wt ex_pos)

section payloads

variable (a b : Vec Ideal S1x512 .f32) (X : Fin 2 → Fin 512 → ℝ)
  (ha : ∀ i j, a (ix2 i j) = ((X 0 j : ℝ) : EReal)) (hb : ∀ i j, b (ix2 i j) = ((X 1 j : ℝ) : EReal))
include ha hb

theorem pay2_real (i : Fin 1) (j : Fin 512) : k0_pay2 a b (ix2 i j) = ((ex X 0 j : ℝ) : EReal) := by
  pointwise [k0_pay2, k0_pay1, ha, hb]
  rw [← EReal.coe_strictMono.monotone.map_max, ← EReal.coe_sub, exp_coe]; rfl

theorem pay3_real (i : Fin 1) (j : Fin 512) : k0_pay3 a b (ix2 i j) = ((ex X 1 j : ℝ) : EReal) := by
  pointwise [k0_pay3, k0_pay1, ha, hb]
  rw [← EReal.coe_strictMono.monotone.map_max, ← EReal.coe_sub, exp_coe]; rfl

theorem pay4_real (i : Fin 1) (j : Fin 512) : k0_pay4 a b (ix2 i j) = ((wt X 0 j : ℝ) : EReal) := by
  pointwise [k0_pay4, pay2_real a b X ha hb, pay3_real a b X ha hb]
  rw [← EReal.coe_add, div_coe (ex_pos X j)]; rfl

theorem pay5_real (i : Fin 1) (j : Fin 512) : k0_pay5 a b (ix2 i j) = ((wt X 1 j : ℝ) : EReal) := by
  pointwise [k0_pay5, pay2_real a b X ha hb, pay3_real a b X ha hb]
  rw [← EReal.coe_add, div_coe (ex_pos X j)]; rfl

theorem pay6_real (i : Fin 1) (j : Fin 512) : k0_pay6 a b (ix2 i j) = ((0 : ℝ) : EReal) := by
  pointwise [k0_pay6, pay4_real a b X ha hb]
  rw [← EReal.coe_sub, sub_self]

theorem pay7_real (i : Fin 1) (j : Fin 512) : k0_pay7 a b (ix2 i j) = ((wt X 1 j : ℝ) : EReal) := by
  pointwise [k0_pay7, pay4_real a b X ha hb, pay5_real a b X ha hb]
  rw [← EReal.coe_add, ← EReal.coe_sub, add_sub_cancel_left]

theorem pay8_real (i : Fin 1) (j : Fin 512) : k0_pay8 a b (ix2 i j) = ((-1 * (wt X 0 j * wt X 1 j) : ℝ) : EReal) := by
  pointwise [k0_pay8, pay4_real a b X ha hb, pay5_real a b X ha hb]
  rw [zero_sub, ← EReal.coe_neg, ← EReal.coe_mul]; exact congrArg _ (by ring)

theorem pay9_real (i : Fin 1) (j : Fin 512) : k0_pay9 a b (ix2 i j) = ((wt X 0 j * wt X 1 j : ℝ) : EReal) := by
  pointwise [k0_pay9, pay4_real a b X ha hb, pay5_real a b X ha hb]
  exact (EReal.coe_mul _ _).symm

end payloads

theorem idx_val : ∀ t : Fin cfg0.N, win0_0.index t = ![0, 0] ∧ win0_1.index t = ![0, 0] ∧ win0_2.index t = ![0, 0] :=
  (by decide +kernel : ∀ t : Fin grid0.N, _)

/-- A two-row array stored as its second row after its first. -/
theorem canon_rows (p0 p1 : Vec Ideal S1x512 .f32) (f : Fin 2 → Fin 512 → EReal)
    (h0 : ∀ j, p0 (ix2 0 j) = f 0 j) (h1 : ∀ j, p1 (ix2 0 j) = f 1 j) (i : Fin 2) (j : Fin 512) :
    View.canon (Val := Elt Ideal) (e := .f32) [⟨r0_1, p1⟩, ⟨r0_0, p0⟩] (ix2 i j) = f i j := by
  refine View.canon_apply_of_pieces (Val := Elt Ideal) (e := .f32) (fun y : S2x512.Idx => (f (y 0) (y 1) : EReal)) _ ?_ (ix2 i j) (cover0_1 p1 p0 _)
  intro p hp x
  simp only [List.mem_cons, List.not_mem_nil, or_false] at hp
  rcases hp with rfl | rfl
  · idx_vars x
    have e0 : r0_1.emb (ix2 x0 x1) = (ix2 1 x1 : S2x512.Idx) := by blk_ext [LoadRect.idx_apply, r0_0, r0_1, Rect.off_unit, Rect.stride_unit]
    rw [e0]
    exact (congrArg (fun z => p1 (ix2 z x1)) (Subsingleton.elim x0 0)).trans (h1 x1)
  · idx_vars x
    have e0 : r0_0.emb (ix2 x0 x1) = (ix2 0 x1 : S2x512.Idx) := by blk_ext [LoadRect.idx_apply, r0_0, r0_1, Rect.off_unit, Rect.stride_unit]
    rw [e0]
    exact (congrArg (fun z => p0 (ix2 z x1)) (Subsingleton.elim x0 0)).trans (h0 x1)

/-- The rows of the two arrays: the lower bounds, and the second bound's derivative by the two logits. -/
def lbRow (X : Fin 2 → Fin 512 → ℝ) (i : Fin 2) (j : Fin 512) : ℝ := if i = 0 then 0 else wt X 1 j
def jacRow (X : Fin 2 → Fin 512 → ℝ) (i : Fin 2) (j : Fin 512) : ℝ := (if i = 0 then -1 else 1) * (wt X 0 j * wt X 1 j)

variable (m : (ℓ : Loc nD τ sig) → Buf (Elt Ideal) ℓ)

/-- The logits and the cotangent as real numbers. -/
def aL (c : Dev nD) (i : Fin 2) (j : Fin 512) : ℝ := EReal.toReal (show EReal from m ((c : Thread nD τ).loc main_arg0) (ix2 i j))
def aC (c : Dev nD) (i : Fin 2) (j : Fin 512) : ℝ := EReal.toReal (show EReal from m ((c : Thread nD τ).loc main_arg1) (ix2 i j))

section
variable {m} (h : Cert.Pre_Kernel4Ideal_finite4 m) (c : Dev nD)
include h

theorem arg0_real (i : Fin 2) (j : Fin 512) : m ((c : Thread nD τ).loc main_arg0) (ix2 i j) = ((aL m c i j : ℝ) : EReal) := by
  have e := congrFun (h c).1 (ix2 i j)
  pointwise [Cert.Pre_finite4.fn] at e
  exact of_word e

theorem arg1_real (i : Fin 2) (j : Fin 512) : m ((c : Thread nD τ).loc main_arg1) (ix2 i j) = ((aC m c i j : ℝ) : EReal) := by
  have e := congrFun (h c).2 (ix2 i j)
  pointwise [Cert.Pre_finite4.fn] at e
  exact of_word e

theorem blk0 (t : Fin cfg0.N) (i : Fin 2) (j : Fin 512) : iblk m c 0 t (ix2 i j) = ((aL m c i j : ℝ) : EReal) := by
  refine Eq.trans ?_ (arg0_real h c i j)
  blk_ext [iblk, V, (idx_val t).1]

theorem ld0 (t : Fin cfg0.N) (i : Fin 1) (j : Fin 512) : View.ld (iblk m c 0 t) r0_0 (ix2 i j) = ((aL m c 0 j : ℝ) : EReal) := by
  refine Eq.trans ?_ (blk0 h c t 0 j)
  blk_ext [View.ld, LoadRect.idx_apply, r0_0, r0_1, Rect.off_unit, Rect.stride_unit]

theorem ld1 (t : Fin cfg0.N) (i : Fin 1) (j : Fin 512) : View.ld (iblk m c 0 t) r0_1 (ix2 i j) = ((aL m c 1 j : ℝ) : EReal) := by
  refine Eq.trans ?_ (blk0 h c t 1 j)
  blk_ext [View.ld, LoadRect.idx_apply, r0_0, r0_1, Rect.off_unit, Rect.stride_unit]

theorem out1 (t : Fin cfg0.N) (i : Fin 2) (j : Fin 512) : out0_1 (iblk m c 0 t) (ix2 i j) = ((lbRow (aL m c) i j : ℝ) : EReal) := by
  unfold out0_1
  exact canon_rows _ _ (fun i j => ((lbRow (aL m c) i j : ℝ) : EReal)) (pay6_real _ _ _ (ld0 h c t) (ld1 h c t) 0) (pay7_real _ _ _ (ld0 h c t) (ld1 h c t) 0) i j

theorem out2 (t : Fin cfg0.N) (i : Fin 2) (j : Fin 512) : out0_2 (iblk m c 0 t) (ix2 i j) = ((jacRow (aL m c) i j : ℝ) : EReal) := by
  unfold out0_2
  refine canon_rows _ _ (fun i j => ((jacRow (aL m c) i j : ℝ) : EReal)) (pay8_real _ _ _ (ld0 h c t) (ld1 h c t) 0) (fun j => ?_) i j
  exact (pay9_real _ _ _ (ld0 h c t) (ld1 h c t) 0 j).trans (congrArg _ (one_mul _).symm)

/-- The two arrays at the end. -/
theorem final1 : (dats m 0 c).arrAt 1 (cfgs 0).N = fun y => ((lbRow (aL m c) (y 0) (y 1) : ℝ) : EReal) := by
  refine (dats m 0 c).arrAt_eq_of_covers 1 _ (by decide +kernel) fun t hf y => ?_
  blk_simp
  rw [after0_1]
  idx_vars y
  refine (out1 h c t y0 y1).trans ?_
  have e : (((View.whole main_v0_0).slice (win0_1.rect t)).emb (ix2 y0 y1)) = ix2 y0 y1 := by blk_ext [(idx_val t).2.1]
  rw [e]; rfl

theorem final2 : (dats m 0 c).arrAt 2 (cfgs 0).N = fun y => ((jacRow (aL m c) (y 0) (y 1) : ℝ) : EReal) := by
  refine (dats m 0 c).arrAt_eq_of_covers 2 _ (by decide +kernel) fun t hf y => ?_
  blk_simp
  rw [after0_2]
  idx_vars y
  refine (out2 h c t y0 y1).trans ?_
  have e : (((View.whole main_v0_1).slice (win0_2.rect t)).emb (ix2 y0 y1)) = ix2 y0 y1 := by blk_ext [(idx_val t).2.2]
  rw [e]; rfl

/-- The gradient of the logits: the host's product after the kernel. -/
theorem tail3 (i : Fin 2) (j : Fin 512) :
    (show S2x512.Idx → EReal from Pipeline.afterTail₀ cfgs (dats m) 0 (V0 m) [hostOps1] c main_v3) (ix2 i j)
      = ((jacRow (aL m c) i j * aC m c 1 j : ℝ) : EReal) := by
  have e : (Pipeline.withArrays (cfgs 0).spec c (V0 m c) (fun w => (dats m 0 c).arrAt w (cfgs 0).N) (Proc.tc.devRef main_v0_1)) = _ :=
    (Pipeline.withArrays_arr spec0 (by decide) c (V0 m c) (fun w => (dats m 0 c).arrAt w (cfgs 0).N) 2).trans (final2 h c)
  have e1 : (Pipeline.withArrays (cfgs 0).spec c (V0 m c) (fun w => (dats m 0 c).arrAt w (cfgs 0).N) (Proc.tc.devRef main_arg1)) = m ((c : Thread nD τ).loc main_arg1) :=
    Pipeline.withArrays_of_ne spec0 c (V0 m c) _ main_arg1 (by decide)
  simp only [Pipeline.afterTail₀, List.flatten_cons, List.flatten_nil, List.append_nil]
  after_results
  rw [e, e1]
  pointwise [arg1_real h c]
  exact (EReal.coe_mul _ _).symm

end

end Cert.Kernel4Ideal.Value

end

end
-- ==== Proof.LbClaim.lean ====
/- The lower bounds: kernel and reference agree over the reals. -/
module

public import proofs.«01_k».proof.Proof.LbKernel
public import proofs.«01_k».proof.Proof.LbRef
public import Idealize.ShloMosaic.Lib.Claim

@[expose] public section

set_option maxRecDepth 16384

noncomputable section

namespace Cert.Proof

open Idealize.ShloMosaic Idealize.ShloMosaic.TcCoe Idealize.SL.Sem

theorem algebraic4 : Cert.algebraic_Kernel4Ideal_Reference4Ideal_pre_finite4 := by
  pair_intro
  · run_from Cert.Kernel4Ideal.Gen.run_main m g
    exact Cert.Kernel4Ideal.Gen.W_main_arg1 m _ c
  · refine θ_run_mono (Cert.Reference4Ideal.Value.run_lb m' g') ?_
    intro r hr c
    obtain ⟨h33, h54, ha0, ha1⟩ := hr c
    have hX : ∀ (i : Fin 2) (j : Fin 512), m' ((c.tc : Thread Cert.Reference4Ideal.nD Cert.Reference4Ideal.τ).loc Cert.Reference4Ideal.main_arg0) (ix2 i j) = ((Cert.Kernel4Ideal.Value.aL m c i j : ℝ) : EReal) :=
      fun i j => (congrFun (hagree c).1 (ix2 i j)).trans (Cert.Kernel4Ideal.Value.arg0_real hpre c i j)
    have hY : ∀ (i : Fin 2) (j : Fin 512), m' ((c.tc : Thread Cert.Reference4Ideal.nD Cert.Reference4Ideal.τ).loc Cert.Reference4Ideal.main_arg1) (ix2 i j) = ((Cert.Kernel4Ideal.Value.aC m c i j : ℝ) : EReal) :=
      fun i j => (congrFun (hagree c).2 (ix2 i j)).trans (Cert.Kernel4Ideal.Value.arg1_real hpre c i j)
    refine ⟨h33.trans ?_, h54.trans ?_, ha0, ha1⟩
    · refine Eq.trans ?_ (Cert.Kernel4Ideal.Value.final1 hpre c).symm
      funext j; idx_vars j
      exact Cert.Reference4Ideal.Value.lb_real _ _ hX j0 j1
    · funext j; idx_vars j
      exact (Cert.Reference4Ideal.Value.jac_real m' c _ _ hX hY j0 j1).trans (Cert.Kernel4Ideal.Value.tail3 hpre c j0 j1).symm

end Cert.Proof

end

end
-- ==== Proof.AttnMath.lean ====
/- Banded attention of one query over 256 keys, in the extended reals: scores, their greatest, weights, the weighted sum of the values and the log-denominator;
   and the merge of the three patterns by their log-denominators. Nothing here is of one program: kernel and reference both read as these. -/
module

public import proofs.«01_k».proof.Proof.Rows

@[expose] public section

noncomputable section

open Idealize.ShloMosaic Idealize.SL.Sem

namespace Cert.Attn

open Classical in
/-- The score of key `j`: the product with the query where the band admits the key, `-∞` elsewhere. -/
def score (ok : Fin 256 → Prop) (q : Fin 64 → EReal) (k : Fin 256 → Fin 64 → EReal) (j : Fin 256) : EReal := if ok j then ∑ e, q e * k j e else ⊥

/-- The greatest score, the weights, their sum; the weighted mean of the values, the log-denominator. -/
def top (s : Fin 256 → EReal) : EReal := Finset.univ.fold max ⊥ s
def wt (s : Fin 256 → EReal) (j : Fin 256) : EReal := Ideal.exp (s j - top s)
def den (s : Fin 256 → EReal) : EReal := ∑ j, wt s j
def out (s : Fin 256 → EReal) (v : Fin 256 → EReal) : EReal := Ideal.div (∑ j, wt s j * v j) (den s)
def lse (s : Fin 256 → EReal) : EReal := top s + Ideal.log (den s)

theorem exp_bot : Ideal.exp ⊥ = 0 := rfl

/-- A key out of the band weighs nothing. -/
theorem wt_not {ok : Fin 256 → Prop} {q : Fin 64 → EReal} {k : Fin 256 → Fin 64 → EReal} {j : Fin 256} (h : ¬ ok j) : wt (score ok q k) j = 0 := by
  unfold wt
  rw [show score ok q k j = ⊥ from if_neg h, EReal.bot_sub, exp_bot]

/-- Keys out of the band may be anything. -/
theorem score_congr {ok ok' : Fin 256 → Prop} {q q' : Fin 64 → EReal} {k k' : Fin 256 → Fin 64 → EReal} (hok : ∀ j, ok j ↔ ok' j) (hq : ∀ e, q e = q' e)
    (hk : ∀ j, ok j → ∀ e, k j e = k' j e) : score ok q k = score ok' q' k' := by
  funext j
  unfold score
  by_cases h : ok j
  · rw [if_pos h, if_pos ((hok j).1 h)]
    exact Finset.sum_congr rfl fun e _ => by rw [hq, hk j h]
  · rw [if_neg h, if_neg fun h' => h ((hok j).2 h')]

theorem out_congr {ok : Fin 256 → Prop} {q : Fin 64 → EReal} {k : Fin 256 → Fin 64 → EReal} {v v' : Fin 256 → EReal} (hv : ∀ j, ok j → v j = v' j) :
    out (score ok q k) v = out (score ok q k) v' := by
  unfold out
  congr 1
  refine Finset.sum_congr rfl fun j _ => ?_
  by_cases h : ok j
  · rw [hv j h]
  · rw [wt_not h, zero_mul, zero_mul]

/-- The greatest of 256, taken as the greatest of 128 pairs. -/
theorem top_pairs (s : Fin 256 → EReal) : Finset.univ.fold max ⊥ (fun x : Fin 128 => max (s ⟨x.val, by omega⟩) (s ⟨128 + x.val, by omega⟩)) = top s := by
  have e := fun {n : ℕ} (f : Fin n → EReal) (c : EReal) => Finset.fold_max_le (s := Finset.univ) (f := f) (b := (⊥ : EReal)) c
  unfold top
  apply le_antisymm
  · rw [e]
    have h := (e s _).1 (le_refl (Finset.univ.fold max ⊥ s))
    exact ⟨bot_le, fun x _ => max_le (h.2 _ (Finset.mem_univ _)) (h.2 _ (Finset.mem_univ _))⟩
  · rw [e]
    have h := (e _ _).1 (le_refl (Finset.univ.fold max ⊥ (fun x : Fin 128 => max (s ⟨x.val, by omega⟩) (s ⟨128 + x.val, by omega⟩))))
    refine ⟨bot_le, fun x _ => ?_⟩
    by_cases hx : x.val < 128
    · exact (le_max_left _ _).trans (h.2 ⟨x.val, hx⟩ (Finset.mem_univ _))
    · have hy : x = ⟨128 + (x.val - 128), by omega⟩ := Fin.ext (by simp; omega)
      have := (le_max_right _ _).trans (h.2 ⟨x.val - 128, by omega⟩ (Finset.mem_univ _))
      rw [← hy] at this
      exact this

/-- The weights the reference zeroes out of the band are zero there anyway. -/
theorem wt_eq {ok : Fin 256 → Prop} [DecidablePred ok] {q : Fin 64 → EReal} {k : Fin 256 → Fin 64 → EReal} (j : Fin 256) :
    (if ok j then Ideal.exp (score ok q k j - top (score ok q k)) else 0) = wt (score ok q k) j := by
  by_cases h : ok j
  · rw [if_pos h]; rfl
  · rw [if_neg h, wt_not h]

/-! ## The merge -/

/-- The greatest of three log-denominators, the patterns' weights and their sum. -/
def mtop (l : Fin 3 → EReal) : EReal := max (max (l 0) (l 1)) (l 2)
def mwt (l : Fin 3 → EReal) (p : Fin 3) : EReal := Ideal.exp (l p - mtop l)
def mden (l : Fin 3 → EReal) : EReal := mwt l 0 + mwt l 1 + mwt l 2
def mout (l o : Fin 3 → EReal) : EReal := Ideal.div (mwt l 0 * o 0 + mwt l 1 * o 1 + mwt l 2 * o 2) (mden l)
def mlse (l : Fin 3 → EReal) : EReal := mtop l + Ideal.log (mden l)

section real
variable {ok : Fin 256 → Prop} {q : Fin 64 → EReal} {k : Fin 256 → Fin 64 → EReal}

/-- The greatest of numbers some of which are scores in the band, the others one real number, is a real number. -/
theorem max_real (hr : ∀ j, ok j → ∃ r : ℝ, score ok q k j = (r : EReal)) (f : Fin 256 → EReal) (j0 : Fin 256)
    (hf : ∀ j, (ok j ∧ f j = score ok q k j) ∨ (∃ r : ℝ, f j = (r : EReal)) ∨ (j ≠ j0 ∧ f j = ⊥)) : ∃ t : ℝ, Finset.univ.fold max ⊥ f = (t : EReal) := by
  have hlt : Finset.univ.fold max ⊥ f < ⊤ := by
    refine (Finset.fold_max_lt _).2 ⟨bot_lt_top, fun j _ => ?_⟩
    rcases hf j with ⟨h, e⟩ | ⟨r, e⟩ | ⟨_, e⟩
    · obtain ⟨r, e'⟩ := hr j h
      rw [e, e']; exact EReal.coe_lt_top r
    · rw [e]; exact EReal.coe_lt_top r
    · rw [e]; exact bot_lt_top
  have hgt : ⊥ < Finset.univ.fold max ⊥ f := by
    refine (Finset.lt_fold_max _).2 (Or.inr ⟨j0, Finset.mem_univ _, ?_⟩)
    rcases hf j0 with ⟨h, e⟩ | ⟨r, e⟩ | ⟨hj, _⟩
    · obtain ⟨r, e'⟩ := hr j0 h
      rw [e, e']; exact EReal.bot_lt_coe r
    · rw [e]; exact EReal.bot_lt_coe r
    · exact absurd rfl hj
  exact ⟨_, (EReal.coe_toReal hlt.ne hgt.ne').symm⟩

/-- The weights of a query from any real number instead of its greatest score, zero out of the band. -/
def wtM (ok : Fin 256 → Prop) [DecidablePred ok] (q : Fin 64 → EReal) (k : Fin 256 → Fin 64 → EReal) (M : ℝ) (j : Fin 256) : EReal :=
  if ok j then Ideal.exp (score ok q k j - (M : EReal)) else 0

/-- Output and log-denominator of a query with a key in its band do not depend on the number the weights are taken from, its scores and values being real; its
    log-denominator is real. -/
theorem of_any [DecidablePred ok] (j0 : Fin 256) (h0 : ok j0) (hr : ∀ j, ok j → ∃ r : ℝ, score ok q k j = (r : EReal)) (M : ℝ) :
    (∀ v : Fin 256 → EReal, (∀ j, ok j → ∃ r : ℝ, v j = (r : EReal)) → Ideal.div (∑ j, wtM ok q k M j * v j) (∑ j, wtM ok q k M j) = out (score ok q k) v)
    ∧ (M : EReal) + Ideal.log (∑ j, wtM ok q k M j) = lse (score ok q k) ∧ ∃ r : ℝ, lse (score ok q k) = (r : EReal) := by
  obtain ⟨t, et⟩ : ∃ t : ℝ, top (score ok q k) = (t : EReal) := max_real hr _ j0 fun j => by
    by_cases h : ok j
    · exact .inl ⟨h, rfl⟩
    · exact .inr (.inr ⟨fun e => h (e ▸ h0), if_neg h⟩)
  have hr' : ∀ j, ∃ r : ℝ, ok j → score ok q k j = (r : EReal) := fun j => by
    by_cases h : ok j
    · obtain ⟨r, e⟩ := hr j h; exact ⟨r, fun _ => e⟩
    · exact ⟨0, fun h' => absurd h' h⟩
  choose r er using hr'
  have hw : ∀ (N : ℝ) j, wtM ok q k N j = ((if ok j then Real.exp (r j - N) else 0 : ℝ) : EReal) := fun N j => by
    unfold wtM
    by_cases h : ok j
    · rw [if_pos h, if_pos h, er j h, ← EReal.coe_sub, Reals.exp_coe]
    · rw [if_neg h, if_neg h]; rfl
  have hwt : ∀ j, wt (score ok q k) j = wtM ok q k t j := fun j => by
    rw [← wt_eq j, et]; rfl
  have hs : ∀ j, (if ok j then Real.exp (r j - M) else 0) = Real.exp (t - M) * (if ok j then Real.exp (r j - t) else 0) := fun j => by
    by_cases h : ok j
    · rw [if_pos h, if_pos h, ← Real.exp_add]; congr 1; ring
    · rw [if_neg h, if_neg h, mul_zero]
  have hpos : ∀ N : ℝ, 0 < ∑ j, (if ok j then Real.exp (r j - N) else 0) := fun N => by
    refine Finset.sum_pos' (fun j _ => ?_) ⟨j0, Finset.mem_univ _, ?_⟩
    · split
      · exact (Real.exp_pos _).le
      · exact le_refl _
    · rw [if_pos h0]; exact Real.exp_pos _
  have hsum : ∀ N : ℝ, ∑ j, wtM ok q k N j = ((∑ j, (if ok j then Real.exp (r j - N) else 0) : ℝ) : EReal) := fun N => by
    rw [← Reals.sum_coe]; exact Finset.sum_congr rfl fun j _ => hw N j
  have hden : den (score ok q k) = ((∑ j, (if ok j then Real.exp (r j - t) else 0) : ℝ) : EReal) := by
    unfold den; rw [← hsum]; exact Finset.sum_congr rfl fun j _ => hwt j
  have hlse : lse (score ok q k) = ((t + Real.log (∑ j, (if ok j then Real.exp (r j - t) else 0)) : ℝ) : EReal) := by
    unfold lse; rw [et, hden, Reals.log_coe (hpos t), EReal.coe_add]
  refine ⟨fun v hv => ?_, ?_, ⟨_, hlse⟩⟩
  · have hv' : ∀ j, ∃ x : ℝ, ok j → v j = (x : EReal) := fun j => by
      by_cases h : ok j
      · obtain ⟨x, e⟩ := hv j h; exact ⟨x, fun _ => e⟩
      · exact ⟨0, fun h' => absurd h' h⟩
    choose x ex using hv'
    have hnum : ∀ N : ℝ, ∑ j, wtM ok q k N j * v j = ((∑ j, (if ok j then Real.exp (r j - N) else 0) * x j : ℝ) : EReal) := fun N => by
      rw [← Reals.sum_coe]
      refine Finset.sum_congr rfl fun j _ => ?_
      by_cases h : ok j
      · rw [hw, ex j h, EReal.coe_mul]
      · rw [hw, if_neg h, zero_mul]; exact zero_mul _
    unfold out
    have hn : ∑ j, wt (score ok q k) j * v j = ∑ j, wtM ok q k t j * v j := Finset.sum_congr rfl fun j _ => by rw [hwt j]
    rw [hden, hn, hnum M, hnum t, hsum, Ideal.div_coe (hpos M).ne', Ideal.div_coe (hpos t).ne', ← EReal.coe_mul, ← EReal.coe_mul]
    refine congrArg _ ?_
    simp only [hs, mul_assoc]
    rw [← Finset.mul_sum, ← Finset.mul_sum]
    have h1 := (hpos t).ne'
    have h2 := (Real.exp_pos (t - M)).ne'
    field_simp
  · rw [hlse, hsum, Reals.log_coe (hpos M), ← EReal.coe_add]
    refine congrArg _ ?_
    simp only [hs]
    rw [← Finset.mul_sum, Real.log_mul (Real.exp_pos _).ne' (hpos t).ne', Real.log_exp]
    ring

end real

/-- Dividing each weight by the sum of the weights is dividing the weighted sum by it. -/
theorem mout_eq (l o : Fin 3 → EReal) (hl : ∀ p, ∃ r : ℝ, l p = (r : EReal)) :
    Ideal.div (mwt l 0) (mden l) * o 0 + Ideal.div (mwt l 1) (mden l) * o 1 + Ideal.div (mwt l 2) (mden l) * o 2 = mout l o := by
  choose x hx using hl
  have hw : ∀ p, mwt l p = ((Real.exp (x p - max (max (x 0) (x 1)) (x 2)) : ℝ) : EReal) := fun p => by
    unfold mwt mtop
    rw [hx, hx, hx, hx, Rows.max_coe, Rows.max_coe, ← EReal.coe_sub, Reals.exp_coe]
  unfold mout mden
  simp only [hw]
  generalize max (max (x 0) (x 1)) (x 2) = M
  have ha := Real.exp_pos (x 0 - M)
  have hb := Real.exp_pos (x 1 - M)
  have hc := Real.exp_pos (x 2 - M)
  revert ha hb hc
  generalize Real.exp (x 0 - M) = a
  generalize Real.exp (x 1 - M) = b
  generalize Real.exp (x 2 - M) = c
  intro ha hb hc
  rw [← EReal.coe_add, ← EReal.coe_add]
  have hd : a + b + c ≠ 0 := by positivity
  have hd' : (0 : EReal) ≤ ((1 / (a + b + c) : ℝ) : EReal) := by
    rw [← EReal.coe_zero, EReal.coe_le_coe_iff]; positivity
  rw [Ideal.div_coe hd, Ideal.div_coe hd, Ideal.div_coe hd, Ideal.div_coe hd,
    EReal.right_distrib_of_nonneg_of_ne_top hd' (EReal.coe_ne_top _), EReal.right_distrib_of_nonneg_of_ne_top hd' (EReal.coe_ne_top _)]
  simp only [mul_assoc, mul_comm, mul_left_comm]

/-! ## The dilated pattern -/

/-- Keys of the query at row `R` with dilation `d`: the band of 128 steps back, none before the start. Key `j` is at row `R + d j - d (i + 128)`, where `i` is the
    query's place in its block. -/
def okD (d R : ℕ) (j : Fin 256) : Prop := (R / d % 128 ≤ j.val ∧ j.val ≤ R / d % 128 + 128) ∧ (128 ≤ j.val ∨ 128 ≤ R / d)
def krow (d R : ℕ) (j : Fin 256) : ℕ := R + d * j.val - d * (R / d % 128 + 128)

/-- The scores of the query at row `R` for the head of column `c`; queries, keys and values are the columns from 0, 512 and 1024 of one array. -/
def scD (X : ℕ → ℕ → EReal) (d R c : ℕ) : Fin 256 → EReal :=
  score (okD d R) (fun e => X R (64 * (c / 64) + e.val)) (fun j e => X (krow d R j) (512 + 64 * (c / 64) + e.val))
def outD (X : ℕ → ℕ → EReal) (d R c : ℕ) : EReal := out (scD X d R c) (fun j => X (krow d R j) (1024 + c))
def lseD (X : ℕ → ℕ → EReal) (d R c : ℕ) : EReal := lse (scD X d R c)

/-- The dilations of the patterns. -/
def dil (p : ℕ) : ℕ := if p = 0 then 1 else if p = 1 then 4 else 16

/-- The attention's output and log-denominator at row `R` and column `c`. -/
def attO (X : ℕ → ℕ → EReal) (R c : ℕ) : EReal := mout (fun p => lseD X (dil p.val) R c) (fun p => outD X (dil p.val) R c)
def attL (X : ℕ → ℕ → EReal) (R c : ℕ) : EReal := mlse (fun p => lseD X (dil p.val) R c)

/-- An array read at any row and column. -/
def spread (a : Fin 4096 → Fin 3584 → EReal) (R C : ℕ) : EReal := if h : R < 4096 ∧ C < 3584 then a ⟨R, h.1⟩ ⟨C, h.2⟩ else 0

theorem spread_at (a : Fin 4096 → Fin 3584 → EReal) (R : Fin 4096) (C : Fin 3584) : spread a R.val C.val = a R C := dif_pos ⟨R.isLt, C.isLt⟩

theorem spread_real {a : Fin 4096 → Fin 3584 → EReal} (ha : ∀ R C, ∃ r : ℝ, a R C = (r : EReal)) (R C : ℕ) : ∃ r : ℝ, spread a R C = (r : EReal) := by
  unfold spread
  split
  · exact ha _ _
  · exact ⟨0, rfl⟩

/-! ## The dilated pattern as the reference cuts it: residue `r` of the rows by `d`, blocks `B` of 128 of them, each block's keys after the block before it -/

/-- The entry of column `C` at key `j` of block `B`: zero before the first block. -/
def keyAt (X : ℕ → ℕ → EReal) (d r B C : ℕ) (j : Fin 256) : EReal :=
  if j.val < 128 then if B < 1 then 0 else X (((B - 1) * 128 + j.val) * d + r) C else X ((B * 128 + (j.val - 128)) * d + r) C

section cut
variable {X : ℕ → ℕ → EReal} {d r B i : ℕ} (hd : 0 < d) (hr : r < d) (hi : i < 128)
include hd hr

theorem row_div : ((B * 128 + i) * d + r) / d = B * 128 + i := by
  rw [Nat.add_comm, Nat.add_mul_div_right _ _ hd, Nat.div_eq_of_lt hr, Nat.zero_add]

include hi

theorem okD_iff (j : Fin 256) : okD d ((B * 128 + i) * d + r) j ↔ (i ≤ j.val ∧ j.val ≤ i + 128) ∧ (128 ≤ j.val ∨ 0 < B) := by
  unfold okD
  rw [row_div hd hr]
  omega

theorem krow_eq (j : Fin 256) (T : ℕ) (hT : B * 128 + j.val = T + 128) : krow d ((B * 128 + i) * d + r) j = T * d + r := by
  unfold krow
  rw [row_div hd hr, show (B * 128 + i) % 128 = i by omega]
  refine Nat.sub_eq_of_eq_add ?_
  rw [show (B * 128 + i) * d + r + d * j.val = (B * 128 + j.val + i) * d + r by ring, hT]
  ring

theorem keyAt_eq (C : ℕ) (j : Fin 256) (h : okD d ((B * 128 + i) * d + r) j) : keyAt X d r B C j = X (krow d ((B * 128 + i) * d + r) j) C := by
  have h' := (okD_iff hd hr hi j).1 h
  unfold keyAt
  split_ifs with h1 h2
  · omega
  · rw [krow_eq hd hr hi j ((B - 1) * 128 + j.val) (by omega)]
  · rw [krow_eq hd hr hi j (B * 128 + (j.val - 128)) (by omega)]

/-- A query's weights from any real number, its masked scores holding any number out of the band, give its output and its log-denominator. -/
theorem pattern (hX : ∀ R C, ∃ x : ℝ, X R C = (x : EReal)) (h e : ℕ) (he : e < 64) (mask : Fin 256 → BitVec 1)
    (hm : ∀ j, mask j = if (i ≤ j.val ∧ j.val ≤ i + 128) ∧ (128 ≤ j.val ∨ 0 < B) then 1#1 else 0#1) (M : ℝ) (c0 : EReal) (s : Fin 256 → EReal)
    (hs : ∀ j, s j = Scalar.select (mask j) (Ideal.exp (Scalar.select (mask j) (∑ x : Fin 64, X ((B * 128 + i) * d + r) (64 * h + x.val)
      * keyAt X d r B (512 + (64 * h + x.val)) j) c0 - (M : EReal))) 0) :
    Ideal.div (∑ j, s j * keyAt X d r B (1024 + (64 * h + e)) j) (∑ j, s j) = outD X d ((B * 128 + i) * d + r) (64 * h + e)
    ∧ (M : EReal) + Ideal.log (∑ j, s j) = lseD X d ((B * 128 + i) * d + r) (64 * h + e)
    ∧ ∃ x : ℝ, lseD X d ((B * 128 + i) * d + r) (64 * h + e) = (x : EReal) := by
  classical
  have hc : (64 * h + e) / 64 = h := by omega
  have hsw : s = wtM (okD d ((B * 128 + i) * d + r)) (fun x => X ((B * 128 + i) * d + r) (64 * h + x.val)) (fun j x => X (krow d ((B * 128 + i) * d + r) j) (512 + 64 * h + x.val)) M := by
    funext j
    rw [hs, hm]
    unfold wtM Scalar.select score
    by_cases hj : okD d ((B * 128 + i) * d + r) j
    · have hj' := (okD_iff hd hr hi j).1 hj
      rw [if_pos hj', if_pos hj, if_pos hj]
      have e1 : ∀ x : Fin 64, keyAt X d r B (512 + (64 * h + x.val)) j = X (krow d ((B * 128 + i) * d + r) j) (512 + 64 * h + x.val) := fun x => by
        rw [keyAt_eq hd hr hi _ j hj, Nat.add_assoc]
      simp only [e1]
      rfl
    · rw [if_neg hj, if_neg (fun h' => hj ((okD_iff hd hr hi j).2 h'))]
      rfl
  have h0 : okD d ((B * 128 + i) * d + r) ⟨i + 128, by omega⟩ := (okD_iff hd hr hi _).2 ⟨⟨by simp, by simp⟩, .inl (by simp)⟩
  obtain ⟨h1, h2, h3⟩ := of_any (ok := okD d ((B * 128 + i) * d + r)) (q := fun x : Fin 64 => X ((B * 128 + i) * d + r) (64 * h + x.val))
    (k := fun j (x : Fin 64) => X (krow d ((B * 128 + i) * d + r) j) (512 + 64 * h + x.val)) ⟨i + 128, by omega⟩ h0 (fun j hj => by
      choose f hf using hX
      exact ⟨∑ x : Fin 64, f ((B * 128 + i) * d + r) (64 * h + x.val) * f (krow d ((B * 128 + i) * d + r) j) (512 + 64 * h + x.val), by
        unfold score
        rw [if_pos hj, ← Reals.sum_coe]
        exact Finset.sum_congr rfl fun x _ => by beta_reduce; rw [hf, hf, EReal.coe_mul]⟩) M
  rw [hsw]
  unfold outD lseD scD
  rw [hc]
  refine ⟨?_, h2, h3⟩
  rw [← h1 _ fun j _ => hX _ _]
  congr 1
  refine Finset.sum_congr rfl fun j _ => ?_
  by_cases hj : okD d ((B * 128 + i) * d + r) j
  · rw [keyAt_eq hd hr hi _ j hj]
  · unfold wtM
    rw [if_neg hj, zero_mul, zero_mul]

end cut

/-- The greatest of finitely many real numbers. -/
theorem fold_real {ι : Type*} (S : Finset ι) (hS : S.Nonempty) (f : ι → EReal) (hf : ∀ i, ∃ r : ℝ, f i = (r : EReal)) : ∃ t : ℝ, S.fold max ⊥ f = (t : EReal) := by
  have hlt : S.fold max ⊥ f < ⊤ := (Finset.fold_max_lt _).2 ⟨bot_lt_top, fun j _ => by
    obtain ⟨r, e⟩ := hf j; rw [e]; exact EReal.coe_lt_top r⟩
  have hgt : ⊥ < S.fold max ⊥ f := by
    obtain ⟨j, hj⟩ := hS
    refine (Finset.lt_fold_max _).2 (.inr ⟨j, hj, ?_⟩)
    obtain ⟨r, e⟩ := hf j; rw [e]; exact EReal.bot_lt_coe r
  exact ⟨_, (EReal.coe_toReal hlt.ne hgt.ne').symm⟩

end Cert.Attn

end

end
-- ==== Proof.AttnBlock.lean ====
/- One block of the dilated attention's kernel: 128 query rows against 256 keys, two heads side by side in the lanes. Every block of every pattern is this
   same function of its loads. -/
module

public import proofs.«01_k».proof.Proof.Gen.Kernel8Ideal.Frame
public import Idealize.ShloMosaic.Lib.Pipeline.ReadBack
public import Idealize.ShloMosaic.Lib.Claim
public import proofs.«01_k».proof.Proof.AttnMath

@[expose] public section

set_option maxRecDepth 16384

noncomputable section

open Idealize.ShloMosaic Idealize.ShloMosaic.TcCoe Idealize.SL.Sem
open Idealize.ShloMosaic.Pipeline (Dat)

namespace Cert.Kernel8Ideal.Value

open Cert.Kernel8Ideal Cert.Kernel8Ideal.Gen Cert.Attn

section Block
variable {F : FTy → Type} [FloatOps F] [Named F]

/-- The scores of the first and of the second head of a pair, masked. -/
def blkA (mask : IVec S128x256 1) (q : Vec F S128x128 .f32) (k : Vec F S256x128 .f32) : FVec F S128x256 .f32 := k0_pay28 mask k0_pay5 q (k0_pay9 k)
def blkB (mask : IVec S128x256 1) (q : Vec F S128x128 .f32) (k : Vec F S256x128 .f32) : FVec F S128x256 .f32 := k0_pay29 mask k0_pay6 q (k0_pay9 k)

/-- The weighted sums of a head's values; the other head's lanes hold the sum of the weights. -/
def sumA (mask : IVec S128x256 1) (q : Vec F S128x128 .f32) (k v : Vec F S256x128 .f32) : FVec F S128x128 .f32 :=
  k0_pay47 (k0_pay18 k0_pay7 v) (blkA mask q k) (k0_pay37 (blkA mask q k))
def sumB (mask : IVec S128x256 1) (q : Vec F S128x128 .f32) (k v : Vec F S256x128 .f32) : FVec F S128x128 .f32 :=
  k0_pay48 (k0_pay19 k0_pay7 v) (blkB mask q k) (k0_pay38 (blkB mask q k))

/-- The block's outputs and its log-denominators. -/
def blkO (mask : IVec S128x256 1) (q : Vec F S128x128 .f32) (k v : Vec F S256x128 .f32) : FVec F S1x128x128 .f32 :=
  k0_pay58 k0_pay5 (sumA mask q k v) (sumB mask q k v)
def blkL (mask : IVec S128x256 1) (q : Vec F S128x128 .f32) (k v : Vec F S256x128 .f32) : FVec F S1x128x128 .f32 :=
  k0_pay59 k0_pay5 (k0_pay37 (blkA mask q k)) (k0_pay38 (blkB mask q k)) (sumA mask q k v) (sumB mask q k v)

end Block

/-- The lanes of the first head. -/
theorem half_word (i l : Fin 128) : k0_pay5 (ix2 i l) = if l.val < 64 then 1#1 else 0#1 := by
  pointwise [k0_pay5]
  revert l; decide +kernel

theorem half_word' (i l : Fin 128) : k0_pay6 (ix2 i l) = if l.val < 64 then 0#1 else 1#1 := by
  pointwise [k0_pay6, half_word]
  revert l; decide +kernel

theorem half_key (j : Fin 256) (l : Fin 128) : k0_pay7 (ix2 j l) = if l.val < 64 then 1#1 else 0#1 := by
  pointwise [k0_pay7]
  revert l; decide +kernel

theorem cMask : (Named.named (F := Ideal) (φ := .f32) κ "mask" 0xF149F2CA#32 : EReal) = ⊥ := rfl
theorem cBot : (Ideal.ofBits .f32 0xFF800000#32 : EReal) = ⊥ := by simp [Ideal.ofBits, Ideal.ieee]
/-- A lane of a head, among the pair's 128. -/
def laneA (e : Fin 64) : Fin 128 := ⟨e.val, by omega⟩
def laneB (e : Fin 64) : Fin 128 := ⟨64 + e.val, by omega⟩

variable (mask : IVec S128x256 1) (ok : Fin 128 → Fin 256 → Prop) [∀ i j, Decidable (ok i j)]
  (hm : ∀ i j, mask (ix2 i j) = if ok i j then 1#1 else 0#1)
  (q : Vec Ideal S128x128 .f32) (k v : Vec Ideal S256x128 .f32)

/-- The scores of the two heads, as functions of a query row. -/
def scA (i : Fin 128) : Fin 256 → EReal := score (ok i) (fun e => q (ix2 i (laneA e))) (fun j e => k (ix2 j (laneA e)))
def scB (i : Fin 128) : Fin 256 → EReal := score (ok i) (fun e => q (ix2 i (laneB e))) (fun j e => k (ix2 j (laneB e)))

include hm in
theorem blkA_apply (i : Fin 128) (j : Fin 256) : blkA mask q k (ix2 i j) = scA ok q k i j := by
  pointwise [blkA, k0_pay28, k0_pay9, hm, half_word]
  rw [cMask, Finset.sum_const_zero, add_zero]
  unfold scA score
  by_cases h : ok i j
  · rw [if_pos h, if_pos h]; rfl
  · rw [if_neg h, if_neg h]; rfl

include hm in
theorem blkB_apply (i : Fin 128) (j : Fin 256) : blkB mask q k (ix2 i j) = scB ok q k i j := by
  pointwise [blkB, k0_pay29, k0_pay9, hm, half_word']
  rw [cMask, Finset.sum_const_zero, zero_add]
  unfold scB score
  by_cases h : ok i j
  · rw [if_pos h, if_pos h]; rfl
  · rw [if_neg h, if_neg h]; rfl

include hm in
theorem topA_apply (i : Fin 128) : k0_pay37 (blkA mask q k) (ix2 i (0 : Fin 1)) = top (scA ok q k i) := by
  pointwise [k0_pay37, blkA_apply mask ok hm]
  rw [cBot]
  exact top_pairs _

include hm in
theorem topB_apply (i : Fin 128) : k0_pay38 (blkB mask q k) (ix2 i (0 : Fin 1)) = top (scB ok q k i) := by
  pointwise [k0_pay38, blkB_apply mask ok hm]
  rw [cBot]
  exact top_pairs _

include hm in
theorem sumA_apply (i l : Fin 128) : sumA mask q k v (ix2 i l) = ∑ j, wt (scA ok q k i) j * (if l.val < 64 then v (ix2 j l) else 1) := by
  pointwise [sumA, k0_pay47, k0_pay18, k0_pay13, half_key, blkA_apply mask ok hm, topA_apply mask ok hm]
  refine Finset.sum_congr rfl fun j _ => ?_
  congr 1
  by_cases h : l.val < 64
  · rw [if_pos h, if_pos h]; rfl
  · rw [if_neg h, if_neg h]; rfl

include hm in
theorem sumB_apply (i l : Fin 128) : sumB mask q k v (ix2 i l) = ∑ j, wt (scB ok q k i) j * (if l.val < 64 then 1 else v (ix2 j l)) := by
  pointwise [sumB, k0_pay48, k0_pay19, k0_pay13, half_key, blkB_apply mask ok hm, topB_apply mask ok hm]
  refine Finset.sum_congr rfl fun j _ => ?_
  congr 1
  by_cases h : l.val < 64
  · rw [if_pos h, if_pos h]; rfl
  · rw [if_neg h, if_neg h]; rfl

include hm in
/-- The block's outputs and log-denominators at the lanes of either head. -/
theorem blkO_A (i : Fin 128) (e : Fin 64) : blkO mask q k v (ix3 (0 : Fin 1) i (laneA e)) = out (scA ok q k i) (fun j => v (ix2 j (laneA e))) := by
  pointwise [blkO, k0_pay58, k0_pay57, half_word, sumA_apply mask ok hm, sumB_apply mask ok hm]
  have h : (laneA e).val < 64 := e.isLt
  have h' : ¬ ((laneA e).val + 128 - 64) % 128 < 64 := by have : (laneA e).val = e.val := rfl; omega
  simp only [h, h', if_true, if_false, mul_one]
  rfl

include hm in
theorem blkO_B (i : Fin 128) (e : Fin 64) : blkO mask q k v (ix3 (0 : Fin 1) i (laneB e)) = out (scB ok q k i) (fun j => v (ix2 j (laneB e))) := by
  pointwise [blkO, k0_pay58, k0_pay57, half_word, sumA_apply mask ok hm, sumB_apply mask ok hm]
  have h : ¬ (laneB e).val < 64 := by have : (laneB e).val = 64 + e.val := rfl; omega
  have h' : ((laneB e).val + 128 - 64) % 128 < 64 := by have : (laneB e).val = 64 + e.val := rfl; omega
  simp only [h, h', if_true, if_false, mul_one]
  rfl

include hm in
theorem blkL_A (i : Fin 128) (e : Fin 64) : blkL mask q k v (ix3 (0 : Fin 1) i (laneA e)) = lse (scA ok q k i) := by
  pointwise [blkL, k0_pay59, k0_pay57, half_word, sumA_apply mask ok hm, sumB_apply mask ok hm, topA_apply mask ok hm, topB_apply mask ok hm]
  have h : (laneA e).val < 64 := e.isLt
  have h' : ¬ ((laneA e).val + 128 - 64) % 128 < 64 := by have : (laneA e).val = e.val := rfl; omega
  simp only [h, h', if_true, if_false, mul_one]
  rfl

include hm in
theorem blkL_B (i : Fin 128) (e : Fin 64) : blkL mask q k v (ix3 (0 : Fin 1) i (laneB e)) = lse (scB ok q k i) := by
  pointwise [blkL, k0_pay59, k0_pay57, half_word, sumA_apply mask ok hm, sumB_apply mask ok hm, topA_apply mask ok hm, topB_apply mask ok hm]
  have h : ¬ (laneB e).val < 64 := by have : (laneB e).val = 64 + e.val := rfl; omega
  have h' : ((laneB e).val + 128 - 64) % 128 < 64 := by have : (laneB e).val = 64 + e.val := rfl; omega
  simp only [h, h', if_true, if_false, mul_one]
  rfl

/-! ## The two masks, and the block at any lane -/

theorem band_word (i : Fin 128) (j : Fin 256) : k0_pay3 (ix2 i j) = if i.val ≤ j.val ∧ j.val ≤ i.val + 128 then 1#1 else 0#1 := by
  pointwise [k0_pay3]
  revert i j; decide +kernel

theorem late_word (j : Fin 256) : IntOp.cmpi CmpIPredicate.sge (BitVec.ofNat 32 j.val) 128#32 = if 128 ≤ j.val then 1#1 else 0#1 := by
  revert j; decide +kernel

theorem unit_word (n : Fin 2) : Scalar.cmpi CmpIPredicate.sgt (BitVec.ofNat 32 n.val) 0#32 = if 0 < n.val then 1#1 else 0#1 := by
  revert n; decide +kernel

/-- The first block of a unit sees the block before it only where there is one. -/
theorem first_word (g : grid0.Coords) (i : Fin 128) (j : Fin 256) :
    k0_pay4 g (ix2 i j) = if (i.val ≤ j.val ∧ j.val ≤ i.val + 128) ∧ (128 ≤ j.val ∨ 0 < (g 1).val) then 1#1 else 0#1 := by
  pointwise [k0_pay4, band_word]
  rw [late_word, show Scalar.cmpi CmpIPredicate.sgt (BitVec.ofNat 32 (g 1).val) 0#32 = if 0 < (g 1).val then 1#1 else 0#1 from unit_word (g 1)]
  by_cases h1 : i.val ≤ j.val ∧ j.val ≤ i.val + 128 <;> by_cases h2 : 128 ≤ j.val <;> by_cases h3 : 0 < (g 1).val <;> simp only [h1, h2, h3, if_true, if_false, true_and, false_and, or_true, or_false, true_or] <;> rfl

/-- Lane `e` of the head that lane `l` belongs to. -/
def laneOf (l : Fin 128) (e : Fin 64) : Fin 128 := ⟨64 * (l.val / 64) + e.val, by omega⟩

/-- The scores of the head of lane `l`. -/
def scL (i l : Fin 128) : Fin 256 → EReal := score (ok i) (fun e => q (ix2 i (laneOf l e))) (fun j e => k (ix2 j (laneOf l e)))

omit [∀ i j, Decidable (ok i j)] in
theorem scL_A (i : Fin 128) (e : Fin 64) : scL ok q k i (laneA e) = scA ok q k i := by
  have h : ∀ e', laneOf (laneA e) e' = laneA e' := fun e' => Fin.ext (by simp only [laneOf, laneA]; omega)
  unfold scL scA
  simp only [h]

omit [∀ i j, Decidable (ok i j)] in
theorem scL_B (i : Fin 128) (e : Fin 64) : scL ok q k i (laneB e) = scB ok q k i := by
  have h : ∀ e', laneOf (laneB e) e' = laneB e' := fun e' => Fin.ext (by simp only [laneOf, laneB]; omega)
  unfold scL scB
  simp only [h]

include hm in
theorem blkO_apply (i l : Fin 128) : blkO mask q k v (ix3 (0 : Fin 1) i l) = out (scL ok q k i l) (fun j => v (ix2 j l)) := by
  by_cases h : l.val < 64
  · have e : l = laneA ⟨l.val, h⟩ := rfl
    rw [e, scL_A]; exact blkO_A mask ok hm q k v i _
  · have e : l = laneB ⟨l.val - 64, by omega⟩ := Fin.ext (by simp only [laneB]; omega)
    rw [e, scL_B]; exact blkO_B mask ok hm q k v i _

include hm in
theorem blkL_apply (i l : Fin 128) : blkL mask q k v (ix3 (0 : Fin 1) i l) = lse (scL ok q k i l) := by
  by_cases h : l.val < 64
  · have e : l = laneA ⟨l.val, h⟩ := rfl
    rw [e, scL_A]; exact blkL_A mask ok hm q k v i _
  · have e : l = laneB ⟨l.val - 64, by omega⟩ := Fin.ext (by simp only [laneB]; omega)
    rw [e, scL_B]; exact blkL_B mask ok hm q k v i _

end Cert.Kernel8Ideal.Value

end

end
-- ==== Proof.AttnPieces.lean ====
/- What the kernel of the dilated attention leaves in its two scratch arrays: each of the 48 stores into either is a block of one function of the operand. -/
module

public import proofs.«01_k».proof.Proof.AttnBlock
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.Kernel8Ideal.Value

open Cert.Kernel8Ideal Cert.Kernel8Ideal.Gen Cert.Attn

/-- The five blocks a grid point stages, unit `n` of 2048 rows and pair `pp` of heads, read off the array: the queries, the keys of the unit before and of
    this one, the values likewise. -/
structure Holds (n pp : ℕ) (X : ℕ → ℕ → EReal) (x0 x1 x2 x3 x4 : Vec Ideal S2048x128 .f32) : Prop where
  h0 : ∀ (s : Fin 2048) (l : Fin 128), x0 (ix2 s l) = X (2048 * n + s.val) (128 * pp + l.val)
  h1 : 0 < n → ∀ (s : Fin 2048) (l : Fin 128), x1 (ix2 s l) = X (2048 * n - 2048 + s.val) (512 + 128 * pp + l.val)
  h2 : ∀ (s : Fin 2048) (l : Fin 128), x2 (ix2 s l) = X (2048 * n + s.val) (512 + 128 * pp + l.val)
  h3 : 0 < n → ∀ (s : Fin 2048) (l : Fin 128), x3 (ix2 s l) = X (2048 * n - 2048 + s.val) (1024 + 128 * pp + l.val)
  h4 : ∀ (s : Fin 2048) (l : Fin 128), x4 (ix2 s l) = X (2048 * n + s.val) (1024 + 128 * pp + l.val)

/-- What the scratch arrays hold of pattern `p`, row `s` of the unit and lane `l` of the pair. -/
def scrO (n pp : ℕ) (X : ℕ → ℕ → EReal) (y : S3x2048x128.Idx) : EReal := outD X (dil (y 0).val) (2048 * n + (y 1).val) (128 * pp + (y 2).val)
def scrL (n pp : ℕ) (X : ℕ → ℕ → EReal) (y : S3x2048x128.Idx) : EReal := lseD X (dil (y 0).val) (2048 * n + (y 1).val) (128 * pp + (y 2).val)

/-- A load of strided rows, element by element. -/
theorem load_at {rows : ℕ} {a : Memref sig .tc .vmem S2048x128 .f32} (h : a.IsWhole) (x : Vec Ideal S2048x128 .f32) {o t : Fin 2 → ℕ}
    {b : ∀ a, (![rows, 128] : Fin 2 → ℕ) a = 0 ∨ o a + t a * ((![rows, 128] : Fin 2 → ℕ) a - 1) < S2048x128.size a}
    (i : Fin rows) (l' : Fin 128) (s : Fin 2048) (l : Fin 128) (hs : s.val = o 0 + t 0 * i.val) (hl : l.val = o 1 + t 1 * l'.val) :
    View.readAt (Elt Ideal) a.view (⟨o, ![rows, 128], t, b⟩ : LoadRect S2048x128) (h.unread x) (ix2 i l') = x (ix2 s l) := by
  rw [h.readAt_unread]
  congr 1
  funext a
  match a with
  | 0 => exact Fin.ext hs.symm
  | 1 => exact Fin.ext hl.symm

variable {n pp : ℕ} {X : ℕ → ℕ → EReal} {x0 x1 x2 x3 x4 : Vec Ideal S2048x128 .f32} (H : Holds n pp X x0 x1 x2 x3 x4)
  {mask : IVec S128x256 1} {ok : Fin 128 → Fin 256 → Prop} [∀ i j, Decidable (ok i j)] (hm : ∀ i j, mask (ix2 i j) = if ok i j then 1#1 else 0#1)
  {q : Vec Ideal S128x128 .f32} {k v : Vec Ideal S256x128 .f32}

/-- A block's scores are the pattern's, once its loads are the pattern's rows. -/
theorem scL_eq (d : ℕ) (row : Fin 128 → ℕ) (i l : Fin 128) (hok : ∀ j, ok i j ↔ okD d (row i) j)
    (hq : ∀ e : Fin 64, q (ix2 i (laneOf l e)) = X (row i) (128 * pp + (laneOf l e).val))
    (hk : ∀ j, ok i j → ∀ e : Fin 64, k (ix2 j (laneOf l e)) = X (krow d (row i) j) (512 + 128 * pp + (laneOf l e).val)) :
    scL ok q k i l = scD X d (row i) (128 * pp + l.val) := by
  have hc : ∀ e : Fin 64, 128 * pp + (laneOf l e).val = 64 * ((128 * pp + l.val) / 64) + e.val := fun e => by
    have : (laneOf l e).val = 64 * (l.val / 64) + e.val := rfl
    omega
  unfold scL scD
  refine score_congr hok (fun e => ?_) (fun j hj e => ?_)
  · rw [hq, hc]
  · rw [hk j hj, add_assoc, add_assoc, hc]

include hm in
theorem blkO_eq (d : ℕ) (row : Fin 128 → ℕ) (i l : Fin 128) (hok : ∀ j, ok i j ↔ okD d (row i) j)
    (hq : ∀ e : Fin 64, q (ix2 i (laneOf l e)) = X (row i) (128 * pp + (laneOf l e).val))
    (hk : ∀ j, ok i j → ∀ e : Fin 64, k (ix2 j (laneOf l e)) = X (krow d (row i) j) (512 + 128 * pp + (laneOf l e).val))
    (hv : ∀ j, ok i j → v (ix2 j l) = X (krow d (row i) j) (1024 + 128 * pp + l.val)) :
    blkO mask q k v (ix3 (0 : Fin 1) i l) = outD X d (row i) (128 * pp + l.val) := by
  rw [blkO_apply mask ok hm, scL_eq d row i l hok hq hk]
  unfold outD scD
  exact out_congr fun j hj => by rw [hv j ((hok j).2 hj), add_assoc]

include hm in
theorem blkL_eq (d : ℕ) (row : Fin 128 → ℕ) (i l : Fin 128) (hok : ∀ j, ok i j ↔ okD d (row i) j)
    (hq : ∀ e : Fin 64, q (ix2 i (laneOf l e)) = X (row i) (128 * pp + (laneOf l e).val))
    (hk : ∀ j, ok i j → ∀ e : Fin 64, k (ix2 j (laneOf l e)) = X (krow d (row i) j) (512 + 128 * pp + (laneOf l e).val)) :
    blkL mask q k v (ix3 (0 : Fin 1) i l) = lseD X d (row i) (128 * pp + l.val) := by
  rw [blkL_apply mask ok hm, scL_eq d row i l hok hq hk]
  rfl

theorem cat_lo (a b : Vec Ideal S128x128 .f32) (j : Fin 256) (l : Fin 128) (h : j.val < 128) :
    concatenate S256x128 0 [⟨S128x128, a⟩, ⟨S128x128, b⟩] concatenates_S128x128_S128x128_S256x128_d0 (ix2 j l) = a (ix2 ⟨j.val, h⟩ l) := by
  pointwise
  simp only [h, dif_pos]

theorem cat_hi (a b : Vec Ideal S128x128 .f32) (j : Fin 256) (l : Fin 128) (h : 128 ≤ j.val) :
    concatenate S256x128 0 [⟨S128x128, a⟩, ⟨S128x128, b⟩] concatenates_S128x128_S128x128_S256x128_d0 (ix2 j l) = b (ix2 ⟨j.val - 128, by omega⟩ l) := by
  pointwise
  simp only [Nat.not_lt.2 h, dif_neg, not_false_eq_true]

/-! ## One store -/

section store

variable {arg2 arg3 arg4 arg5 arg6 : Memref sig .tc .vmem S2048x128 .f32} {h2 : arg2.IsWhole} {h3 : arg3.IsWhole} {h4 : arg4.IsWhole} {h5 : arg5.IsWhole}
  {h6 : arg6.IsWhole}
  {oP : Fin 3 → ℕ} {tP : Fin 3 → ℕ} {bP : ∀ a, S1x128x128.size a = 0 ∨ oP a + tP a * (S1x128x128.size a - 1) < S3x2048x128.size a} {wP : ∀ a, 0 < tP a}
  {oQ tQ : Fin 2 → ℕ} {bQ : ∀ a, S128x128.size a = 0 ∨ oQ a + tQ a * (S128x128.size a - 1) < S2048x128.size a}
  {oK tK : Fin 2 → ℕ} {bK : ∀ a, S256x128.size a = 0 ∨ oK a + tK a * (S256x128.size a - 1) < S2048x128.size a}
  {oB tB : Fin 2 → ℕ} {bB : ∀ a, S128x128.size a = 0 ∨ oB a + tB a * (S128x128.size a - 1) < S2048x128.size a}

/-- The rows of a store beyond the first block of its residue: block `b` of residue `r`, whose keys start one block before. -/
def restRect (oP tP : Fin 3 → ℕ) (oQ tQ oK tK : Fin 2 → ℕ) : Bool :=
  let d := dil (oP 0)
  decide (oP 0 < 3 ∧ oP 2 = 0 ∧ tP 1 = d ∧ tP 2 = 1 ∧ oQ 0 = oP 1 ∧ oQ 1 = 0 ∧ tQ 0 = d ∧ tQ 1 = 1 ∧ oK 0 + 128 * d = oP 1 ∧ oK 1 = 0 ∧ tK 0 = d ∧ tK 1 = 1
    ∧ oP 1 % (128 * d) < d ∧ oP 1 + 127 * d < 2048)

/-- The rows of a store of the first block of a residue: its keys are the last block of the unit before and the block itself. -/
def firstRect (oP tP : Fin 3 → ℕ) (oQ tQ oB tB : Fin 2 → ℕ) : Bool :=
  let d := dil (oP 0)
  decide (oP 0 < 3 ∧ oP 2 = 0 ∧ tP 1 = d ∧ tP 2 = 1 ∧ oQ 0 = oP 1 ∧ oQ 1 = 0 ∧ tQ 0 = d ∧ tQ 1 = 1 ∧ oB 0 + 128 * d = oP 1 + 2048 ∧ oB 1 = 0 ∧ tB 0 = d ∧ tB 1 = 1
    ∧ oP 1 < d)

theorem dil_cases (p : ℕ) : dil p = 1 ∨ dil p = 4 ∨ dil p = 16 := by
  unfold dil; split
  · exact .inl rfl
  · split
    · exact .inr (.inl rfl)
    · exact .inr (.inr rfl)

/-- Where an entry of a store lies. -/
theorem emb_at (f : S3x2048x128.Idx → EReal) (x : S1x128x128.Idx) (p : Fin 3) (s : Fin 2048) (l : Fin 128) (hp : p.val = oP 0 + tP 0 * (x 0).val)
    (hs : s.val = oP 1 + tP 1 * (x 1).val) (hl : l.val = oP 2 + tP 2 * (x 2).val) :
    f ((⟨⟨oP, S1x128x128.size, tP, bP⟩, wP⟩ : Rect S3x2048x128).emb x) = f (ix3 p s l) := by
  congr 1
  funext a
  match a with
  | 0 => exact Fin.ext hp.symm
  | 1 => exact Fin.ext hs.symm
  | 2 => exact Fin.ext hl.symm

include H in
theorem rest_both (hr : restRect oP tP oQ tQ oK tK = true) (x : S1x128x128.Idx) :
    blkO k0_pay3 (View.readAt (Elt Ideal) arg2.view (⟨oQ, S128x128.size, tQ, bQ⟩ : LoadRect S2048x128) (h2.unread x0))
        (View.readAt (Elt Ideal) arg4.view (⟨oK, S256x128.size, tK, bK⟩ : LoadRect S2048x128) (h4.unread x2))
        (View.readAt (Elt Ideal) arg6.view (⟨oK, S256x128.size, tK, bK⟩ : LoadRect S2048x128) (h6.unread x4)) x
      = scrO n pp X ((⟨⟨oP, S1x128x128.size, tP, bP⟩, wP⟩ : Rect S3x2048x128).emb x)
    ∧ blkL k0_pay3 (View.readAt (Elt Ideal) arg2.view (⟨oQ, S128x128.size, tQ, bQ⟩ : LoadRect S2048x128) (h2.unread x0))
        (View.readAt (Elt Ideal) arg4.view (⟨oK, S256x128.size, tK, bK⟩ : LoadRect S2048x128) (h4.unread x2))
        (View.readAt (Elt Ideal) arg6.view (⟨oK, S256x128.size, tK, bK⟩ : LoadRect S2048x128) (h6.unread x4)) x
      = scrL n pp X ((⟨⟨oP, S1x128x128.size, tP, bP⟩, wP⟩ : Rect S3x2048x128).emb x) := by
  obtain ⟨hp, hp2, ht1, ht2, hq0, hq1, hq2, hq3, hk0, hk1, hk2, hk3, hs, hin⟩ := of_decide_eq_true hr
  obtain ⟨z, i, l, rfl⟩ : ∃ (z : Fin 1) (i l : Fin 128), x = ix3 z i l := ⟨x 0, x 1, x 2, by funext a; match a with | 0 => rfl | 1 => rfl | 2 => rfl⟩
  obtain rfl : z = 0 := Subsingleton.elim _ _
  have hi : oP 1 + dil (oP 0) * i.val < 2048 := by
    rcases dil_cases (oP 0) with e | e | e <;> rw [e] at hin ⊢ <;> omega
  have hcol : ∀ a : Fin 128, a.val = 0 + 1 * a.val := fun a => by omega
  rw [emb_at (scrO n pp X) _ ⟨oP 0, hp⟩ ⟨oP 1 + dil (oP 0) * i.val, hi⟩ l (by show oP 0 = oP 0 + tP 0 * 0; omega) (by rw [ht1]; rfl) (by rw [hp2, ht2]; exact hcol l),
    emb_at (scrL n pp X) _ ⟨oP 0, hp⟩ ⟨oP 1 + dil (oP 0) * i.val, hi⟩ l (by show oP 0 = oP 0 + tP 0 * 0; omega) (by rw [ht1]; rfl) (by rw [hp2, ht2]; exact hcol l)]
  have hok : ∀ j : Fin 256, (i.val ≤ j.val ∧ j.val ≤ i.val + 128) ↔ okD (dil (oP 0)) (2048 * n + (oP 1 + dil (oP 0) * i.val)) j := fun j => by
    unfold okD
    rcases dil_cases (oP 0) with e | e | e <;> rw [e] at hs hin hk0 hi ⊢ <;> omega
  have hQ : ∀ e : Fin 64, View.readAt (Elt Ideal) arg2.view (⟨oQ, S128x128.size, tQ, bQ⟩ : LoadRect S2048x128) (h2.unread x0) (ix2 i (laneOf l e))
      = X (2048 * n + (oP 1 + dil (oP 0) * i.val)) (128 * pp + (laneOf l e).val) := fun e => by
    refine (load_at h2 x0 i (laneOf l e) ⟨oP 1 + dil (oP 0) * i.val, hi⟩ (laneOf l e) ?_ ?_).trans (H.h0 _ _)
    · show _ = oQ 0 + tQ 0 * i.val; rw [hq0, hq2]
    · show _ = oQ 1 + tQ 1 * _; rw [hq1, hq3]; exact hcol _
  have hrow : ∀ j : Fin 256, oK 0 + dil (oP 0) * j.val < 2048
      ∧ (i.val ≤ j.val ∧ j.val ≤ i.val + 128 → 2048 * n + (oK 0 + dil (oP 0) * j.val) = krow (dil (oP 0)) (2048 * n + (oP 1 + dil (oP 0) * i.val)) j) := fun j => by
    unfold krow
    rcases dil_cases (oP 0) with e | e | e <;> rw [e] at hs hin hk0 hi ⊢ <;> omega
  have hK : ∀ j : Fin 256, (i.val ≤ j.val ∧ j.val ≤ i.val + 128) → ∀ l' : Fin 128,
      View.readAt (Elt Ideal) arg4.view (⟨oK, S256x128.size, tK, bK⟩ : LoadRect S2048x128) (h4.unread x2) (ix2 j l')
      = X (krow (dil (oP 0)) (2048 * n + (oP 1 + dil (oP 0) * i.val)) j) (512 + 128 * pp + l'.val) := fun j hj l' => by
    rw [← (hrow j).2 hj]
    refine (load_at h4 x2 j l' ⟨oK 0 + dil (oP 0) * j.val, (hrow j).1⟩ l' ?_ ?_).trans (H.h2 _ _)
    · show _ = oK 0 + tK 0 * j.val; rw [hk2]
    · show _ = oK 1 + tK 1 * l'.val; rw [hk1, hk3]; exact hcol _
  have hV : ∀ j : Fin 256, (i.val ≤ j.val ∧ j.val ≤ i.val + 128) → ∀ l' : Fin 128,
      View.readAt (Elt Ideal) arg6.view (⟨oK, S256x128.size, tK, bK⟩ : LoadRect S2048x128) (h6.unread x4) (ix2 j l')
      = X (krow (dil (oP 0)) (2048 * n + (oP 1 + dil (oP 0) * i.val)) j) (1024 + 128 * pp + l'.val) := fun j hj l' => by
    rw [← (hrow j).2 hj]
    refine (load_at h6 x4 j l' ⟨oK 0 + dil (oP 0) * j.val, (hrow j).1⟩ l' ?_ ?_).trans (H.h4 _ _)
    · show _ = oK 0 + tK 0 * j.val; rw [hk2]
    · show _ = oK 1 + tK 1 * l'.val; rw [hk1, hk3]; exact hcol _
  exact ⟨blkO_eq band_word (dil (oP 0)) (fun i => 2048 * n + (oP 1 + dil (oP 0) * i.val)) i l hok hQ (fun j hj e => hK j hj _) (fun j hj => hV j hj l),
    blkL_eq band_word (dil (oP 0)) (fun i => 2048 * n + (oP 1 + dil (oP 0) * i.val)) i l hok hQ (fun j hj e => hK j hj _)⟩

include H in
theorem first_both (g : grid0.Coords) (hg : (g 1).val = n) (hr : firstRect oP tP oQ tQ oB tB = true) (x : S1x128x128.Idx) :
    blkO (k0_pay4 g) (View.readAt (Elt Ideal) arg2.view (⟨oQ, S128x128.size, tQ, bQ⟩ : LoadRect S2048x128) (h2.unread x0))
        (concatenate S256x128 0 [⟨S128x128, View.readAt (Elt Ideal) arg3.view (⟨oB, S128x128.size, tB, bB⟩ : LoadRect S2048x128) (h3.unread x1)⟩,
          ⟨S128x128, View.readAt (Elt Ideal) arg4.view (⟨oQ, S128x128.size, tQ, bQ⟩ : LoadRect S2048x128) (h4.unread x2)⟩] concatenates_S128x128_S128x128_S256x128_d0)
        (concatenate S256x128 0 [⟨S128x128, View.readAt (Elt Ideal) arg5.view (⟨oB, S128x128.size, tB, bB⟩ : LoadRect S2048x128) (h5.unread x3)⟩,
          ⟨S128x128, View.readAt (Elt Ideal) arg6.view (⟨oQ, S128x128.size, tQ, bQ⟩ : LoadRect S2048x128) (h6.unread x4)⟩] concatenates_S128x128_S128x128_S256x128_d0) x
      = scrO n pp X ((⟨⟨oP, S1x128x128.size, tP, bP⟩, wP⟩ : Rect S3x2048x128).emb x)
    ∧ blkL (k0_pay4 g) (View.readAt (Elt Ideal) arg2.view (⟨oQ, S128x128.size, tQ, bQ⟩ : LoadRect S2048x128) (h2.unread x0))
        (concatenate S256x128 0 [⟨S128x128, View.readAt (Elt Ideal) arg3.view (⟨oB, S128x128.size, tB, bB⟩ : LoadRect S2048x128) (h3.unread x1)⟩,
          ⟨S128x128, View.readAt (Elt Ideal) arg4.view (⟨oQ, S128x128.size, tQ, bQ⟩ : LoadRect S2048x128) (h4.unread x2)⟩] concatenates_S128x128_S128x128_S256x128_d0)
        (concatenate S256x128 0 [⟨S128x128, View.readAt (Elt Ideal) arg5.view (⟨oB, S128x128.size, tB, bB⟩ : LoadRect S2048x128) (h5.unread x3)⟩,
          ⟨S128x128, View.readAt (Elt Ideal) arg6.view (⟨oQ, S128x128.size, tQ, bQ⟩ : LoadRect S2048x128) (h6.unread x4)⟩] concatenates_S128x128_S128x128_S256x128_d0) x
      = scrL n pp X ((⟨⟨oP, S1x128x128.size, tP, bP⟩, wP⟩ : Rect S3x2048x128).emb x) := by
  obtain ⟨hp, hp2, ht1, ht2, hq0, hq1, hq2, hq3, hk0, hk1, hk2, hk3, hs⟩ := of_decide_eq_true hr
  obtain ⟨z, i, l, rfl⟩ : ∃ (z : Fin 1) (i l : Fin 128), x = ix3 z i l := ⟨x 0, x 1, x 2, by funext a; match a with | 0 => rfl | 1 => rfl | 2 => rfl⟩
  obtain rfl : z = 0 := Subsingleton.elim _ _
  have hin : ∀ i : Fin 128, oP 1 + dil (oP 0) * i.val < 2048 := fun i => by
    rcases dil_cases (oP 0) with e | e | e <;> rw [e] at hs ⊢ <;> omega
  have hi := hin i
  have hcol : ∀ a : Fin 128, a.val = 0 + 1 * a.val := fun a => by omega
  rw [emb_at (scrO n pp X) _ ⟨oP 0, hp⟩ ⟨oP 1 + dil (oP 0) * i.val, hi⟩ l (by show oP 0 = oP 0 + tP 0 * 0; omega) (by rw [ht1]; rfl) (by rw [hp2, ht2]; exact hcol l),
    emb_at (scrL n pp X) _ ⟨oP 0, hp⟩ ⟨oP 1 + dil (oP 0) * i.val, hi⟩ l (by show oP 0 = oP 0 + tP 0 * 0; omega) (by rw [ht1]; rfl) (by rw [hp2, ht2]; exact hcol l)]
  have hok : ∀ j : Fin 256, ((i.val ≤ j.val ∧ j.val ≤ i.val + 128) ∧ (128 ≤ j.val ∨ 0 < (g 1).val)) ↔ okD (dil (oP 0)) (2048 * n + (oP 1 + dil (oP 0) * i.val)) j := fun j => by
    unfold okD
    rw [hg]
    rcases dil_cases (oP 0) with e | e | e <;> rw [e] at hs hi ⊢ <;> omega
  have hQ : ∀ e : Fin 64, View.readAt (Elt Ideal) arg2.view (⟨oQ, S128x128.size, tQ, bQ⟩ : LoadRect S2048x128) (h2.unread x0) (ix2 i (laneOf l e))
      = X (2048 * n + (oP 1 + dil (oP 0) * i.val)) (128 * pp + (laneOf l e).val) := fun e => by
    refine (load_at h2 x0 i (laneOf l e) ⟨oP 1 + dil (oP 0) * i.val, hi⟩ (laneOf l e) ?_ ?_).trans (H.h0 _ _)
    · show _ = oQ 0 + tQ 0 * i.val; rw [hq0, hq2]
    · show _ = oQ 1 + tQ 1 * _; rw [hq1, hq3]; exact hcol _
  have hlo : ∀ j : Fin 256, j.val < 128 → oB 0 + dil (oP 0) * j.val < 2048
      ∧ (0 < n → (i.val ≤ j.val ∧ j.val ≤ i.val + 128) → 2048 * n - 2048 + (oB 0 + dil (oP 0) * j.val) = krow (dil (oP 0)) (2048 * n + (oP 1 + dil (oP 0) * i.val)) j) := fun j hj => by
    unfold krow
    rcases dil_cases (oP 0) with e | e | e <;> rw [e] at hs hk0 hi ⊢ <;> omega
  have hhi : ∀ j : Fin 256, 128 ≤ j.val → oP 1 + dil (oP 0) * (j.val - 128) < 2048
      ∧ ((i.val ≤ j.val ∧ j.val ≤ i.val + 128) → 2048 * n + (oP 1 + dil (oP 0) * (j.val - 128)) = krow (dil (oP 0)) (2048 * n + (oP 1 + dil (oP 0) * i.val)) j) := fun j hj => by
    unfold krow
    rcases dil_cases (oP 0) with e | e | e <;> rw [e] at hs hk0 hi ⊢ <;> omega
  have hK : ∀ j : Fin 256, ((i.val ≤ j.val ∧ j.val ≤ i.val + 128) ∧ (128 ≤ j.val ∨ 0 < (g 1).val)) → ∀ l' : Fin 128,
      concatenate S256x128 0 [⟨S128x128, View.readAt (Elt Ideal) arg3.view (⟨oB, S128x128.size, tB, bB⟩ : LoadRect S2048x128) (h3.unread x1)⟩,
          ⟨S128x128, View.readAt (Elt Ideal) arg4.view (⟨oQ, S128x128.size, tQ, bQ⟩ : LoadRect S2048x128) (h4.unread x2)⟩] concatenates_S128x128_S128x128_S256x128_d0 (ix2 j l')
      = X (krow (dil (oP 0)) (2048 * n + (oP 1 + dil (oP 0) * i.val)) j) (512 + 128 * pp + l'.val) := fun j hj l' => by
    by_cases hj8 : j.val < 128
    · have hn : 0 < n := by omega
      refine (cat_lo _ _ j l' hj8).trans ?_
      rw [← (hlo j hj8).2 hn hj.1]
      refine (load_at h3 x1 (⟨j.val, hj8⟩ : Fin 128) l' ⟨oB 0 + dil (oP 0) * j.val, (hlo j hj8).1⟩ l' ?_ ?_).trans (H.h1 hn _ _)
      · show _ = oB 0 + tB 0 * j.val; rw [hk2]
      · show _ = oB 1 + tB 1 * l'.val; rw [hk1, hk3]; exact hcol _
    · have hj8' : 128 ≤ j.val := by omega
      refine (cat_hi _ _ j l' hj8').trans ?_
      rw [← (hhi j hj8').2 hj.1]
      refine (load_at h4 x2 (⟨j.val - 128, by omega⟩ : Fin 128) l' ⟨oP 1 + dil (oP 0) * (j.val - 128), (hhi j hj8').1⟩ l' ?_ ?_).trans (H.h2 _ _)
      · show _ = oQ 0 + tQ 0 * (j.val - 128); rw [hq0, hq2]
      · show _ = oQ 1 + tQ 1 * l'.val; rw [hq1, hq3]; exact hcol _
  have hV : ∀ j : Fin 256, ((i.val ≤ j.val ∧ j.val ≤ i.val + 128) ∧ (128 ≤ j.val ∨ 0 < (g 1).val)) → ∀ l' : Fin 128,
      concatenate S256x128 0 [⟨S128x128, View.readAt (Elt Ideal) arg5.view (⟨oB, S128x128.size, tB, bB⟩ : LoadRect S2048x128) (h5.unread x3)⟩,
          ⟨S128x128, View.readAt (Elt Ideal) arg6.view (⟨oQ, S128x128.size, tQ, bQ⟩ : LoadRect S2048x128) (h6.unread x4)⟩] concatenates_S128x128_S128x128_S256x128_d0 (ix2 j l')
      = X (krow (dil (oP 0)) (2048 * n + (oP 1 + dil (oP 0) * i.val)) j) (1024 + 128 * pp + l'.val) := fun j hj l' => by
    by_cases hj8 : j.val < 128
    · have hn : 0 < n := by omega
      refine (cat_lo _ _ j l' hj8).trans ?_
      rw [← (hlo j hj8).2 hn hj.1]
      refine (load_at h5 x3 (⟨j.val, hj8⟩ : Fin 128) l' ⟨oB 0 + dil (oP 0) * j.val, (hlo j hj8).1⟩ l' ?_ ?_).trans (H.h3 hn _ _)
      · show _ = oB 0 + tB 0 * j.val; rw [hk2]
      · show _ = oB 1 + tB 1 * l'.val; rw [hk1, hk3]; exact hcol _
    · have hj8' : 128 ≤ j.val := by omega
      refine (cat_hi _ _ j l' hj8').trans ?_
      rw [← (hhi j hj8').2 hj.1]
      refine (load_at h6 x4 (⟨j.val - 128, by omega⟩ : Fin 128) l' ⟨oP 1 + dil (oP 0) * (j.val - 128), (hhi j hj8').1⟩ l' ?_ ?_).trans (H.h4 _ _)
      · show _ = oQ 0 + tQ 0 * (j.val - 128); rw [hq0, hq2]
      · show _ = oQ 1 + tQ 1 * l'.val; rw [hq1, hq3]; exact hcol _
  exact ⟨blkO_eq (first_word g) (dil (oP 0)) (fun i => 2048 * n + (oP 1 + dil (oP 0) * i.val)) i l hok hQ (fun j hj e => hK j hj _) (fun j hj => hV j hj l),
    blkL_eq (first_word g) (dil (oP 0)) (fun i => 2048 * n + (oP 1 + dil (oP 0) * i.val)) i l hok hQ (fun j hj e => hK j hj _)⟩

end store

end Cert.Kernel8Ideal.Value

end

end
-- ==== Proof.AttnScratch.lean ====
/- The kernel of the dilated attention: the two scratch arrays hold the three patterns' outputs and log-denominators, and the stores of the results merge them. -/
module

public import proofs.«01_k».proof.Proof.AttnPieces
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel8Ideal.Value

open Cert.Kernel8Ideal Cert.Kernel8Ideal.Gen Cert.Attn

variable {n pp : ℕ} {X : ℕ → ℕ → EReal} {x0 x1 x2 x3 x4 : Vec Ideal S2048x128 .f32} (H : Holds n pp X x0 x1 x2 x3 x4)
  (c : Dev nD) (g : grid0.Coords) (hg : (g 1).val = n)
  (arg2 : Memref sig .tc .vmem S2048x128 .f32) (h2 : arg2.IsWhole) (arg3 : Memref sig .tc .vmem S2048x128 .f32) (h3 : arg3.IsWhole)
  (arg4 : Memref sig .tc .vmem S2048x128 .f32) (h4 : arg4.IsWhole) (arg5 : Memref sig .tc .vmem S2048x128 .f32) (h5 : arg5.IsWhole)
  (arg6 : Memref sig .tc .vmem S2048x128 .f32) (h6 : arg6.IsWhole)

set_option maxHeartbeats 2000000 in
include H hg in
theorem pieces_o : View.PiecesOf (Val := Elt Ideal) (e := .f32) (scrO n pp X) (kernelRun0_A.sl.HS0_48 (F := Ideal) c g arg2 h2 arg3 h3 arg4 h4 arg5 h5 arg6 h6 x0 x1 x2 x3 x4) := by
  iterate 16 refine And.intro (fun x => (first_both H g hg (by decide) x).1) ?_
  iterate 4
    iterate 3 refine And.intro (fun x => (rest_both H (by decide) x).1) ?_
    refine And.intro (fun x => (first_both H g hg (by decide) x).1) ?_
  iterate 15 refine And.intro (fun x => (rest_both H (by decide) x).1) ?_
  refine And.intro (fun x => (first_both H g hg (by decide) x).1) ?_
  exact trivial

set_option maxHeartbeats 2000000 in
include H hg in
theorem pieces_l : View.PiecesOf (Val := Elt Ideal) (e := .f32) (scrL n pp X) (kernelRun0_A.sl.HS1_48 (F := Ideal) c g arg2 h2 arg3 h3 arg4 h4 arg5 h5 arg6 h6 x0 x1 x2 x3 x4) := by
  iterate 16 refine And.intro (fun x => (first_both H g hg (by decide) x).2) ?_
  iterate 4
    iterate 3 refine And.intro (fun x => (rest_both H (by decide) x).2) ?_
    refine And.intro (fun x => (first_both H g hg (by decide) x).2) ?_
  iterate 15 refine And.intro (fun x => (rest_both H (by decide) x).2) ?_
  refine And.intro (fun x => (first_both H g hg (by decide) x).2) ?_
  exact trivial

/-! ## The stores cover both arrays -/

/-- Offsets, sizes and strides of a store. -/
def key (R : Rect S3x2048x128) : List ℕ := [R.off 0, R.off 1, R.off 2, R.size 0, R.size 1, R.size 2, R.stride 0, R.stride 1, R.stride 2]

/-- A store of pattern `p` from row `r` on. -/
def keyOf (p r : ℕ) : List ℕ := [p, r, 0, 1, 128, 128, 1, dil p, 1]

/-- The stores, the last one first. -/
def keys : List (List ℕ) :=
  (List.range 16).reverse.map (keyOf 2) ++ ((List.range 4).reverse.flatMap fun r => (List.range 4).reverse.map fun b => keyOf 1 (r + 512 * b))
    ++ (List.range 16).reverse.map fun b => keyOf 0 (128 * b)

theorem keys_o : (kernelRun0_A.sl.HS0_48 (F := Ideal) c g arg2 h2 arg3 h3 arg4 h4 arg5 h5 arg6 h6 x0 x1 x2 x3 x4).map (fun p => key p.1) = keys := rfl
theorem keys_l : (kernelRun0_A.sl.HS1_48 (F := Ideal) c g arg2 h2 arg3 h3 arg4 h4 arg5 h5 arg6 h6 x0 x1 x2 x3 x4).map (fun p => key p.1) = keys := rfl

theorem mem_key (R : Rect S3x2048x128) (p r : ℕ) (h : key R = keyOf p r) (y : S3x2048x128.Idx) (hp : (y 0).val = p) (i : ℕ) (hi : i < 128) (hr : (y 1).val = r + dil p * i) :
    y ∈ R.set := by
  unfold key keyOf at h
  simp only [List.cons.injEq, and_true] at h
  obtain ⟨e0, e1, e2, z0, z1, z2, s0, s1, s2⟩ := h
  refine R.toLoadRect.mem_set.2 ?_
  have hl : (y 2).val < 128 := (y 2).isLt
  intro a
  match a with
  | 0 => exact ⟨0, by rw [show R.size 0 = 1 from z0]; decide, by rw [show R.off 0 = p from e0]; omega⟩
  | 1 => exact ⟨i, by rw [show R.size 1 = 128 from z1]; exact hi, by rw [show R.off 1 = r from e1, show R.stride 1 = dil p from s1]; exact hr⟩
  | 2 => exact ⟨(y 2).val, by rw [show R.size 2 = 128 from z2]; exact hl, by rw [show R.off 2 = 0 from e2, show R.stride 2 = 1 from s2]; omega⟩

theorem covered (L : List (View.Piece (Elt Ideal) S3x2048x128 .f32)) (hL : L.map (fun p => key p.1) = keys) (y : S3x2048x128.Idx) : ∃ p ∈ L, y ∈ p.1.set := by
  have hs : (y 1).val < 2048 := (y 1).isLt
  have h0 : (y 0).val < 3 := (y 0).isLt
  have hm : ∀ q r : ℕ, keyOf q r ∈ keys → (y 0).val = q → ∀ i, i < 128 → (y 1).val = r + dil q * i → ∃ p ∈ L, y ∈ p.1.set := fun q r hk hq i hi hr => by
    rw [← hL, List.mem_map] at hk
    obtain ⟨p, hp, e⟩ := hk
    exact ⟨p, hp, mem_key p.1 q r e y hq i hi hr⟩
  have k0 : ∀ b : Fin 16, keyOf 0 (128 * b.val) ∈ keys := by decide
  have k1 : ∀ (r : Fin 4) (b : Fin 4), keyOf 1 (r.val + 512 * b.val) ∈ keys := by decide
  have k2 : ∀ r : Fin 16, keyOf 2 r.val ∈ keys := by decide
  have hp : (y 0).val = 0 ∨ (y 0).val = 1 ∨ (y 0).val = 2 := by omega
  rcases hp with hp | hp | hp
  · exact hm 0 _ (k0 ⟨(y 1).val / 128, by omega⟩) hp ((y 1).val % 128) (by omega) (by show _ = 128 * ((y 1).val / 128) + 1 * _; omega)
  · exact hm 1 _ (k1 ⟨(y 1).val % 4, by omega⟩ ⟨(y 1).val / 512, by omega⟩) hp ((y 1).val / 4 % 128) (by omega)
      (by show _ = ((y 1).val % 4 + 512 * ((y 1).val / 512)) + 4 * _; omega)
  · exact hm 2 _ (k2 ⟨(y 1).val % 16, by omega⟩) hp ((y 1).val / 16) (by omega) (by show _ = (y 1).val % 16 + 16 * _; omega)

/-- What a load of either scratch array reads. -/
theorem scr_o {κ : Kind} {sp : Space} (v : View sig κ sp S3x2048x128 .f32) (B : LoadRect S3x2048x128) (j : B.shape.Idx)
    (H : Holds n pp X x0 x1 x2 x3 x4) (hg : (g 1).val = n) :
    v.readCov (kernelRun0_A.sl.HS0_48 (F := Ideal) c g arg2 h2 arg3 h3 arg4 h4 arg5 h5 arg6 h6 x0 x1 x2 x3 x4) B j = scrO n pp X (B.idx j) := by
  rw [View.readCov_eq_canon']
  exact View.canon_apply_of_pieces _ _ (pieces_o H c g hg arg2 h2 arg3 h3 arg4 h4 arg5 h5 arg6 h6).mem _ (covered _ (keys_o c g arg2 h2 arg3 h3 arg4 h4 arg5 h5 arg6 h6) _)

theorem scr_l {κ : Kind} {sp : Space} (v : View sig κ sp S3x2048x128 .f32) (B : LoadRect S3x2048x128) (j : B.shape.Idx)
    (H : Holds n pp X x0 x1 x2 x3 x4) (hg : (g 1).val = n) :
    v.readCov (kernelRun0_A.sl.HS1_48 (F := Ideal) c g arg2 h2 arg3 h3 arg4 h4 arg5 h5 arg6 h6 x0 x1 x2 x3 x4) B j = scrL n pp X (B.idx j) := by
  rw [View.readCov_eq_canon']
  exact View.canon_apply_of_pieces _ _ (pieces_l H c g hg arg2 h2 arg3 h3 arg4 h4 arg5 h5 arg6 h6).mem _ (covered _ (keys_l c g arg2 h2 arg3 h3 arg4 h4 arg5 h5 arg6 h6) _)

/-! ## The merge of the patterns -/

section merge
variable {F : FTy → Type} [FloatOps F] [Named F] (l0 l1 l2 o0 o1 o2 : Vec F S1x256x128 .f32)

/-- 256 rows of the result and of its log-denominator, from those of the three patterns. -/
def mergeO : FVec F S256x128 .f32 := k0_pay714 (k0_pay706 l0) l1 l2 o0 o1 o2
def mergeL : FVec F S256x128 .f32 := k0_pay715 (k0_pay706 l0) l1 l2
end merge

section
variable (l0 l1 l2 o0 o1 o2 : Vec Ideal S1x256x128 .f32) (i : Fin 256) (l : Fin 128)

/-- Three entries as a function of the pattern. -/
def of3 (a b c : EReal) : Fin 3 → EReal := fun p => if p = 0 then a else if p = 1 then b else c

theorem mergeL_apply : mergeL l0 l1 l2 (ix2 i l) = mlse (of3 (l0 (ix3 (0 : Fin 1) i l)) (l1 (ix3 (0 : Fin 1) i l)) (l2 (ix3 (0 : Fin 1) i l))) := by
  unfold mergeL
  pointwise [k0_pay715, k0_pay713, k0_pay710, k0_pay711, k0_pay712, k0_pay709, k0_pay706, k0_pay707, k0_pay708]
  rfl

theorem mergeO_apply : mergeO l0 l1 l2 o0 o1 o2 (ix2 i l) = mout (of3 (l0 (ix3 (0 : Fin 1) i l)) (l1 (ix3 (0 : Fin 1) i l)) (l2 (ix3 (0 : Fin 1) i l)))
    (of3 (o0 (ix3 (0 : Fin 1) i l)) (o1 (ix3 (0 : Fin 1) i l)) (o2 (ix3 (0 : Fin 1) i l))) := by
  unfold mergeO
  pointwise [k0_pay714, k0_pay713, k0_pay710, k0_pay711, k0_pay712, k0_pay709, k0_pay706, k0_pay707, k0_pay708]
  rfl
end

end Cert.Kernel8Ideal.Value

end

end
-- ==== Proof.AttnKernel.lean ====
/- The results of the dilated attention's kernel as functions of the operand. -/
module

public import proofs.«01_k».proof.Proof.AttnScratch
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.Value

open Cert.Kernel8Ideal Cert.Kernel8Ideal.Gen Cert.Attn

/-- A unit's block of either. -/
def resO (n pp : ℕ) (X : ℕ → ℕ → EReal) (y : S2048x128.Idx) : EReal := attO X (2048 * n + (y 0).val) (128 * pp + (y 1).val)
def resL (n pp : ℕ) (X : ℕ → ℕ → EReal) (y : S2048x128.Idx) : EReal := attL X (2048 * n + (y 0).val) (128 * pp + (y 1).val)

theorem of3_fun (f : Fin 3 → EReal) : of3 (f 0) (f 1) (f 2) = f := by
  funext p; match p with | 0 => rfl | 1 => rfl | 2 => rfl

variable {n pp : ℕ} {X : ℕ → ℕ → EReal} {x0 x1 x2 x3 x4 : Vec Ideal S2048x128 .f32} (H : Holds n pp X x0 x1 x2 x3 x4)
  (c : Dev nD) (g : grid0.Coords) (hg : (g 1).val = n)
  {arg2 : Memref sig .tc .vmem S2048x128 .f32} {h2 : arg2.IsWhole} {arg3 : Memref sig .tc .vmem S2048x128 .f32} {h3 : arg3.IsWhole}
  {arg4 : Memref sig .tc .vmem S2048x128 .f32} {h4 : arg4.IsWhole} {arg5 : Memref sig .tc .vmem S2048x128 .f32} {h5 : arg5.IsWhole}
  {arg6 : Memref sig .tc .vmem S2048x128 .f32} {h6 : arg6.IsWhole}
  {arg7 : Memref sig .tc .vmem S2048x128 .f32} {h7 : arg7.IsWhole} {arg8 : Memref sig .tc .vmem S2048x128 .f32} {h8 : arg8.IsWhole}
  {arg9 : Memref sig .tc .vmem S3x2048x128 .f32} {h9 : arg9.IsWhole} {arg10 : Memref sig .tc .vmem S3x2048x128 .f32} {h10 : arg10.IsWhole}

section store
variable {oP tP : Fin 2 → ℕ} {bP : ∀ a, S256x128.size a = 0 ∨ oP a + tP a * (S256x128.size a - 1) < S2048x128.size a} {wP : ∀ a, 0 < tP a}
  {oA tA : Fin 3 → ℕ} {bA : ∀ a, S1x256x128.size a = 0 ∨ oA a + tA a * (S1x256x128.size a - 1) < S3x2048x128.size a}
  {oB tB : Fin 3 → ℕ} {bB : ∀ a, S1x256x128.size a = 0 ∨ oB a + tB a * (S1x256x128.size a - 1) < S3x2048x128.size a}
  {oC tC : Fin 3 → ℕ} {bC : ∀ a, S1x256x128.size a = 0 ∨ oC a + tC a * (S1x256x128.size a - 1) < S3x2048x128.size a}

/-- A load of 256 rows of pattern `p` beside a store of the same rows. -/
def scrRect (p : ℕ) (oP tP : Fin 2 → ℕ) (oA tA : Fin 3 → ℕ) : Bool :=
  decide (oA 0 = p ∧ oA 1 = oP 0 ∧ oA 2 = 0 ∧ tA 1 = 1 ∧ tA 2 = 1 ∧ tP 0 = 1 ∧ tP 1 = 1 ∧ oP 1 = 0 ∧ oP 0 + 256 ≤ 2048)

theorem scr_at (f : S3x2048x128.Idx → EReal) (p : Fin 3) (h : scrRect p.val oP tP oA tA = true) (i : Fin 256) (l : Fin 128) (hi : oP 0 + i.val < 2048) :
    f ((⟨oA, S1x256x128.size, tA, bA⟩ : LoadRect S3x2048x128).idx (ix3 (0 : Fin 1) i l)) = f (ix3 p ⟨oP 0 + i.val, hi⟩ l) := by
  obtain ⟨e0, e1, e2, s1, s2, _⟩ := of_decide_eq_true h
  congr 1
  funext a
  match a with
  | 0 => exact Fin.ext (by show oA 0 + tA 0 * 0 = p.val; omega)
  | 1 => exact Fin.ext (by show oA 1 + tA 1 * i.val = oP 0 + i.val; rw [e1, s1]; omega)
  | 2 => exact Fin.ext (by show oA 2 + tA 2 * l.val = l.val; rw [e2, s2]; omega)

theorem res_at (f : S2048x128.Idx → EReal) (h : scrRect 0 oP tP oA tA = true) (i : Fin 256) (l : Fin 128) (hi : oP 0 + i.val < 2048) :
    f ((⟨⟨oP, S256x128.size, tP, bP⟩, wP⟩ : Rect S2048x128).emb (ix2 i l)) = f (ix2 ⟨oP 0 + i.val, hi⟩ l) := by
  obtain ⟨e0, e1, e2, s1, s2, q0, q1, q2, _⟩ := of_decide_eq_true h
  congr 1
  funext a
  match a with
  | 0 => exact Fin.ext (by show oP 0 + tP 0 * i.val = oP 0 + i.val; rw [q0]; omega)
  | 1 => exact Fin.ext (by show oP 1 + tP 1 * l.val = l.val; rw [q1, q2]; omega)

include H hg in
theorem merge_both (hA : scrRect 0 oP tP oA tA = true) (hB : scrRect 1 oP tP oB tB = true) (hC : scrRect 2 oP tP oC tC = true) (x : S256x128.Idx) :
    mergeO (arg10.view.readCov (kernelRun0_A.sl.HS1_48 (F := Ideal) c g arg2 h2 arg3 h3 arg4 h4 arg5 h5 arg6 h6 x0 x1 x2 x3 x4) (⟨oA, S1x256x128.size, tA, bA⟩ : LoadRect S3x2048x128))
        (arg10.view.readCov (kernelRun0_A.sl.HS1_48 (F := Ideal) c g arg2 h2 arg3 h3 arg4 h4 arg5 h5 arg6 h6 x0 x1 x2 x3 x4) (⟨oB, S1x256x128.size, tB, bB⟩ : LoadRect S3x2048x128))
        (arg10.view.readCov (kernelRun0_A.sl.HS1_48 (F := Ideal) c g arg2 h2 arg3 h3 arg4 h4 arg5 h5 arg6 h6 x0 x1 x2 x3 x4) (⟨oC, S1x256x128.size, tC, bC⟩ : LoadRect S3x2048x128))
        (arg9.view.readCov (kernelRun0_A.sl.HS0_48 (F := Ideal) c g arg2 h2 arg3 h3 arg4 h4 arg5 h5 arg6 h6 x0 x1 x2 x3 x4) (⟨oA, S1x256x128.size, tA, bA⟩ : LoadRect S3x2048x128))
        (arg9.view.readCov (kernelRun0_A.sl.HS0_48 (F := Ideal) c g arg2 h2 arg3 h3 arg4 h4 arg5 h5 arg6 h6 x0 x1 x2 x3 x4) (⟨oB, S1x256x128.size, tB, bB⟩ : LoadRect S3x2048x128))
        (arg9.view.readCov (kernelRun0_A.sl.HS0_48 (F := Ideal) c g arg2 h2 arg3 h3 arg4 h4 arg5 h5 arg6 h6 x0 x1 x2 x3 x4) (⟨oC, S1x256x128.size, tC, bC⟩ : LoadRect S3x2048x128)) x
      = resO n pp X ((⟨⟨oP, S256x128.size, tP, bP⟩, wP⟩ : Rect S2048x128).emb x)
    ∧ mergeL (arg10.view.readCov (kernelRun0_A.sl.HS1_48 (F := Ideal) c g arg2 h2 arg3 h3 arg4 h4 arg5 h5 arg6 h6 x0 x1 x2 x3 x4) (⟨oA, S1x256x128.size, tA, bA⟩ : LoadRect S3x2048x128))
        (arg10.view.readCov (kernelRun0_A.sl.HS1_48 (F := Ideal) c g arg2 h2 arg3 h3 arg4 h4 arg5 h5 arg6 h6 x0 x1 x2 x3 x4) (⟨oB, S1x256x128.size, tB, bB⟩ : LoadRect S3x2048x128))
        (arg10.view.readCov (kernelRun0_A.sl.HS1_48 (F := Ideal) c g arg2 h2 arg3 h3 arg4 h4 arg5 h5 arg6 h6 x0 x1 x2 x3 x4) (⟨oC, S1x256x128.size, tC, bC⟩ : LoadRect S3x2048x128)) x
      = resL n pp X ((⟨⟨oP, S256x128.size, tP, bP⟩, wP⟩ : Rect S2048x128).emb x) := by
  obtain ⟨i, l, rfl⟩ : ∃ (i : Fin 256) (l : Fin 128), x = ix2 i l := ⟨x 0, x 1, by funext a; match a with | 0 => rfl | 1 => rfl⟩
  have hi : oP 0 + i.val < 2048 := by obtain ⟨_, _, _, _, _, _, _, _, e⟩ := of_decide_eq_true hA; omega
  rw [res_at (resO n pp X) hA i l hi, res_at (resL n pp X) hA i l hi, mergeO_apply, mergeL_apply]
  simp only [scr_o c g arg2 h2 arg3 h3 arg4 h4 arg5 h5 arg6 h6 _ _ _ H hg, scr_l c g arg2 h2 arg3 h3 arg4 h4 arg5 h5 arg6 h6 _ _ _ H hg]
  rw [scr_at (scrO n pp X) 0 hA i l hi, scr_at (scrO n pp X) 1 hB i l hi, scr_at (scrO n pp X) 2 hC i l hi,
    scr_at (scrL n pp X) 0 hA i l hi, scr_at (scrL n pp X) 1 hB i l hi, scr_at (scrL n pp X) 2 hC i l hi]
  unfold resO resL attO attL
  rw [← of3_fun (fun p => lseD X (dil p.val) (2048 * n + (ix2 (⟨oP 0 + i.val, hi⟩ : Fin 2048) l (0 : Fin 2)).val) (128 * pp + (ix2 (⟨oP 0 + i.val, hi⟩ : Fin 2048) l (1 : Fin 2)).val)),
    ← of3_fun (fun p => outD X (dil p.val) (2048 * n + (ix2 (⟨oP 0 + i.val, hi⟩ : Fin 2048) l (0 : Fin 2)).val) (128 * pp + (ix2 (⟨oP 0 + i.val, hi⟩ : Fin 2048) l (1 : Fin 2)).val))]
  exact ⟨rfl, rfl⟩

end store

set_option maxHeartbeats 2000000 in
include H hg in
theorem out5 (y : S2048x128.Idx) :
    out0_A_5 (F := Ideal) c g arg2 h2 arg3 h3 arg4 h4 arg5 h5 arg6 h6 arg7 h7 arg8 h8 arg9 h9 arg10 h10 x0 x1 x2 x3 x4 y = resO n pp X y := by
  unfold out0_A_5
  have hc := cover0_A_5 (F := Ideal) c g arg2 h2 arg3 h3 arg4 h4 arg5 h5 arg6 h6 arg7 h7 arg8 h8 arg9 h9 arg10 h10 x0 x1 x2 x3 x4
  refine (View.read_writes_apply_eq_canon _ _ y _ (hc y)).trans ?_
  refine View.canon_apply_of_pieces (resO n pp X) _ (View.PiecesOf.mem ?_) y (hc y)
  iterate 8 refine And.intro (fun x => (merge_both (arg9 := arg9) (arg10 := arg10) H c g hg (by decide) (by decide) (by decide) x).1) ?_
  exact trivial

set_option maxHeartbeats 2000000 in
include H hg in
theorem out6 (y : S2048x128.Idx) :
    out0_A_6 (F := Ideal) c g arg2 h2 arg3 h3 arg4 h4 arg5 h5 arg6 h6 arg7 h7 arg8 h8 arg9 h9 arg10 h10 x0 x1 x2 x3 x4 y = resL n pp X y := by
  unfold out0_A_6
  have hc := cover0_A_6 (F := Ideal) c g arg2 h2 arg3 h3 arg4 h4 arg5 h5 arg6 h6 arg7 h7 arg8 h8 arg9 h9 arg10 h10 x0 x1 x2 x3 x4
  refine (View.read_writes_apply_eq_canon _ _ y _ (hc y)).trans ?_
  refine View.canon_apply_of_pieces (resL n pp X) _ (View.PiecesOf.mem ?_) y (hc y)
  iterate 8 refine And.intro (fun x => (merge_both (arg9 := arg9) (arg10 := arg10) H c g hg (by decide) (by decide) (by decide) x).2) ?_
  exact trivial

end Cert.Kernel8Ideal.Value

end

end
-- ==== Proof.AttnFinal.lean ====
/- The result arrays of the dilated attention's kernel. -/
module

public import proofs.«01_k».proof.Proof.AttnKernel
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.Value

open Cert.Kernel8Ideal Cert.Kernel8Ideal.Gen Cert.Attn

variable (m : (ℓ : Loc nD τ sig) → Buf (Elt Ideal) ℓ) (c : Dev nD) (t : Fin cfg0.N)

/-- The operand. -/
def aX : Fin 4096 → Fin 3584 → EReal := fun R C => m ((c : Thread nD τ).loc main_arg0) (ix2 R C)

/-- The block a window is at, at each grid point. -/
theorem idx_val : ∀ t : Fin cfg0.N, win0_0.index t = ![t.val % 2, t.val / 2] ∧ win0_1.index t = ![t.val % 2 - 1, 4 + t.val / 2] ∧ win0_2.index t = ![t.val % 2, 4 + t.val / 2]
    ∧ win0_3.index t = ![t.val % 2 - 1, 8 + t.val / 2] ∧ win0_4.index t = ![t.val % 2, 8 + t.val / 2] ∧ win0_5.index t = ![t.val % 2, t.val / 2]
    ∧ win0_6.index t = ![t.val % 2, t.val / 2] ∧ (grid0.coords t 1).val = t.val % 2 ∧ t.val < 8 :=
  (by decide +kernel : ∀ t : Fin grid0.N, _)

theorem t_lt : t.val < 8 := (idx_val t).2.2.2.2.2.2.2.2

theorem blk0 (s : Fin 2048) (l : Fin 128) : iblk m c 0 t (ix2 s l) = aX m c ⟨2048 * (t.val % 2) + s.val, by omega⟩ ⟨128 * (t.val / 2) + l.val, by have := t_lt t; omega⟩ := by
  unfold aX
  blk_ext [iblk, V, idx_val t]

theorem blk1 (h : 0 < t.val % 2) (s : Fin 2048) (l : Fin 128) :
    iblk m c 1 t (ix2 s l) = aX m c ⟨2048 * (t.val % 2) - 2048 + s.val, by omega⟩ ⟨512 + 128 * (t.val / 2) + l.val, by have := t_lt t; omega⟩ := by
  unfold aX
  blk_ext [iblk, V, idx_val t]

theorem blk2 (s : Fin 2048) (l : Fin 128) : iblk m c 2 t (ix2 s l) = aX m c ⟨2048 * (t.val % 2) + s.val, by omega⟩ ⟨512 + 128 * (t.val / 2) + l.val, by have := t_lt t; omega⟩ := by
  unfold aX
  blk_ext [iblk, V, idx_val t]

theorem blk3 (h : 0 < t.val % 2) (s : Fin 2048) (l : Fin 128) :
    iblk m c 3 t (ix2 s l) = aX m c ⟨2048 * (t.val % 2) - 2048 + s.val, by omega⟩ ⟨1024 + 128 * (t.val / 2) + l.val, by have := t_lt t; omega⟩ := by
  unfold aX
  blk_ext [iblk, V, idx_val t]

theorem blk4 (s : Fin 2048) (l : Fin 128) : iblk m c 4 t (ix2 s l) = aX m c ⟨2048 * (t.val % 2) + s.val, by omega⟩ ⟨1024 + 128 * (t.val / 2) + l.val, by have := t_lt t; omega⟩ := by
  unfold aX
  blk_ext [iblk, V, idx_val t]

theorem holds : Holds (t.val % 2) (t.val / 2) (spread (aX m c)) (iblk m c 0 t) (iblk m c 1 t) (iblk m c 2 t) (iblk m c 3 t) (iblk m c 4 t) where
  h0 s l := (blk0 m c t s l).trans (spread_at (aX m c) _ _).symm
  h1 h s l := (blk1 m c t h s l).trans (spread_at (aX m c) _ _).symm
  h2 s l := (blk2 m c t s l).trans (spread_at (aX m c) _ _).symm
  h3 h s l := (blk3 m c t h s l).trans (spread_at (aX m c) _ _).symm
  h4 s l := (blk4 m c t s l).trans (spread_at (aX m c) _ _).symm

theorem outs5 (y : S2048x128.Idx) : (outsAt0 m c t).1 y = resO (t.val % 2) (t.val / 2) (spread (aX m c)) y :=
  out5 (holds m c t) c (grid0.coords t) (idx_val t).2.2.2.2.2.2.2.1 (arg7 := ms0_5 t) (h7 := hs0_5 t) (arg8 := ms0_6 t) (h8 := hs0_6 t)
    (arg9 := scM0_0) (h9 := Memref.isWhole_whole _) (arg10 := scM0_1) (h10 := Memref.isWhole_whole _) y

theorem outs6 (y : S2048x128.Idx) : (outsAt0 m c t).2 y = resL (t.val % 2) (t.val / 2) (spread (aX m c)) y :=
  out6 (holds m c t) c (grid0.coords t) (idx_val t).2.2.2.2.2.2.2.1 (arg7 := ms0_5 t) (h7 := hs0_5 t) (arg8 := ms0_6 t) (h8 := hs0_6 t)
    (arg9 := scM0_0) (h9 := Memref.isWhole_whole _) (arg10 := scM0_1) (h10 := Memref.isWhole_whole _) y

/-- The kernel's results: the attention's output and log-denominator at every row and column. -/
theorem final5 : (dats m 0 c).arrAt 5 (cfgs 0).N = (fun i : S4096x512.Idx => attO (spread (aX m c)) (i 0).val (i 1).val) := by
  refine (dats m 0 c).arrAt_eq_of_covers 5 _ (by decide +kernel) fun t hf y => ?_
  blk_simp
  rw [after0_5]
  idx_vars y
  refine (outs5 m c t (ix2 y0 y1)).trans ?_
  have e0 : win0_5.index t 0 = t.val % 2 := congrFun (idx_val t).2.2.2.2.2.1 0
  have e1 : win0_5.index t 1 = t.val / 2 := congrFun (idx_val t).2.2.2.2.2.1 1
  exact congrArg₂ (attO (spread (aX m c))) (by show 2048 * (t.val % 2) + y0.val = win0_5.index t 0 * 2048 + y0.val; rw [e0]; omega)
    (by show 128 * (t.val / 2) + y1.val = win0_5.index t 1 * 128 + y1.val; rw [e1]; omega)

theorem final6 : (dats m 0 c).arrAt 6 (cfgs 0).N = (fun i : S4096x512.Idx => attL (spread (aX m c)) (i 0).val (i 1).val) := by
  refine (dats m 0 c).arrAt_eq_of_covers 6 _ (by decide +kernel) fun t hf y => ?_
  blk_simp
  rw [after0_6]
  idx_vars y
  refine (outs6 m c t (ix2 y0 y1)).trans ?_
  have e0 : win0_6.index t 0 = t.val % 2 := congrFun (idx_val t).2.2.2.2.2.2.1 0
  have e1 : win0_6.index t 1 = t.val / 2 := congrFun (idx_val t).2.2.2.2.2.2.1 1
  exact congrArg₂ (attL (spread (aX m c))) (by show 2048 * (t.val % 2) + y0.val = win0_6.index t 0 * 2048 + y0.val; rw [e0]; omega)
    (by show 128 * (t.val / 2) + y1.val = win0_6.index t 1 * 128 + y1.val; rw [e1]; omega)

end Cert.Kernel8Ideal.Value

end

end
-- ==== Proof.AttnRef.lean ====
/- The three patterns of the reference's dilated attention, read at a query. -/
module

public import proofs.«01_k».proof.Proof.Gen.Reference8Ideal.Run
public import proofs.«01_k».proof.Proof.AttnMath
public import Idealize.ShloMosaic.Lib.Claim

@[expose] public section

set_option maxRecDepth 16384

noncomputable section

open Idealize.ShloMosaic Idealize.ShloMosaic.TcCoe Idealize.SL.Sem

namespace Cert.Reference8Ideal.Value

open Cert.Reference8Ideal Cert.Reference8Ideal.Gen Cert.Attn

variable (V0 : Valuation τ sig (Elt Ideal))

/-- The operand, read at any row and column. -/
def X : ℕ → ℕ → EReal := spread fun R C => V0 (Proc.devRef .tc main_arg0) (ix2 R C)

theorem X_at (R C : ℕ) (hR : R < 4096) (hC : C < 3584) {R' C' : ℕ} (eR : R = R') (eC : C = C') :
    V0 (Proc.devRef .tc main_arg0) (ix2 ⟨R, hR⟩ ⟨C, hC⟩) = X V0 R' C' := by
  subst eR; subst eC
  exact (spread_at (fun R C => V0 (Proc.devRef .tc main_arg0) (ix2 R C)) ⟨R, hR⟩ ⟨C, hC⟩).symm

theorem cBot : (Ideal.ofBits .f32 0xFF800000#32 : EReal) = ⊥ := by simp [Ideal.ofBits, Ideal.ieee]
theorem cZero : (constant (F := Ideal) S_ .f32 0x00000000#32 ix0 : EReal) = 0 := by pointwise []
theorem cMask : ∃ x : ℝ, (constant (F := Ideal) S_ .f32 0xF149F2CA#32 ix0 : EReal) = (x : EReal) := by
  pointwise []
  exact ⟨_, rfl⟩

/-- The reference's band, as words. -/
theorem band_word (i : Fin 128) (j : Fin 256) : IntOp.andi (IntOp.cmpi .sge (IntOp.subi (IntOp.addi (128#32) (BitVec.ofNat 32 i.val)) (BitVec.ofNat 32 j.val)) 0#32)
    (IntOp.cmpi .sle (IntOp.subi (IntOp.addi (128#32) (BitVec.ofNat 32 i.val)) (BitVec.ofNat 32 j.val)) 128#32)
    = if i.val ≤ j.val ∧ j.val ≤ i.val + 128 then 1#1 else 0#1 := by
  revert i j; decide +kernel

theorem first_word (B : Fin 32) (j : Fin 256) : IntOp.ori (IntOp.cmpi .sgt (BitVec.ofNat 32 B.val) 0#32) (IntOp.cmpi .sge (BitVec.ofNat 32 j.val) 128#32)
    = if 128 ≤ j.val ∨ 0 < B.val then 1#1 else 0#1 := by
  revert B j; decide +kernel

theorem and_word (p q : Prop) [Decidable p] [Decidable q] : IntOp.andi (if p then 1#1 else 0#1) (if q then 1#1 else 0#1) = if p ∧ q then 1#1 else 0#1 := by
  by_cases hp : p <;> by_cases hq : q <;> simp [hp, hq] <;> decide

/-- Where a key is real whatever the block. -/
theorem keyAt_real {Y : ℕ → ℕ → EReal} (hY : ∀ R C, ∃ x : ℝ, Y R C = (x : EReal)) (d r B C : ℕ) (j : Fin 256) : ∃ x : ℝ, keyAt Y d r B C j = (x : EReal) := by
  unfold keyAt
  split_ifs
  · exact ⟨0, rfl⟩
  · exact hY _ _
  · exact hY _ _

/-- A masked score is real. -/
theorem score_real {Y : ℕ → ℕ → EReal} (hY : ∀ R C, ∃ x : ℝ, Y R C = (x : EReal)) (w : BitVec 1) (R h d r B : ℕ) (j : Fin 256) :
    ∃ x : ℝ, Scalar.select w (∑ x : Fin 64, Y R (64 * h + x.val) * keyAt Y d r B (512 + (64 * h + x.val)) j) (constant (F := Ideal) S_ .f32 0xF149F2CA#32 ix0 : EReal) = (x : EReal) := by
  unfold Scalar.select
  split
  · choose f hf using fun x : Fin 64 => hY R (64 * h + x.val)
    choose g hg using fun x : Fin 64 => keyAt_real hY d r B (512 + (64 * h + x.val)) j
    exact ⟨∑ x, f x * g x, by rw [← Reals.sum_coe]; exact Finset.sum_congr rfl fun x _ => by rw [hf, hg, EReal.coe_mul]⟩
  · exact cMask

/-! ## Pattern 0: dilation 1, 32 blocks of 128 -/

theorem k0 (h : Fin 8) (r : Fin 1) (B : Fin 32) (i : Fin 128) (e : Fin 64) :
    res_main_v14 V0 (ix5 h r B i e) = X V0 ((B.val * 128 + i.val) * 1 + r.val) (512 + (64 * h.val + e.val)) := by
  pointwise [res_main_v14, res_main_v5]
  exact X_at V0 _ _ _ _ (by omega) (by omega)

theorem v0 (h : Fin 8) (r : Fin 1) (B : Fin 32) (i : Fin 128) (e : Fin 64) :
    res_main_v22 V0 (ix5 h r B i e) = X V0 ((B.val * 128 + i.val) * 1 + r.val) (1024 + (64 * h.val + e.val)) := by
  pointwise [res_main_v22, res_main_v8]
  exact X_at V0 _ _ _ _ (by omega) (by omega)

theorem q0 (h : Fin 8) (r : Fin 1) (B : Fin 32) (i : Fin 128) (e : Fin 64) :
    (shapeCast _ (transpose S8x1x4096x64 [0, 2, 1, 3] (shapeCast _ (res_main_v2 V0) shapeCasts_S8x4096x64_S8x4096x1x64) transposes_S8x4096x1x64_S8x1x4096x64_0_2_1_3) shapeCasts_S8x1x4096x64_S8x1x32x128x64) (ix5 h r B i e)
      = X V0 ((B.val * 128 + i.val) * 1 + r.val) (64 * h.val + e.val) := by
  pointwise [res_main_v2]
  exact X_at V0 _ _ _ _ (by omega) (by omega)

theorem mask0 (B : Fin 32) (i : Fin 128) (j : Fin 256) :
    res_main_v56 V0 (ix3 B i j) = if (i.val ≤ j.val ∧ j.val ≤ i.val + 128) ∧ (128 ≤ j.val ∨ 0 < B.val) then 1#1 else 0#1 := by
  pointwise [res_main_v56, res_main_v37, res_main_v32]
  rw [band_word, first_word ⟨B.val, by omega⟩ j, and_word]

/-- The keys of a block after those of the block before it. -/
theorem cat0 (x : S8x1x32x128x64.Idx → EReal) (C : ℕ) (h : Fin 8) (r : Fin 1) (B : Fin 32) (e : Fin 64)
    (hx : ∀ (r : Fin 1) (B : Fin 32) (i : Fin 128), x (ix5 h r B i e) = X V0 ((B.val * 128 + i.val) * 1 + r.val) C) (j : Fin 256) :
    (concatenate S8x1x32x256x64 3 [⟨S8x1x32x128x64, (concatenate S8x1x32x128x64 2 [⟨S8x1x1x128x64, (broadcastInDim S8x1x1x128x64 ![] bcast_S_S8x1x1x128x64 (constant (F := Ideal) S_ .f32 0x00000000#32))⟩, ⟨S8x1x31x128x64, (extractStridedSlice S8x1x31x128x64 ![0, 0, 0, 0, 0] x slices_S8x1x32x128x64_S8x1x31x128x64_0_0_0_0_0)⟩] concatenates_S8x1x1x128x64_S8x1x31x128x64_S8x1x32x128x64_d2)⟩, ⟨S8x1x32x128x64, x⟩] concatenates_S8x1x32x128x64_S8x1x32x128x64_S8x1x32x256x64_d3) (ix5 h r B j e)
      = keyAt (X V0) 1 r.val B.val C j := by
  unfold keyAt
  pointwise [hx]
  split_ifs <;> rfl

theorem dot0 (q : FVec Ideal S8x1x32x128x64 .f32) (kk : FVec Ideal S8x1x32x256x64 .f32) (h : Fin 8) (r : Fin 1) (B : Fin 32) (i : Fin 128) (j : Fin 256) :
    (Host.dotGeneral dot_S8x1x32x128x64_S8x1x32x256x64_S8x1x32x128x256_4_4_3_3_012_012 none q kk : FVec Ideal S8x1x32x128x256 .f32) (ix5 h r B i j) = ∑ x : Fin 64, q (ix5 h r B i x) * kk (ix5 h r B j x) := by
  pointwise []

theorem sel0 (w : IVec S32x128x256 1) (a : S8x1x32x128x256.Idx → EReal) (b : S_.Idx → EReal) (h : Fin 8) (r : Fin 1) (B : Fin 32) (i : Fin 128) (j : Fin 256) :
    select (broadcastInDim S8x1x32x128x256 ![2, 3, 4] bcast_S32x128x256_S8x1x32x128x256_2_3_4 w) a (broadcastInDim S8x1x32x128x256 ![] bcast_S_S8x1x32x128x256 b) (ix5 h r B i j)
      = Scalar.select (w (ix3 B i j)) (a (ix5 h r B i j)) (b ix0) := by
  pointwise []

theorem score0 (h : Fin 8) (r : Fin 1) (B : Fin 32) (i : Fin 128) (j : Fin 256) :
    res_main_v57 V0 (ix5 h r B i j) = Scalar.select (res_main_v56 V0 (ix3 B i j)) (∑ x : Fin 64, X V0 ((B.val * 128 + i.val) * 1 + r.val) (64 * h.val + x.val)
      * keyAt (X V0) 1 r.val B.val (512 + (64 * h.val + x.val)) j) (constant (F := Ideal) S_ .f32 0xF149F2CA#32 ix0 : EReal) := by
  unfold res_main_v57
  refine (sel0 _ _ _ h r B i j).trans ?_
  refine congrArg₂ (Scalar.select _) ?_ rfl
  refine (dot0 _ _ h r B i j).trans ?_
  refine Finset.sum_congr rfl fun x _ => ?_
  exact congrArg₂ (· * ·) (q0 V0 h r B i x) (cat0 V0 _ _ h r B x (fun r B i => k0 V0 h r B i x) j)

theorem less0 (a : FVec Ideal S8x1x32x128x256 .f32) (b : FVec Ideal S8x1x32x128x1 .f32) (h : Fin 8) (r : Fin 1) (B : Fin 32) (i : Fin 128) (j : Fin 256) :
    (Host.exp (subf a (broadcastInDim S8x1x32x128x256 ![0, 1, 2, 3, 4] bcast_S8x1x32x128x1_S8x1x32x128x256_0_1_2_3_4 b))) (ix5 h r B i j)
      = Ideal.exp (a (ix5 h r B i j) - b (ix5 h r B i 0)) := by
  obtain rfl : r = 0 := Subsingleton.elim r 0
  pointwise []

/-- The weights, taken from a real number. -/
theorem weights0 (hX : ∀ R C, ∃ x : ℝ, X V0 R C = (x : EReal)) (h : Fin 8) (r : Fin 1) (B : Fin 32) (i : Fin 128) : ∃ M : ℝ, res_main_v59 V0 (ix5 h r B i 0) = (M : EReal)
    ∧ ∀ j : Fin 256, res_main_v63 V0 (ix5 h r B i j) = Scalar.select (res_main_v56 V0 (ix3 B i j)) (Ideal.exp (Scalar.select (res_main_v56 V0 (ix3 B i j))
      (∑ x : Fin 64, X V0 ((B.val * 128 + i.val) * 1 + r.val) (64 * h.val + x.val) * keyAt (X V0) 1 r.val B.val (512 + (64 * h.val + x.val)) j)
      (constant (F := Ideal) S_ .f32 0xF149F2CA#32 ix0 : EReal) - (M : EReal))) 0 := by
  obtain rfl : r = 0 := Subsingleton.elim r 0
  have hr : ∀ a, ∃ x : ℝ, res_main_v57 V0 a = (x : EReal) := fun a => by
    idx_vars a
    rw [score0]
    exact score_real hX _ _ _ _ _ _ _
  have hM : ∃ M : ℝ, res_main_v59 V0 (ix5 h 0 B i 0) = (M : EReal) := by
    pointwise [res_main_v59, cBot]
    refine fold_real _ ⟨ix5 h 0 B i 0, ?_⟩ _ hr
    rw [Finset.mem_filter]
    refine ⟨Finset.mem_univ _, ?_⟩
    funext k
    apply Fin.ext
    fin_cases k <;> rfl
  obtain ⟨M, eM⟩ := hM
  refine ⟨M, eM, fun j => ?_⟩
  unfold res_main_v63
  refine (sel0 _ _ _ h 0 B i j).trans ?_
  refine congrArg₂ (Scalar.select _) ?_ cZero
  refine (less0 _ _ h 0 B i j).trans ?_
  exact congrArg Ideal.exp (congrArg₂ (· - ·) (score0 V0 h 0 B i j) eM)

/-- The greatest scores, the weights and their sums. -/
def tops0 : FVec Ideal S8x1x32x128x1 .f32 := res_main_v59 V0
def wts0 : FVec Ideal S8x1x32x128x256 .f32 := res_main_v63 V0
def dens0 : FVec Ideal S8x1x32x128x1 .f32 := res_main_v65 V0

theorem den0 (h : Fin 8) (r : Fin 1) (B : Fin 32) (i : Fin 128) : dens0 V0 (ix5 h r B i 0) = ∑ j : Fin 256, wts0 V0 (ix5 h r B i j) := by
  obtain rfl : r = 0 := Subsingleton.elim r 0
  pointwise [dens0, wts0, res_main_v65]

/-- The values of a block and of the block before it. -/
def vals0 : FVec Ideal S8x1x32x256x64 .f32 :=
  (concatenate S8x1x32x256x64 3 [⟨S8x1x32x128x64, (concatenate S8x1x32x128x64 2 [⟨S8x1x1x128x64, (broadcastInDim S8x1x1x128x64 ![] bcast_S_S8x1x1x128x64 (constant (F := Ideal) S_ .f32 0x00000000#32))⟩, ⟨S8x1x31x128x64, (extractStridedSlice S8x1x31x128x64 ![0, 0, 0, 0, 0] (res_main_v22 V0) slices_S8x1x32x128x64_S8x1x31x128x64_0_0_0_0_0)⟩] concatenates_S8x1x1x128x64_S8x1x31x128x64_S8x1x32x128x64_d2)⟩, ⟨S8x1x32x128x64, (res_main_v22 V0)⟩] concatenates_S8x1x32x128x64_S8x1x32x128x64_S8x1x32x256x64_d3)

/-- Output and log-denominator of a query. -/
theorem query0 (hX : ∀ R C, ∃ x : ℝ, X V0 R C = (x : EReal)) (h : Fin 8) (r : Fin 1) (B : Fin 32) (i : Fin 128) (e : Fin 64) :
    Ideal.div (∑ j : Fin 256, wts0 V0 (ix5 h r B i j) * vals0 V0 (ix5 h r B j e)) (dens0 V0 (ix5 h r B i 0))
      = outD (X V0) 1 ((B.val * 128 + i.val) * 1 + r.val) (64 * h.val + e.val)
    ∧ tops0 V0 (ix5 h r B i 0) + Ideal.log (dens0 V0 (ix5 h r B i 0)) = lseD (X V0) 1 ((B.val * 128 + i.val) * 1 + r.val) (64 * h.val + e.val)
    ∧ ∃ x : ℝ, lseD (X V0) 1 ((B.val * 128 + i.val) * 1 + r.val) (64 * h.val + e.val) = (x : EReal) := by
  obtain ⟨M, eM, hw⟩ := weights0 V0 hX h r B i
  rw [den0, show tops0 V0 (ix5 h r B i 0) = (M : EReal) from eM]
  have ev : ∀ j : Fin 256, vals0 V0 (ix5 h r B j e) = keyAt (X V0) 1 r.val B.val (1024 + (64 * h.val + e.val)) j :=
    cat0 V0 _ _ h r B e fun r B i => v0 V0 h r B i e
  simp only [ev]
  exact pattern (by omega) r.isLt i.isLt hX h.val e.val e.isLt (fun j => res_main_v56 V0 (ix3 B i j)) (fun j => mask0 V0 B i j) M _ _ hw

/-- The pattern's outputs and log-denominators, by head, row and lane. -/
def outs0 : FVec Ideal S8x4096x64 .f32 :=
  shapeCast _ (transpose S8x4096x1x64 [0, 2, 1, 3] (shapeCast _ (Host.divf (F := Ideal) (φ := .f32) (Host.dotGeneral dot_S8x1x32x128x256_S8x1x32x256x64_S8x1x32x128x64_4_3_3_4_012_012 none (wts0 V0) (vals0 V0) : FVec Ideal S8x1x32x128x64 .f32) (broadcastInDim S8x1x32x128x64 ![0, 1, 2, 3, 4] bcast_S8x1x32x128x1_S8x1x32x128x64_0_1_2_3_4 (dens0 V0))) shapeCasts_S8x1x32x128x64_S8x1x4096x64) transposes_S8x1x4096x64_S8x4096x1x64_0_2_1_3) shapeCasts_S8x4096x1x64_S8x4096x64
def lses0 : FVec Ideal S1x8x4096 .f32 :=
  broadcastInDim S1x8x4096 ![1, 2] bcast_S8x4096_S1x8x4096_1_2 (shapeCast _ (transpose S8x4096x1 [0, 2, 1] (shapeCast _ (shapeCast _ (addf (F := Ideal) (φ := .f32) (tops0 V0) (Host.log (F := Ideal) (φ := .f32) (dens0 V0))) shapeCasts_S8x1x32x128x1_S8x1x32x128) shapeCasts_S8x1x32x128_S8x1x4096) transposes_S8x1x4096_S8x4096x1_0_2_1) shapeCasts_S8x4096x1_S8x4096)

theorem outs0_apply (hX : ∀ R C, ∃ x : ℝ, X V0 R C = (x : EReal)) (h : Fin 8) (R : Fin 4096) (e : Fin 64) :
    outs0 V0 (ix3 h R e) = outD (X V0) 1 R.val (64 * h.val + e.val) := by
  have hR : ((R.val / 1 / 128) * 128 + R.val / 1 % 128) * 1 + R.val % 1 = R.val := by omega
  have q := (query0 V0 hX h ⟨R.val % 1, by omega⟩ ⟨R.val / 1 / 128, by omega⟩ ⟨R.val / 1 % 128, by omega⟩ e).1
  simp only [hR] at q
  rw [← q]
  pointwise [outs0]

theorem spread0 (x : FVec Ideal S8x4096 .f32) (h : Fin 8) (R : Fin 4096) : broadcastInDim S1x8x4096 ![1, 2] bcast_S8x4096_S1x8x4096_1_2 x (ix3 0 h R) = x (ix2 h R) := by
  pointwise []

theorem rows0 (x : FVec Ideal S8x4096x1 .f32) (h : Fin 8) (R : Fin 4096) :
    shapeCast S8x4096 x shapeCasts_S8x4096x1_S8x4096 (ix2 h R) = x (ix3 h ⟨R.val / 1, by omega⟩ ⟨R.val % 1, by omega⟩) := by
  pointwise []

theorem swap0 (x : FVec Ideal S8x1x4096 .f32) (h : Fin 8) (R : Fin 4096) (r : Fin 1) :
    transpose S8x4096x1 [0, 2, 1] x transposes_S8x1x4096_S8x4096x1_0_2_1 (ix3 h R r) = x (ix3 h r R) := by
  obtain rfl : r = 0 := Subsingleton.elim r 0
  pointwise []

theorem blocks0 (x : FVec Ideal S8x1x32x128 .f32) (h : Fin 8) (R : Fin 4096) (r : Fin 1) :
    shapeCast S8x1x4096 x shapeCasts_S8x1x32x128_S8x1x4096 (ix3 h r R) = x (ix4 h r ⟨R.val / 128, by omega⟩ ⟨R.val % 128, by omega⟩) := by
  obtain rfl : r = 0 := Subsingleton.elim r 0
  pointwise []

theorem unit0 (x : FVec Ideal S8x1x32x128x1 .f32) (h : Fin 8) (r : Fin 1) (B : Fin 32) (i : Fin 128) :
    shapeCast S8x1x32x128 x shapeCasts_S8x1x32x128x1_S8x1x32x128 (ix4 h r B i) = x (ix5 h r B i 0) := by
  obtain rfl : r = 0 := Subsingleton.elim r 0
  pointwise []

theorem plus0 (a b : FVec Ideal S8x1x32x128x1 .f32) (i : S8x1x32x128x1.Idx) : addf a (Host.log b) i = (a i : EReal) + Ideal.log (b i) := by
  pointwise []

theorem lses0_apply (hX : ∀ R C, ∃ x : ℝ, X V0 R C = (x : EReal)) (h : Fin 8) (R : Fin 4096) (e : Fin 64) :
    lses0 V0 (ix3 0 h R) = lseD (X V0) 1 R.val (64 * h.val + e.val) ∧ ∃ x : ℝ, lseD (X V0) 1 R.val (64 * h.val + e.val) = (x : EReal) := by
  have hR : ((R.val / 1 / 128) * 128 + R.val / 1 % 128) * 1 + R.val % 1 = R.val := by omega
  have q := (query0 V0 hX h ⟨R.val % 1, by omega⟩ ⟨R.val / 1 / 128, by omega⟩ ⟨R.val / 1 % 128, by omega⟩ e).2
  simp only [hR] at q
  refine ⟨?_, q.2⟩
  rw [← q.1]
  unfold lses0
  exact (spread0 _ h R).trans ((rows0 _ h R).trans ((swap0 _ h _ _).trans ((blocks0 _ h _ _).trans ((unit0 _ h _ _ _).trans (plus0 _ _ _)))))

/-! ## Pattern 1: dilation 4, 8 blocks of 128 -/

theorem k1 (h : Fin 8) (r : Fin 4) (B : Fin 8) (i : Fin 128) (e : Fin 64) :
    res_main_v83 V0 (ix5 h r B i e) = X V0 ((B.val * 128 + i.val) * 4 + r.val) (512 + (64 * h.val + e.val)) := by
  pointwise [res_main_v83, res_main_v5]
  exact X_at V0 _ _ _ _ (by omega) (by omega)

theorem v1 (h : Fin 8) (r : Fin 4) (B : Fin 8) (i : Fin 128) (e : Fin 64) :
    res_main_v91 V0 (ix5 h r B i e) = X V0 ((B.val * 128 + i.val) * 4 + r.val) (1024 + (64 * h.val + e.val)) := by
  pointwise [res_main_v91, res_main_v8]
  exact X_at V0 _ _ _ _ (by omega) (by omega)

theorem q1 (h : Fin 8) (r : Fin 4) (B : Fin 8) (i : Fin 128) (e : Fin 64) :
    (shapeCast _ (transpose S8x4x1024x64 [0, 2, 1, 3] (shapeCast _ (res_main_v2 V0) shapeCasts_S8x4096x64_S8x1024x4x64) transposes_S8x1024x4x64_S8x4x1024x64_0_2_1_3) shapeCasts_S8x4x1024x64_S8x4x8x128x64) (ix5 h r B i e)
      = X V0 ((B.val * 128 + i.val) * 4 + r.val) (64 * h.val + e.val) := by
  pointwise [res_main_v2]
  exact X_at V0 _ _ _ _ (by omega) (by omega)

theorem mask1 (B : Fin 8) (i : Fin 128) (j : Fin 256) :
    res_main_v125 V0 (ix3 B i j) = if (i.val ≤ j.val ∧ j.val ≤ i.val + 128) ∧ (128 ≤ j.val ∨ 0 < B.val) then 1#1 else 0#1 := by
  pointwise [res_main_v125, res_main_v106, res_main_v101]
  rw [band_word, first_word ⟨B.val, by omega⟩ j, and_word]

/-- The keys of a block after those of the block before it. -/
theorem cat1 (x : S8x4x8x128x64.Idx → EReal) (C : ℕ) (h : Fin 8) (r : Fin 4) (B : Fin 8) (e : Fin 64)
    (hx : ∀ (r : Fin 4) (B : Fin 8) (i : Fin 128), x (ix5 h r B i e) = X V0 ((B.val * 128 + i.val) * 4 + r.val) C) (j : Fin 256) :
    (concatenate S8x4x8x256x64 3 [⟨S8x4x8x128x64, (concatenate S8x4x8x128x64 2 [⟨S8x4x1x128x64, (broadcastInDim S8x4x1x128x64 ![] bcast_S_S8x4x1x128x64 (constant (F := Ideal) S_ .f32 0x00000000#32))⟩, ⟨S8x4x7x128x64, (extractStridedSlice S8x4x7x128x64 ![0, 0, 0, 0, 0] x slices_S8x4x8x128x64_S8x4x7x128x64_0_0_0_0_0)⟩] concatenates_S8x4x1x128x64_S8x4x7x128x64_S8x4x8x128x64_d2)⟩, ⟨S8x4x8x128x64, x⟩] concatenates_S8x4x8x128x64_S8x4x8x128x64_S8x4x8x256x64_d3) (ix5 h r B j e)
      = keyAt (X V0) 4 r.val B.val C j := by
  unfold keyAt
  pointwise [hx]
  split_ifs <;> rfl

theorem dot1 (q : FVec Ideal S8x4x8x128x64 .f32) (kk : FVec Ideal S8x4x8x256x64 .f32) (h : Fin 8) (r : Fin 4) (B : Fin 8) (i : Fin 128) (j : Fin 256) :
    (Host.dotGeneral dot_S8x4x8x128x64_S8x4x8x256x64_S8x4x8x128x256_4_4_3_3_012_012 none q kk : FVec Ideal S8x4x8x128x256 .f32) (ix5 h r B i j) = ∑ x : Fin 64, q (ix5 h r B i x) * kk (ix5 h r B j x) := by
  pointwise []

theorem sel1 (w : IVec S8x128x256 1) (a : S8x4x8x128x256.Idx → EReal) (b : S_.Idx → EReal) (h : Fin 8) (r : Fin 4) (B : Fin 8) (i : Fin 128) (j : Fin 256) :
    select (broadcastInDim S8x4x8x128x256 ![2, 3, 4] bcast_S8x128x256_S8x4x8x128x256_2_3_4 w) a (broadcastInDim S8x4x8x128x256 ![] bcast_S_S8x4x8x128x256 b) (ix5 h r B i j)
      = Scalar.select (w (ix3 B i j)) (a (ix5 h r B i j)) (b ix0) := by
  pointwise []

theorem score1 (h : Fin 8) (r : Fin 4) (B : Fin 8) (i : Fin 128) (j : Fin 256) :
    res_main_v126 V0 (ix5 h r B i j) = Scalar.select (res_main_v125 V0 (ix3 B i j)) (∑ x : Fin 64, X V0 ((B.val * 128 + i.val) * 4 + r.val) (64 * h.val + x.val)
      * keyAt (X V0) 4 r.val B.val (512 + (64 * h.val + x.val)) j) (constant (F := Ideal) S_ .f32 0xF149F2CA#32 ix0 : EReal) := by
  unfold res_main_v126
  refine (sel1 _ _ _ h r B i j).trans ?_
  refine congrArg₂ (Scalar.select _) ?_ rfl
  refine (dot1 _ _ h r B i j).trans ?_
  refine Finset.sum_congr rfl fun x _ => ?_
  exact congrArg₂ (· * ·) (q1 V0 h r B i x) (cat1 V0 _ _ h r B x (fun r B i => k1 V0 h r B i x) j)

theorem less1 (a : FVec Ideal S8x4x8x128x256 .f32) (b : FVec Ideal S8x4x8x128x1 .f32) (h : Fin 8) (r : Fin 4) (B : Fin 8) (i : Fin 128) (j : Fin 256) :
    (Host.exp (subf a (broadcastInDim S8x4x8x128x256 ![0, 1, 2, 3, 4] bcast_S8x4x8x128x1_S8x4x8x128x256_0_1_2_3_4 b))) (ix5 h r B i j)
      = Ideal.exp (a (ix5 h r B i j) - b (ix5 h r B i 0)) := by
  pointwise []

/-- The weights, taken from a real number. -/
theorem weights1 (hX : ∀ R C, ∃ x : ℝ, X V0 R C = (x : EReal)) (h : Fin 8) (r : Fin 4) (B : Fin 8) (i : Fin 128) : ∃ M : ℝ, res_main_v128 V0 (ix5 h r B i 0) = (M : EReal)
    ∧ ∀ j : Fin 256, res_main_v132 V0 (ix5 h r B i j) = Scalar.select (res_main_v125 V0 (ix3 B i j)) (Ideal.exp (Scalar.select (res_main_v125 V0 (ix3 B i j))
      (∑ x : Fin 64, X V0 ((B.val * 128 + i.val) * 4 + r.val) (64 * h.val + x.val) * keyAt (X V0) 4 r.val B.val (512 + (64 * h.val + x.val)) j)
      (constant (F := Ideal) S_ .f32 0xF149F2CA#32 ix0 : EReal) - (M : EReal))) 0 := by
  have hr : ∀ a, ∃ x : ℝ, res_main_v126 V0 a = (x : EReal) := fun a => by
    idx_vars a
    rw [score1]
    exact score_real hX _ _ _ _ _ _ _
  have hM : ∃ M : ℝ, res_main_v128 V0 (ix5 h r B i 0) = (M : EReal) := by
    pointwise [res_main_v128, cBot]
    refine fold_real _ ⟨ix5 h r B i 0, ?_⟩ _ hr
    rw [Finset.mem_filter]
    refine ⟨Finset.mem_univ _, ?_⟩
    funext k
    apply Fin.ext
    fin_cases k <;> rfl
  obtain ⟨M, eM⟩ := hM
  refine ⟨M, eM, fun j => ?_⟩
  unfold res_main_v132
  refine (sel1 _ _ _ h r B i j).trans ?_
  refine congrArg₂ (Scalar.select _) ?_ cZero
  refine (less1 _ _ h r B i j).trans ?_
  exact congrArg Ideal.exp (congrArg₂ (· - ·) (score1 V0 h r B i j) eM)

/-- The greatest scores, the weights and their sums. -/
def tops1 : FVec Ideal S8x4x8x128x1 .f32 := res_main_v128 V0
def wts1 : FVec Ideal S8x4x8x128x256 .f32 := res_main_v132 V0
def dens1 : FVec Ideal S8x4x8x128x1 .f32 := res_main_v134 V0

theorem den1 (h : Fin 8) (r : Fin 4) (B : Fin 8) (i : Fin 128) : dens1 V0 (ix5 h r B i 0) = ∑ j : Fin 256, wts1 V0 (ix5 h r B i j) := by
  pointwise [dens1, wts1, res_main_v134]

/-- The values of a block and of the block before it. -/
def vals1 : FVec Ideal S8x4x8x256x64 .f32 :=
  (concatenate S8x4x8x256x64 3 [⟨S8x4x8x128x64, (concatenate S8x4x8x128x64 2 [⟨S8x4x1x128x64, (broadcastInDim S8x4x1x128x64 ![] bcast_S_S8x4x1x128x64 (constant (F := Ideal) S_ .f32 0x00000000#32))⟩, ⟨S8x4x7x128x64, (extractStridedSlice S8x4x7x128x64 ![0, 0, 0, 0, 0] (res_main_v91 V0) slices_S8x4x8x128x64_S8x4x7x128x64_0_0_0_0_0)⟩] concatenates_S8x4x1x128x64_S8x4x7x128x64_S8x4x8x128x64_d2)⟩, ⟨S8x4x8x128x64, (res_main_v91 V0)⟩] concatenates_S8x4x8x128x64_S8x4x8x128x64_S8x4x8x256x64_d3)

/-- Output and log-denominator of a query. -/
theorem query1 (hX : ∀ R C, ∃ x : ℝ, X V0 R C = (x : EReal)) (h : Fin 8) (r : Fin 4) (B : Fin 8) (i : Fin 128) (e : Fin 64) :
    Ideal.div (∑ j : Fin 256, wts1 V0 (ix5 h r B i j) * vals1 V0 (ix5 h r B j e)) (dens1 V0 (ix5 h r B i 0))
      = outD (X V0) 4 ((B.val * 128 + i.val) * 4 + r.val) (64 * h.val + e.val)
    ∧ tops1 V0 (ix5 h r B i 0) + Ideal.log (dens1 V0 (ix5 h r B i 0)) = lseD (X V0) 4 ((B.val * 128 + i.val) * 4 + r.val) (64 * h.val + e.val)
    ∧ ∃ x : ℝ, lseD (X V0) 4 ((B.val * 128 + i.val) * 4 + r.val) (64 * h.val + e.val) = (x : EReal) := by
  obtain ⟨M, eM, hw⟩ := weights1 V0 hX h r B i
  rw [den1, show tops1 V0 (ix5 h r B i 0) = (M : EReal) from eM]
  have ev : ∀ j : Fin 256, vals1 V0 (ix5 h r B j e) = keyAt (X V0) 4 r.val B.val (1024 + (64 * h.val + e.val)) j :=
    cat1 V0 _ _ h r B e fun r B i => v1 V0 h r B i e
  simp only [ev]
  exact pattern (by omega) r.isLt i.isLt hX h.val e.val e.isLt (fun j => res_main_v125 V0 (ix3 B i j)) (fun j => mask1 V0 B i j) M _ _ hw

/-- The pattern's outputs and log-denominators, by head, row and lane. -/
def outs1 : FVec Ideal S8x4096x64 .f32 :=
  shapeCast _ (transpose S8x1024x4x64 [0, 2, 1, 3] (shapeCast _ (Host.divf (F := Ideal) (φ := .f32) (Host.dotGeneral dot_S8x4x8x128x256_S8x4x8x256x64_S8x4x8x128x64_4_3_3_4_012_012 none (wts1 V0) (vals1 V0) : FVec Ideal S8x4x8x128x64 .f32) (broadcastInDim S8x4x8x128x64 ![0, 1, 2, 3, 4] bcast_S8x4x8x128x1_S8x4x8x128x64_0_1_2_3_4 (dens1 V0))) shapeCasts_S8x4x8x128x64_S8x4x1024x64) transposes_S8x4x1024x64_S8x1024x4x64_0_2_1_3) shapeCasts_S8x1024x4x64_S8x4096x64
def lses1 : FVec Ideal S1x8x4096 .f32 :=
  broadcastInDim S1x8x4096 ![1, 2] bcast_S8x4096_S1x8x4096_1_2 (shapeCast _ (transpose S8x1024x4 [0, 2, 1] (shapeCast _ (shapeCast _ (addf (F := Ideal) (φ := .f32) (tops1 V0) (Host.log (F := Ideal) (φ := .f32) (dens1 V0))) shapeCasts_S8x4x8x128x1_S8x4x8x128) shapeCasts_S8x4x8x128_S8x4x1024) transposes_S8x4x1024_S8x1024x4_0_2_1) shapeCasts_S8x1024x4_S8x4096)

theorem outs1_apply (hX : ∀ R C, ∃ x : ℝ, X V0 R C = (x : EReal)) (h : Fin 8) (R : Fin 4096) (e : Fin 64) :
    outs1 V0 (ix3 h R e) = outD (X V0) 4 R.val (64 * h.val + e.val) := by
  have hR : ((R.val / 4 / 128) * 128 + R.val / 4 % 128) * 4 + R.val % 4 = R.val := by omega
  have q := (query1 V0 hX h ⟨R.val % 4, by omega⟩ ⟨R.val / 4 / 128, by omega⟩ ⟨R.val / 4 % 128, by omega⟩ e).1
  simp only [hR] at q
  rw [← q]
  pointwise [outs1]

theorem spread1 (x : FVec Ideal S8x4096 .f32) (h : Fin 8) (R : Fin 4096) : broadcastInDim S1x8x4096 ![1, 2] bcast_S8x4096_S1x8x4096_1_2 x (ix3 0 h R) = x (ix2 h R) := by
  pointwise []

theorem rows1 (x : FVec Ideal S8x1024x4 .f32) (h : Fin 8) (R : Fin 4096) :
    shapeCast S8x4096 x shapeCasts_S8x1024x4_S8x4096 (ix2 h R) = x (ix3 h ⟨R.val / 4, by omega⟩ ⟨R.val % 4, by omega⟩) := by
  pointwise []

theorem swap1 (x : FVec Ideal S8x4x1024 .f32) (h : Fin 8) (R : Fin 1024) (r : Fin 4) :
    transpose S8x1024x4 [0, 2, 1] x transposes_S8x4x1024_S8x1024x4_0_2_1 (ix3 h R r) = x (ix3 h r R) := by
  pointwise []

theorem blocks1 (x : FVec Ideal S8x4x8x128 .f32) (h : Fin 8) (R : Fin 1024) (r : Fin 4) :
    shapeCast S8x4x1024 x shapeCasts_S8x4x8x128_S8x4x1024 (ix3 h r R) = x (ix4 h r ⟨R.val / 128, by omega⟩ ⟨R.val % 128, by omega⟩) := by
  pointwise []

theorem unit1 (x : FVec Ideal S8x4x8x128x1 .f32) (h : Fin 8) (r : Fin 4) (B : Fin 8) (i : Fin 128) :
    shapeCast S8x4x8x128 x shapeCasts_S8x4x8x128x1_S8x4x8x128 (ix4 h r B i) = x (ix5 h r B i 0) := by
  pointwise []

theorem plus1 (a b : FVec Ideal S8x4x8x128x1 .f32) (i : S8x4x8x128x1.Idx) : addf a (Host.log b) i = (a i : EReal) + Ideal.log (b i) := by
  pointwise []

theorem lses1_apply (hX : ∀ R C, ∃ x : ℝ, X V0 R C = (x : EReal)) (h : Fin 8) (R : Fin 4096) (e : Fin 64) :
    lses1 V0 (ix3 0 h R) = lseD (X V0) 4 R.val (64 * h.val + e.val) ∧ ∃ x : ℝ, lseD (X V0) 4 R.val (64 * h.val + e.val) = (x : EReal) := by
  have hR : ((R.val / 4 / 128) * 128 + R.val / 4 % 128) * 4 + R.val % 4 = R.val := by omega
  have q := (query1 V0 hX h ⟨R.val % 4, by omega⟩ ⟨R.val / 4 / 128, by omega⟩ ⟨R.val / 4 % 128, by omega⟩ e).2
  simp only [hR] at q
  refine ⟨?_, q.2⟩
  rw [← q.1]
  unfold lses1
  exact (spread1 _ h R).trans ((rows1 _ h R).trans ((swap1 _ h _ _).trans ((blocks1 _ h _ _).trans ((unit1 _ h _ _ _).trans (plus1 _ _ _)))))

/-! ## Pattern 2: dilation 16, 2 blocks of 128 -/

theorem k2 (h : Fin 8) (r : Fin 16) (B : Fin 2) (i : Fin 128) (e : Fin 64) :
    res_main_v152 V0 (ix5 h r B i e) = X V0 ((B.val * 128 + i.val) * 16 + r.val) (512 + (64 * h.val + e.val)) := by
  pointwise [res_main_v152, res_main_v5]
  exact X_at V0 _ _ _ _ (by omega) (by omega)

theorem v2 (h : Fin 8) (r : Fin 16) (B : Fin 2) (i : Fin 128) (e : Fin 64) :
    res_main_v160 V0 (ix5 h r B i e) = X V0 ((B.val * 128 + i.val) * 16 + r.val) (1024 + (64 * h.val + e.val)) := by
  pointwise [res_main_v160, res_main_v8]
  exact X_at V0 _ _ _ _ (by omega) (by omega)

theorem q2 (h : Fin 8) (r : Fin 16) (B : Fin 2) (i : Fin 128) (e : Fin 64) :
    (shapeCast _ (transpose S8x16x256x64 [0, 2, 1, 3] (shapeCast _ (res_main_v2 V0) shapeCasts_S8x4096x64_S8x256x16x64) transposes_S8x256x16x64_S8x16x256x64_0_2_1_3) shapeCasts_S8x16x256x64_S8x16x2x128x64) (ix5 h r B i e)
      = X V0 ((B.val * 128 + i.val) * 16 + r.val) (64 * h.val + e.val) := by
  pointwise [res_main_v2]
  exact X_at V0 _ _ _ _ (by omega) (by omega)

theorem mask2 (B : Fin 2) (i : Fin 128) (j : Fin 256) :
    res_main_v194 V0 (ix3 B i j) = if (i.val ≤ j.val ∧ j.val ≤ i.val + 128) ∧ (128 ≤ j.val ∨ 0 < B.val) then 1#1 else 0#1 := by
  pointwise [res_main_v194, res_main_v175, res_main_v170]
  rw [band_word, first_word ⟨B.val, by omega⟩ j, and_word]

/-- The keys of a block after those of the block before it. -/
theorem cat2 (x : S8x16x2x128x64.Idx → EReal) (C : ℕ) (h : Fin 8) (r : Fin 16) (B : Fin 2) (e : Fin 64)
    (hx : ∀ (r : Fin 16) (B : Fin 2) (i : Fin 128), x (ix5 h r B i e) = X V0 ((B.val * 128 + i.val) * 16 + r.val) C) (j : Fin 256) :
    (concatenate S8x16x2x256x64 3 [⟨S8x16x2x128x64, (concatenate S8x16x2x128x64 2 [⟨S8x16x1x128x64, (broadcastInDim S8x16x1x128x64 ![] bcast_S_S8x16x1x128x64 (constant (F := Ideal) S_ .f32 0x00000000#32))⟩, ⟨S8x16x1x128x64, (extractStridedSlice S8x16x1x128x64 ![0, 0, 0, 0, 0] x slices_S8x16x2x128x64_S8x16x1x128x64_0_0_0_0_0)⟩] concatenates_S8x16x1x128x64_S8x16x1x128x64_S8x16x2x128x64_d2)⟩, ⟨S8x16x2x128x64, x⟩] concatenates_S8x16x2x128x64_S8x16x2x128x64_S8x16x2x256x64_d3) (ix5 h r B j e)
      = keyAt (X V0) 16 r.val B.val C j := by
  unfold keyAt
  pointwise [hx]
  split_ifs <;> rfl

theorem dot2 (q : FVec Ideal S8x16x2x128x64 .f32) (kk : FVec Ideal S8x16x2x256x64 .f32) (h : Fin 8) (r : Fin 16) (B : Fin 2) (i : Fin 128) (j : Fin 256) :
    (Host.dotGeneral dot_S8x16x2x128x64_S8x16x2x256x64_S8x16x2x128x256_4_4_3_3_012_012 none q kk : FVec Ideal S8x16x2x128x256 .f32) (ix5 h r B i j) = ∑ x : Fin 64, q (ix5 h r B i x) * kk (ix5 h r B j x) := by
  pointwise []

theorem sel2 (w : IVec S2x128x256 1) (a : S8x16x2x128x256.Idx → EReal) (b : S_.Idx → EReal) (h : Fin 8) (r : Fin 16) (B : Fin 2) (i : Fin 128) (j : Fin 256) :
    select (broadcastInDim S8x16x2x128x256 ![2, 3, 4] bcast_S2x128x256_S8x16x2x128x256_2_3_4 w) a (broadcastInDim S8x16x2x128x256 ![] bcast_S_S8x16x2x128x256 b) (ix5 h r B i j)
      = Scalar.select (w (ix3 B i j)) (a (ix5 h r B i j)) (b ix0) := by
  pointwise []

theorem score2 (h : Fin 8) (r : Fin 16) (B : Fin 2) (i : Fin 128) (j : Fin 256) :
    res_main_v195 V0 (ix5 h r B i j) = Scalar.select (res_main_v194 V0 (ix3 B i j)) (∑ x : Fin 64, X V0 ((B.val * 128 + i.val) * 16 + r.val) (64 * h.val + x.val)
      * keyAt (X V0) 16 r.val B.val (512 + (64 * h.val + x.val)) j) (constant (F := Ideal) S_ .f32 0xF149F2CA#32 ix0 : EReal) := by
  unfold res_main_v195
  refine (sel2 _ _ _ h r B i j).trans ?_
  refine congrArg₂ (Scalar.select _) ?_ rfl
  refine (dot2 _ _ h r B i j).trans ?_
  refine Finset.sum_congr rfl fun x _ => ?_
  exact congrArg₂ (· * ·) (q2 V0 h r B i x) (cat2 V0 _ _ h r B x (fun r B i => k2 V0 h r B i x) j)

theorem less2 (a : FVec Ideal S8x16x2x128x256 .f32) (b : FVec Ideal S8x16x2x128x1 .f32) (h : Fin 8) (r : Fin 16) (B : Fin 2) (i : Fin 128) (j : Fin 256) :
    (Host.exp (subf a (broadcastInDim S8x16x2x128x256 ![0, 1, 2, 3, 4] bcast_S8x16x2x128x1_S8x16x2x128x256_0_1_2_3_4 b))) (ix5 h r B i j)
      = Ideal.exp (a (ix5 h r B i j) - b (ix5 h r B i 0)) := by
  pointwise []

/-- The weights, taken from a real number. -/
theorem weights2 (hX : ∀ R C, ∃ x : ℝ, X V0 R C = (x : EReal)) (h : Fin 8) (r : Fin 16) (B : Fin 2) (i : Fin 128) : ∃ M : ℝ, res_main_v197 V0 (ix5 h r B i 0) = (M : EReal)
    ∧ ∀ j : Fin 256, res_main_v201 V0 (ix5 h r B i j) = Scalar.select (res_main_v194 V0 (ix3 B i j)) (Ideal.exp (Scalar.select (res_main_v194 V0 (ix3 B i j))
      (∑ x : Fin 64, X V0 ((B.val * 128 + i.val) * 16 + r.val) (64 * h.val + x.val) * keyAt (X V0) 16 r.val B.val (512 + (64 * h.val + x.val)) j)
      (constant (F := Ideal) S_ .f32 0xF149F2CA#32 ix0 : EReal) - (M : EReal))) 0 := by
  have hr : ∀ a, ∃ x : ℝ, res_main_v195 V0 a = (x : EReal) := fun a => by
    idx_vars a
    rw [score2]
    exact score_real hX _ _ _ _ _ _ _
  have hM : ∃ M : ℝ, res_main_v197 V0 (ix5 h r B i 0) = (M : EReal) := by
    pointwise [res_main_v197, cBot]
    refine fold_real _ ⟨ix5 h r B i 0, ?_⟩ _ hr
    rw [Finset.mem_filter]
    refine ⟨Finset.mem_univ _, ?_⟩
    funext k
    apply Fin.ext
    fin_cases k <;> rfl
  obtain ⟨M, eM⟩ := hM
  refine ⟨M, eM, fun j => ?_⟩
  unfold res_main_v201
  refine (sel2 _ _ _ h r B i j).trans ?_
  refine congrArg₂ (Scalar.select _) ?_ cZero
  refine (less2 _ _ h r B i j).trans ?_
  exact congrArg Ideal.exp (congrArg₂ (· - ·) (score2 V0 h r B i j) eM)

/-- The greatest scores, the weights and their sums. -/
def tops2 : FVec Ideal S8x16x2x128x1 .f32 := res_main_v197 V0
def wts2 : FVec Ideal S8x16x2x128x256 .f32 := res_main_v201 V0
def dens2 : FVec Ideal S8x16x2x128x1 .f32 := res_main_v203 V0

theorem den2 (h : Fin 8) (r : Fin 16) (B : Fin 2) (i : Fin 128) : dens2 V0 (ix5 h r B i 0) = ∑ j : Fin 256, wts2 V0 (ix5 h r B i j) := by
  pointwise [dens2, wts2, res_main_v203]

/-- The values of a block and of the block before it. -/
def vals2 : FVec Ideal S8x16x2x256x64 .f32 :=
  (concatenate S8x16x2x256x64 3 [⟨S8x16x2x128x64, (concatenate S8x16x2x128x64 2 [⟨S8x16x1x128x64, (broadcastInDim S8x16x1x128x64 ![] bcast_S_S8x16x1x128x64 (constant (F := Ideal) S_ .f32 0x00000000#32))⟩, ⟨S8x16x1x128x64, (extractStridedSlice S8x16x1x128x64 ![0, 0, 0, 0, 0] (res_main_v160 V0) slices_S8x16x2x128x64_S8x16x1x128x64_0_0_0_0_0)⟩] concatenates_S8x16x1x128x64_S8x16x1x128x64_S8x16x2x128x64_d2)⟩, ⟨S8x16x2x128x64, (res_main_v160 V0)⟩] concatenates_S8x16x2x128x64_S8x16x2x128x64_S8x16x2x256x64_d3)

/-- Output and log-denominator of a query. -/
theorem query2 (hX : ∀ R C, ∃ x : ℝ, X V0 R C = (x : EReal)) (h : Fin 8) (r : Fin 16) (B : Fin 2) (i : Fin 128) (e : Fin 64) :
    Ideal.div (∑ j : Fin 256, wts2 V0 (ix5 h r B i j) * vals2 V0 (ix5 h r B j e)) (dens2 V0 (ix5 h r B i 0))
      = outD (X V0) 16 ((B.val * 128 + i.val) * 16 + r.val) (64 * h.val + e.val)
    ∧ tops2 V0 (ix5 h r B i 0) + Ideal.log (dens2 V0 (ix5 h r B i 0)) = lseD (X V0) 16 ((B.val * 128 + i.val) * 16 + r.val) (64 * h.val + e.val)
    ∧ ∃ x : ℝ, lseD (X V0) 16 ((B.val * 128 + i.val) * 16 + r.val) (64 * h.val + e.val) = (x : EReal) := by
  obtain ⟨M, eM, hw⟩ := weights2 V0 hX h r B i
  rw [den2, show tops2 V0 (ix5 h r B i 0) = (M : EReal) from eM]
  have ev : ∀ j : Fin 256, vals2 V0 (ix5 h r B j e) = keyAt (X V0) 16 r.val B.val (1024 + (64 * h.val + e.val)) j :=
    cat2 V0 _ _ h r B e fun r B i => v2 V0 h r B i e
  simp only [ev]
  exact pattern (by omega) r.isLt i.isLt hX h.val e.val e.isLt (fun j => res_main_v194 V0 (ix3 B i j)) (fun j => mask2 V0 B i j) M _ _ hw

/-- The pattern's outputs and log-denominators, by head, row and lane. -/
def outs2 : FVec Ideal S8x4096x64 .f32 :=
  shapeCast _ (transpose S8x256x16x64 [0, 2, 1, 3] (shapeCast _ (Host.divf (F := Ideal) (φ := .f32) (Host.dotGeneral dot_S8x16x2x128x256_S8x16x2x256x64_S8x16x2x128x64_4_3_3_4_012_012 none (wts2 V0) (vals2 V0) : FVec Ideal S8x16x2x128x64 .f32) (broadcastInDim S8x16x2x128x64 ![0, 1, 2, 3, 4] bcast_S8x16x2x128x1_S8x16x2x128x64_0_1_2_3_4 (dens2 V0))) shapeCasts_S8x16x2x128x64_S8x16x256x64) transposes_S8x16x256x64_S8x256x16x64_0_2_1_3) shapeCasts_S8x256x16x64_S8x4096x64
def lses2 : FVec Ideal S1x8x4096 .f32 :=
  broadcastInDim S1x8x4096 ![1, 2] bcast_S8x4096_S1x8x4096_1_2 (shapeCast _ (transpose S8x256x16 [0, 2, 1] (shapeCast _ (shapeCast _ (addf (F := Ideal) (φ := .f32) (tops2 V0) (Host.log (F := Ideal) (φ := .f32) (dens2 V0))) shapeCasts_S8x16x2x128x1_S8x16x2x128) shapeCasts_S8x16x2x128_S8x16x256) transposes_S8x16x256_S8x256x16_0_2_1) shapeCasts_S8x256x16_S8x4096)

theorem outs2_apply (hX : ∀ R C, ∃ x : ℝ, X V0 R C = (x : EReal)) (h : Fin 8) (R : Fin 4096) (e : Fin 64) :
    outs2 V0 (ix3 h R e) = outD (X V0) 16 R.val (64 * h.val + e.val) := by
  have hR : ((R.val / 16 / 128) * 128 + R.val / 16 % 128) * 16 + R.val % 16 = R.val := by omega
  have q := (query2 V0 hX h ⟨R.val % 16, by omega⟩ ⟨R.val / 16 / 128, by omega⟩ ⟨R.val / 16 % 128, by omega⟩ e).1
  simp only [hR] at q
  rw [← q]
  pointwise [outs2]

theorem spread2 (x : FVec Ideal S8x4096 .f32) (h : Fin 8) (R : Fin 4096) : broadcastInDim S1x8x4096 ![1, 2] bcast_S8x4096_S1x8x4096_1_2 x (ix3 0 h R) = x (ix2 h R) := by
  pointwise []

theorem rows2 (x : FVec Ideal S8x256x16 .f32) (h : Fin 8) (R : Fin 4096) :
    shapeCast S8x4096 x shapeCasts_S8x256x16_S8x4096 (ix2 h R) = x (ix3 h ⟨R.val / 16, by omega⟩ ⟨R.val % 16, by omega⟩) := by
  pointwise []

theorem swap2 (x : FVec Ideal S8x16x256 .f32) (h : Fin 8) (R : Fin 256) (r : Fin 16) :
    transpose S8x256x16 [0, 2, 1] x transposes_S8x16x256_S8x256x16_0_2_1 (ix3 h R r) = x (ix3 h r R) := by
  pointwise []

theorem blocks2 (x : FVec Ideal S8x16x2x128 .f32) (h : Fin 8) (R : Fin 256) (r : Fin 16) :
    shapeCast S8x16x256 x shapeCasts_S8x16x2x128_S8x16x256 (ix3 h r R) = x (ix4 h r ⟨R.val / 128, by omega⟩ ⟨R.val % 128, by omega⟩) := by
  pointwise []

theorem unit2 (x : FVec Ideal S8x16x2x128x1 .f32) (h : Fin 8) (r : Fin 16) (B : Fin 2) (i : Fin 128) :
    shapeCast S8x16x2x128 x shapeCasts_S8x16x2x128x1_S8x16x2x128 (ix4 h r B i) = x (ix5 h r B i 0) := by
  pointwise []

theorem plus2 (a b : FVec Ideal S8x16x2x128x1 .f32) (i : S8x16x2x128x1.Idx) : addf a (Host.log b) i = (a i : EReal) + Ideal.log (b i) := by
  pointwise []

theorem lses2_apply (hX : ∀ R C, ∃ x : ℝ, X V0 R C = (x : EReal)) (h : Fin 8) (R : Fin 4096) (e : Fin 64) :
    lses2 V0 (ix3 0 h R) = lseD (X V0) 16 R.val (64 * h.val + e.val) ∧ ∃ x : ℝ, lseD (X V0) 16 R.val (64 * h.val + e.val) = (x : EReal) := by
  have hR : ((R.val / 16 / 128) * 128 + R.val / 16 % 128) * 16 + R.val % 16 = R.val := by omega
  have q := (query2 V0 hX h ⟨R.val % 16, by omega⟩ ⟨R.val / 16 / 128, by omega⟩ ⟨R.val / 16 % 128, by omega⟩ e).2
  simp only [hR] at q
  refine ⟨?_, q.2⟩
  rw [← q.1]
  unfold lses2
  exact (spread2 _ h R).trans ((rows2 _ h R).trans ((swap2 _ h _ _).trans ((blocks2 _ h _ _).trans ((unit2 _ h _ _ _).trans (plus2 _ _ _)))))

end Cert.Reference8Ideal.Value

end

end
-- ==== Proof.AttnMerge.lean ====
/- The reference's merge of its three patterns: its two results at an index. -/
module

public import proofs.«01_k».proof.Proof.AttnRef

@[expose] public section

set_option maxRecDepth 16384

noncomputable section

open Idealize.ShloMosaic Idealize.ShloMosaic.TcCoe Idealize.SL.Sem

namespace Cert.Reference8Ideal.Value

open Cert.Reference8Ideal Cert.Reference8Ideal.Gen Cert.Attn

variable (V0 : Valuation τ sig (Elt Ideal))

/-! ## The merge, of any three patterns -/

theorem stack (x y z : FVec Ideal S1x8x4096 .f32) (p : Fin 3) (h : Fin 8) (R : Fin 4096) :
    (concatenate S3x8x4096 0 [⟨S1x8x4096, x⟩, ⟨S1x8x4096, y⟩, ⟨S1x8x4096, z⟩] concatenates_S1x8x4096_S1x8x4096_S1x8x4096_S3x8x4096_d0) (ix3 p h R)
      = ![x (ix3 0 h R), y (ix3 0 h R), z (ix3 0 h R)] p := by
  pointwise []
  match p with
  | ⟨0, _⟩ => rfl
  | ⟨1, _⟩ => rfl
  | ⟨2, _⟩ => rfl

theorem fold3 (f : Fin 3 → EReal) : Finset.univ.fold max ⊥ f = mtop f := by
  have e := fun c : EReal => Finset.fold_max_le (s := Finset.univ) (f := f) (b := (⊥ : EReal)) c
  have h := ((e _).1 (le_refl (Finset.univ.fold max ⊥ f))).2
  apply le_antisymm
  · rw [e]
    refine ⟨bot_le, fun p _ => ?_⟩
    unfold mtop
    fin_cases p
    · exact (le_max_left _ _).trans (le_max_left _ _)
    · exact (le_max_right _ _).trans (le_max_left _ _)
    · exact le_max_right _ _
  · exact max_le (max_le (h 0 (Finset.mem_univ _)) (h 1 (Finset.mem_univ _))) (h 2 (Finset.mem_univ _))

theorem greatest (x : FVec Ideal S3x8x4096 .f32) (h : Fin 8) (R : Fin 4096) :
    (Host.reduce FloatOps.maximumf x (constant S_ .f32 0xFF800000#32) reducesTo_S3x8x4096_S8x4096_d0 h_S_ : FVec Ideal S8x4096 .f32) (ix2 h R) = mtop fun p => x (ix3 p h R) := by
  rw [← fold3]
  pointwise [cBot]

theorem weight (x : FVec Ideal S3x8x4096 .f32) (t : FVec Ideal S8x4096 .f32) (p : Fin 3) (h : Fin 8) (R : Fin 4096) :
    (Host.exp (subf x (broadcastInDim S3x8x4096 ![0, 1, 2] bcast_S1x8x4096_S3x8x4096_0_1_2 (broadcastInDim S1x8x4096 ![1, 2] bcast_S8x4096_S1x8x4096_1_2 (maximumf (broadcastInDim S8x4096 ![] bcast_S_S8x4096 (constant S_ .f32 0xFF800000#32)) t)))) : FVec Ideal S3x8x4096 .f32) (ix3 p h R) = Ideal.exp (x (ix3 p h R) - t (ix2 h R)) := by
  pointwise [cBot]
  rw [max_eq_right bot_le]

theorem share (w : FVec Ideal S3x8x4096 .f32) (p : Fin 3) (h : Fin 8) (R : Fin 4096) :
    (Host.divf w (broadcastInDim S3x8x4096 ![0, 1, 2] bcast_S1x8x4096_S3x8x4096_0_1_2 (broadcastInDim S1x8x4096 ![1, 2] bcast_S8x4096_S1x8x4096_1_2 (Host.reduceAdd w (constant S_ .f32 0x00000000#32) reducesTo_S3x8x4096_S8x4096_d0 h_S_))) : FVec Ideal S3x8x4096 .f32) (ix3 p h R) = Ideal.div (w (ix3 p h R)) (∑ p, w (ix3 p h R)) := by
  pointwise []

def merge (w : FVec Ideal S3x8x4096 .f32) (o0 o1 o2 : FVec Ideal S8x4096x64 .f32) : FVec Ideal S4096x512 .f32 := shapeCast _ (transpose S4096x8x64 [1, 0, 2] (addf (addf (addf (broadcastInDim S8x4096x64 ![] bcast_S_S8x4096x64 (constant S_ .f32 0x00000000#32)) (mulf (broadcastInDim S8x4096x64 ![0, 1, 2] bcast_S8x4096x1_S8x4096x64_0_1_2 (broadcastInDim S8x4096x1 ![0, 1] bcast_S8x4096_S8x4096x1_0_1 (shapeCast _ (extractStridedSlice S1x8x4096 ![0, 0, 0] w slices_S3x8x4096_S1x8x4096_0_0_0) shapeCasts_S1x8x4096_S8x4096))) o0)) (mulf (broadcastInDim S8x4096x64 ![0, 1, 2] bcast_S8x4096x1_S8x4096x64_0_1_2 (broadcastInDim S8x4096x1 ![0, 1] bcast_S8x4096_S8x4096x1_0_1 (shapeCast _ (extractStridedSlice S1x8x4096 ![1, 0, 0] w slices_S3x8x4096_S1x8x4096_1_0_0) shapeCasts_S1x8x4096_S8x4096))) o1)) (mulf (broadcastInDim S8x4096x64 ![0, 1, 2] bcast_S8x4096x1_S8x4096x64_0_1_2 (broadcastInDim S8x4096x1 ![0, 1] bcast_S8x4096_S8x4096x1_0_1 (shapeCast _ (extractStridedSlice S1x8x4096 ![2, 0, 0] w slices_S3x8x4096_S1x8x4096_2_0_0) shapeCasts_S1x8x4096_S8x4096))) o2)) transposes_S8x4096x64_S4096x8x64_1_0_2) shapeCasts_S4096x8x64_S4096x512
def mergeLog (x : FVec Ideal S3x8x4096 .f32) (t : FVec Ideal S8x4096 .f32) : FVec Ideal S4096x512 .f32 := shapeCast _ (broadcastInDim S4096x8x64 ![0, 1] bcast_S4096x8_S4096x8x64_0_1 (transpose S4096x8 [1, 0] (addf t (Host.log (Host.reduceAdd (Host.exp (subf x (broadcastInDim S3x8x4096 ![0, 1, 2] bcast_S1x8x4096_S3x8x4096_0_1_2 (broadcastInDim S1x8x4096 ![1, 2] bcast_S8x4096_S1x8x4096_1_2 t)))) (constant S_ .f32 0x00000000#32) reducesTo_S3x8x4096_S8x4096_d0 h_S_))) transposes_S8x4096_S4096x8_1_0)) shapeCasts_S4096x8x64_S4096x512

theorem merged (w : FVec Ideal S3x8x4096 .f32) (o0 o1 o2 : FVec Ideal S8x4096x64 .f32) (R : Fin 4096) (c : Fin 512) :
    merge w o0 o1 o2 (ix2 R c)
      = w (ix3 0 ⟨c.val / 64, by omega⟩ R) * o0 (ix3 ⟨c.val / 64, by omega⟩ R ⟨c.val % 64, by omega⟩)
        + w (ix3 1 ⟨c.val / 64, by omega⟩ R) * o1 (ix3 ⟨c.val / 64, by omega⟩ R ⟨c.val % 64, by omega⟩)
        + w (ix3 2 ⟨c.val / 64, by omega⟩ R) * o2 (ix3 ⟨c.val / 64, by omega⟩ R ⟨c.val % 64, by omega⟩) := by
  pointwise [merge]

theorem logs (x : FVec Ideal S3x8x4096 .f32) (t : FVec Ideal S8x4096 .f32) (R : Fin 4096) (c : Fin 512) :
    mergeLog x t (ix2 R c)
      = t (ix2 ⟨c.val / 64, by omega⟩ R) + Ideal.log (∑ p, Ideal.exp (x (ix3 p ⟨c.val / 64, by omega⟩ R) - t (ix2 ⟨c.val / 64, by omega⟩ R))) := by
  pointwise [mergeLog]

/-! ## The two results -/

/-- The patterns' weights, before and after the division by their sum. -/
def raw : FVec Ideal S3x8x4096 .f32 := res_main_v226 V0
def shares : FVec Ideal S3x8x4096 .f32 := res_main_v230 V0

/-- The reference's output and log-denominator. -/
def refO : FVec Ideal S4096x512 .f32 := merge (shares V0) (outs0 V0) (outs1 V0) (outs2 V0)
def refL : FVec Ideal S4096x512 .f32 := mergeLog (res_main_v219 V0) (res_main_v250 V0)

theorem v219_eq : res_main_v219 V0 = (concatenate S3x8x4096 0 [⟨S1x8x4096, lses0 V0⟩, ⟨S1x8x4096, lses1 V0⟩, ⟨S1x8x4096, lses2 V0⟩] concatenates_S1x8x4096_S1x8x4096_S1x8x4096_S3x8x4096_d0) := rfl

theorem three (p : Fin 3) (a b c : EReal) (f : Fin 3 → EReal) (h0 : a = f 0) (h1 : b = f 1) (h2 : c = f 2) : ![a, b, c] p = f p := by
  rw [h0, h1, h2]
  fin_cases p <;> rfl

variable (hX : ∀ R C, ∃ x : ℝ, X V0 R C = (x : EReal)) (h : Fin 8) (R : Fin 4096) (e : Fin 64)
include hX

/-- The three log-denominators. -/
theorem v219_apply (p : Fin 3) : (res_main_v219 V0 (ix3 p h R) : EReal) = lseD (X V0) (dil p.val) R.val (64 * h.val + e.val) := by
  have h0 := (lses0_apply V0 hX h R e).1
  have h1 := (lses1_apply V0 hX h R e).1
  have h2 := (lses2_apply V0 hX h R e).1
  rw [v219_eq, stack]
  exact three p _ _ _ (fun p : Fin 3 => lseD (X V0) (dil p.val) R.val (64 * h.val + e.val)) h0 h1 h2

theorem lse_real (p : Fin 3) : ∃ x : ℝ, lseD (X V0) (dil p.val) R.val (64 * h.val + e.val) = (x : EReal) := by
  fin_cases p
  · exact (lses0_apply V0 hX h R e).2
  · exact (lses1_apply V0 hX h R e).2
  · exact (lses2_apply V0 hX h R e).2

theorem v250_apply : (res_main_v250 V0 (ix2 h R) : EReal) = mtop fun p : Fin 3 => lseD (X V0) (dil p.val) R.val (64 * h.val + e.val) := by
  refine (greatest (res_main_v219 V0) h R).trans ?_
  exact congrArg mtop (funext fun p => v219_apply V0 hX h R e p)

theorem v226_apply (p : Fin 3) : raw V0 (ix3 p h R) = mwt (fun p : Fin 3 => lseD (X V0) (dil p.val) R.val (64 * h.val + e.val)) p := by
  refine (weight (res_main_v219 V0) _ p h R).trans ?_
  exact congrArg Ideal.exp (congrArg₂ (· - ·) (v219_apply V0 hX h R e p) (v250_apply V0 hX h R e))

theorem sum226 : (∑ p : Fin 3, raw V0 (ix3 p h R)) = mden (fun p : Fin 3 => lseD (X V0) (dil p.val) R.val (64 * h.val + e.val)) := by
  have e2 := fun p => v226_apply V0 hX h R e p
  rw [Fin.sum_univ_three]
  exact congrArg₂ (· + ·) (congrArg₂ (· + ·) (e2 0) (e2 1)) (e2 2)

theorem v230_apply (p : Fin 3) : shares V0 (ix3 p h R)
    = Ideal.div (mwt (fun p : Fin 3 => lseD (X V0) (dil p.val) R.val (64 * h.val + e.val)) p) (mden (fun p : Fin 3 => lseD (X V0) (dil p.val) R.val (64 * h.val + e.val))) := by
  refine (share (raw V0) p h R).trans ?_
  exact congrArg₂ Ideal.div (v226_apply V0 hX h R e p) (sum226 V0 hX h R e)

omit h e

theorem refO_apply (c : Fin 512) : refO V0 (ix2 R c) = attO (X V0) R.val c.val := by
  have hc : 64 * (c.val / 64) + c.val % 64 = c.val := by omega
  have hm := mout_eq (fun p : Fin 3 => lseD (X V0) (dil p.val) R.val c.val) (fun p : Fin 3 => outD (X V0) (dil p.val) R.val c.val) fun p => by
    have := lse_real V0 hX ⟨c.val / 64, by omega⟩ R ⟨c.val % 64, by omega⟩ p
    rwa [hc] at this
  have hw := fun p => v230_apply V0 hX ⟨c.val / 64, by omega⟩ R ⟨c.val % 64, by omega⟩ p
  have h0 := outs0_apply V0 hX ⟨c.val / 64, by omega⟩ R ⟨c.val % 64, by omega⟩
  have h1 := outs1_apply V0 hX ⟨c.val / 64, by omega⟩ R ⟨c.val % 64, by omega⟩
  have h2 := outs2_apply V0 hX ⟨c.val / 64, by omega⟩ R ⟨c.val % 64, by omega⟩
  simp only [hc] at hw h0 h1 h2
  unfold attO
  rw [← hm]
  refine (merged (shares V0) (outs0 V0) (outs1 V0) (outs2 V0) R c).trans ?_
  rw [h0, h1, h2]
  exact congrArg₂ (· + ·) (congrArg₂ (· + ·) (congrArg (· * _) (hw 0)) (congrArg (· * _) (hw 1))) (congrArg (· * _) (hw 2))

theorem refL_apply (c : Fin 512) : refL V0 (ix2 R c) = attL (X V0) R.val c.val := by
  have hc : 64 * (c.val / 64) + c.val % 64 = c.val := by omega
  have ht := v250_apply V0 hX ⟨c.val / 64, by omega⟩ R ⟨c.val % 64, by omega⟩
  have hx := fun p => v219_apply V0 hX ⟨c.val / 64, by omega⟩ R ⟨c.val % 64, by omega⟩ p
  simp only [hc] at ht hx
  unfold attL mlse
  refine (logs (res_main_v219 V0) (res_main_v250 V0) R c).trans ?_
  refine congrArg₂ (· + ·) ht (congrArg Ideal.log ?_)
  rw [Fin.sum_univ_three]
  exact congrArg₂ (· + ·) (congrArg₂ (· + ·) (congrArg Ideal.exp (congrArg₂ (· - ·) (hx 0) ht)) (congrArg Ideal.exp (congrArg₂ (· - ·) (hx 1) ht)))
    (congrArg Ideal.exp (congrArg₂ (· - ·) (hx 2) ht))

end Cert.Reference8Ideal.Value

end

end
-- ==== Proof.AttnClaim.lean ====
/- The dilated attention: kernel and reference agree over the reals. -/
module

public import proofs.«01_k».proof.Defs
public import proofs.«01_k».proof.Proof.Gen.Pre_finite8
public import proofs.«01_k».proof.Proof.AttnFinal
public import proofs.«01_k».proof.Proof.AttnMerge

@[expose] public section

set_option maxRecDepth 16384

noncomputable section

namespace Cert.Proof

open Idealize.ShloMosaic Idealize.ShloMosaic.TcCoe Idealize.SL.Sem Cert.Reals

/-- The operand is an array of real numbers. -/
theorem arg8_real {m : (ℓ : Loc Cert.Kernel8Ideal.nD Cert.Kernel8Ideal.τ Cert.Kernel8Ideal.sig) → Buf (Elt Ideal) ℓ} (h : Cert.Pre_Kernel8Ideal_finite8 m)
    (c : Dev Cert.Kernel8Ideal.nD) (R : Fin 4096) (C : Fin 3584) : ∃ x : ℝ, Cert.Kernel8Ideal.Value.aX m c R C = (x : EReal) := by
  have e := congrFun (h c) (ix2 R C)
  pointwise [Cert.Pre_finite8.fn] at e
  exact ⟨_, of_word e⟩

theorem preserves8 : Cert.preserves_Kernel8_Kernel8Ideal := IdealRules.named_const.statement Cert.Kernel8Ideal.κ "mask" .f32 0xF149F2CA#32 ⊥ rfl

theorem algebraic8 : Cert.algebraic_Kernel8Ideal_Reference8Ideal_pre_finite8 := by
  pair_intro
  · run_from Cert.Kernel8Ideal.Gen.run_main m g
  · refine θ_run_mono (Cert.Reference8Ideal.Value.run m' g') ?_
    intro r hr c
    obtain ⟨h0, h1, ha⟩ := hr c
    have hX : Cert.Reference8Ideal.Value.X (Idealize.ShloMosaic.StableHlo.launchContents m' c) = Cert.Attn.spread (Cert.Kernel8Ideal.Value.aX m c) :=
      congrArg Cert.Attn.spread (funext fun R => funext fun C => congrFun (hagree c) (ix2 R C))
    have hr : ∀ R C, ∃ x : ℝ, Cert.Reference8Ideal.Value.X (Idealize.ShloMosaic.StableHlo.launchContents m' c) R C = (x : EReal) := by
      rw [hX]; exact Cert.Attn.spread_real (arg8_real hpre c)
    refine ⟨h0.trans ?_, h1.trans ?_, ha⟩
    · refine Eq.trans ?_ (Cert.Kernel8Ideal.Value.final5 m c).symm
      funext j; idx_vars j
      rw [← hX]
      exact Cert.Reference8Ideal.Value.refO_apply _ hr j0 j1
    · refine Eq.trans ?_ (Cert.Kernel8Ideal.Value.final6 m c).symm
      funext j; idx_vars j
      rw [← hX]
      exact Cert.Reference8Ideal.Value.refL_apply _ hr j0 j1

end Cert.Proof

end

end
-- ==== Proof.EntryMath.lean ====
/- The mixer's entry: its entries over the extended reals. -/
module

public import proofs.«01_k».proof.Proof.Reals

@[expose] public section

noncomputable section

open Idealize.ShloMosaic

namespace Cert.Entry

/-- A row over its root mean square, times the gain. -/
def norm (x : Fin 1024 → EReal) (g : Fin 1024 → EReal) (j : Fin 1024) : EReal :=
  x j * Ideal.rsqrt (Ideal.div (∑ k, x k * x k) (Ideal.ofBits FTy.f32 0x44800000#32) + Ideal.ofBits FTy.f32 0x358637BD#32) * g j

/-- A normed row times a column of the weight. -/
def entry (x g w : Fin 1024 → EReal) : EReal := ∑ k, norm x g k * w k

/-- The lane of a head, and the lane's partner. -/
def lane (j : Fin 512) : Fin 32 := ⟨j.val % 32, Nat.mod_lt _ (by decide)⟩
def partner (j : Fin 512) : Fin 512 := if j.val % 64 < 32 then ⟨(j.val + 32) % 512, Nat.mod_lt _ (by decide)⟩ else ⟨j.val - 32, by omega⟩

/-- A row of heads rotated by the cosines and sines of the lanes' angles. -/
def rotate (p : Fin 512 → EReal) (cs sn : Fin 32 → EReal) (j : Fin 512) : EReal :=
  if j.val % 64 < 32 then p j * cs (lane j) - p (partner j) * sn (lane j) else p (partner j) * sn (lane j) + p j * cs (lane j)

/-- The angle of a position and a lane. -/
def angle (i : Fin 4096) (k : Fin 32) : EReal :=
  FloatOps.sitofp (F := Ideal) FTy.f32 (BitVec.ofNat 32 i.val) * Ideal.pow (Ideal.ofBits FTy.f32 0x461C4000#32)
    (Ideal.div (-FloatOps.sitofp (F := Ideal) FTy.f32 (BitVec.ofNat 32 k.val)) (Ideal.ofBits FTy.f32 0x42000000#32))

/-- A row of the first result from its products: queries rotated and scaled, keys rotated, the rest as they are. -/
def res (p : Fin 3584 → EReal) (cs sn : Fin 32 → EReal) (j : Fin 3584) : EReal :=
  if h : j.val < 512 then rotate (fun l => p ⟨l.val, by omega⟩) cs sn ⟨j.val, h⟩ * Ideal.ofBits FTy.f32 0x3E000000#32
  else if h : j.val - 512 < 512 then rotate (fun l => p ⟨512 + l.val, by omega⟩) cs sn ⟨j.val - 512, h⟩
  else p j

variable (p : Fin 3584 → EReal) (cs sn : Fin 32 → EReal)

theorem res_q (j : Fin 512) : res p cs sn ⟨j.val, by omega⟩ = rotate (fun l => p ⟨l.val, by omega⟩) cs sn j * Ideal.ofBits FTy.f32 0x3E000000#32 :=
  dif_pos j.isLt

theorem res_k (j : Fin 512) : res p cs sn ⟨512 + j.val, by omega⟩ = rotate (fun l => p ⟨512 + l.val, by omega⟩) cs sn j := by
  unfold res
  rw [dif_neg (by simp only; omega), dif_pos (by simp only; omega)]
  exact congrArg (rotate _ cs sn) (Fin.ext (by show 512 + j.val - 512 = j.val; omega))

theorem res_rest (j : Fin 3584) (h : 1024 ≤ j.val) : res p cs sn j = p j := by
  unfold res
  rw [dif_neg (by omega), dif_neg (by omega)]

/-- The rotation from a lane's product and its partner's, the sine's sign in the table. -/
theorem rotate_eq (p : Fin 512 → EReal) (j : Fin 512) :
    p j * cs (lane j) + p (partner j) * (if j.val % 64 < 32 then -sn (lane j) else sn (lane j)) = rotate p cs sn j := by
  unfold rotate
  split_ifs
  · rw [mul_neg, sub_eq_add_neg]
  · rw [add_comm]

end Cert.Entry

end

end
-- ==== Proof.LayerMath.lean ====
/- A squared-ReLU layer: its rows over the extended reals. -/
module

public import proofs.«01_k».proof.Proof.EntryMath

@[expose] public section

noncomputable section

open Idealize.ShloMosaic

namespace Cert.Layer

variable {a b : ℕ}

/-- A row times a matrix. -/
def mulRow (h : Fin a → EReal) (w : Fin a → Fin b → EReal) (j : Fin b) : EReal := ∑ k, h k * w k j

/-- A row plus another row times a matrix. -/
def addMul (x : Fin b → EReal) (h : Fin a → EReal) (w : Fin a → Fin b → EReal) (j : Fin b) : EReal := x j + mulRow h w j

/-- The squared rectifier of a row. -/
def relu2 (u : Fin a → EReal) (j : Fin a) : EReal := max (u j) 0 * max (u j) 0

/-- A piece of 512 columns. -/
def col (p : Fin 8) (j : Fin 512) : Fin 4096 := ⟨p.val * 512 + j.val, by omega⟩

/-- The second product from eight pieces of the hidden columns. -/
theorem addMul_tiles (x : Fin b → EReal) (h : Fin 4096 → EReal) (w : Fin 4096 → Fin b → EReal) (j : Fin b) :
    addMul x h w j = x j + ∑ p : Fin 8, ∑ k : Fin 512, h (col p k) * w (col p k) j := by
  unfold addMul mulRow
  rw [Fin.sum_univ_tiles 8 512 rfl (fun k : Fin 4096 => h k * w k j)]
  rfl

end Cert.Layer

end

end
-- ==== Proof.LayerKernel.lean ====
/- A squared-ReLU layer: the kernel entry by entry. -/
module

public import proofs.«01_k».proof.Defs
public import proofs.«01_k».proof.Proof.Gen.Kernel13Ideal.Frame
public import proofs.«01_k».proof.Proof.LayerMath
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel13Ideal.Value

open Cert.Kernel13Ideal Cert.Kernel13Ideal.Gen Cert.Layer

section payloads

variable (x : Vec Ideal S512x1024 .f32) (a : Vec Ideal S512x1024 .bf16) (o : Vec Ideal S1x1024x1024 .bf16) (g : Vec Ideal S1x1x1024 .f32)
  (h : FVec Ideal S512x1024 .bf16) (w : Vec Ideal S1x1x1024x512 .bf16)

/-- The residual after the mixers. -/
theorem mid_at (r : Fin 512) (l : Fin 1024) : k0_pay2 (F := Ideal) x a o (ix2 r l) = addMul (fun k => x (ix2 r k)) (fun k => a (ix2 r k)) (fun k l => o (ix3 0 k l)) l := by
  pointwise [k0_pay2]; rfl

/-- The norm with its gain. -/
theorem norm_at (r : Fin 512) (l : Fin 1024) : k0_pay3 (F := Ideal) x a o g (ix2 r l) = Cert.Entry.norm (fun k => k0_pay2 (F := Ideal) x a o (ix2 r k)) (fun k => g (ix3 0 0 k)) l := by
  pointwise [k0_pay3]; rfl

/-- One piece of 512 columns of the first product. -/
theorem lin_at (r j : Fin 512) : (k0_pay8 (F := Ideal) h w (ix2 r j) : EReal) = mulRow (fun k => h (ix2 r k)) (fun k j => w (ix4 0 0 k j)) j := by
  pointwise [k0_pay8]; rfl

/-- The same piece as stored. -/
theorem store_at (r j : Fin 512) : (k0_pay9 (F := Ideal) h w (ix2 r j) : EReal) = mulRow (fun k => h (ix2 r k)) (fun k j => w (ix4 0 0 k j)) j := by
  pointwise [k0_pay9, lin_at]

/-- Its squared rectifier. -/
theorem act_at (r j : Fin 512) : (k0_pay10 (F := Ideal) h w (ix2 r j) : EReal) = relu2 (mulRow (fun k => h (ix2 r k)) (fun k j => w (ix4 0 0 k j))) j := by
  pointwise [k0_pay10, lin_at]; rfl

/-- The layer's output: eight pieces of the second product over the residual. -/
theorem sum_at (v6 : FVec Ideal S512x1024 .f32) (a0 a1 a2 a3 a4 a5 a6 a7 : Vec Ideal S512x512 .bf16) (d0 d1 d2 d3 d4 d5 d6 d7 : Vec Ideal S1x512x1024 .bf16)
    (X : Fin 512 → Fin 1024 → EReal) (A : Fin 8 → Fin 512 → Fin 512 → EReal) (D : Fin 8 → Fin 512 → Fin 1024 → EReal)
    (h6 : ∀ r l, v6 (ix2 r l) = X r l)
    (ha0 : ∀ r k, a0 (ix2 r k) = A 0 r k) (hd0 : ∀ k l, d0 (ix3 0 k l) = D 0 k l)
    (ha1 : ∀ r k, a1 (ix2 r k) = A 1 r k) (hd1 : ∀ k l, d1 (ix3 0 k l) = D 1 k l)
    (ha2 : ∀ r k, a2 (ix2 r k) = A 2 r k) (hd2 : ∀ k l, d2 (ix3 0 k l) = D 2 k l)
    (ha3 : ∀ r k, a3 (ix2 r k) = A 3 r k) (hd3 : ∀ k l, d3 (ix3 0 k l) = D 3 k l)
    (ha4 : ∀ r k, a4 (ix2 r k) = A 4 r k) (hd4 : ∀ k l, d4 (ix3 0 k l) = D 4 k l)
    (ha5 : ∀ r k, a5 (ix2 r k) = A 5 r k) (hd5 : ∀ k l, d5 (ix3 0 k l) = D 5 k l)
    (ha6 : ∀ r k, a6 (ix2 r k) = A 6 r k) (hd6 : ∀ k l, d6 (ix3 0 k l) = D 6 k l)
    (ha7 : ∀ r k, a7 (ix2 r k) = A 7 r k) (hd7 : ∀ k l, d7 (ix3 0 k l) = D 7 k l)
    (r : Fin 512) (l : Fin 1024) :
    (k0_pay1 (F := Ideal) (k0_pay30 v6 a0 d0 a1 d1 a2 d2 a3 d3 a4 d4) a5 (k0_pay31 d5) a6 d6 a7 d7 (ix2 r l) : EReal)
      = X r l + ∑ p, ∑ k, A p r k * D p k l := by
  pointwise [k0_pay1, k0_pay31, k0_pay30, h6, ha0, hd0, ha1, hd1, ha2, hd2, ha3, hd3, ha4, hd4, ha5, hd5, ha6, hd6, ha7, hd7]
  simp only [Fin.sum_univ_eight, add_assoc]

end payloads

variable (m : (ℓ : Loc nD τ sig) → Buf (Elt Ideal) ℓ) (c : Dev nD)

abbrev A0 : S4096x1024.Idx → EReal := m ((c.tc : Thread nD τ).loc main_arg0)
abbrev A1 : S4096x1024.Idx → EReal := m ((c.tc : Thread nD τ).loc main_arg1)
abbrev A2 : S2x1024x1024.Idx → EReal := m ((c.tc : Thread nD τ).loc main_arg2)
abbrev A3 : S2x1024.Idx → EReal := m ((c.tc : Thread nD τ).loc main_arg3)
abbrev A4 : S2x1024x4096.Idx → EReal := m ((c.tc : Thread nD τ).loc main_arg4)
abbrev A5 : S2x4096x1024.Idx → EReal := m ((c.tc : Thread nD τ).loc main_arg5)

/-- A row of the residual after the mixers, of its norm, of the first product, of the layer's output. -/
def xm (R : Fin 4096) : Fin 1024 → EReal := addMul (fun k => A0 m c (ix2 R k)) (fun k => A1 m c (ix2 R k)) (fun k l => A2 m c (ix3 0 k l))
def hr (R : Fin 4096) : Fin 1024 → EReal := Cert.Entry.norm (xm m c R) (fun k => A3 m c (ix2 0 k))
def ur (R : Fin 4096) : Fin 4096 → EReal := mulRow (hr m c R) (fun k l => A4 m c (ix3 0 k l))
def yr (R : Fin 4096) : Fin 1024 → EReal := addMul (xm m c R) (relu2 (ur m c R)) (fun k l => A5 m c (ix3 0 k l))

/-- The block a window is at, at each grid point. -/
theorem idx_val : ∀ t : Fin cfg0.N, win0_0.index t = ![t.val, 0] ∧ win0_1.index t = ![t.val, 0] ∧ win0_2.index t = ![0, 0, 0]
    ∧ win0_3.index t = ![0, 0, 0] ∧ win0_4.index t = ![0, 0, 0, 0] ∧ win0_5.index t = ![0, 0, 0]
    ∧ win0_6.index t = ![t.val, 0] ∧ win0_7.index t = ![t.val, 0] ∧ win0_8.index t = ![t.val, 0] ∧ win0_9.index t = ![t.val, 0] ∧ t.val < 8 :=
  (by decide +kernel : ∀ t : Fin grid0.N, _)

/-- The array row of a block's row. -/
def row (t : Fin cfg0.N) (r : Fin 512) : Fin 4096 := ⟨t.val * 512 + r, by have := (idx_val t).2.2.2.2.2.2.2.2.2.2; omega⟩

/-! The operands the host code prepares, at an index. -/

theorem prep_gain (i : Fin 2) (k : Fin 1024) : (V m c main_v11 : S2x1x1024.Idx → EReal) (ix3 i 0 k) = A3 m c (ix2 i k) := by
  simp only [V, List.flatten_cons, List.flatten_nil, List.append_nil]
  entry_read
  pointwise

theorem prep_out (k l : Fin 1024) : (V m c main_v1 : S1x1024x1024.Idx → EReal) (ix3 0 k l) = A2 m c (ix3 0 k l) := by
  simp only [V, List.flatten_cons, List.flatten_nil, List.append_nil]
  entry_read
  pointwise

theorem prep_down (k : Fin 4096) (l : Fin 1024) : (V m c main_v3 : S1x4096x1024.Idx → EReal) (ix3 0 k l) = A5 m c (ix3 0 k l) := by
  simp only [V, List.flatten_cons, List.flatten_nil, List.append_nil]
  entry_read
  pointwise

theorem prep_up (p : Fin 8) (k : Fin 1024) (j : Fin 512) : (V m c main_v9 : S1x8x1024x512.Idx → EReal) (ix4 0 p k j) = A4 m c (ix3 0 k (col p j)) := by
  simp only [V, List.flatten_cons, List.flatten_nil, List.append_nil]
  entry_read
  pointwise
  rfl

theorem prep_mixed (r : Fin 4096) (k : Fin 1024) : (V m c main_v10 : S4096x1024.Idx → EReal) (ix2 r k) = A1 m c (ix2 r k) := by
  simp only [V, List.flatten_cons, List.flatten_nil, List.append_nil]
  entry_read
  pointwise

/-! The blocks the body reads. -/

variable (t : Fin cfg0.N)

theorem blk0 (r : Fin 512) (k : Fin 1024) : (iblk m c 0 t : Vec Ideal S512x1024 .f32) (ix2 r k) = A0 m c (ix2 (row t r) k) := by
  blk_ext [iblk, V, row, idx_val t]

theorem blk1 (r : Fin 512) (k : Fin 1024) : (iblk m c 1 t : Vec Ideal S512x1024 .bf16) (ix2 r k) = A1 m c (ix2 (row t r) k) := by
  rw [← prep_mixed]
  blk_ext [iblk, row, idx_val t]

theorem blk2 (k : Fin 1024) : (iblk m c 2 t : Vec Ideal S1x1x1024 .f32) (ix3 0 0 k) = A3 m c (ix2 0 k) := by
  rw [← prep_gain]
  blk_ext [iblk, idx_val t]

theorem blk3 (k l : Fin 1024) : (iblk m c 3 t : Vec Ideal S1x1024x1024 .bf16) (ix3 0 k l) = A2 m c (ix3 0 k l) := by
  rw [← prep_out]
  blk_ext [iblk, idx_val t]

theorem blk4 (p : Fin 8) (k : Fin 1024) (j : Fin 512) : (iblk m c 4 t : Vec Ideal S1x8x1024x512 .bf16) (ix4 0 p k j) = A4 m c (ix3 0 k (col p j)) := by
  rw [← prep_up]
  blk_ext [iblk, idx_val t]

theorem blk5 (k : Fin 4096) (l : Fin 1024) : (iblk m c 5 t : Vec Ideal S1x4096x1024 .bf16) (ix3 0 k l) = A5 m c (ix3 0 k l) := by
  rw [← prep_down]
  blk_ext [iblk, idx_val t]

theorem up (p : Fin 8) (o : ∀ a, (![0, p.val, 0, 0] : Fin 4 → ℕ) a + (![1, 1, 1024, 512] : Fin 4 → ℕ) a ≤ S1x8x1024x512.size a) (k : Fin 1024) (j : Fin 512) :
    View.ld (iblk m c 4 t) (Rect.unit ![0, p.val, 0, 0] ![1, 1, 1024, 512] o) (ix4 0 0 k j) = A4 m c (ix3 0 k (col p j)) := by
  refine Eq.trans ?_ (blk4 m c t p k j)
  blk_ext [View.ld, LoadRect.idx_apply, Rect.off_unit, Rect.stride_unit]

theorem down (p : Fin 8) (o : ∀ a, (![0, p.val * 512, 0] : Fin 3 → ℕ) a + (![1, 512, 1024] : Fin 3 → ℕ) a ≤ S1x4096x1024.size a) (k : Fin 512) (l : Fin 1024) :
    View.ld (iblk m c 5 t) (Rect.unit ![0, p.val * 512, 0] ![1, 512, 1024] o) (ix3 0 k l) = A5 m c (ix3 0 (col p k) l) := by
  refine Eq.trans ?_ (blk5 m c t (col p k) l)
  blk_ext [View.ld, LoadRect.idx_apply, Rect.off_unit, Rect.stride_unit, col]

theorem blkXm (r : Fin 512) (l : Fin 1024) : k0_pay2 (F := Ideal) (iblk m c 0 t) (iblk m c 1 t) (iblk m c 3 t) (ix2 r l) = xm m c (row t r) l := by
  refine (mid_at _ _ _ r l).trans ?_
  simp only [blk0, blk1, blk3]
  rfl

theorem blkH (r : Fin 512) (l : Fin 1024) : k0_pay3 (F := Ideal) (iblk m c 0 t) (iblk m c 1 t) (iblk m c 3 t) (iblk m c 2 t) (ix2 r l) = hr m c (row t r) l := by
  refine (norm_at _ _ _ _ r l).trans ?_
  simp only [blkXm, blk2]
  rfl

theorem lin (p : Fin 8) (o) (r j : Fin 512) :
    k0_pay9 (F := Ideal) (k0_pay3 (iblk m c 0 t) (iblk m c 1 t) (iblk m c 3 t) (iblk m c 2 t)) (View.ld (iblk m c 4 t) (Rect.unit ![0, p.val, 0, 0] ![1, 1, 1024, 512] o)) (ix2 r j)
      = ur m c (row t r) (col p j) := by
  refine (store_at _ _ r j).trans ?_
  simp only [blkH, up]
  rfl

theorem act (p : Fin 8) (o) (r j : Fin 512) :
    k0_pay10 (F := Ideal) (k0_pay3 (iblk m c 0 t) (iblk m c 1 t) (iblk m c 3 t) (iblk m c 2 t)) (View.ld (iblk m c 4 t) (Rect.unit ![0, p.val, 0, 0] ![1, 1, 1024, 512] o)) (ix2 r j)
      = relu2 (ur m c (row t r)) (col p j) := by
  refine (act_at _ _ r j).trans ?_
  simp only [blkH, up]
  rfl

end Cert.Kernel13Ideal.Value

end

end
-- ==== Proof.LayerFinal.lean ====
/- A squared-ReLU layer: the arrays the kernel leaves. -/
module

public import proofs.«01_k».proof.Proof.LayerKernel

@[expose] public section

set_option maxRecDepth 16384

noncomputable section

open Idealize.ShloMosaic Idealize.ShloMosaic.TcCoe Idealize.SL.Sem
open Idealize.ShloMosaic.Pipeline (Dat)

namespace Cert.Kernel13Ideal.Value

open Cert.Kernel13Ideal Cert.Kernel13Ideal.Gen Cert.Layer

/-- A block of eight pieces of 512 columns. -/
theorem canon_cols (f : Fin 512 → Fin 4096 → EReal) (p0 p1 p2 p3 p4 p5 p6 p7 : Vec Ideal S512x512 .bf16)
    (h0 : ∀ r j, p0 (ix2 r j) = f r (col 0 j)) (h1 : ∀ r j, p1 (ix2 r j) = f r (col 1 j)) (h2 : ∀ r j, p2 (ix2 r j) = f r (col 2 j))
    (h3 : ∀ r j, p3 (ix2 r j) = f r (col 3 j)) (h4 : ∀ r j, p4 (ix2 r j) = f r (col 4 j)) (h5 : ∀ r j, p5 (ix2 r j) = f r (col 5 j))
    (h6 : ∀ r j, p6 (ix2 r j) = f r (col 6 j)) (h7 : ∀ r j, p7 (ix2 r j) = f r (col 7 j)) (r : Fin 512) (j : Fin 4096) :
    View.canon (Val := Elt Ideal) (e := .bf16) [⟨Rect.unit ![0, 3584] ![512, 512] inb_S512x4096_S512x512_0_3584, p7⟩, ⟨Rect.unit ![0, 3072] ![512, 512] inb_S512x4096_S512x512_0_3072, p6⟩,
      ⟨Rect.unit ![0, 2560] ![512, 512] inb_S512x4096_S512x512_0_2560, p5⟩, ⟨Rect.unit ![0, 2048] ![512, 512] inb_S512x4096_S512x512_0_2048, p4⟩,
      ⟨Rect.unit ![0, 1536] ![512, 512] inb_S512x4096_S512x512_0_1536, p3⟩, ⟨Rect.unit ![0, 1024] ![512, 512] inb_S512x4096_S512x512_0_1024, p2⟩,
      ⟨Rect.unit ![0, 512] ![512, 512] inb_S512x4096_S512x512_0_512, p1⟩, ⟨Rect.unit ![0, 0] ![512, 512] inb_S512x4096_S512x512_0_0, p0⟩] (ix2 r j) = f r j := by
  refine View.canon_apply_of_pieces (Val := Elt Ideal) (e := .bf16) (fun y : S512x4096.Idx => (f (y 0) (y 1) : EReal)) _ ?_ (ix2 r j) (View.cover_of_tiledL (s := S512x4096) _ ![512, 512] (by sl_kernel_rfl) _)
  intro p hp x
  have key : ∀ (q : Fin 8) (o) (x0 x1 : Fin 512), (Rect.unit (s := S512x4096) ![0, q.val * 512] ![512, 512] o).emb (ix2 x0 x1) = (ix2 x0 (col q x1) : S512x4096.Idx) := fun q o x0 x1 => by
    blk_ext [LoadRect.idx_apply, Rect.off_unit, Rect.stride_unit, col]
  simp only [List.mem_cons, List.not_mem_nil, or_false] at hp
  rcases hp with rfl | rfl | rfl | rfl | rfl | rfl | rfl | rfl
  · idx_vars x; exact (h7 x0 x1).trans (congrArg (fun y : S512x4096.Idx => f (y 0) (y 1)) (key 7 _ x0 x1).symm)
  · idx_vars x; exact (h6 x0 x1).trans (congrArg (fun y : S512x4096.Idx => f (y 0) (y 1)) (key 6 _ x0 x1).symm)
  · idx_vars x; exact (h5 x0 x1).trans (congrArg (fun y : S512x4096.Idx => f (y 0) (y 1)) (key 5 _ x0 x1).symm)
  · idx_vars x; exact (h4 x0 x1).trans (congrArg (fun y : S512x4096.Idx => f (y 0) (y 1)) (key 4 _ x0 x1).symm)
  · idx_vars x; exact (h3 x0 x1).trans (congrArg (fun y : S512x4096.Idx => f (y 0) (y 1)) (key 3 _ x0 x1).symm)
  · idx_vars x; exact (h2 x0 x1).trans (congrArg (fun y : S512x4096.Idx => f (y 0) (y 1)) (key 2 _ x0 x1).symm)
  · idx_vars x; exact (h1 x0 x1).trans (congrArg (fun y : S512x4096.Idx => f (y 0) (y 1)) (key 1 _ x0 x1).symm)
  · idx_vars x; exact (h0 x0 x1).trans (congrArg (fun y : S512x4096.Idx => f (y 0) (y 1)) (key 0 _ x0 x1).symm)

variable (m : (ℓ : Loc nD τ sig) → Buf (Elt Ideal) ℓ) (c : Dev nD) (t : Fin cfg0.N)

/-! What the body leaves at a grid point. -/

theorem out6 (r : Fin 512) (l : Fin 1024) : ((outsAt0 m c t).1 (ix2 r l) : EReal) = yr m c (row t r) l := by
  have ha := act m c t
  have hd := down m c t
  unfold outsAt0
  dsimp only
  frame_open
  simp (disch := decide) only [↓ View.readCov_skip, ↓ View.readCov_cons_toLoadRect, ↓ View.readCov_fill]
  frame_out
  rw [yr, addMul_tiles]
  exact sum_at _ _ _ _ _ _ _ _ _ _ _ _ _ _ _ _ _ (fun r => xm m c (row t r)) (fun p r k => relu2 (ur m c (row t r)) (col p k)) (fun p k l => A5 m c (ix3 0 (col p k) l)) (blkXm m c t)
      (ha 0 _) (hd 0 _) (ha 1 _) (hd 1 _) (ha 2 _) (hd 2 _) (ha 3 _) (hd 3 _) (ha 4 _) (hd 4 _) (ha 5 _) (hd 5 _) (ha 6 _) (hd 6 _) (ha 7 _) (hd 7 _) r l

theorem out7 (r : Fin 512) (l : Fin 1024) : ((outsAt0 m c t).2.1 (ix2 r l) : EReal) = xm m c (row t r) l := by
  unfold outsAt0
  dsimp only
  frame_out
  exact blkXm m c t r l

theorem out8 (r : Fin 512) (j : Fin 4096) : ((outsAt0 m c t).2.2.1 (ix2 r j) : EReal) = ur m c (row t r) j := by
  have hp := lin m c t
  unfold outsAt0
  dsimp only
  frame_out
  exact canon_cols (fun r j => ur m c (row t r) j) _ _ _ _ _ _ _ _ (hp 0 _) (hp 1 _) (hp 2 _) (hp 3 _) (hp 4 _) (hp 5 _) (hp 6 _) (hp 7 _) r j

theorem out9 (r : Fin 512) (l : Fin 1024) : ((outsAt0 m c t).2.2.2 (ix2 r l) : EReal) = hr m c (row t r) l := by
  unfold outsAt0
  dsimp only
  frame_out
  exact blkH m c t r l

/-! The four arrays the kernel leaves. -/

theorem final6 : (dats m 0 c).arrAt 6 cfg0.N = (fun i : S4096x1024.Idx => yr m c (i 0) (i 1)) := by
  refine (dats m 0 c).arrAt_eq_of_covers 6 _ (by decide +kernel) fun t hf y => ?_
  blk_simp
  rw [after0_6]
  idx_vars y
  refine (out6 m c t y0 y1).trans ?_
  have e : (((View.whole main_v12_0).slice (win0_6.rect t)).emb (ix2 y0 y1)) = ix2 (row t y0) y1 := by blk_ext [row, idx_val t]
  rw [e]; rfl

theorem final7 : (dats m 0 c).arrAt 7 cfg0.N = (fun i : S4096x1024.Idx => xm m c (i 0) (i 1)) := by
  refine (dats m 0 c).arrAt_eq_of_covers 7 _ (by decide +kernel) fun t hf y => ?_
  blk_simp
  rw [after0_7]
  idx_vars y
  refine (out7 m c t y0 y1).trans ?_
  have e : (((View.whole main_v12_1).slice (win0_7.rect t)).emb (ix2 y0 y1)) = ix2 (row t y0) y1 := by blk_ext [row, idx_val t]
  rw [e]; rfl

theorem final8 : (dats m 0 c).arrAt 8 cfg0.N = (fun i : S4096x4096.Idx => ur m c (i 0) (i 1)) := by
  refine (dats m 0 c).arrAt_eq_of_covers 8 _ (by decide +kernel) fun t hf y => ?_
  blk_simp
  rw [after0_8]
  idx_vars y
  refine (out8 m c t y0 y1).trans ?_
  have e : (((View.whole main_v12_2).slice (win0_8.rect t)).emb (ix2 y0 y1)) = ix2 (row t y0) y1 := by blk_ext [row, idx_val t]
  rw [e]; rfl

theorem final9 : (dats m 0 c).arrAt 9 cfg0.N = (fun i : S4096x1024.Idx => hr m c (i 0) (i 1)) := by
  refine (dats m 0 c).arrAt_eq_of_covers 9 _ (by decide +kernel) fun t hf y => ?_
  blk_simp
  rw [after0_9]
  idx_vars y
  refine (out9 m c t y0 y1).trans ?_
  have e : (((View.whole main_v12_3).slice (win0_9.rect t)).emb (ix2 y0 y1)) = ix2 (row t y0) y1 := by blk_ext [row, idx_val t]
  rw [e]; rfl

end Cert.Kernel13Ideal.Value

end

end
-- ==== Proof.LayerRef.lean ====
/- A squared-ReLU layer: the reference entry by entry. -/
module

public import proofs.«01_k».proof.Defs
public import proofs.«01_k».proof.Proof.Gen.Reference13Ideal.Run
public import proofs.«01_k».proof.Proof.LayerMath
public import Idealize.ShloMosaic.Lib.Claim

@[expose] public section

set_option maxRecDepth 16384

noncomputable section

namespace Cert.Reference13Ideal.Value

open Idealize.ShloMosaic Idealize.ShloMosaic.TcCoe Idealize.SL.Sem
open Cert.Reference13Ideal Cert.Layer

section

variable (x a : FVec Ideal S4096x1024 .f32) (o : FVec Ideal S2x1024x1024 .f32) (g : FVec Ideal S2x1024 .f32) (wu : FVec Ideal S2x1024x4096 .f32) (wd : FVec Ideal S2x4096x1024 .f32)

/-- The residual after the mixers. -/
def xmid : FVec Ideal S4096x1024 .f32 :=
  addf x (Host.dotGeneral dot_S4096x1024_S1024x1024_S4096x1024_1_0_0_1_n_n none a (shapeCast _ (extractStridedSlice S1x1024x1024 ![0, 0, 0] o Gen.slices_S2x1024x1024_S1x1024x1024_0_0_0) Gen.shapeCasts_S1x1024x1024_S1024x1024))

/-- A residual's normed rows. -/
def hid (y : FVec Ideal S4096x1024 .f32) : FVec Ideal S4096x1024 .f32 :=
  (mulf (mulf y (broadcastInDim S4096x1024 ![0, 1] Gen.bcast_S4096x1_S4096x1024_0_1 (Host.rsqrt (addf (Host.divf (broadcastInDim S4096x1 ![0] Gen.bcast_S4096_S4096x1_0 (Host.reduceAdd (mulf y y) (constant S_ .f32 0x00000000#32) Gen.reducesTo_S4096x1024_S4096_d1 Gen.h_S_)) (broadcastInDim S4096x1 ![] Gen.bcast_S_S4096x1 (constant S_ .f32 0x44800000#32))) (broadcastInDim S4096x1 ![] Gen.bcast_S_S4096x1 (constant S_ .f32 0x358637BD#32)))))) (broadcastInDim S4096x1024 ![0, 1] Gen.bcast_S1x1024_S4096x1024_0_1 (broadcastInDim S1x1024 ![1] Gen.bcast_S1024_S1x1024_1 (shapeCast _ (extractStridedSlice S1x1024 ![0, 0] g Gen.slices_S2x1024_S1x1024_0_0) Gen.shapeCasts_S1x1024_S1024))))

/-- The first product. -/
def pre (h : FVec Ideal S4096x1024 .f32) : FVec Ideal S4096x4096 .f32 :=
  Host.dotGeneral dot_S4096x1024_S1024x4096_S4096x4096_1_0_0_1_n_n none h (shapeCast _ (extractStridedSlice S1x1024x4096 ![0, 0, 0] wu Gen.slices_S2x1024x4096_S1x1024x4096_0_0_0) Gen.shapeCasts_S1x1024x4096_S1024x4096)

/-- The rectifier. -/
def relu (u : FVec Ideal S4096x4096 .f32) : FVec Ideal S4096x4096 .f32 :=
  maximumf u (broadcastInDim S4096x4096 ![] Gen.bcast_S_S4096x4096 (constant S_ .f32 0x00000000#32))

/-- The layer's output. -/
def out (y : FVec Ideal S4096x1024 .f32) (u : FVec Ideal S4096x4096 .f32) : FVec Ideal S4096x1024 .f32 :=
  addf y (Host.dotGeneral dot_S4096x4096_S4096x1024_S4096x1024_1_0_0_1_n_n none (mulf (relu u) (relu u)) (shapeCast _ (extractStridedSlice S1x4096x1024 ![0, 0, 0] wd Gen.slices_S2x4096x1024_S1x4096x1024_0_0_0) Gen.shapeCasts_S1x4096x1024_S4096x1024))

theorem xmid_at (i : Fin 4096) (j : Fin 1024) : xmid x a o (ix2 i j) = addMul (fun k => x (ix2 i k)) (fun k => a (ix2 i k)) (fun k l => o (ix3 0 k l)) j := by
  pointwise [xmid]
  rfl

theorem hid_at (y : FVec Ideal S4096x1024 .f32) (i : Fin 4096) (j : Fin 1024) : hid g y (ix2 i j) = Cert.Entry.norm (fun k => y (ix2 i k)) (fun k => g (ix2 0 k)) j := by
  pointwise [hid]
  rfl

theorem pre_at (h : FVec Ideal S4096x1024 .f32) (i : Fin 4096) (j : Fin 4096) : pre wu h (ix2 i j) = mulRow (fun k => h (ix2 i k)) (fun k l => wu (ix3 0 k l)) j := by
  pointwise [pre]
  rfl

theorem relu_at (u : FVec Ideal S4096x4096 .f32) (i j : Fin 4096) : relu u (ix2 i j) = max (u (ix2 i j) : EReal) 0 := by
  pointwise [relu]

theorem out_at (y : FVec Ideal S4096x1024 .f32) (u : FVec Ideal S4096x4096 .f32) (i : Fin 4096) (j : Fin 1024) :
    out wd y u (ix2 i j) = addMul (fun k => y (ix2 i k)) (relu2 fun k => u (ix2 i k)) (fun k l => wd (ix3 0 k l)) j := by
  pointwise [out, relu_at]
  rfl

end

/-- The four results by name. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      let y := xmid (m ((c.tc : Thread nD τ).loc main_arg0)) (m ((c.tc : Thread nD τ).loc main_arg1)) (m ((c.tc : Thread nD τ).loc main_arg2))
      let h := hid (m ((c.tc : Thread nD τ).loc main_arg3)) y
      let u := pre (m ((c.tc : Thread nD τ).loc main_arg4)) h
      r.2.mem ((c.tc : Thread nD τ).loc main_v27) = out (m ((c.tc : Thread nD τ).loc main_arg5)) y u
      ∧ r.2.mem ((c.tc : Thread nD τ).loc main_v3) = y
      ∧ r.2.mem ((c.tc : Thread nD τ).loc main_v28) = truncf .bf16 u Gen.bitsLt_bf16_f32
      ∧ r.2.mem ((c.tc : Thread nD τ).loc main_v29) = truncf .bf16 h Gen.bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  run m ρ

end Cert.Reference13Ideal.Value

end

end
-- ==== Proof.LayerClaim.lean ====
/- A squared-ReLU layer: kernel and reference agree over the extended reals. -/
module

public import proofs.«01_k».proof.Proof.LayerFinal
public import proofs.«01_k».proof.Proof.LayerRef
public import Idealize.ShloMosaic.Lib.Claim

@[expose] public section

set_option maxRecDepth 16384

noncomputable section

namespace Cert.Proof

open Idealize.ShloMosaic Idealize.ShloMosaic.TcCoe Idealize.SL.Sem Cert.Layer
open Cert.Reference13Ideal.Value (xmid_at hid_at pre_at out_at)

theorem algebraic13 : Cert.algebraic_Kernel13Ideal_Reference13Ideal := by
  pair_intro
  · run_from Cert.Kernel13Ideal.Gen.run_main m g
  · refine θ_run_mono (Cert.Reference13Ideal.Value.run_named m' g') ?_
    intro r hr c
    obtain ⟨h0, h1, h2, h3, ha⟩ := hr c
    obtain ⟨e0, e1, e2, e3, e4, e5⟩ := hagree c
    rw [e0, e1, e2, e3, e4, e5] at h0
    rw [e0, e1, e2] at h1
    rw [e0, e1, e2, e3, e4] at h2
    rw [e0, e1, e2, e3] at h3
    refine ⟨h0.trans ?_, h1.trans ?_, h2.trans ?_, h3.trans ?_, ha⟩
    · refine Eq.trans ?_ (Cert.Kernel13Ideal.Value.final6 m c).symm
      funext j; idx_vars j
      refine (out_at _ _ _ j0 j1).trans ?_
      simp only [xmid_at, hid_at, pre_at]
      rfl
    · refine Eq.trans ?_ (Cert.Kernel13Ideal.Value.final7 m c).symm
      funext j; idx_vars j
      exact xmid_at _ _ _ j0 j1
    · refine Eq.trans ?_ (Cert.Kernel13Ideal.Value.final8 m c).symm
      funext j; idx_vars j
      refine (pre_at _ _ j0 j1).trans ?_
      simp only [xmid_at, hid_at]
      rfl
    · refine Eq.trans ?_ (Cert.Kernel13Ideal.Value.final9 m c).symm
      funext j; idx_vars j
      refine (hid_at _ _ j0 j1).trans ?_
      simp only [xmid_at]
      rfl

end Cert.Proof

end

end
-- ==== Proof.DownKernel.lean ====
/- The gradient of a layer's second weight: the kernel entry by entry. -/
module

public import proofs.«01_k».proof.Defs
public import proofs.«01_k».proof.Proof.Gen.Kernel14Ideal.Frame
public import proofs.«01_k».proof.Proof.LayerMath
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel14Ideal.Value

open Cert.Kernel14Ideal Cert.Layer
open Cert.Kernel14Ideal.Gen (V iblk dats out0_2 cover0_2 k0_pay1 k0_pay2 k0_pay3 k0_pay4 k0_pay5 r0_0 r0_1 r0_2 r0_3 r0_4 r0_5 r0_6 r0_7 r0_8 r0_9 r0_10 r0_11 r0_12 r0_13 r0_14 r0_15 r0_16 after0_2 hostOps0)

section

variable (x a : FVec Ideal S4096x1024 .f32) (o : FVec Ideal S2x1024x1024 .f32) (g : FVec Ideal S2x1024 .f32) (wu : FVec Ideal S2x1024x4096 .f32)

/-- The residual after the mixers. -/
def xmid : FVec Ideal S4096x1024 .f32 :=
  addf x (Host.dotGeneral dot_S4096x1024_S1024x1024_S4096x1024_1_0_0_1_n_n none a (shapeCast _ (extractStridedSlice S1x1024x1024 ![0, 0, 0] o Gen.slices_S2x1024x1024_S1x1024x1024_0_0_0) Gen.shapeCasts_S1x1024x1024_S1024x1024))

/-- A residual's normed rows. -/
def hid (y : FVec Ideal S4096x1024 .f32) : FVec Ideal S4096x1024 .f32 :=
  (mulf (mulf y (broadcastInDim S4096x1024 ![0, 1] Gen.bcast_S4096x1_S4096x1024_0_1 (Host.rsqrt (addf (Host.divf (broadcastInDim S4096x1 ![0] Gen.bcast_S4096_S4096x1_0 (Host.reduceAdd (mulf y y) (constant S_ .f32 0x00000000#32) Gen.reducesTo_S4096x1024_S4096_d1 Gen.h_S_)) (broadcastInDim S4096x1 ![] Gen.bcast_S_S4096x1 (constant S_ .f32 0x44800000#32))) (broadcastInDim S4096x1 ![] Gen.bcast_S_S4096x1 (constant S_ .f32 0x358637BD#32)))))) (broadcastInDim S4096x1024 ![0, 1] Gen.bcast_S1x1024_S4096x1024_0_1 (broadcastInDim S1x1024 ![1] Gen.bcast_S1024_S1x1024_1 (shapeCast _ (extractStridedSlice S1x1024 ![0, 0] g Gen.slices_S2x1024_S1x1024_0_0) Gen.shapeCasts_S1x1024_S1024))))

/-- The first product. -/
def pre (h : FVec Ideal S4096x1024 .f32) : FVec Ideal S4096x4096 .f32 :=
  Host.dotGeneral dot_S4096x1024_S1024x4096_S4096x4096_1_0_0_1_n_n none h (shapeCast _ (extractStridedSlice S1x1024x4096 ![0, 0, 0] wu Gen.slices_S2x1024x4096_S1x1024x4096_0_0_0) Gen.shapeCasts_S1x1024x4096_S1024x4096)

theorem xmid_at (i : Fin 4096) (j : Fin 1024) : xmid x a o (ix2 i j) = addMul (fun k => x (ix2 i k)) (fun k => a (ix2 i k)) (fun k l => o (ix3 0 k l)) j := by
  pointwise [xmid]
  rfl

theorem hid_at (y : FVec Ideal S4096x1024 .f32) (i : Fin 4096) (j : Fin 1024) : hid g y (ix2 i j) = Cert.Entry.norm (fun k => y (ix2 i k)) (fun k => g (ix2 0 k)) j := by
  pointwise [hid]
  rfl

theorem pre_at (h : FVec Ideal S4096x1024 .f32) (i : Fin 4096) (j : Fin 4096) : pre wu h (ix2 i j) = mulRow (fun k => h (ix2 i k)) (fun k l => wu (ix3 0 k l)) j := by
  pointwise [pre]
  rfl

end

section payloads

variable (x0 : Vec Ideal S4096x512 .bf16) (x1 : Vec Ideal S4096x1024 .bf16)

/-- Eight pieces of 512 rows of the product. -/
theorem sum_at (a0 a1 a2 a3 a4 a5 a6 a7 : Vec Ideal S512x512 .bf16) (d0 d1 d2 d3 d4 d5 d6 d7 : Vec Ideal S512x1024 .bf16)
    (A : Fin 8 → Fin 512 → Fin 512 → EReal) (D : Fin 8 → Fin 512 → Fin 1024 → EReal)
    (ha0 : ∀ k r, a0 (ix2 k r) = A 0 k r) (hd0 : ∀ k l, d0 (ix2 k l) = D 0 k l)
    (ha1 : ∀ k r, a1 (ix2 k r) = A 1 k r) (hd1 : ∀ k l, d1 (ix2 k l) = D 1 k l)
    (ha2 : ∀ k r, a2 (ix2 k r) = A 2 k r) (hd2 : ∀ k l, d2 (ix2 k l) = D 2 k l)
    (ha3 : ∀ k r, a3 (ix2 k r) = A 3 k r) (hd3 : ∀ k l, d3 (ix2 k l) = D 3 k l)
    (ha4 : ∀ k r, a4 (ix2 k r) = A 4 k r) (hd4 : ∀ k l, d4 (ix2 k l) = D 4 k l)
    (ha5 : ∀ k r, a5 (ix2 k r) = A 5 k r) (hd5 : ∀ k l, d5 (ix2 k l) = D 5 k l)
    (ha6 : ∀ k r, a6 (ix2 k r) = A 6 k r) (hd6 : ∀ k l, d6 (ix2 k l) = D 6 k l)
    (ha7 : ∀ k r, a7 (ix2 k r) = A 7 k r) (hd7 : ∀ k l, d7 (ix2 k l) = D 7 k l)
    (r : Fin 512) (l : Fin 1024) :
    (k0_pay1 (F := Ideal) (k0_pay4 (k0_pay2 a0 d0 a1 d1 a2 d2) (k0_pay3 a3 d3) a4 d4 a5 d5 a6 d6) (k0_pay5 a7 d7) (ix2 r l) : EReal)
      = ∑ p, ∑ k, max (A p k r) 0 * max (A p k r) 0 * D p k l := by
  pointwise [k0_pay1, k0_pay2, k0_pay3, k0_pay4, k0_pay5, ha0, hd0, ha1, hd1, ha2, hd2, ha3, hd3, ha4, hd4, ha5, hd5, ha6, hd6, ha7, hd7]
  simp only [Fin.sum_univ_eight]

theorem lda (p : Fin 8) (o : ∀ a, (![p.val * 512, 0] : Fin 2 → ℕ) a + (![512, 512] : Fin 2 → ℕ) a ≤ S4096x512.size a) (k r : Fin 512) :
    View.ld x0 (Rect.unit ![p.val * 512, 0] ![512, 512] o) (ix2 k r) = x0 (ix2 (col p k) r) := by
  blk_ext [View.ld, LoadRect.idx_apply, Rect.off_unit, Rect.stride_unit, col]

theorem ldd (p : Fin 8) (o : ∀ a, (![p.val * 512, 0] : Fin 2 → ℕ) a + (![512, 1024] : Fin 2 → ℕ) a ≤ S4096x1024.size a) (k : Fin 512) (l : Fin 1024) :
    View.ld x1 (Rect.unit ![p.val * 512, 0] ![512, 1024] o) (ix2 k l) = x1 (ix2 (col p k) l) := by
  blk_ext [View.ld, LoadRect.idx_apply, Rect.off_unit, Rect.stride_unit, col]

/-- A block of the gradient. -/
theorem out2_at (r : Fin 512) (l : Fin 1024) : (out0_2 x0 x1 (ix2 r l) : EReal) = ∑ R : Fin 4096, max (x0 (ix2 R r) : EReal) 0 * max (x0 (ix2 R r) : EReal) 0 * x1 (ix2 R l) := by
  have hs := Fin.sum_univ_tiles 8 512 rfl (fun R : Fin 4096 => max (x0 (ix2 R r) : EReal) 0 * max (x0 (ix2 R r) : EReal) 0 * x1 (ix2 R l))
  unfold out0_2
  have ha := lda x0
  have hd := ldd x1
  refine (View.canon_apply_of_pieces (Val := Elt Ideal) (e := .bf16) (fun y : S512x1024.Idx => (∑ R : Fin 4096, max (x0 (ix2 R (y 0)) : EReal) 0 * max (x0 (ix2 R (y 0)) : EReal) 0 * x1 (ix2 R (y 1)) : EReal)) _ ?_ (ix2 r l) (cover0_2 _ _)).trans rfl
  intro p hp y
  simp only [List.mem_cons, List.not_mem_nil, or_false] at hp
  subst hp
  idx_vars y
  have e : r0_16.emb (ix2 y0 y1) = (ix2 y0 y1 : S512x1024.Idx) := by blk_ext [LoadRect.idx_apply, r0_16, Rect.off_unit, Rect.stride_unit]
  rw [e]
  refine (sum_at _ _ _ _ _ _ _ _ _ _ _ _ _ _ _ _ (fun p k r => x0 (ix2 (col p k) r)) (fun p k l => x1 (ix2 (col p k) l))
    (ha 0 _) (hd 0 _) (ha 1 _) (hd 1 _) (ha 2 _) (hd 2 _) (ha 3 _) (hd 3 _) (ha 4 _) (hd 4 _) (ha 5 _) (hd 5 _) (ha 6 _) (hd 6 _) (ha 7 _) (hd 7 _) y0 y1).trans ?_
  exact (Fin.sum_univ_tiles 8 512 rfl (fun R : Fin 4096 => max (x0 (ix2 R y0) : EReal) 0 * max (x0 (ix2 R y0) : EReal) 0 * x1 (ix2 R y1))).symm

end payloads

variable (m : (ℓ : Loc nD τ sig) → Buf (Elt Ideal) ℓ) (c : Dev nD)

abbrev A0 : S4096x1024.Idx → EReal := m ((c.tc : Thread nD τ).loc main_arg0)
abbrev A1 : S4096x1024.Idx → EReal := m ((c.tc : Thread nD τ).loc main_arg1)
abbrev A2 : S2x1024x1024.Idx → EReal := m ((c.tc : Thread nD τ).loc main_arg2)
abbrev A3 : S2x1024.Idx → EReal := m ((c.tc : Thread nD τ).loc main_arg3)
abbrev A4 : S2x1024x4096.Idx → EReal := m ((c.tc : Thread nD τ).loc main_arg4)
abbrev A6 : S4096x1024.Idx → EReal := m ((c.tc : Thread nD τ).loc main_arg6)

/-- A row of the first product. -/
def ur (R : Fin 4096) : Fin 4096 → EReal :=
  mulRow (Cert.Entry.norm (addMul (fun k => A0 m c (ix2 R k)) (fun k => A1 m c (ix2 R k)) (fun k l => A2 m c (ix3 0 k l))) (fun k => A3 m c (ix2 0 k))) (fun k l => A4 m c (ix3 0 k l))

/-- The block a window is at, at each grid point. -/
theorem idx_val : ∀ t : Fin cfg0.N, win0_0.index t = ![0, t.val] ∧ win0_1.index t = ![0, 0] ∧ win0_2.index t = ![t.val, 0] ∧ t.val < 8 :=
  (by decide +kernel : ∀ t : Fin grid0.N, _)

/-- The array row of a block's row. -/
def row (t : Fin cfg0.N) (r : Fin 512) : Fin 4096 := ⟨t.val * 512 + r, by have := (idx_val t).2.2.2; omega⟩

/-! The operands the host code prepares, at an index. -/

theorem tab_u : (V m c main_v22 : FVec Ideal S4096x4096 .bf16) = truncf .bf16 (pre (A4 m c) (hid (A3 m c) (xmid (A0 m c) (A1 m c) (A2 m c)))) Gen.bitsLt_bf16_f32 := by
  unfold V hostOps0
  after_results_simp <;> (try dsimp only [Matrix.cons_val]) <;> (try after_results_simp) <;> rfl

theorem prep_u (R j : Fin 4096) : (V m c main_v22 : S4096x4096.Idx → EReal) (ix2 R j) = ur m c R j := by
  rw [tab_u]
  refine (pre_at _ _ R j).trans ?_
  simp only [hid_at, xmid_at]
  rfl

theorem prep_ct (R : Fin 4096) (l : Fin 1024) : (V m c main_v23 : S4096x1024.Idx → EReal) (ix2 R l) = A6 m c (ix2 R l) := by
  simp only [V, List.flatten_cons, List.flatten_nil, List.append_nil]
  entry_read
  pointwise

theorem blk0 (t : Fin cfg0.N) (R : Fin 4096) (r : Fin 512) : (iblk m c 0 t : Vec Ideal S4096x512 .bf16) (ix2 R r) = ur m c R (row t r) := by
  rw [← prep_u]
  blk_ext [iblk, row, idx_val t]

theorem blk1 (t : Fin cfg0.N) (R : Fin 4096) (l : Fin 1024) : (iblk m c 1 t : Vec Ideal S4096x1024 .bf16) (ix2 R l) = A6 m c (ix2 R l) := by
  rw [← prep_ct]
  blk_ext [iblk, idx_val t]

/-- The array the kernel leaves. -/
def G2 : S4096x1024.Idx → EReal := fun y => ∑ R : Fin 4096, relu2 (ur m c R) (y 0) * A6 m c (ix2 R (y 1))

theorem final2 : (dats m 0 c).arrAt 2 cfg0.N = G2 m c := by
  refine (dats m 0 c).arrAt_eq_of_covers 2 _ (by decide +kernel) fun t hf y => ?_
  blk_simp
  rw [after0_2]
  idx_vars y
  have e : (((View.whole main_v24).slice (win0_2.rect t)).emb (ix2 y0 y1)) = (ix2 (row t y0) y1 : S4096x1024.Idx) := by
    blk_ext [row, idx_val t]
  rw [e]
  refine (out2_at _ _ y0 y1).trans ?_
  simp only [blk0, blk1]
  rfl

end Cert.Kernel14Ideal.Value

end

end
-- ==== Proof.DownRef.lean ====
/- The gradient of a layer's second weight: the reference entry by entry. -/
module

public import proofs.«01_k».proof.Defs
public import proofs.«01_k».proof.Proof.Gen.Reference14Ideal.Run
public import proofs.«01_k».proof.Proof.LayerMath
public import Idealize.ShloMosaic.Lib.Claim

@[expose] public section

set_option maxRecDepth 16384

noncomputable section

namespace Cert.Reference14Ideal.Value

open Idealize.ShloMosaic Idealize.ShloMosaic.TcCoe Idealize.SL.Sem
open Cert.Reference14Ideal Cert.Layer

section

variable (x a : FVec Ideal S4096x1024 .f32) (o : FVec Ideal S2x1024x1024 .f32) (g : FVec Ideal S2x1024 .f32) (wu : FVec Ideal S2x1024x4096 .f32) (ct : FVec Ideal S4096x1024 .f32)

/-- The residual after the mixers. -/
def xmid : FVec Ideal S4096x1024 .f32 :=
  addf x (Host.dotGeneral dot_S4096x1024_S1024x1024_S4096x1024_1_0_0_1_n_n none a (shapeCast _ (extractStridedSlice S1x1024x1024 ![0, 0, 0] o Gen.slices_S2x1024x1024_S1x1024x1024_0_0_0) Gen.shapeCasts_S1x1024x1024_S1024x1024))

/-- A residual's normed rows. -/
def hid (y : FVec Ideal S4096x1024 .f32) : FVec Ideal S4096x1024 .f32 :=
  (mulf (mulf y (broadcastInDim S4096x1024 ![0, 1] Gen.bcast_S4096x1_S4096x1024_0_1 (Host.rsqrt (addf (Host.divf (broadcastInDim S4096x1 ![0] Gen.bcast_S4096_S4096x1_0 (Host.reduceAdd (mulf y y) (constant S_ .f32 0x00000000#32) Gen.reducesTo_S4096x1024_S4096_d1 Gen.h_S_)) (broadcastInDim S4096x1 ![] Gen.bcast_S_S4096x1 (constant S_ .f32 0x44800000#32))) (broadcastInDim S4096x1 ![] Gen.bcast_S_S4096x1 (constant S_ .f32 0x358637BD#32)))))) (broadcastInDim S4096x1024 ![0, 1] Gen.bcast_S1x1024_S4096x1024_0_1 (broadcastInDim S1x1024 ![1] Gen.bcast_S1024_S1x1024_1 (shapeCast _ (extractStridedSlice S1x1024 ![0, 0] g Gen.slices_S2x1024_S1x1024_0_0) Gen.shapeCasts_S1x1024_S1024))))

/-- The first product. -/
def pre (h : FVec Ideal S4096x1024 .f32) : FVec Ideal S4096x4096 .f32 :=
  Host.dotGeneral dot_S4096x1024_S1024x4096_S4096x4096_1_0_0_1_n_n none h (shapeCast _ (extractStridedSlice S1x1024x4096 ![0, 0, 0] wu Gen.slices_S2x1024x4096_S1x1024x4096_0_0_0) Gen.shapeCasts_S1x1024x4096_S1024x4096)

/-- The rectifier. -/
def relu (u : FVec Ideal S4096x4096 .f32) : FVec Ideal S4096x4096 .f32 :=
  maximumf u (broadcastInDim S4096x4096 ![] Gen.bcast_S_S4096x4096 (constant S_ .f32 0x00000000#32))

/-- The gradient: the cotangent's rows times the squared rectifier's, transposed. -/
def out (u : FVec Ideal S4096x4096 .f32) : FVec Ideal S4096x1024 .bf16 :=
  truncf .bf16 (transpose S4096x1024 [1, 0] (Host.dotGeneral dot_S4096x1024_S4096x4096_S1024x4096_0_0_1_1_n_n none ct (mulf (relu u) (relu u))) Gen.transposes_S1024x4096_S4096x1024_1_0) Gen.bitsLt_bf16_f32

theorem xmid_at (i : Fin 4096) (j : Fin 1024) : xmid x a o (ix2 i j) = addMul (fun k => x (ix2 i k)) (fun k => a (ix2 i k)) (fun k l => o (ix3 0 k l)) j := by
  pointwise [xmid]
  rfl

theorem hid_at (y : FVec Ideal S4096x1024 .f32) (i : Fin 4096) (j : Fin 1024) : hid g y (ix2 i j) = Cert.Entry.norm (fun k => y (ix2 i k)) (fun k => g (ix2 0 k)) j := by
  pointwise [hid]
  rfl

theorem pre_at (h : FVec Ideal S4096x1024 .f32) (i : Fin 4096) (j : Fin 4096) : pre wu h (ix2 i j) = mulRow (fun k => h (ix2 i k)) (fun k l => wu (ix3 0 k l)) j := by
  pointwise [pre]
  rfl

theorem relu_at (u : FVec Ideal S4096x4096 .f32) (i j : Fin 4096) : relu u (ix2 i j) = max (u (ix2 i j) : EReal) 0 := by
  pointwise [relu]

theorem out_at (u : FVec Ideal S4096x4096 .f32) (i : Fin 4096) (j : Fin 1024) :
    (out ct u (ix2 i j) : EReal) = ∑ R : Fin 4096, relu2 (fun k => u (ix2 R k)) i * ct (ix2 R j) := by
  pointwise [out, relu_at]
  exact Finset.sum_congr rfl fun R _ => mul_comm _ _

end

/-- The result by name. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = out (m ((c.tc : Thread nD τ).loc main_arg6)) (pre (m ((c.tc : Thread nD τ).loc main_arg4)) (hid (m ((c.tc : Thread nD τ).loc main_arg3))
        (xmid (m ((c.tc : Thread nD τ).loc main_arg0)) (m ((c.tc : Thread nD τ).loc main_arg1)) (m ((c.tc : Thread nD τ).loc main_arg2)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  run m ρ

end Cert.Reference14Ideal.Value

end

end
-- ==== Proof.DownClaim.lean ====
/- The gradient of a layer's second weight: kernel and reference agree over the extended reals. -/
module

public import proofs.«01_k».proof.Proof.DownKernel
public import proofs.«01_k».proof.Proof.DownRef
public import Idealize.ShloMosaic.Lib.Claim

@[expose] public section

set_option maxRecDepth 16384

noncomputable section

namespace Cert.Proof

open Idealize.ShloMosaic Idealize.ShloMosaic.TcCoe Idealize.SL.Sem Cert.Layer
open Cert.Reference14Ideal.Value (xmid_at hid_at pre_at out_at)

theorem algebraic14 : Cert.algebraic_Kernel14Ideal_Reference14Ideal := by
  pair_intro
  · run_from Cert.Kernel14Ideal.Gen.run_main m g
  · refine θ_run_mono (Cert.Reference14Ideal.Value.run_named m' g') ?_
    intro r hr c
    obtain ⟨h0, ha⟩ := hr c
    obtain ⟨e0, e1, e2, e3, e4, e5, e6⟩ := hagree c
    rw [e0, e1, e2, e3, e4, e6] at h0
    refine ⟨h0.trans ?_, ha⟩
    refine Eq.trans ?_ (Cert.Kernel14Ideal.Value.final2 m c).symm
    funext j; idx_vars j
    refine (out_at _ _ j0 j1).trans ?_
    simp only [pre_at, hid_at, xmid_at]
    rfl

end Cert.Proof

end

end
-- ==== Proof.OptMath.lean ====
/- One step of the optimiser on one number: the two averages and the step, with the constants as the programs write them. -/
module

public import proofs.«01_k».proof.Proof.Reals

@[expose] public section

noncomputable section

open Idealize.ShloMosaic

namespace Cert.Optimiser

/-- The average of the gradients after the step. -/
def avg (g m : EReal) : EReal := Ideal.ofBits FTy.f32 0x3F666666#32 * m + Ideal.ofBits FTy.f32 0x3DCCCCCD#32 * g

/-- The average of the squared gradients after the step. -/
def avgSq (g v : EReal) : EReal := Ideal.ofBits FTy.f32 0x3F7FBE77#32 * v + Ideal.ofBits FTy.f32 0x3A83126F#32 * (g * g)

/-- The change of the weight, by the two new averages. -/
def change (w m v : EReal) : EReal :=
  Ideal.ofBits FTy.f32 0xBA83126F#32 *
    (Ideal.div (Ideal.div m (Ideal.ofBits FTy.f32 0x3F26BD02#32))
        (Ideal.sqrt (Ideal.div v (Ideal.ofBits FTy.f32 0x3C231ACC#32)) + Ideal.ofBits FTy.f32 0x322BCC77#32)
      + Ideal.ofBits FTy.f32 0x3C23D70A#32 * w)

/-- The gradient: the sum of the eight devices' parts. -/
def total (a : Fin 8 → EReal) : EReal := ∑ d : Fin 8, a d

theorem total_eq (a : Fin 8 → EReal) : a 0 + a 1 + a 2 + a 3 + a 4 + a 5 + a 6 + a 7 = total a := (Fin.sum_univ_eight a).symm

end Cert.Optimiser

end

end
-- ==== Proof.OptKernel.lean ====
/- The optimiser's kernel: its four arrays entry by entry. -/
module

public import proofs.«01_k».proof.Defs
public import proofs.«01_k».proof.Proof.Gen.Kernel10Ideal.Frame
public import proofs.«01_k».proof.Proof.OptMath
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel10Ideal.Value

open Cert.Kernel10Ideal Cert.Kernel10Ideal.Gen Cert.Optimiser

section payloads

variable (a b : Vec Ideal S8x128x1024 .bf16) (w m v : Vec Ideal S2x128x1024 .f32)

/-- A device's part in a block. -/
theorem part_at (a : Vec Ideal S8x128x1024 .bf16) (z : Fin 1) (i : Fin 128) (j : Fin 1024) :
    View.ld a r0_1 (ix3 z i j) = a (ix3 0 i j) ∧ View.ld a r0_2 (ix3 z i j) = a (ix3 1 i j) ∧ View.ld a r0_3 (ix3 z i j) = a (ix3 2 i j)
    ∧ View.ld a r0_4 (ix3 z i j) = a (ix3 3 i j) ∧ View.ld a r0_5 (ix3 z i j) = a (ix3 4 i j) ∧ View.ld a r0_6 (ix3 z i j) = a (ix3 5 i j)
    ∧ View.ld a r0_7 (ix3 z i j) = a (ix3 6 i j) ∧ View.ld a r0_8 (ix3 z i j) = a (ix3 7 i j) := by
  obtain rfl : z = 0 := Subsingleton.elim z 0
  refine ⟨?_, ?_, ?_, ?_, ?_, ?_, ?_, ?_⟩ <;> blk_ext [View.ld, LoadRect.idx_apply, r0_1, r0_2, r0_3, r0_4, r0_5, r0_6, r0_7, r0_8, Rect.off_unit, Rect.stride_unit]

/-- A layer's rows in a block. -/
theorem layer_at (w : Vec Ideal S2x128x1024 .f32) (z : Fin 1) (i : Fin 128) (j : Fin 1024) :
    View.ld w r0_9 (ix3 z i j) = w (ix3 0 i j) ∧ View.ld w r0_10 (ix3 z i j) = w (ix3 1 i j) := by
  obtain rfl : z = 0 := Subsingleton.elim z 0
  refine ⟨?_, ?_⟩ <;> blk_ext [View.ld, LoadRect.idx_apply, r0_9, r0_10, Rect.off_unit, Rect.stride_unit]

/-- The first layer's gradient in a block, and the second's. -/
theorem sum0 (i : Fin 128) (j : Fin 1024) : k0_pay22 a b w m v (ix2 i j) + k0_pay23 a b w m v (ix2 i j) = total fun d => a (ix3 d i j) := by
  rw [← total_eq]
  obtain ⟨h1, h2, h3, h4, h5, h6, h7, h8⟩ := part_at a 0 i j
  pointwise [k0_pay22, k0_pay23, k0_pay6, k0_pay7, h1, h2, h3, h4, h5, h6, h7, h8]

theorem sum1 (i : Fin 128) (j : Fin 1024) : k0_pay24 a b w m v (ix2 i j) + View.ld b r0_7 (ix3 0 i j) + View.ld b r0_8 (ix3 0 i j) = total fun d => b (ix3 d i j) := by
  rw [← total_eq]
  obtain ⟨h1, h2, h3, h4, h5, h6, h7, h8⟩ := part_at b 0 i j
  pointwise [k0_pay24, k0_pay16, h1, h2, h3, h4, h5, h6, h7, h8]

end payloads

section generic

variable (g : FVec Ideal S128x1024 .f32) (h : FVec Ideal S128x1024 .bf16) (p q : Vec Ideal S1x128x1024 .bf16) (w m v : Vec Ideal S1x128x1024 .f32)
  (i : Fin 128) (j : Fin 1024)

theorem g0 : k0_pay12 g h (ix3 0 i j) = g (ix2 i j) + h (ix2 i j) := by pointwise [k0_pay12, k0_pay8]
theorem m0 : k0_pay14 (k0_pay9 g h m) (ix3 0 i j) = avg (g (ix2 i j) + h (ix2 i j)) (m (ix3 0 i j)) := by
  pointwise [k0_pay14, k0_pay8, k0_pay9]; rfl
theorem v0 : k0_pay15 (k0_pay10 g h v) (ix3 0 i j) = avgSq (g (ix2 i j) + h (ix2 i j)) (v (ix3 0 i j)) := by
  pointwise [k0_pay15, k0_pay8, k0_pay10]; rfl
theorem d0 : k0_pay13 (k0_pay11 g h w m v) (ix3 0 i j)
    = change (w (ix3 0 i j)) (avg (g (ix2 i j) + h (ix2 i j)) (m (ix3 0 i j))) (avgSq (g (ix2 i j) + h (ix2 i j)) (v (ix3 0 i j))) := by
  pointwise [k0_pay13, k0_pay8, k0_pay9, k0_pay10, k0_pay11]; rfl

theorem g1 : k0_pay1 (k0_pay17 g p q) (ix3 0 i j) = g (ix2 i j) + p (ix3 0 i j) + q (ix3 0 i j) := by pointwise [k0_pay1, k0_pay17]
theorem m1 : k0_pay3 (k0_pay18 g p q m) (ix3 0 i j) = avg (g (ix2 i j) + p (ix3 0 i j) + q (ix3 0 i j)) (m (ix3 0 i j)) := by
  pointwise [k0_pay3, k0_pay18, k0_pay17]; rfl
theorem v1 : k0_pay4 (k0_pay19 g p q v) (ix3 0 i j) = avgSq (g (ix2 i j) + p (ix3 0 i j) + q (ix3 0 i j)) (v (ix3 0 i j)) := by
  pointwise [k0_pay4, k0_pay19, k0_pay17]; rfl
theorem d1 : k0_pay2 (k0_pay20 g p q w m v) k0_pay21 (ix3 0 i j)
    = change (w (ix3 0 i j)) (avg (g (ix2 i j) + p (ix3 0 i j) + q (ix3 0 i j)) (m (ix3 0 i j))) (avgSq (g (ix2 i j) + p (ix3 0 i j) + q (ix3 0 i j)) (v (ix3 0 i j))) := by
  pointwise [k0_pay2, k0_pay20, k0_pay21, k0_pay18, k0_pay19, k0_pay17]; rfl

end generic

/-- A block of two layers stored as its second layer after its first. -/
theorem canon_layers (p0 p1 : Vec Ideal S1x128x1024 .f32) (f : Fin 2 → Fin 128 → Fin 1024 → EReal)
    (h0 : ∀ i j, p0 (ix3 0 i j) = f 0 i j) (h1 : ∀ i j, p1 (ix3 0 i j) = f 1 i j) (l : Fin 2) (i : Fin 128) (j : Fin 1024) :
    View.canon (Val := Elt Ideal) (e := .f32) [⟨r0_10, p1⟩, ⟨r0_9, p0⟩] (ix3 l i j) = f l i j := by
  refine View.canon_apply_of_pieces (Val := Elt Ideal) (e := .f32) (fun y : S2x128x1024.Idx => (f (y 0) (y 1) (y 2) : EReal)) _ ?_ (ix3 l i j) (cover0_5 p1 p0 _)
  intro p hp x
  simp only [List.mem_cons, List.not_mem_nil, or_false] at hp
  rcases hp with rfl | rfl
  · idx_vars x
    have e0 : r0_10.emb (ix3 x0 x1 x2) = (ix3 1 x1 x2 : S2x128x1024.Idx) := by blk_ext [LoadRect.idx_apply, r0_9, r0_10, Rect.off_unit, Rect.stride_unit]
    rw [e0]
    exact (congrArg (fun z => p1 (ix3 z x1 x2)) (Subsingleton.elim x0 0)).trans (h1 x1 x2)
  · idx_vars x
    have e0 : r0_9.emb (ix3 x0 x1 x2) = (ix3 0 x1 x2 : S2x128x1024.Idx) := by blk_ext [LoadRect.idx_apply, r0_9, r0_10, Rect.off_unit, Rect.stride_unit]
    rw [e0]
    exact (congrArg (fun z => p0 (ix3 z x1 x2)) (Subsingleton.elim x0 0)).trans (h0 x1 x2)

/-- The gradient's entry of a layer. -/
def gAt {n : ℕ} (a b : Fin 8 → Fin n → Fin 1024 → EReal) (l : Fin 2) (i : Fin n) (j : Fin 1024) : EReal :=
  if l.val < 1 then total (fun d => a d i j) else total (fun d => b d i j)

section blocks

variable (a b : Vec Ideal S8x128x1024 .bf16) (w m v : Vec Ideal S2x128x1024 .f32) (l : Fin 2) (i : Fin 128) (j : Fin 1024)

theorem out5_at : out0_5 a b w m v (ix3 l i j) = gAt (fun d i j => a (ix3 d i j)) (fun d i j => b (ix3 d i j)) l i j := by
  unfold out0_5
  refine canon_layers _ _ (gAt (fun d i j => a (ix3 d i j)) (fun d i j => b (ix3 d i j))) (fun i j => ?_) (fun i j => ?_) l i j
  · exact (g0 _ _ i j).trans (sum0 a b w m v i j)
  · exact (g1 _ _ _ i j).trans (sum1 a b w m v i j)

theorem out7_at : out0_7 a b w m v (ix3 l i j) = avg (gAt (fun d i j => a (ix3 d i j)) (fun d i j => b (ix3 d i j)) l i j) (m (ix3 l i j)) := by
  unfold out0_7
  refine canon_layers _ _ (fun l i j => avg (gAt (fun d i j => a (ix3 d i j)) (fun d i j => b (ix3 d i j)) l i j) (m (ix3 l i j))) (fun i j => ?_) (fun i j => ?_) l i j
  · exact (m0 _ _ _ i j).trans (congrArg₂ avg (sum0 a b w m v i j) (layer_at m 0 i j).1)
  · exact (m1 _ _ _ _ i j).trans (congrArg₂ avg (sum1 a b w m v i j) (layer_at m 0 i j).2)

theorem out8_at : out0_8 a b w m v (ix3 l i j) = avgSq (gAt (fun d i j => a (ix3 d i j)) (fun d i j => b (ix3 d i j)) l i j) (v (ix3 l i j)) := by
  unfold out0_8
  refine canon_layers _ _ (fun l i j => avgSq (gAt (fun d i j => a (ix3 d i j)) (fun d i j => b (ix3 d i j)) l i j) (v (ix3 l i j))) (fun i j => ?_) (fun i j => ?_) l i j
  · exact (v0 _ _ _ i j).trans (congrArg₂ avgSq (sum0 a b w m v i j) (layer_at v 0 i j).1)
  · exact (v1 _ _ _ _ i j).trans (congrArg₂ avgSq (sum1 a b w m v i j) (layer_at v 0 i j).2)

theorem change_congr {w w' m m' v v' : EReal} (hw : w = w') (hm : m = m') (hv : v = v') : change w m v = change w' m' v' := by rw [hw, hm, hv]

theorem out6_at : out0_6 a b w m v (ix3 l i j) = change (w (ix3 l i j))
      (avg (gAt (fun d i j => a (ix3 d i j)) (fun d i j => b (ix3 d i j)) l i j) (m (ix3 l i j)))
      (avgSq (gAt (fun d i j => a (ix3 d i j)) (fun d i j => b (ix3 d i j)) l i j) (v (ix3 l i j))) := by
  unfold out0_6
  refine canon_layers _ _ (fun l i j => change (w (ix3 l i j))
      (avg (gAt (fun d i j => a (ix3 d i j)) (fun d i j => b (ix3 d i j)) l i j) (m (ix3 l i j)))
      (avgSq (gAt (fun d i j => a (ix3 d i j)) (fun d i j => b (ix3 d i j)) l i j) (v (ix3 l i j)))) (fun i j => ?_) (fun i j => ?_) l i j
  · exact (d0 _ _ _ _ _ i j).trans (change_congr (layer_at w 0 i j).1 (congrArg₂ avg (sum0 a b w m v i j) (layer_at m 0 i j).1) (congrArg₂ avgSq (sum0 a b w m v i j) (layer_at v 0 i j).1))
  · exact (d1 _ _ _ _ _ _ i j).trans (change_congr (layer_at w 0 i j).2 (congrArg₂ avg (sum1 a b w m v i j) (layer_at m 0 i j).2) (congrArg₂ avgSq (sum1 a b w m v i j) (layer_at v 0 i j).2))

end blocks

theorem idx_val : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] ∧ win0_8.index t = ![0, t.val, 0] ∧ t.val < 4 :=
  (by decide +kernel : ∀ t : Fin grid0.N, _)

/-- The array row of a block's row. -/
def row (t : Fin cfg0.N) (r : Fin 128) : Fin 512 := ⟨t.val * 128 + r, by have := (idx_val t).2.2.2.2.2.2.2.2.2; omega⟩

variable (m : (ℓ : Loc nD τ sig) → Buf (Elt Ideal) ℓ) (c : Dev nD) (t : Fin cfg0.N)

/-- The five arguments. -/
def A0 : S8x512x1024.Idx → EReal := m ((c : Thread nD τ).loc main_arg0)
def A1 : S8x512x1024.Idx → EReal := m ((c : Thread nD τ).loc main_arg1)
def A2 : S2x512x1024.Idx → EReal := m ((c : Thread nD τ).loc main_arg2)
def A3 : S2x512x1024.Idx → EReal := m ((c : Thread nD τ).loc main_arg3)
def A4 : S2x512x1024.Idx → EReal := m ((c : Thread nD τ).loc main_arg4)

theorem blk0 (d : Fin 8) (i : Fin 128) (j : Fin 1024) : iblk m c 0 t (ix3 d i j) = A0 m c (ix3 d (row t i) j) := by
  blk_ext [iblk, V, row, A0, idx_val t]
theorem blk1 (d : Fin 8) (i : Fin 128) (j : Fin 1024) : iblk m c 1 t (ix3 d i j) = A1 m c (ix3 d (row t i) j) := by
  blk_ext [iblk, V, row, A1, idx_val t]
theorem blk2 (d : Fin 2) (i : Fin 128) (j : Fin 1024) : iblk m c 2 t (ix3 d i j) = A2 m c (ix3 d (row t i) j) := by
  blk_ext [iblk, V, row, A2, idx_val t]
theorem blk3 (d : Fin 2) (i : Fin 128) (j : Fin 1024) : iblk m c 3 t (ix3 d i j) = A3 m c (ix3 d (row t i) j) := by
  blk_ext [iblk, V, row, A3, idx_val t]
theorem blk4 (d : Fin 2) (i : Fin 128) (j : Fin 1024) : iblk m c 4 t (ix3 d i j) = A4 m c (ix3 d (row t i) j) := by
  blk_ext [iblk, V, row, A4, idx_val t]

/-- The gradient's entries in the array. -/
def gA (l : Fin 2) (r : Fin 512) (j : Fin 1024) : EReal := gAt (fun d r j => A0 m c (ix3 d r j)) (fun d r j => A1 m c (ix3 d r j)) l r j

theorem gblk (l : Fin 2) (i : Fin 128) (j : Fin 1024) :
    gAt (fun d i j => (iblk m c 0 t (ix3 d i j) : EReal)) (fun d i j => (iblk m c 1 t (ix3 d i j) : EReal)) l i j = gA m c l (row t i) j := by
  unfold gA gAt
  simp only [blk0 m c t, blk1 m c t]

theorem final5 : (dats m 0 c).arrAt 5 (cfgs 0).N = (fun y : S2x512x1024.Idx => gA m c (y 0) (y 1) (y 2)) := by
  refine (dats m 0 c).arrAt_eq_of_covers 5 _ (by decide +kernel) fun t hf y => ?_
  blk_simp
  rw [after0_5]
  idx_vars y
  refine (out5_at _ _ _ _ _ y0 y1 y2).trans ((gblk m c t y0 y1 y2).trans ?_)
  have e : (((View.whole main_v0_0).slice (win0_5.rect t)).emb (ix3 y0 y1 y2)) = ix3 y0 (row t y1) y2 := by blk_ext [row, idx_val t]
  rw [e]; rfl

theorem final6 : (dats m 0 c).arrAt 6 (cfgs 0).N = (fun y : S2x512x1024.Idx => change (A2 m c (ix3 (y 0) (y 1) (y 2)))
    (avg (gA m c (y 0) (y 1) (y 2)) (A3 m c (ix3 (y 0) (y 1) (y 2)))) (avgSq (gA m c (y 0) (y 1) (y 2)) (A4 m c (ix3 (y 0) (y 1) (y 2))))) := by
  refine (dats m 0 c).arrAt_eq_of_covers 6 _ (by decide +kernel) fun t hf y => ?_
  blk_simp
  rw [after0_6]
  idx_vars y
  refine (out6_at _ _ _ _ _ y0 y1 y2).trans ((change_congr (blk2 m c t y0 y1 y2) (congrArg₂ avg (gblk m c t y0 y1 y2) (blk3 m c t y0 y1 y2))
    (congrArg₂ avgSq (gblk m c t y0 y1 y2) (blk4 m c t y0 y1 y2))).trans ?_)
  have e : (((View.whole main_v0_1).slice (win0_6.rect t)).emb (ix3 y0 y1 y2)) = ix3 y0 (row t y1) y2 := by blk_ext [row, idx_val t]
  rw [e]; rfl

theorem final7 : (dats m 0 c).arrAt 7 (cfgs 0).N = (fun y : S2x512x1024.Idx => avg (gA m c (y 0) (y 1) (y 2)) (A3 m c (ix3 (y 0) (y 1) (y 2)))) := by
  refine (dats m 0 c).arrAt_eq_of_covers 7 _ (by decide +kernel) fun t hf y => ?_
  blk_simp
  rw [after0_7]
  idx_vars y
  refine (out7_at _ _ _ _ _ y0 y1 y2).trans ((congrArg₂ avg (gblk m c t y0 y1 y2) (blk3 m c t y0 y1 y2)).trans ?_)
  have e : (((View.whole main_v0_2).slice (win0_7.rect t)).emb (ix3 y0 y1 y2)) = ix3 y0 (row t y1) y2 := by blk_ext [row, idx_val t]
  rw [e]; rfl

theorem final8 : (dats m 0 c).arrAt 8 (cfgs 0).N = (fun y : S2x512x1024.Idx => avgSq (gA m c (y 0) (y 1) (y 2)) (A4 m c (ix3 (y 0) (y 1) (y 2)))) := by
  refine (dats m 0 c).arrAt_eq_of_covers 8 _ (by decide +kernel) fun t hf y => ?_
  blk_simp
  rw [after0_8]
  idx_vars y
  refine (out8_at _ _ _ _ _ y0 y1 y2).trans ((congrArg₂ avgSq (gblk m c t y0 y1 y2) (blk4 m c t y0 y1 y2)).trans ?_)
  have e : (((View.whole main_v0_3).slice (win0_8.rect t)).emb (ix3 y0 y1 y2)) = ix3 y0 (row t y1) y2 := by blk_ext [row, idx_val t]
  rw [e]; rfl

end Cert.Kernel10Ideal.Value

end

end
-- ==== Proof.OptRef.lean ====
/- The optimiser's reference: its four arrays entry by entry. -/
module

public import proofs.«01_k».proof.Defs
public import proofs.«01_k».proof.Proof.Gen.Reference10Ideal.Run
public import proofs.«01_k».proof.Proof.OptMath
public import Idealize.ShloMosaic.Lib.Claim

@[expose] public section

set_option maxRecDepth 16384

noncomputable section

open Idealize.ShloMosaic Idealize.ShloMosaic.TcCoe Idealize.SL.Sem

namespace Cert.Reference10Ideal.Value

open Cert.Reference10Ideal Cert.Optimiser

/-- The gradient: the two stacks of parts summed over the devices. -/
def grad (a b : FVec Ideal S8x512x1024 .bf16) : FVec Ideal S2x512x1024 .f32 :=
  Host.reduceAdd (extf .f32 (concatenate S2x8x512x1024 0 [⟨S1x8x512x1024, broadcastInDim S1x8x512x1024 ![1, 2, 3] Gen.bcast_S8x512x1024_S1x8x512x1024_1_2_3 a⟩, ⟨S1x8x512x1024, broadcastInDim S1x8x512x1024 ![1, 2, 3] Gen.bcast_S8x512x1024_S1x8x512x1024_1_2_3 b⟩] Gen.concatenates_S1x8x512x1024_S1x8x512x1024_S2x8x512x1024_d0) Gen.bitsLt_bf16_f32) (constant S_ .f32 0x00000000#32) Gen.reducesTo_S2x8x512x1024_S2x512x1024_d1 Gen.h_S_

def first (g m : FVec Ideal S2x512x1024 .f32) : FVec Ideal S2x512x1024 .f32 :=
  addf (mulf (broadcastInDim S2x512x1024 ![] Gen.bcast_S_S2x512x1024 (constant S_ .f32 0x3F666666#32)) m) (mulf (broadcastInDim S2x512x1024 ![] Gen.bcast_S_S2x512x1024 (constant S_ .f32 0x3DCCCCCD#32)) g)

def second (g v : FVec Ideal S2x512x1024 .f32) : FVec Ideal S2x512x1024 .f32 :=
  addf (mulf (broadcastInDim S2x512x1024 ![] Gen.bcast_S_S2x512x1024 (constant S_ .f32 0x3F7FBE77#32)) v) (mulf (broadcastInDim S2x512x1024 ![] Gen.bcast_S_S2x512x1024 (constant S_ .f32 0x3A83126F#32)) (mulf g g))

def delta (w m v : FVec Ideal S2x512x1024 .f32) : FVec Ideal S2x512x1024 .f32 :=
  mulf (broadcastInDim S2x512x1024 ![] Gen.bcast_S_S2x512x1024 (constant S_ .f32 0xBA83126F#32)) (addf (Host.divf (Host.divf m (broadcastInDim S2x512x1024 ![] Gen.bcast_S_S2x512x1024 (constant S_ .f32 0x3F26BD02#32))) (addf (Host.sqrt (Host.divf v (broadcastInDim S2x512x1024 ![] Gen.bcast_S_S2x512x1024 (constant S_ .f32 0x3C231ACC#32)))) (broadcastInDim S2x512x1024 ![] Gen.bcast_S_S2x512x1024 (constant S_ .f32 0x322BCC77#32)))) (mulf (broadcastInDim S2x512x1024 ![] Gen.bcast_S_S2x512x1024 (constant S_ .f32 0x3C23D70A#32)) w))

/-- The gradient's entries. -/
def gradAt (a b : S8x512x1024.Idx → EReal) (l : Fin 2) (r : Fin 512) (j : Fin 1024) : EReal :=
  if l.val < 1 then total (fun d => a (ix3 d r j)) else total (fun d => b (ix3 d r j))

theorem grad_at (a b : FVec Ideal S8x512x1024 .bf16) (l : Fin 2) (r : Fin 512) (j : Fin 1024) : grad a b (ix3 l r j) = gradAt a b l r j := by
  pointwise [grad]
  unfold gradAt total
  by_cases h : l.val < 1 <;> simp only [h, if_true, if_false, dite_true, dite_false]

theorem first_at (g m : FVec Ideal S2x512x1024 .f32) (l : Fin 2) (r : Fin 512) (j : Fin 1024) : first g m (ix3 l r j) = avg (g (ix3 l r j)) (m (ix3 l r j)) := by
  pointwise [first]; rfl

theorem second_at (g v : FVec Ideal S2x512x1024 .f32) (l : Fin 2) (r : Fin 512) (j : Fin 1024) : second g v (ix3 l r j) = avgSq (g (ix3 l r j)) (v (ix3 l r j)) := by
  pointwise [second]; rfl

theorem delta_at (w m v : FVec Ideal S2x512x1024 .f32) (l : Fin 2) (r : Fin 512) (j : Fin 1024) : delta w m v (ix3 l r j) = change (w (ix3 l r j)) (m (ix3 l r j)) (v (ix3 l r j)) := by
  pointwise [delta]; rfl

/-- The run, with its four arrays by their names. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = grad (m ((c.tc : Thread nD τ).loc main_arg0)) (m ((c.tc : Thread nD τ).loc main_arg1))
      ∧ r.2.mem ((c.tc : Thread nD τ).loc main_v28) = delta (m ((c.tc : Thread nD τ).loc main_arg2))
          (first (grad (m ((c.tc : Thread nD τ).loc main_arg0)) (m ((c.tc : Thread nD τ).loc main_arg1))) (m ((c.tc : Thread nD τ).loc main_arg3)))
          (second (grad (m ((c.tc : Thread nD τ).loc main_arg0)) (m ((c.tc : Thread nD τ).loc main_arg1))) (m ((c.tc : Thread nD τ).loc main_arg4)))
      ∧ r.2.mem ((c.tc : Thread nD τ).loc main_v9) = first (grad (m ((c.tc : Thread nD τ).loc main_arg0)) (m ((c.tc : Thread nD τ).loc main_arg1))) (m ((c.tc : Thread nD τ).loc main_arg3))
      ∧ r.2.mem ((c.tc : Thread nD τ).loc main_v15) = second (grad (m ((c.tc : Thread nD τ).loc main_arg0)) (m ((c.tc : Thread nD τ).loc main_arg1))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

end Cert.Reference10Ideal.Value

end

end
-- ==== Proof.OptClaim.lean ====
/- The optimiser: kernel and reference agree over the extended reals. -/
module

public import proofs.«01_k».proof.Proof.OptKernel
public import proofs.«01_k».proof.Proof.OptRef
public import Idealize.ShloMosaic.Lib.Claim

@[expose] public section

set_option maxRecDepth 16384

noncomputable section

namespace Cert.Proof

open Idealize.ShloMosaic Idealize.ShloMosaic.TcCoe Idealize.SL.Sem Cert.Optimiser

theorem algebraic10 : Cert.algebraic_Kernel10Ideal_Reference10Ideal := by
  pair_intro
  · run_from Cert.Kernel10Ideal.Gen.run_main m g
  · refine θ_run_mono (Cert.Reference10Ideal.Value.run_named m' g') ?_
    intro r hr c
    obtain ⟨h0, h1, h2, h3, ha⟩ := hr c
    obtain ⟨e0, e1, e2, e3, e4⟩ := hagree c
    rw [e0, e1] at h0
    rw [e0, e1, e2, e3, e4] at h1
    rw [e0, e1, e3] at h2
    rw [e0, e1, e4] at h3
    have hg : ∀ l r j, Cert.Reference10Ideal.Value.grad _ _ (ix3 l r j) = Cert.Kernel10Ideal.Value.gA m c l r j := fun l r j =>
      (Cert.Reference10Ideal.Value.grad_at (Cert.Kernel10Ideal.Value.A0 m c) (Cert.Kernel10Ideal.Value.A1 m c) l r j).trans rfl
    refine ⟨h0.trans ?_, h1.trans ?_, h2.trans ?_, h3.trans ?_, ha⟩
    · refine Eq.trans ?_ (Cert.Kernel10Ideal.Value.final5 m c).symm
      funext j; idx_vars j
      exact hg j0 j1 j2
    · refine Eq.trans ?_ (Cert.Kernel10Ideal.Value.final6 m c).symm
      funext j; idx_vars j
      refine (Cert.Reference10Ideal.Value.delta_at _ _ _ j0 j1 j2).trans (Cert.Kernel10Ideal.Value.change_congr rfl ?_ ?_)
      · exact (Cert.Reference10Ideal.Value.first_at _ _ j0 j1 j2).trans (congrArg₂ avg (hg j0 j1 j2) rfl)
      · exact (Cert.Reference10Ideal.Value.second_at _ _ j0 j1 j2).trans (congrArg₂ avgSq (hg j0 j1 j2) rfl)
    · refine Eq.trans ?_ (Cert.Kernel10Ideal.Value.final7 m c).symm
      funext j; idx_vars j
      exact (Cert.Reference10Ideal.Value.first_at _ _ j0 j1 j2).trans (congrArg₂ avg (hg j0 j1 j2) rfl)
    · refine Eq.trans ?_ (Cert.Kernel10Ideal.Value.final8 m c).symm
      funext j; idx_vars j
      exact (Cert.Reference10Ideal.Value.second_at _ _ j0 j1 j2).trans (congrArg₂ avgSq (hg j0 j1 j2) rfl)

end Cert.Proof

end

end
-- ==== Proof.EntryKernel.lean ====
/- The mixer's entry: the kernel entry by entry. -/
module

public import proofs.«01_k».proof.Defs
public import proofs.«01_k».proof.Proof.Gen.Kernel11Ideal.Frame
public import proofs.«01_k».proof.Proof.EntryMath
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel11Ideal.Value

open Cert.Kernel11Ideal Cert.Kernel11Ideal.Gen Cert.Entry

section payloads

variable (h : FVec Ideal S512x1024 .bf16) (w : Vec Ideal S1x512x1024 .bf16) (t : Vec Ideal S512x128 .f32) (i j : Fin 512)

theorem norm_at (x : Vec Ideal S512x1024 .f32) (g : Vec Ideal S1x1x1024 .f32) (i : Fin 512) (j : Fin 1024) :
    k0_pay2 x g (ix2 i j) = norm (fun k => x (ix2 i k)) (fun k => g (ix3 0 0 k)) j := by
  pointwise [k0_pay2]; rfl

/-- A segment's product. -/
theorem lin : (k0_pay1 h w (ix2 i j) : EReal) = ∑ k : Fin 1024, h (ix2 i k) * w (ix3 0 j k) := by
  pointwise [k0_pay1]

theorem tile_at : k0_pay3 t (ix2 i j) = t (ix2 i ⟨j.val % 128, by omega⟩) := by
  pointwise [k0_pay3]
  split_ifs <;> exact congrArg (fun k => t (ix2 i k)) (Fin.ext (by simp only; omega))

/-- Which lanes take the rotation to the left. -/
theorem left_at : (cmpi .slt k0_pay13 k0_pay14 : IVec S512x512 1) (ix2 i j) = if j.val % 64 < 32 then 1#1 else 0#1 := by
  pointwise [k0_pay13, k0_pay14]
  revert j
  decide +kernel

variable (u a b s : FVec Ideal S512x512 .f32)

theorem rot_at : k0_pay15 s u a k0_pay13 k0_pay14 (ix2 i j) = a (ix2 i j) + u (ix2 i (partner j)) * s (ix2 i j) := by
  have hs := left_at i j
  pointwise at hs
  unfold k0_pay15
  pointwise
  rw [hs]
  unfold partner
  by_cases hj : j.val % 64 < 32
  · rw [if_pos hj, if_pos hj]
    refine congrArg (fun k => a (ix2 i j) + u (ix2 i k) * s (ix2 i j)) (Fin.ext ?_)
    show (j.val + 512 - 480) % 512 = (j.val + 32) % 512
    omega
  · rw [if_neg hj, if_neg hj]
    refine congrArg (fun k => a (ix2 i j) + u (ix2 i k) * s (ix2 i j)) (Fin.ext ?_)
    show (j.val + 512 - 32) % 512 = j.val - 32
    omega

theorem rotq_at : k0_pay10 s u a (Scalar.select (Scalar.cmpi .eq 64#32 0#32) 1#32 64#32) k0_pay7 k0_pay8 k0_pay9 = mulf (k0_pay15 s u a k0_pay13 k0_pay14) (broadcast S512x512 (Scalar.ofBits .f32 0x3E000000#32)) := rfl

end payloads

variable (m : (ℓ : Loc nD τ sig) → Buf (Elt Ideal) ℓ) (c : Dev nD)

abbrev A0 : S4096x1024.Idx → EReal := m ((c.tc : Thread nD τ).loc main_arg0)
abbrev A1 : S2x1024.Idx → EReal := m ((c.tc : Thread nD τ).loc main_arg1)
abbrev A2 : S2x1024x3584.Idx → EReal := m ((c.tc : Thread nD τ).loc main_arg2)

theorem idx_val : ∀ t : Fin cfg0.N, win0_0.index t = ![t.val, 0] ∧ win0_1.index t = ![0, 0, 0] ∧ win0_2.index t = ![0, 0, 0]
    ∧ win0_3.index t = ![t.val, 0] ∧ win0_4.index t = ![t.val, 0] ∧ win0_5.index t = ![t.val, 0] ∧ win0_6.index t = ![t.val, 0] ∧ t.val < 8 :=
  (by decide +kernel : ∀ t : Fin grid0.N, _)

/-- The rows a block holds. -/
def row (t : Fin cfg0.N) (i : Fin 512) : Fin 4096 := ⟨512 * t.val + i.val, by have := (idx_val t).2.2.2.2.2.2.2; omega⟩

theorem prep_gain (l : Fin 2) (j : Fin 1024) : (V m c main_v27 : S2x1x1024.Idx → EReal) (ix3 l 0 j) = A1 m c (ix2 l j) := by
  simp only [V, List.flatten_cons, List.flatten_nil, List.append_nil]
  entry_read
  pointwise

theorem prep_w (j : Fin 3584) (k : Fin 1024) : (V m c main_v2 : S1x3584x1024.Idx → EReal) (ix3 0 j k) = A2 m c (ix3 0 k j) := by
  simp only [V, List.flatten_cons, List.flatten_nil, List.append_nil]
  entry_read
  pointwise

/-- The rotation's angles as the host computes them. -/
def kangles : FVec Ideal S4096x32 .f32 :=
  mulf (broadcastInDim S4096x32 ![0, 1] bcast_S4096x1_S4096x32_0_1 (broadcastInDim S4096x1 ![0] bcast_S4096_S4096x1_0
      (addf (sitofp .f32 (iotaInDim S4096 32 0)) (broadcastInDim S4096 ![] bcast_S_S4096 (shapeCast S_ (extractStridedSlice S1x1 ![0, 0] (broadcastInDim S8x128 ![] bcast_S_S8x128 (constant S_ .f32 0x00000000#32)) slices_S8x128_S1x1_0_0) shapeCasts_S1x1_S_)))))
    (broadcastInDim S4096x32 ![0, 1] bcast_S1x32_S4096x32_0_1 (broadcastInDim S1x32 ![1] bcast_S32_S1x32_1
      (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

theorem kangles_at (i : Fin 4096) (k : Fin 32) : kangles (ix2 i k) = angle i k := by
  pointwise [kangles]
  rfl

/-- Four tables side by side. -/
def four (a b c d : FVec Ideal S4096x32 .f32) : FVec Ideal S4096x128 .f32 :=
  concatenate S4096x128 1 [⟨S4096x32, a⟩, ⟨S4096x32, b⟩, ⟨S4096x32, c⟩, ⟨S4096x32, d⟩] concatenates_S4096x32_S4096x32_S4096x32_S4096x32_S4096x128_d1

theorem tab_cos : (V m c main_v23 : FVec Ideal S4096x128 .f32) = four (Host.cos kangles) (Host.cos kangles) (Host.cos kangles) (Host.cos kangles) := by
  unfold V hostOps0
  after_results_simp <;> (try dsimp only [Matrix.cons_val]) <;> (try after_results_simp) <;> rfl

theorem tab_sin : (V m c main_v26 : FVec Ideal S4096x128 .f32) = four (Host.negf (Host.sin kangles)) (Host.sin kangles) (Host.negf (Host.sin kangles)) (Host.sin kangles) := by
  unfold V hostOps0
  after_results_simp <;> (try dsimp only [Matrix.cons_val]) <;> (try after_results_simp) <;> rfl

theorem prep_cos (i : Fin 4096) (k : Fin 128) : (V m c main_v23 : S4096x128.Idx → EReal) (ix2 i k) = Ideal.cos (angle i ⟨k.val % 32, by omega⟩) := by
  rw [tab_cos]
  pointwise [four, kangles_at]
  split_ifs <;> exact congrArg (fun k => Ideal.cos (angle i k)) (Fin.ext (by simp only; omega))

theorem prep_sin (i : Fin 4096) (k : Fin 128) : (V m c main_v26 : S4096x128.Idx → EReal) (ix2 i k)
    = if k.val % 64 < 32 then -Ideal.sin (angle i ⟨k.val % 32, by omega⟩) else Ideal.sin (angle i ⟨k.val % 32, by omega⟩) := by
  rw [tab_sin]
  pointwise [four, kangles_at]
  by_cases hk : k.val % 64 < 32
  · rw [if_pos hk]
    split_ifs <;> first | omega | exact congrArg (fun k => -Ideal.sin (angle i k)) (Fin.ext (by show _ = k.val % 32; simp only; omega)) | exact congrArg (fun k => -Ideal.sin (angle i k)) (Fin.ext (by show _ = k.val % 32; omega))
  · rw [if_neg hk]
    split_ifs <;> first | omega | exact congrArg (fun k => Ideal.sin (angle i k)) (Fin.ext (by show _ = k.val % 32; simp only; omega)) | exact congrArg (fun k => Ideal.sin (angle i k)) (Fin.ext (by show _ = k.val % 32; omega))

section blocks

theorem ld0 (x : Vec Ideal S512x1024 .f32) (i : Fin 512) (j : Fin 1024) : View.ld x r0_0 (ix2 i j) = x (ix2 i j) := by
  blk_ext [View.ld, LoadRect.idx_apply, r0_0, Rect.off_unit, Rect.stride_unit]
theorem ld1 (x : Vec Ideal S1x1x1024 .f32) (j : Fin 1024) : View.ld x r0_1 (ix3 0 0 j) = x (ix3 0 0 j) := by
  blk_ext [View.ld, LoadRect.idx_apply, r0_1, Rect.off_unit, Rect.stride_unit]
theorem ld2 (x : Vec Ideal S512x128 .f32) (i : Fin 512) (j : Fin 128) : View.ld x r0_2 (ix2 i j) = x (ix2 i j) := by
  blk_ext [View.ld, LoadRect.idx_apply, r0_2, Rect.off_unit, Rect.stride_unit]

variable (x0 : Vec Ideal S512x1024 .f32) (x1 : Vec Ideal S1x1x1024 .f32) (x2 : Vec Ideal S1x3584x1024 .bf16) (x3 x4 : Vec Ideal S512x128 .f32)
  (P : Fin 512 → Fin 3584 → EReal) (cs sn : Fin 512 → Fin 32 → EReal)
  (hP : ∀ (i : Fin 512) (j : Fin 3584), (∑ k : Fin 1024, norm (fun k => x0 (ix2 i k)) (fun k => x1 (ix3 0 0 k)) k * x2 (ix3 0 j k)) = P i j)
  (hc : ∀ (i : Fin 512) (k : Fin 128), (x3 (ix2 i k) : EReal) = cs i ⟨k.val % 32, by omega⟩)
  (hs : ∀ (i : Fin 512) (k : Fin 128), (x4 (ix2 i k) : EReal) = if k.val % 64 < 32 then -sn i ⟨k.val % 32, by omega⟩ else sn i ⟨k.val % 32, by omega⟩)

include hP in
/-- A segment of the block's products. -/
theorem seg (o : ℕ) (ho : o ≤ 3072) (w : Vec Ideal S1x512x1024 .bf16) (hw : ∀ (j : Fin 512) (k : Fin 1024), w (ix3 0 j k) = x2 (ix3 0 ⟨o + j.val, by omega⟩ k)) (i j : Fin 512) :
    k0_pay1 (k0_pay20 x0 x1 x2 x3 x4) w (ix2 i j) = P i ⟨o + j.val, by omega⟩ := by
  rw [lin, ← hP]
  refine Finset.sum_congr rfl fun k _ => ?_
  rw [hw]
  refine congrArg (· * _) ?_
  unfold k0_pay20
  rw [norm_at]
  exact congrArg₂ (fun a b => norm a b k) (funext fun l => ld0 x0 i l) (funext fun l => ld1 x1 l)

include hc hs in
/-- A rotated segment. -/
theorem rotSeg (u : FVec Ideal S512x512 .f32) (i j : Fin 512) :
    k0_pay15 (k0_pay21 x0 x1 x2 x3 x4) u (mulf u (k0_pay3 (View.ld x3 r0_2))) k0_pay13 k0_pay14 (ix2 i j) = rotate (fun l => u (ix2 i l)) (cs i) (sn i) j := by
  rw [rot_at, ← rotate_eq]
  have e1 : (k0_pay3 (View.ld x3 r0_2) (ix2 i j) : EReal) = cs i (lane j) := by
    rw [tile_at]
    refine Eq.trans ?_ ((hc i ⟨j.val % 128, by omega⟩).trans (congrArg (cs i) (Fin.ext (by show j.val % 128 % 32 = j.val % 32; omega))))
    exact ld2 x3 i _
  have e2 : (k0_pay21 x0 x1 x2 x3 x4 (ix2 i j) : EReal) = if j.val % 64 < 32 then -sn i (lane j) else sn i (lane j) := by
    refine (tile_at (View.ld x4 r0_2) i j).trans ?_
    have hl : (⟨j.val % 128 % 32, by omega⟩ : Fin 32) = lane j := Fin.ext (by show j.val % 128 % 32 = j.val % 32; omega)
    have hm : j.val % 128 % 64 = j.val % 64 := by omega
    refine Eq.trans ?_ ((hs i ⟨j.val % 128, by omega⟩).trans ?_)
    · exact ld2 x4 i _
    · simp only [hl, hm]
  rw [e2]
  exact congrArg (· + _) (congrArg (u (ix2 i j) * ·) e1)

include hP hc hs in
theorem out5_at (i : Fin 512) (j : Fin 3584) : out0_5 x0 x1 x2 x3 x4 (ix2 i j) = res (P i) (cs i) (sn i) j := by
  unfold out0_5
  refine View.canon_apply_of_pieces (Val := Elt Ideal) (e := .f32) (fun y : S512x3584.Idx => (res (P (y 0)) (cs (y 0)) (sn (y 0)) (y 1) : EReal)) _ ?_ (ix2 i j) (cover0_5 _ _ _ _ _ _ _ _)
  intro p hp y
  simp only [List.mem_cons, List.not_mem_nil, or_false] at hp
  have sg := fun o ho => seg x0 x1 x2 x3 x4 P hP o ho
  rcases hp with rfl | rfl | rfl | rfl | rfl | rfl | rfl <;> idx_vars y
  · have e : r0_16.emb (ix2 y0 y1) = (ix2 y0 ⟨3072 + y1.val, by omega⟩ : S512x3584.Idx) := by blk_ext [LoadRect.idx_apply, r0_16, Rect.off_unit, Rect.stride_unit]
    have hw : ∀ (j : Fin 512) (k : Fin 1024), View.ld x2 r0_15 (ix3 0 j k) = x2 (ix3 0 ⟨3072 + j.val, by omega⟩ k) := fun j k => by
      blk_ext [View.ld, LoadRect.idx_apply, r0_15, Rect.off_unit, Rect.stride_unit]
    rw [e]
    exact (sg 3072 (by decide) _ hw y0 y1).trans (res_rest _ _ _ ⟨3072 + y1.val, by omega⟩ (by show 1024 ≤ 3072 + y1.val; omega)).symm
  · have e : r0_14.emb (ix2 y0 y1) = (ix2 y0 ⟨2560 + y1.val, by omega⟩ : S512x3584.Idx) := by blk_ext [LoadRect.idx_apply, r0_14, Rect.off_unit, Rect.stride_unit]
    have hw : ∀ (j : Fin 512) (k : Fin 1024), View.ld x2 r0_13 (ix3 0 j k) = x2 (ix3 0 ⟨2560 + j.val, by omega⟩ k) := fun j k => by
      blk_ext [View.ld, LoadRect.idx_apply, r0_13, Rect.off_unit, Rect.stride_unit]
    rw [e]
    exact (sg 2560 (by decide) _ hw y0 y1).trans (res_rest _ _ _ ⟨2560 + y1.val, by omega⟩ (by show 1024 ≤ 2560 + y1.val; omega)).symm
  · have e : r0_12.emb (ix2 y0 y1) = (ix2 y0 ⟨2048 + y1.val, by omega⟩ : S512x3584.Idx) := by blk_ext [LoadRect.idx_apply, r0_12, Rect.off_unit, Rect.stride_unit]
    have hw : ∀ (j : Fin 512) (k : Fin 1024), View.ld x2 r0_11 (ix3 0 j k) = x2 (ix3 0 ⟨2048 + j.val, by omega⟩ k) := fun j k => by
      blk_ext [View.ld, LoadRect.idx_apply, r0_11, Rect.off_unit, Rect.stride_unit]
    rw [e]
    exact (sg 2048 (by decide) _ hw y0 y1).trans (res_rest _ _ _ ⟨2048 + y1.val, by omega⟩ (by show 1024 ≤ 2048 + y1.val; omega)).symm
  · have e : r0_10.emb (ix2 y0 y1) = (ix2 y0 ⟨1536 + y1.val, by omega⟩ : S512x3584.Idx) := by blk_ext [LoadRect.idx_apply, r0_10, Rect.off_unit, Rect.stride_unit]
    have hw : ∀ (j : Fin 512) (k : Fin 1024), View.ld x2 r0_9 (ix3 0 j k) = x2 (ix3 0 ⟨1536 + j.val, by omega⟩ k) := fun j k => by
      blk_ext [View.ld, LoadRect.idx_apply, r0_9, Rect.off_unit, Rect.stride_unit]
    rw [e]
    exact (sg 1536 (by decide) _ hw y0 y1).trans (res_rest _ _ _ ⟨1536 + y1.val, by omega⟩ (by show 1024 ≤ 1536 + y1.val; omega)).symm
  · have e : r0_8.emb (ix2 y0 y1) = (ix2 y0 ⟨1024 + y1.val, by omega⟩ : S512x3584.Idx) := by blk_ext [LoadRect.idx_apply, r0_8, Rect.off_unit, Rect.stride_unit]
    have hw : ∀ (j : Fin 512) (k : Fin 1024), View.ld x2 r0_7 (ix3 0 j k) = x2 (ix3 0 ⟨1024 + j.val, by omega⟩ k) := fun j k => by
      blk_ext [View.ld, LoadRect.idx_apply, r0_7, Rect.off_unit, Rect.stride_unit]
    rw [e]
    exact (sg 1024 (by decide) _ hw y0 y1).trans (res_rest _ _ _ ⟨1024 + y1.val, by omega⟩ (by show 1024 ≤ 1024 + y1.val; omega)).symm
  · have e : r0_6.emb (ix2 y0 y1) = (ix2 y0 ⟨512 + y1.val, by omega⟩ : S512x3584.Idx) := by blk_ext [LoadRect.idx_apply, r0_6, Rect.off_unit, Rect.stride_unit]
    have hw : ∀ (j : Fin 512) (k : Fin 1024), View.ld x2 r0_5 (ix3 0 j k) = x2 (ix3 0 ⟨512 + j.val, by omega⟩ k) := fun j k => by
      blk_ext [View.ld, LoadRect.idx_apply, r0_5, Rect.off_unit, Rect.stride_unit]
    rw [e]
    refine Eq.trans ?_ (res_k (P y0) (cs y0) (sn y0) y1).symm
    refine (rotSeg x0 x1 x2 x3 x4 cs sn hc hs (k0_pay1 (k0_pay20 x0 x1 x2 x3 x4) (View.ld x2 r0_5)) y0 y1).trans ?_
    exact congrArg (fun q => rotate q (cs y0) (sn y0) y1) (funext fun l => sg 512 (by decide) _ hw y0 l)
  · have e : r0_4.emb (ix2 y0 y1) = (ix2 y0 ⟨0 + y1.val, by omega⟩ : S512x3584.Idx) := by blk_ext [LoadRect.idx_apply, r0_4, Rect.off_unit, Rect.stride_unit]
    have hw : ∀ (j : Fin 512) (k : Fin 1024), View.ld x2 r0_3 (ix3 0 j k) = x2 (ix3 0 ⟨0 + j.val, by omega⟩ k) := fun j k => by
      blk_ext [View.ld, LoadRect.idx_apply, r0_3, Rect.off_unit, Rect.stride_unit]
    rw [e]
    have z : ∀ l : Fin 512, (⟨0 + l.val, by omega⟩ : Fin 3584) = ⟨l.val, by omega⟩ := fun l => Fin.ext (Nat.zero_add _)
    rw [z]
    refine Eq.trans ?_ (res_q (P y0) (cs y0) (sn y0) y1).symm
    refine congrArg (· * _) ((rotSeg x0 x1 x2 x3 x4 cs sn hc hs (k0_pay1 (k0_pay20 x0 x1 x2 x3 x4) (View.ld x2 r0_3)) y0 y1).trans ?_)
    exact congrArg (fun q => rotate q (cs y0) (sn y0) y1) (funext fun l => (sg 0 (by decide) _ hw y0 l).trans (congrArg (P y0) (z l)))

theorem out6_at (i : Fin 512) (j : Fin 1024) : out0_6 x0 x1 x2 x3 x4 (ix2 i j) = norm (fun k => x0 (ix2 i k)) (fun k => x1 (ix3 0 0 k)) j := by
  unfold out0_6
  refine View.canon_apply_of_pieces (Val := Elt Ideal) (e := .bf16) (fun y : S512x1024.Idx => (norm (fun k => x0 (ix2 (y 0) k)) (fun k => x1 (ix3 0 0 k)) (y 1) : EReal)) _ ?_ (ix2 i j) (cover0_6 _ _)
  intro p hp y
  simp only [List.mem_cons, List.not_mem_nil, or_false] at hp
  subst hp
  idx_vars y
  have e : r0_0.emb (ix2 y0 y1) = (ix2 y0 y1 : S512x1024.Idx) := by blk_ext [LoadRect.idx_apply, r0_0, Rect.off_unit, Rect.stride_unit]
  rw [e]
  refine (norm_at _ _ y0 y1).trans ?_
  exact congrArg₂ (fun a b => norm a b y1) (funext fun l => ld0 x0 y0 l) (funext fun l => ld1 x1 l)

end blocks

theorem blk_x (t : Fin cfg0.N) (i : Fin 512) (j : Fin 1024) : (iblk m c 0 t : Vec Ideal S512x1024 .f32) (ix2 i j) = A0 m c (ix2 (row t i) j) := by
  blk_ext [iblk, V, row, idx_val t]

theorem blk_gain (t : Fin cfg0.N) (j : Fin 1024) : (iblk m c 1 t : Vec Ideal S1x1x1024 .f32) (ix3 0 0 j) = A1 m c (ix2 0 j) := by
  rw [← prep_gain]
  blk_ext [iblk, idx_val t]

theorem blk_w (t : Fin cfg0.N) (j : Fin 3584) (k : Fin 1024) : (iblk m c 2 t : Vec Ideal S1x3584x1024 .bf16) (ix3 0 j k) = A2 m c (ix3 0 k j) := by
  rw [← prep_w]
  blk_ext [iblk, idx_val t]

theorem blk_cos (t : Fin cfg0.N) (i : Fin 512) (k : Fin 128) : (iblk m c 3 t : Vec Ideal S512x128 .f32) (ix2 i k) = Ideal.cos (angle (row t i) ⟨k.val % 32, by omega⟩) := by
  rw [← prep_cos m c]
  blk_ext [iblk, row, idx_val t]

theorem blk_sin (t : Fin cfg0.N) (i : Fin 512) (k : Fin 128) : (iblk m c 4 t : Vec Ideal S512x128 .f32) (ix2 i k)
    = if k.val % 64 < 32 then -Ideal.sin (angle (row t i) ⟨k.val % 32, by omega⟩) else Ideal.sin (angle (row t i) ⟨k.val % 32, by omega⟩) := by
  rw [← prep_sin m c]
  blk_ext [iblk, row, idx_val t]

/-- The two arrays the kernel leaves. -/
def G5 : S4096x3584.Idx → EReal := fun y =>
  res (fun j => entry (fun k => A0 m c (ix2 (y 0) k)) (fun k => A1 m c (ix2 0 k)) (fun k => A2 m c (ix3 0 k j))) (fun k => Ideal.cos (angle (y 0) k)) (fun k => Ideal.sin (angle (y 0) k)) (y 1)
def G6 : S4096x1024.Idx → EReal := fun y => norm (fun k => A0 m c (ix2 (y 0) k)) (fun k => A1 m c (ix2 0 k)) (y 1)

theorem final5 : (dats m 0 c).arrAt 5 cfg0.N = G5 m c := by
  refine (dats m 0 c).arrAt_eq_of_covers 5 _ (by decide +kernel) fun t hf y => ?_
  blk_simp
  rw [after0_5]
  idx_vars y
  have e : (((View.whole main_v28_0).slice (win0_5.rect t)).emb (ix2 y0 y1)) = (ix2 (row t y0) y1 : S4096x3584.Idx) := by
    blk_ext [row, idx_val t]
  rw [e]
  refine (out5_at _ _ _ _ _ (fun i j => entry (fun k => A0 m c (ix2 (row t i) k)) (fun k => A1 m c (ix2 0 k)) (fun k => A2 m c (ix3 0 k j)))
    (fun i k => Ideal.cos (angle (row t i) k)) (fun i k => Ideal.sin (angle (row t i) k)) (fun i j => ?_) (fun i k => blk_cos m c t i k) (fun i k => blk_sin m c t i k) y0 y1).trans rfl
  simp only [blk_x, blk_gain, blk_w]
  rfl

theorem final6 : (dats m 0 c).arrAt 6 cfg0.N = G6 m c := by
  refine (dats m 0 c).arrAt_eq_of_covers 6 _ (by decide +kernel) fun t hf y => ?_
  blk_simp
  rw [after0_6]
  idx_vars y
  have e : (((View.whole main_v28_1).slice (win0_6.rect t)).emb (ix2 y0 y1)) = (ix2 (row t y0) y1 : S4096x1024.Idx) := by
    blk_ext [row, idx_val t]
  rw [e]
  refine (out6_at _ _ _ _ _ y0 y1).trans ?_
  simp only [blk_x, blk_gain]
  rfl

end Cert.Kernel11Ideal.Value

end

end
-- ==== Proof.EntryRef.lean ====
/- The mixer's entry: the reference entry by entry. -/
module

public import proofs.«01_k».proof.Defs
public import proofs.«01_k».proof.Proof.Gen.Reference11Ideal.Run
public import proofs.«01_k».proof.Proof.EntryMath
public import Idealize.ShloMosaic.Lib.Claim

@[expose] public section

set_option maxRecDepth 16384

noncomputable section

open Idealize.ShloMosaic Idealize.ShloMosaic.TcCoe Idealize.SL.Sem

namespace Cert.Reference11Ideal.Value

open Cert.Reference11Ideal Cert.Entry

/-- The normed rows. -/
def hid (x : FVec Ideal S4096x1024 .f32) (g : FVec Ideal S2x1024 .f32) : FVec Ideal S4096x1024 .f32 :=
  (mulf (mulf x (broadcastInDim S4096x1024 ![0, 1] Gen.bcast_S4096x1_S4096x1024_0_1 (Host.rsqrt (addf (Host.divf (broadcastInDim S4096x1 ![0] Gen.bcast_S4096_S4096x1_0 (Host.reduceAdd (mulf x x) (constant S_ .f32 0x00000000#32) Gen.reducesTo_S4096x1024_S4096_d1 Gen.h_S_)) (broadcastInDim S4096x1 ![] Gen.bcast_S_S4096x1 (constant S_ .f32 0x44800000#32))) (broadcastInDim S4096x1 ![] Gen.bcast_S_S4096x1 (constant S_ .f32 0x358637BD#32)))))) (broadcastInDim S4096x1024 ![0, 1] Gen.bcast_S1x1024_S4096x1024_0_1 (broadcastInDim S1x1024 ![1] Gen.bcast_S1024_S1x1024_1 (shapeCast _ (extractStridedSlice S1x1024 ![0, 0] g Gen.slices_S2x1024_S1x1024_0_0) Gen.shapeCasts_S1x1024_S1024))))

/-- Their product with the weight. -/
def proj (x : FVec Ideal S4096x1024 .f32) (g : FVec Ideal S2x1024 .f32) (w : FVec Ideal S2x1024x3584 .f32) : FVec Ideal S4096x3584 .f32 :=
  (Host.dotGeneral dot_S4096x1024_S1024x3584_S4096x3584_1_0_0_1_n_n none (hid x g) (shapeCast _ (extractStridedSlice S1x1024x3584 ![0, 0, 0] w Gen.slices_S2x1024x3584_S1x1024x3584_0_0_0) Gen.shapeCasts_S1x1024x3584_S1024x3584))

def segQ (x : FVec Ideal S4096x1024 .f32) (g : FVec Ideal S2x1024 .f32) (w : FVec Ideal S2x1024x3584 .f32) : FVec Ideal S4096x512 .f32 :=
  (extractStridedSlice S4096x512 ![0, 0] (proj x g w) Gen.slices_S4096x3584_S4096x512_0_0)

def segK (x : FVec Ideal S4096x1024 .f32) (g : FVec Ideal S2x1024 .f32) (w : FVec Ideal S2x1024x3584 .f32) : FVec Ideal S4096x512 .f32 :=
  (extractStridedSlice S4096x512 ![0, 512] (proj x g w) Gen.slices_S4096x3584_S4096x512_0_512)

/-- The columns as heads. -/
def heads (p : FVec Ideal S4096x512 .f32) : FVec Ideal S8x4096x64 .f32 :=
  (transpose S8x4096x64 [1, 0, 2] (shapeCast _ p Gen.shapeCasts_S4096x512_S4096x8x64) Gen.transposes_S4096x8x64_S8x4096x64_1_0_2)

/-- The rotation's angles. -/
def angles : FVec Ideal S4096x32 .f32 :=
  (mulf (broadcastInDim S4096x32 ![0, 1] Gen.bcast_S4096x1_S4096x32_0_1 (broadcastInDim S4096x1 ![0] Gen.bcast_S4096_S4096x1_0 (sitofp .f32 (iotaInDim S4096 32 0)))) (broadcastInDim S4096x32 ![0, 1] Gen.bcast_S1x32_S4096x32_0_1 (broadcastInDim S1x32 ![1] Gen.bcast_S32_S1x32_1 (Host.powf (broadcastInDim S32 ![] Gen.bcast_S_S32 (constant S_ .f32 0x461C4000#32)) (Host.divf (Host.negf (sitofp .f32 (iotaInDim S32 32 0))) (broadcastInDim S32 ![] Gen.bcast_S_S32 (constant S_ .f32 0x42000000#32)))))))

/-- The heads rotated. -/
def rot (p : FVec Ideal S4096x512 .f32) : FVec Ideal S8x4096x64 .f32 :=
  (concatenate S8x4096x64 2 [⟨S8x4096x32, (subf (mulf (extractStridedSlice S8x4096x32 ![0, 0, 0] (heads p) Gen.slices_S8x4096x64_S8x4096x32_0_0_0) (broadcastInDim S8x4096x32 ![0, 1, 2] Gen.bcast_S1x4096x32_S8x4096x32_0_1_2 (broadcastInDim S1x4096x32 ![1, 2] Gen.bcast_S4096x32_S1x4096x32_1_2 (Host.cos angles)))) (mulf (extractStridedSlice S8x4096x32 ![0, 0, 32] (heads p) Gen.slices_S8x4096x64_S8x4096x32_0_0_32) (broadcastInDim S8x4096x32 ![0, 1, 2] Gen.bcast_S1x4096x32_S8x4096x32_0_1_2 (broadcastInDim S1x4096x32 ![1, 2] Gen.bcast_S4096x32_S1x4096x32_1_2 (Host.sin angles)))))⟩, ⟨S8x4096x32, (addf (mulf (extractStridedSlice S8x4096x32 ![0, 0, 0] (heads p) Gen.slices_S8x4096x64_S8x4096x32_0_0_0) (broadcastInDim S8x4096x32 ![0, 1, 2] Gen.bcast_S1x4096x32_S8x4096x32_0_1_2 (broadcastInDim S1x4096x32 ![1, 2] Gen.bcast_S4096x32_S1x4096x32_1_2 (Host.sin angles)))) (mulf (extractStridedSlice S8x4096x32 ![0, 0, 32] (heads p) Gen.slices_S8x4096x64_S8x4096x32_0_0_32) (broadcastInDim S8x4096x32 ![0, 1, 2] Gen.bcast_S1x4096x32_S8x4096x32_0_1_2 (broadcastInDim S1x4096x32 ![1, 2] Gen.bcast_S4096x32_S1x4096x32_1_2 (Host.cos angles)))))⟩] Gen.concatenates_S8x4096x32_S8x4096x32_S8x4096x64_d2)

def out (x : FVec Ideal S4096x1024 .f32) (g : FVec Ideal S2x1024 .f32) (w : FVec Ideal S2x1024x3584 .f32) : FVec Ideal S4096x3584 .f32 :=
  (concatenate S4096x3584 1 [⟨S4096x512, ((shapeCast _ (transpose S4096x8x64 [1, 0, 2] (mulf (rot (segQ x g w)) (broadcastInDim S8x4096x64 ![] Gen.bcast_S_S8x4096x64 (constant S_ .f32 0x3E000000#32))) Gen.transposes_S8x4096x64_S4096x8x64_1_0_2) Gen.shapeCasts_S4096x8x64_S4096x512) : (⟨S4096x512, .f32⟩ : BufTy).Contents (Elt Ideal))⟩, ⟨S4096x512, ((shapeCast _ (transpose S4096x8x64 [1, 0, 2] (rot (segK x g w)) Gen.transposes_S8x4096x64_S4096x8x64_1_0_2) Gen.shapeCasts_S4096x8x64_S4096x512) : (⟨S4096x512, .f32⟩ : BufTy).Contents (Elt Ideal))⟩, ⟨S4096x2560, ((extractStridedSlice S4096x2560 ![0, 1024] (proj x g w) Gen.slices_S4096x3584_S4096x2560_0_1024) : (⟨S4096x2560, .f32⟩ : BufTy).Contents (Elt Ideal))⟩] Gen.concatenates_S4096x512_S4096x512_S4096x2560_S4096x3584_d1 : (⟨S4096x3584, .f32⟩ : BufTy).Contents (Elt Ideal))

theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v95) = out (m ((c.tc : Thread nD τ).loc main_arg0)) (m ((c.tc : Thread nD τ).loc main_arg1)) (m ((c.tc : Thread nD τ).loc main_arg2))
      ∧ r.2.mem ((c.tc : Thread nD τ).loc main_v96) = hid (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

section

variable (x : FVec Ideal S4096x1024 .f32) (g : FVec Ideal S2x1024 .f32) (w : FVec Ideal S2x1024x3584 .f32) (p : FVec Ideal S4096x512 .f32)

theorem hid_at (i : Fin 4096) (j : Fin 1024) : hid x g (ix2 i j) = norm (fun k => x (ix2 i k)) (fun k => g (ix2 0 k)) j := by
  pointwise [hid]
  rfl

theorem proj_at (i : Fin 4096) (j : Fin 3584) : proj x g w (ix2 i j) = entry (fun k => x (ix2 i k)) (fun k => g (ix2 0 k)) (fun k => w (ix3 0 k j)) := by
  pointwise [proj, hid_at]
  rfl

theorem heads_at (h : Fin 8) (i : Fin 4096) (e : Fin 64) : heads p (ix3 h i e) = p (ix2 i ⟨64 * h.val + e.val, by omega⟩) := by
  pointwise [heads]
  exact congrArg (fun k => p (ix2 i k)) (Fin.ext (by show h.val * 64 + e.val = 64 * h.val + e.val; omega))

theorem angles_at (i : Fin 4096) (k : Fin 32) : angles (ix2 i k) = angle i k := by
  pointwise [angles]
  rfl

theorem rot_at (h : Fin 8) (i : Fin 4096) (e : Fin 64) : rot p (ix3 h i e)
    = rotate (fun j => p (ix2 i j)) (fun k => Ideal.cos (angle i k)) (fun k => Ideal.sin (angle i k)) ⟨64 * h.val + e.val, by omega⟩ := by
  pointwise [rot, heads_at, angles_at]
  unfold rotate
  by_cases he : e.val < 32
  · have h1 : (64 * h.val + e.val) % 64 < 32 := by omega
    have hp : partner ⟨64 * h.val + e.val, by omega⟩ = ⟨64 * h.val + (32 + e.val), by omega⟩ := by
      unfold partner; rw [if_pos h1]; exact Fin.ext (by show (64 * h.val + e.val + 32) % 512 = _; simp only; omega)
    have hl : lane ⟨64 * h.val + e.val, by omega⟩ = ⟨e.val, he⟩ := Fin.ext (by show (64 * h.val + e.val) % 32 = e.val; omega)
    rw [dif_pos he, if_pos h1, hp, hl]
  · have h1 : ¬ (64 * h.val + e.val) % 64 < 32 := by omega
    have hp : partner ⟨64 * h.val + e.val, by omega⟩ = ⟨64 * h.val + (e.val - 32), by omega⟩ := by
      unfold partner; rw [if_neg h1]; exact Fin.ext (by show 64 * h.val + e.val - 32 = 64 * h.val + (e.val - 32); omega)
    have hl : lane ⟨64 * h.val + e.val, by omega⟩ = ⟨e.val - 32, by omega⟩ := Fin.ext (by show (64 * h.val + e.val) % 32 = e.val - 32; omega)
    have hq : (⟨64 * h.val + (32 + (e.val - 32)), by omega⟩ : Fin 512) = ⟨64 * h.val + e.val, by omega⟩ := Fin.ext (by show 64 * h.val + (32 + (e.val - 32)) = 64 * h.val + e.val; omega)
    rw [dif_neg he, if_neg h1, hp, hl, hq]

/-- The columns of a segment of the reference's product. -/
theorem seg_at (o : Fin 4096) (j : Fin 512) : segQ x g w (ix2 o j) = proj x g w (ix2 o ⟨j.val, by omega⟩) ∧ segK x g w (ix2 o j) = proj x g w (ix2 o ⟨512 + j.val, by omega⟩) := by
  constructor <;> pointwise [segQ, segK]

/-- The first result's entries. -/
theorem out_q (i : Fin 4096) (j : Fin 512) : out x g w (ix2 i ⟨j.val, by omega⟩)
    = rotate (fun j => proj x g w (ix2 i ⟨j.val, by omega⟩)) (fun k => Ideal.cos (angle i k)) (fun k => Ideal.sin (angle i k)) j * Ideal.ofBits FTy.f32 0x3E000000#32 := by
  have e : out x g w (ix2 i ⟨j.val, by omega⟩) = rot (segQ x g w) (ix3 ⟨j.val / 64, by omega⟩ i ⟨j.val % 64, by omega⟩) * Ideal.ofBits FTy.f32 0x3E000000#32 := by
    pointwise [out]
  rw [e, rot_at]
  have hj : (⟨64 * (j.val / 64) + j.val % 64, by omega⟩ : Fin 512) = j := Fin.ext (by show 64 * (j.val / 64) + j.val % 64 = j.val; omega)
  simp only [hj, (seg_at x g w _ _).1]

theorem out_k (i : Fin 4096) (j : Fin 512) : out x g w (ix2 i ⟨512 + j.val, by omega⟩)
    = rotate (fun j => proj x g w (ix2 i ⟨512 + j.val, by omega⟩)) (fun k => Ideal.cos (angle i k)) (fun k => Ideal.sin (angle i k)) j := by
  have e : out x g w (ix2 i ⟨512 + j.val, by omega⟩) = rot (segK x g w) (ix3 ⟨j.val / 64, by omega⟩ i ⟨j.val % 64, by omega⟩) := by
    pointwise [out]
  rw [e, rot_at]
  have hj : (⟨64 * (j.val / 64) + j.val % 64, by omega⟩ : Fin 512) = j := Fin.ext (by show 64 * (j.val / 64) + j.val % 64 = j.val; omega)
  simp only [hj, (seg_at x g w _ _).2]

theorem out_rest (i : Fin 4096) (j : Fin 2560) : out x g w (ix2 i ⟨1024 + j.val, by omega⟩) = proj x g w (ix2 i ⟨1024 + j.val, by omega⟩) := by
  pointwise [out]
  rw [dif_neg (by omega), dif_neg (by omega)]
  exact congrArg (fun k => proj x g w (ix2 i k)) (Fin.ext (by show 1024 + (1024 + j.val - 512 - 512) = 1024 + j.val; omega))

end

end Cert.Reference11Ideal.Value

end

end
-- ==== Proof.EntryClaim.lean ====
/- The mixer's entry: kernel and reference agree over the extended reals. -/
module

public import proofs.«01_k».proof.Proof.EntryKernel
public import proofs.«01_k».proof.Proof.EntryRef
public import Idealize.ShloMosaic.Lib.Claim

@[expose] public section

set_option maxRecDepth 16384

noncomputable section

namespace Cert.Reference11Ideal.Value

open Idealize.ShloMosaic Cert.Reference11Ideal Cert.Entry

/-- The reference's first result, entry by entry. -/
theorem out_at (x : FVec Ideal S4096x1024 .f32) (g : FVec Ideal S2x1024 .f32) (w : FVec Ideal S2x1024x3584 .f32) (i : Fin 4096) (j : Fin 3584) :
    out x g w (ix2 i j) = res (fun j => entry (fun k => x (ix2 i k)) (fun k => g (ix2 0 k)) (fun k => w (ix3 0 k j))) (fun k => Ideal.cos (angle i k)) (fun k => Ideal.sin (angle i k)) j := by
  rw [← funext fun j => proj_at x g w i j]
  rcases Nat.lt_or_ge j.val 512 with h | h
  · exact (out_q x g w i ⟨j.val, h⟩).trans (res_q (fun j => proj x g w (ix2 i j)) _ _ ⟨j.val, h⟩).symm
  · rcases Nat.lt_or_ge j.val 1024 with h2 | h2
    · have ej : (⟨512 + (j.val - 512), by omega⟩ : Fin 3584) = j := Fin.ext (by show 512 + (j.val - 512) = j.val; omega)
      have h3 := (out_k x g w i ⟨j.val - 512, by omega⟩).trans (res_k (fun j => proj x g w (ix2 i j)) _ _ ⟨j.val - 512, by omega⟩).symm
      rwa [ej] at h3
    · have ej : (⟨1024 + (j.val - 1024), by omega⟩ : Fin 3584) = j := Fin.ext (by show 1024 + (j.val - 1024) = j.val; omega)
      have h3 := out_rest x g w i ⟨j.val - 1024, by omega⟩
      rw [ej] at h3
      exact h3.trans (res_rest (fun j => proj x g w (ix2 i j)) _ _ j h2).symm

end Cert.Reference11Ideal.Value

namespace Cert.Proof

open Idealize.ShloMosaic Idealize.ShloMosaic.TcCoe Idealize.SL.Sem Cert.Entry

theorem algebraic11 : Cert.algebraic_Kernel11Ideal_Reference11Ideal := by
  pair_intro
  · run_from Cert.Kernel11Ideal.Gen.run_main m g
  · refine θ_run_mono (Cert.Reference11Ideal.Value.run_named m' g') ?_
    intro r hr c
    obtain ⟨h0, h1, ha⟩ := hr c
    obtain ⟨e0, e1, e2⟩ := hagree c
    rw [e0, e1, e2] at h0
    rw [e0, e1] at h1
    refine ⟨h0.trans ?_, h1.trans ?_, ha⟩
    · refine Eq.trans ?_ (Cert.Kernel11Ideal.Value.final5 m c).symm
      funext j; idx_vars j
      exact Cert.Reference11Ideal.Value.out_at _ _ _ j0 j1
    · refine Eq.trans ?_ (Cert.Kernel11Ideal.Value.final6 m c).symm
      funext j; idx_vars j
      exact Cert.Reference11Ideal.Value.hid_at _ _ j0 j1

end Cert.Proof

end

end
-- ==== Proof.NormKernel.lean ====
/- The attention's output norm: kernel and reference entry by entry, and that they agree. -/
module

public import proofs.«01_k».proof.Defs
public import proofs.«01_k».proof.Proof.Gen.Kernel12Ideal.Frame
public import proofs.«01_k».proof.Proof.Gen.Reference12Ideal.Run
public import proofs.«01_k».proof.Proof.Reals
public import Idealize.ShloMosaic.Lib.Claim
public import Idealize.ShloMosaic.Lib.Pipeline.ValueKit.Partial

@[expose] public section

set_option maxRecDepth 16384

noncomputable section

open Idealize.ShloMosaic Idealize.ShloMosaic.TcCoe Idealize.SL.Sem
open Idealize.ShloMosaic.Pipeline (Dat)

namespace Cert.OutNorm

/-- A row over its root mean square, times the gain. -/
def norm (x : Fin 512 → EReal) (g : EReal) (j : Fin 512) : EReal :=
  x j * Ideal.rsqrt (Ideal.div (∑ k, x k * x k) (Ideal.ofBits FTy.f32 0x44000000#32) + Ideal.ofBits FTy.f32 0x358637BD#32) * g

end Cert.OutNorm

namespace Cert.Kernel12Ideal.Value

open Cert.Kernel12Ideal Cert.Kernel12Ideal.Gen Cert.OutNorm

theorem pay_at (x : Vec Ideal S512x512 .f32) (g : Vec Ideal S1x1x512 .f32) (i j : Fin 512) :
    k0_pay1 x g (ix2 i j) = norm (fun k => x (ix2 i k)) (g (ix3 0 0 j)) j := by
  pointwise [k0_pay1]; rfl

variable (m : (ℓ : Loc nD τ sig) → Buf (Elt Ideal) ℓ) (c : Dev nD)

abbrev A0 : S4096x512.Idx → EReal := m ((c.tc : Thread nD τ).loc main_arg0)
abbrev A1 : S2x512.Idx → EReal := m ((c.tc : Thread nD τ).loc main_arg1)
abbrev A2 : S4096x1024.Idx → EReal := m ((c.tc : Thread nD τ).loc main_arg2)

theorem idx_val : ∀ t : Fin cfg0.N, win0_0.index t = ![t.val, 0] ∧ win0_1.index t = ![0, 0, 0] ∧ win0_2.index t = ![t.val, 0] ∧ t.val < 8 :=
  (by decide +kernel : ∀ t : Fin grid0.N, _)

/-- The rows a block holds. -/
def row (t : Fin cfg0.N) (i : Fin 512) : Fin 4096 := ⟨512 * t.val + i.val, by have := (idx_val t).2.2.2; omega⟩

theorem prep_gain (l : Fin 2) (j : Fin 512) : (V m c main_v0 : S2x1x512.Idx → EReal) (ix3 l 0 j) = A1 m c (ix2 l j) := by
  simp only [V, List.flatten_cons, List.flatten_nil, List.append_nil]
  entry_read
  pointwise

theorem prep_mixed : (V m c main_v1 : S4096x1024.Idx → EReal) = A2 m c := by
  simp only [V, List.flatten_cons, List.flatten_nil, List.append_nil]
  entry_read
  rfl

theorem blk_x (t : Fin cfg0.N) (i j : Fin 512) : (iblk m c 0 t : Vec Ideal S512x512 .f32) (ix2 i j) = A0 m c (ix2 (row t i) j) := by
  blk_ext [iblk, V, row, idx_val t]

theorem blk_gain (t : Fin cfg0.N) (j : Fin 512) : (iblk m c 1 t : Vec Ideal S1x1x512 .f32) (ix3 0 0 j) = A1 m c (ix2 0 j) := by
  rw [← prep_gain]
  blk_ext [iblk, idx_val t]

/-- The array the reference names. -/
def G : S4096x1024.Idx → EReal := fun i =>
  if h : (i 1).val < 512 then norm (fun k => A0 m c (ix2 (i 0) k)) (A1 m c (ix2 0 ⟨(i 1).val, h⟩)) ⟨(i 1).val, h⟩ else A2 m c i

theorem G_left (i : Fin 4096) (j : Fin 512) : G m c (ix2 i (Fin.castLE (by decide) j)) = norm (fun k => A0 m c (ix2 i k)) (A1 m c (ix2 0 j)) j :=
  dif_pos j.isLt

theorem G_right (i : Fin 4096) (j : Fin 1024) (h : ¬ j.val < 512) : G m c (ix2 i j) = A2 m c (ix2 i j) := dif_neg h

theorem final : (dats m 0 c).arrAt 2 cfg0.N = G m c := by
  refine (dats m 0 c).arrAt_eq_of_coversWhere_of_agree 2 _ (fun β => β (1 : Fin 2) = 0) (by decide +kernel) (fun t hf y => ?_) (fun j hj => ?_)
  · blk_simp
    rw [after0_2]
    unfold outsAt0
    frame_out
    idx_vars y
    have e : (((View.whole main_v1).slice (win0_2.rect t)).emb (ix2 y0 y1)) = (ix2 (row t y0) (Fin.castLE (by decide) y1) : S4096x1024.Idx) := by
      blk_ext [row, idx_val t, Fin.castLE]
    rw [e, G_left]
    refine (pay_at _ _ y0 y1).trans ?_
    rw [blk_gain]
    simp only [blk_x]
  · blk_simp [Pipeline.Window.cell_apply] at hj
    idx_vars j
    refine Eq.trans ?_ (G_right m c j0 j1 ?_).symm
    · exact congrFun (prep_mixed m c) _
    · omega

end Cert.Kernel12Ideal.Value

namespace Cert.Reference12Ideal.Value

open Cert.Reference12Ideal Cert.OutNorm

/-- The reference's left half. -/
def left (x : FVec Ideal S4096x512 .f32) (g : FVec Ideal S2x512 .f32) : FVec Ideal S4096x512 .bf16 :=
  truncf .bf16 (mulf (mulf x (broadcastInDim S4096x512 ![0, 1] Gen.bcast_S4096x1_S4096x512_0_1 (Host.rsqrt (addf (Host.divf (broadcastInDim S4096x1 ![0] Gen.bcast_S4096_S4096x1_0 (Host.reduceAdd (mulf x x) (constant S_ .f32 0x00000000#32) Gen.reducesTo_S4096x512_S4096_d1 Gen.h_S_)) (broadcastInDim S4096x1 ![] Gen.bcast_S_S4096x1 (constant S_ .f32 0x44000000#32))) (broadcastInDim S4096x1 ![] Gen.bcast_S_S4096x1 (constant S_ .f32 0x358637BD#32)))))) (broadcastInDim S4096x512 ![0, 1] Gen.bcast_S1x512_S4096x512_0_1 (broadcastInDim S1x512 ![1] Gen.bcast_S512_S1x512_1 (shapeCast _ (extractStridedSlice S1x512 ![0, 0] g Gen.slices_S2x512_S1x512_0_0) Gen.shapeCasts_S1x512_S512)))) Gen.bitsLt_bf16_f32

def out (x : FVec Ideal S4096x512 .f32) (g : FVec Ideal S2x512 .f32) (u : FVec Ideal S4096x1024 .bf16) : FVec Ideal S4096x1024 .bf16 :=
  concatenate S4096x1024 1 [⟨S4096x512, left x g⟩, ⟨S4096x512, (extractStridedSlice S4096x512 ![0, 512] u Gen.slices_S4096x1024_S4096x512_0_512)⟩] Gen.concatenates_S4096x512_S4096x512_S4096x1024_d1

theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

theorem left_at (x : FVec Ideal S4096x512 .f32) (g : FVec Ideal S2x512 .f32) (i : Fin 4096) (j : Fin 512) :
    left x g (ix2 i j) = norm (fun k => x (ix2 i k)) (g (ix2 0 j)) j := by
  pointwise [left]
  rfl

theorem out_at (x : FVec Ideal S4096x512 .f32) (g : FVec Ideal S2x512 .f32) (u : FVec Ideal S4096x1024 .bf16) (i : Fin 4096) (j : Fin 1024) :
    out x g u (ix2 i j) = if h : j.val < 512 then norm (fun k => x (ix2 i k)) (g (ix2 0 ⟨j.val, h⟩)) ⟨j.val, h⟩ else u (ix2 i j) := by
  pointwise [out]
  split_ifs
  · exact left_at x g i _
  all_goals exact congrArg (fun k => u (ix2 i k)) (Fin.ext (by show 512 + (j.val - 512) = j.val; omega))

end Cert.Reference12Ideal.Value

namespace Cert.Proof

theorem algebraic12 : Cert.algebraic_Kernel12Ideal_Reference12Ideal := by
  pair_intro
  · run_from Cert.Kernel12Ideal.Gen.run_main m g
  · refine θ_run_mono (Cert.Reference12Ideal.Value.run_named m' g') ?_
    intro r hr c
    obtain ⟨h0, ha⟩ := hr c
    obtain ⟨e0, e1, e2⟩ := hagree c
    rw [e0, e1, e2] at h0
    refine ⟨h0.trans ?_, ha⟩
    refine Eq.trans ?_ (Cert.Kernel12Ideal.Value.final m c).symm
    funext j; idx_vars j
    exact Cert.Reference12Ideal.Value.out_at _ _ _ j0 j1

end Cert.Proof

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Pre_finite4
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Pre_finite8
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.InClaim
public import proofs.«01_k».proof.Proof.MlpClaim
public import proofs.«01_k».proof.Proof.HeadClaim
public import proofs.«01_k».proof.Proof.LbClaim
public import proofs.«01_k».proof.Proof.AttnClaim
public import proofs.«01_k».proof.Proof.LayerClaim
public import proofs.«01_k».proof.Proof.DownClaim
public import proofs.«01_k».proof.Proof.OptClaim
public import proofs.«01_k».proof.Proof.EntryClaim
public import proofs.«01_k».proof.Proof.NormKernel
public import Idealize.ShloMosaic.Lib.Claim
public import Idealize.ShloMosaic.Adequacy
public import Idealize.ShloMosaic.Init

@[expose] public section

noncomputable section

namespace Cert.Proof

open Idealize.ShloMosaic Idealize.SL.Sem Cert.Kernel

theorem claim : Cert.Claim := by
  refine ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel8.Gen.facts, Cert.Kernel8Ideal.Gen.facts, Cert.Reference8Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Pre_finite.Gen.facts, Cert.Pre_finite2.Gen.facts, Cert.Pre_finite3.Gen.facts, Cert.Pre_finite4.Gen.facts, Cert.Pre_finite8.Gen.facts, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m ρ _ => Cert.Kernel.Gen.frame m ρ
  · exact fun m ρ _ => Cert.KernelIdeal.Gen.frame m ρ
  · exact fun m ρ _ => Cert.KernelIdeal.Gen.frame m ρ
  · exact fun m g _ => (θ_run _ _ _).mono
      (fun r h => ⟨fun c => (h c).2.2.2, sem_eq_zero_of_no_sems (by decide) r.2⟩) (Cert.ReferenceIdeal.Value.run m g)
  · exact fun m g _ => (θ_run _ _ _).mono
      (fun r h => ⟨fun c => (h c).2.2.2, sem_eq_zero_of_no_sems (by decide) r.2⟩) (Cert.ReferenceIdeal.Value.run m g)
  · exact fun m ρ _ => Cert.Kernel2.Gen.frame m ρ
  · exact fun m ρ _ => Cert.Kernel2Ideal.Gen.frame m ρ
  · exact fun m ρ _ => Cert.Kernel2Ideal.Gen.frame m ρ
  · exact fun m g _ => (θ_run _ _ _).mono
      (fun r h => ⟨fun c => (h c).2.2.2.2.2.2.2.2, sem_eq_zero_of_no_sems (by decide) r.2⟩) (Cert.Reference2Ideal.Value.run m g)
  · exact fun m g _ => (θ_run _ _ _).mono
      (fun r h => ⟨fun c => (h c).2.2.2.2.2.2.2.2, sem_eq_zero_of_no_sems (by decide) r.2⟩) (Cert.Reference2Ideal.Value.run m g)
  · exact fun m ρ _ => Cert.Kernel3.Gen.frame m ρ
  · exact fun m ρ _ => Cert.Kernel3Ideal.Gen.frame m ρ
  · exact fun m ρ _ => Cert.Kernel3Ideal.Gen.frame m ρ
  · exact fun m g _ => (θ_run _ _ _).mono
      (fun r h => ⟨fun c => (h c).2.2.2.2.2.2.2, sem_eq_zero_of_no_sems (by decide) r.2⟩) (Cert.Reference3Ideal.Value.run m g)
  · exact fun m g _ => (θ_run _ _ _).mono
      (fun r h => ⟨fun c => (h c).2.2.2.2.2.2.2, sem_eq_zero_of_no_sems (by decide) r.2⟩) (Cert.Reference3Ideal.Value.run m g)
  · exact fun m ρ _ => Cert.Kernel4.Gen.frame m ρ
  · exact fun m ρ _ => Cert.Kernel4Ideal.Gen.frame m ρ
  · exact fun m ρ _ => Cert.Kernel4Ideal.Gen.frame m ρ
  · exact fun m g _ => (θ_run _ _ _).mono
      (fun r h => ⟨fun c => (h c).2.2, sem_eq_zero_of_no_sems (by decide) r.2⟩) (Cert.Reference4Ideal.Value.run m g)
  · exact fun m g _ => (θ_run _ _ _).mono
      (fun r h => ⟨fun c => (h c).2.2, sem_eq_zero_of_no_sems (by decide) r.2⟩) (Cert.Reference4Ideal.Value.run m g)
  · exact fun m ρ _ => Cert.Kernel8.Gen.frame m ρ
  · exact fun m ρ _ => Cert.Kernel8Ideal.Gen.frame m ρ
  · exact fun m ρ _ => Cert.Kernel8Ideal.Gen.frame m ρ
  · exact fun m g _ => (θ_run _ _ _).mono
      (fun r h => ⟨fun c => (h c).2.2, sem_eq_zero_of_no_sems (by decide) r.2⟩) (Cert.Reference8Ideal.Value.run m g)
  · exact fun m g _ => (θ_run _ _ _).mono
      (fun r h => ⟨fun c => (h c).2.2, sem_eq_zero_of_no_sems (by decide) r.2⟩) (Cert.Reference8Ideal.Value.run m g)
  · exact fun m ρ _ => Cert.Kernel10.Gen.frame m ρ
  · exact fun m ρ _ => Cert.Kernel10Ideal.Gen.frame m ρ
  · exact fun m g _ => (θ_run _ _ _).mono
      (fun r h => ⟨fun c => (h c).2.2.2.2, sem_eq_zero_of_no_sems (by decide) r.2⟩) (Cert.Reference10Ideal.Value.run m g)
  · exact fun m ρ _ => Cert.Kernel11.Gen.frame m ρ
  · exact fun m ρ _ => Cert.Kernel11Ideal.Gen.frame m ρ
  · exact fun m g _ => (θ_run _ _ _).mono
      (fun r h => ⟨fun c => (h c).2.2, sem_eq_zero_of_no_sems (by decide) r.2⟩) (Cert.Reference11Ideal.Value.run m g)
  · exact fun m ρ _ => Cert.Kernel12.Gen.frame m ρ
  · exact fun m ρ _ => Cert.Kernel12Ideal.Gen.frame m ρ
  · exact fun m g _ => (θ_run _ _ _).mono
      (fun r h => ⟨fun c => (h c).2, sem_eq_zero_of_no_sems (by decide) r.2⟩) (Cert.Reference12Ideal.Value.run m g)
  · exact fun m ρ _ => Cert.Kernel13.Gen.frame m ρ
  · exact fun m ρ _ => Cert.Kernel13Ideal.Gen.frame m ρ
  · exact fun m g _ => (θ_run _ _ _).mono
      (fun r h => ⟨fun c => (h c).2.2.2.2, sem_eq_zero_of_no_sems (by decide) r.2⟩) (Cert.Reference13Ideal.Value.run m g)
  · exact fun m ρ _ => Cert.Kernel14.Gen.frame m ρ
  · exact fun m ρ _ => Cert.Kernel14Ideal.Gen.frame m ρ
  · exact fun m g _ => (θ_run _ _ _).mono
      (fun r h => ⟨fun c => (h c).2, sem_eq_zero_of_no_sems (by decide) r.2⟩) (Cert.Reference14Ideal.Value.run m g)
  · trivial
  · exact algebraic1
  · trivial
  · exact algebraic2
  · trivial
  · exact algebraic3
  · trivial
  · exact algebraic4
  · exact preserves8
  · exact algebraic8
  · trivial
  · exact algebraic10
  · trivial
  · exact algebraic11
  · trivial
  · exact algebraic12
  · trivial
  · exact algebraic13
  · trivial
  · exact algebraic14

end Cert.Proof

end
